-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel2_Kernel2Ideal : Prop :=
  IdealRules.named_const.Statement Cert.Kernel2Ideal.κ "mask" .f32 0xF149F2CA#32 ⊥

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def preserves_Kernel5_Kernel5Ideal : Prop :=
  IdealRules.named_const.Statement Cert.Kernel5Ideal.κ "qscale" .f32 0x3DD53B95#32 (((Real.sqrt 192)⁻¹ * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v45_0)) (v1 : (c : Dev Cert.Kernel5Ideal.nD) → Buf (Elt Ideal) ((c.tc : Thread Cert.Kernel5Ideal.nD Cert.Kernel5Ideal.τ).loc Cert.Kernel5Ideal.main_v45_1)) (v2 : (c : Dev Cert.Kernel5Ideal.nD) → Buf (Elt Ideal) ((c.tc : Thread Cert.Kernel5Ideal.nD Cert.Kernel5Ideal.τ).loc Cert.Kernel5Ideal.main_v45_2)) (v3 : (c : Dev Cert.Kernel5Ideal.nD) → Buf (Elt Ideal) ((c.tc : Thread Cert.Kernel5Ideal.nD Cert.Kernel5Ideal.τ).loc Cert.Kernel5Ideal.main_v45_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v45_0) = v0 c
          ∧ r.2.mem ((c.tc : Thread Cert.Kernel5Ideal.nD Cert.Kernel5Ideal.τ).loc Cert.Kernel5Ideal.main_v45_1) = v1 c
          ∧ r.2.mem ((c.tc : Thread Cert.Kernel5Ideal.nD Cert.Kernel5Ideal.τ).loc Cert.Kernel5Ideal.main_v45_2) = v2 c
          ∧ r.2.mem ((c.tc : Thread Cert.Kernel5Ideal.nD Cert.Kernel5Ideal.τ).loc Cert.Kernel5Ideal.main_v45_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v130) = v0 c
          ∧ r.2.mem ((c.tc : Thread Cert.Reference5Ideal.nD Cert.Reference5Ideal.τ).loc Cert.Reference5Ideal.main_v131) = v1 c
          ∧ r.2.mem ((c.tc : Thread Cert.Reference5Ideal.nD Cert.Reference5Ideal.τ).loc Cert.Reference5Ideal.main_v132) = v2 c
          ∧ r.2.mem ((c.tc : Thread Cert.Reference5Ideal.nD Cert.Reference5Ideal.τ).loc Cert.Reference5Ideal.main_v133) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2_0)) (v1 : (c : Dev Cert.Kernel.nD) → Buf (Elt Bits) ((c.tc : Thread Cert.Kernel.nD Cert.Kernel.τ).loc Cert.Kernel.main_v2_1)) (v2 : (c : Dev Cert.Kernel.nD) → Buf (Elt Bits) ((c.tc : Thread Cert.Kernel.nD Cert.Kernel.τ).loc Cert.Kernel.main_v2_2)) (v3 : (c : Dev Cert.Kernel.nD) → Buf (Elt Bits) ((c.tc : Thread Cert.Kernel.nD Cert.Kernel.τ).loc Cert.Kernel.main_v2_3)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2_0) = v0 c
          ∧ r.2.mem ((c.tc : Thread Cert.Kernel.nD Cert.Kernel.τ).loc Cert.Kernel.main_v2_1) = v1 c
          ∧ r.2.mem ((c.tc : Thread Cert.Kernel.nD Cert.Kernel.τ).loc Cert.Kernel.main_v2_2) = v2 c
          ∧ r.2.mem ((c.tc : Thread Cert.Kernel.nD Cert.Kernel.τ).loc Cert.Kernel.main_v2_3) = v3 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_v8) = v1 c
          ∧ r.2.mem ((c.tc : Thread Cert.Reference.nD Cert.Reference.τ).loc Cert.Reference.main_v11) = v2 c
          ∧ r.2.mem ((c.tc : Thread Cert.Reference.nD Cert.Reference.τ).loc Cert.Reference.main_v17) = v3 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel : Cert.Kernel.Facts) (hKernelIdeal : Cert.KernelIdeal.Facts) (hReferenceIdeal : Cert.ReferenceIdeal.Facts) (hReference : Cert.Reference.Facts) (hPre_finite : Cert.Pre_finite.Facts),
    quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Pre_finite.lean ====
abbrev S1x16384x8x192 : Shape := ⟨4, ![1, 16384, 8, 192]⟩
abbrev S1x16384x8x128 : Shape := ⟨4, ![1, 16384, 8, 128]⟩
abbrev S_ : Shape := ⟨0, ![]⟩

class Facts : Prop where
  bcast_S_S1x16384x8x192 : S_.BroadcastsInDim S1x16384x8x192 (![] : Fin 0 → Fin S1x16384x8x192.rank)
  reducesTo_S1x16384x8x192_S_d0_1_2_3 : S1x16384x8x192.ReducesTo [0, 1, 2, 3] S_
  h_S_ : 0 < S_.numel

variable [Facts]

def fn {F : FTy → Type} [FloatOps F] (main_arg0 : FVec F S1x16384x8x192 .f32) (main_arg1 : FVec F S1x16384x8x192 .f32) (main_arg2 : FVec F S1x16384x8x128 .f32) : IVec S_ 1 :=
  let main_v0 : FVec F S1x16384x8x192 .f32 := Host.absf main_arg0
  let main_cst : FVec F S_ .f32 := constant S_ .f32 0x7F800000#32
  let main_v1 : FVec F S1x16384x8x192 .f32 := broadcastInDim S1x16384x8x192 ![] bcast_S_S1x16384x8x192 main_cst
  let main_v2 : IVec S1x16384x8x192 1 := cmpf .olt main_v0 main_v1
  let main_c : IVec S_ 1 := constantI S_ 1 1#1
  let main_v3 : IVec S_ 1 := (fun x v => Host.reduce IntOp.andi x v reducesTo_S1x16384x8x192_S_d0_1_2_3 h_S_) main_v2 main_c
  let main_v4 : FVec F S1x16384x8x192 .f32 := Host.absf main_arg1
  let main_cst_0 : FVec F S_ .f32 := constant S_ .f32 0x7F800000#32
  let main_v5 : FVec F S1x16384x8x192 .f32 := broadcastInDim S1x16384x8x192 ![] bcast_S_S1x16384x8x192 main_cst_0
  let main_v6 : IVec S1x16384x8x192 1 := cmpf .olt main_v4 main_v5
  let main_c_1 : IVec S_ 1 := constantI S_ 1 1#1
  let main_v7 : IVec S_ 1 := (fun x v => Host.reduce IntOp.andi x v reducesTo_S1x16384x8x192_S_d0_1_2_3 h_S_) main_v6 main_c_1
  let main_v8 : IVec S_ 1 := andi main_v3 main_v7
  main_v8
-- ==== Kernel2.lean ====
abbrev S1x16384x8x192 : Shape := ⟨4, ![1, 16384, 8, 192]⟩
abbrev S1x16384x8x128 : Shape := ⟨4, ![1, 16384, 8, 128]⟩
abbrev S_ : Shape := ⟨0, ![]⟩
abbrev S16384x8x192 : Shape := ⟨3, ![16384, 8, 192]⟩
abbrev S8x192x16384 : Shape := ⟨3, ![8, 192, 16384]⟩
abbrev S8x256x16384 : Shape := ⟨3, ![8, 256, 16384]⟩
abbrev S8x16384x192 : Shape := ⟨3, ![8, 16384, 192]⟩
abbrev S8x16384x256 : Shape := ⟨3, ![8, 16384, 256]⟩
abbrev S8x16x1024x256 : Shape := ⟨4, ![8, 16, 1024, 256]⟩
abbrev S16384x8x128 : Shape := ⟨3, ![16384, 8, 128]⟩
abbrev S16x1024x8x128 : Shape := ⟨4, ![16, 1024, 8, 128]⟩
abbrev S8x16x128x1024 : Shape := ⟨4, ![8, 16, 128, 1024]⟩
abbrev S8x16x16x1024 : Shape := ⟨4, ![8, 16, 16, 1024]⟩
abbrev S8x16x144x1024 : Shape := ⟨4, ![8, 16, 144, 1024]⟩
abbrev S16384x1024 : Shape := ⟨2, ![16384, 1024]⟩
abbrev S1x256x1024 : Shape := ⟨3, ![1, 256, 1024]⟩
abbrev S1x16x1024x256 : Shape := ⟨4, ![1, 16, 1024, 256]⟩
abbrev S1x16x144x1024 : Shape := ⟨4, ![1, 16, 144, 1024]⟩
abbrev S1024x128 : Shape := ⟨2, ![1024, 128]⟩
abbrev S1x1024 : Shape := ⟨2, ![1, 1024]⟩
abbrev S144x1024 : Shape := ⟨2, ![144, 1024]⟩
abbrev S1024x1024 : Shape := ⟨2, ![1024, 1024]⟩
abbrev S1x1x512x256 : Shape := ⟨4, ![1, 1, 512, 256]⟩
abbrev S512x256 : Shape := ⟨2, ![512, 256]⟩
abbrev S256x1024 : Shape := ⟨2, ![256, 1024]⟩
abbrev S512x1024 : Shape := ⟨2, ![512, 1024]⟩
abbrev S1x256x512 : Shape := ⟨3, ![1, 256, 512]⟩
abbrev S256x512 : Shape := ⟨2, ![256, 512]⟩
abbrev S512x512 : Shape := ⟨2, ![512, 512]⟩
abbrev S512 : Shape := ⟨1, ![512]⟩
abbrev S1x512 : Shape := ⟨2, ![1, 512]⟩
abbrev S1x1x144x1024 : Shape := ⟨4, ![1, 1, 144, 1024]⟩
abbrev S128x1024 : Shape := ⟨2, ![128, 1024]⟩
abbrev S1x1x1024x256 : Shape := ⟨4, ![1, 1, 1024, 256]⟩
abbrev S1024x256 : Shape := ⟨2, ![1024, 256]⟩
abbrev S1024 : Shape := ⟨1, ![1024]⟩
abbrev S1x1x144x512 : Shape := ⟨4, ![1, 1, 144, 512]⟩
abbrev S144x512 : Shape := ⟨2, ![144, 512]⟩

abbrev nBuf : Space → Nat
  | .hbm => 33
  | .vmem => 20
  | .smem => 0
  | _ => 0

abbrev bufTy : (tb : Table) → Fin (tcTables nBuf tb) → BufTy
  | .hbm, ⟨0, _⟩ => ⟨S1x16384x8x192, .f32⟩
  | .hbm, ⟨1, _⟩ => ⟨S1x16384x8x192, .f32⟩
  | .hbm, ⟨2, _⟩ => ⟨S1x16384x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x8x192, .f32⟩
  | .hbm, ⟨11, _⟩ => ⟨S16384x8x192, .f32⟩
  | .hbm, ⟨12, _⟩ => ⟨S16384x8x192, .f32⟩
  | .hbm, ⟨13, _⟩ => ⟨S16384x8x192, .bf16⟩
  | .hbm, ⟨14, _⟩ => ⟨S8x192x16384, .bf16⟩
  | .hbm, ⟨15, _⟩ => ⟨S_, .i32⟩
  | .hbm, ⟨16, _⟩ => ⟨S_, .bf16⟩
  | .hbm, ⟨17, _⟩ => ⟨S8x256x16384, .bf16⟩
  | .hbm, ⟨18, _⟩ => ⟨S16384x8x192, .f32⟩
  | .hbm, ⟨19, _⟩ => ⟨S16384x8x192, .bf16⟩
  | .hbm, ⟨20, _⟩ => ⟨S8x16384x192, .bf16⟩
  | .hbm, ⟨21, _⟩ => ⟨S_, .i32⟩
  | .hbm, ⟨22, _⟩ => ⟨S_, .bf16⟩
  | .hbm, ⟨23, _⟩ => ⟨S8x16384x256, .bf16⟩
  | .hbm, ⟨24, _⟩ => ⟨S8x16x1024x256, .bf16⟩
  | .hbm, ⟨25, _⟩ => ⟨S16384x8x128, .f32⟩
  | .hbm, ⟨26, _⟩ => ⟨S16384x8x128, .bf16⟩
  | .hbm, ⟨27, _⟩ => ⟨S16x1024x8x128, .bf16⟩
  | .hbm, ⟨28, _⟩ => ⟨S8x16x128x1024, .bf16⟩
  | .hbm, ⟨29, _⟩ => ⟨S_, .bf16⟩
  | .hbm, ⟨30, _⟩ => ⟨S8x16x16x1024, .bf16⟩
  | .hbm, ⟨31, _⟩ => ⟨S8x16x144x1024, .bf16⟩
  | .hbm, ⟨32, _⟩ => ⟨S16384x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x16x1024x256, .bf16⟩
  | .local _ .vmem, ⟨5, _⟩ => ⟨S1x16x1024x256, .bf16⟩
  | .local _ .vmem, ⟨6, _⟩ => ⟨S1x16x144x1024, .bf16⟩
  | .local _ .vmem, ⟨7, _⟩ => ⟨S1x16x144x1024, .bf16⟩
  | .local _ .vmem, ⟨8, _⟩ => ⟨S1024x128, .bf16⟩
  | .local _ .vmem, ⟨9, _⟩ => ⟨S1024x128, .bf16⟩
  | .local _ .vmem, ⟨10, _⟩ => ⟨S1x1024, .f32⟩
  | .local _ .vmem, ⟨11, _⟩ => ⟨S144x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | _, _ => ⟨S1x16384x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_4 : BitVec 32 := 0#32
  let v10 : BitVec 1 := Scalar.cmpi .ne v9 c0_i32_4
  v10

def k0_off1 (i : grid0.Coords) : Fin 4 → Nat :=
  let c0_52 : Index := 0#32
  let arg1 : BitVec 32 := BitVec.ofNat 32 (i 1).val
  let v92 : Index := Scalar.indexCast arg1
  let c0_53 : Index := 0#32
  let c0_54 : Index := 0#32
  ![0, v92.toNat, 0, 0]
def k0_off2 (i : grid0.Coords) : Fin 4 → Nat :=
  let c0_59 : Index := 0#32
  let arg1 : BitVec 32 := BitVec.ofNat 32 (i 1).val
  let v98 : Index := Scalar.indexCast arg1
  let c512 : Index := 512#32
  let c0_60 : Index := 0#32
  ![0, v98.toNat, 512, 0]
def k0_cond2 (i : grid0.Coords) : BitVec 1 :=
  let arg1 : BitVec 32 := BitVec.ofNat 32 (i 1).val
  let c0_i32_5 : BitVec 32 := 0#32
  let v11 : BitVec 1 := Scalar.cmpi .eq arg1 c0_i32_5
  let v12 : BitVec 32 := Scalar.extui v11
  let c0_i32_6 : BitVec 32 := 0#32
  let v13 : BitVec 1 := Scalar.cmpi .ne v12 c0_i32_6
  v13

def k0_off3 (i : grid0.Coords) : Fin 4 → Nat :=
  let c0_70 : Index := 0#32
  let arg1 : BitVec 32 := BitVec.ofNat 32 (i 1).val
  let c0_i32_64 : BitVec 32 := 0#32
  let v111 : BitVec 1 := Scalar.cmpi .eq arg1 c0_i32_64
  let c1_i32_65 : BitVec 32 := 1#32
  let v112 : BitVec 32 := Scalar.subi arg1 c1_i32_65
  let v113 : BitVec 32 := Scalar.select v111 arg1 v112
  let v116 : Index := Scalar.indexCast v113
  let c0_71 : Index := 0#32
  let c0_72 : Index := 0#32
  ![0, v116.toNat, 0, 0]
def k0_off4 (i : grid0.Coords) : Fin 4 → Nat :=
  let c0_79 : Index := 0#32
  let arg1 : BitVec 32 := BitVec.ofNat 32 (i 1).val
  let c1_i32_78 : BitVec 32 := 1#32
  let v127 : BitVec 32 := Scalar.addi arg1 c1_i32_78
  let c15_i32 : BitVec 32 := 15#32
  let v128 : BitVec 32 := Scalar.minsi v127 c15_i32
  let v129 : Index := Scalar.indexCast v128
  let c0_80 : Index := 0#32
  let c0_81 : Index := 0#32
  ![0, v129.toNat, 0, 0]
def k0_off5 (i : grid0.Coords) : Fin 4 → Nat :=
  let c0_86 : Index := 0#32
  let arg1 : BitVec 32 := BitVec.ofNat 32 (i 1).val
  let c1_i32_78 : BitVec 32 := 1#32
  let v127 : BitVec 32 := Scalar.addi arg1 c1_i32_78
  let c15_i32 : BitVec 32 := 15#32
  let v128 : BitVec 32 := Scalar.minsi v127 c15_i32
  let v135 : Index := Scalar.indexCast v128
  let c512 : Index := 512#32
  let c0_87 : Index := 0#32
  ![0, v135.toNat, 512, 0]
def k0_cond4 (i : grid0.Coords) : BitVec 1 :=
  let arg1 : BitVec 32 := BitVec.ofNat 32 (i 1).val
  let c1_i32_8 : BitVec 32 := 1#32
  let v17 : BitVec 1 := Scalar.cmpi .sgt arg1 c1_i32_8
  let v18 : BitVec 32 := Scalar.extui v17
  let c0_i32_9 : BitVec 32 := 0#32
  let v19 : BitVec 1 := Scalar.cmpi .ne v18 c0_i32_9
  v19

def k0_off6 (i : grid0.Coords) : Fin 4 → Nat :=
  let c0_107 : Index := 0#32
  let arg1 : BitVec 32 := BitVec.ofNat 32 (i 1).val
  let v169 : Index := Scalar.indexCast arg1
  let c0_108 : Index := 0#32
  let c0_109 : Index := 0#32
  ![0, v169.toNat, 0, 0]
def k0_off7 (i : grid0.Coords) : Fin 4 → Nat :=
  let c0_113 : Index := 0#32
  let arg1 : BitVec 32 := BitVec.ofNat 32 (i 1).val
  let v174 : Index := Scalar.indexCast arg1
  let c0_114 : Index := 0#32
  let c512_115 : Index := 512#32
  ![0, v174.toNat, 0, 512]
@[reducible] def k0_t1_loop (i : grid0.Coords) : Scf.Loop 32 :=
  let c0_i32_18 : BitVec 32 := 0#32
  let arg1 : BitVec 32 := BitVec.ofNat 32 (i 1).val
  let c2_i32 : BitVec 32 := 2#32
  let v20 : BitVec 32 := Scalar.subi arg1 c2_i32
  let c0_i32_10 : BitVec 32 := 0#32
  let v21 : BitVec 32 := Scalar.maxsi v20 c0_i32_10
  let c0_i32_11 : BitVec 32 := 0#32
  let v23 : BitVec 1 := Scalar.cmpi .sgt v21 c0_i32_11
  let v24 : BitVec 32 := Scalar.extui v23
  let c0_i32_12 : BitVec 32 := 0#32
  let v25 : BitVec 1 := Scalar.cmpi .slt v21 c0_i32_12
  let v26 : BitVec 32 := Scalar.extui v25
  let v27 : BitVec 32 := Scalar.subi v24 v26
  let c8_i32 : BitVec 32 := 8#32
  let c0_i32_13 : BitVec 32 := 0#32
  let v28 : BitVec 1 := Scalar.cmpi .sgt c8_i32 c0_i32_13
  let v29 : BitVec 32 := Scalar.extui v28
  let c0_i32_14 : BitVec 32 := 0#32
  let v30 : BitVec 1 := Scalar.cmpi .slt c8_i32 c0_i32_14
  let v31 : BitVec 32 := Scalar.extui v30
  let v32 : BitVec 32 := Scalar.subi v29 v31
  let v33 : BitVec 1 := Scalar.cmpi .ne v27 v32
  let v34 : BitVec 32 := Scalar.remsi v21 c8_i32
  let c0_i32_15 : BitVec 32 := 0#32
  let v35 : BitVec 1 := Scalar.cmpi .ne v34 c0_i32_15
  let v36 : BitVec 1 := Scalar.andi v33 v35
  let v22 : BitVec 32 := Scalar.divsi v21 c8_i32
  let c1_i32_16 : BitVec 32 := 1#32
  let v37 : BitVec 32 := Scalar.subi v22 c1_i32_16
  let v38 : BitVec 32 := Scalar.select v36 v37 v22
  let v39 : BitVec 32 := Scalar.subi v38 c0_i32_18
  let c1_i32_19 : BitVec 32 := 1#32
  let v41 : BitVec 32 := Scalar.divsi v39 c1_i32_19
  let v42 : BitVec 32 := Scalar.muli v41 c1_i32_19
  let v43 : BitVec 32 := Scalar.addi c0_i32_18 v42
  let c1_i32_20 : BitVec 32 := 1#32
  ⟨c0_i32_18, v43, c1_i32_20⟩
def k0_off8 (i : grid0.Coords) (k0_t1 : Fin (k0_t1_loop i).trips) (c0_i32_54 : BitVec 32) : Fin 4 → Nat :=
  let c0_55 : Index := 0#32
  let c2_i32_53 : BitVec 32 := 2#32
  let c0_i32_18 : BitVec 32 := 0#32
  let c1_i32_20 : BitVec 32 := 1#32
  let arg17 : BitVec 32 := Scf.iv c0_i32_18 c1_i32_20 k0_t1
  let c8_i32_52 : BitVec 32 := 8#32
  let v92 : BitVec 32 := Scalar.muli arg17 c8_i32_52
  let v93 : BitVec 32 := Scalar.addi c2_i32_53 v92
  let v94 : BitVec 32 := Scalar.addi v93 c0_i32_54
  let v95 : Index := Scalar.indexCast v94
  let c0_56 : Index := 0#32
  let c0_57 : Index := 0#32
  ![0, v95.toNat, 0, 0]
def k0_off9 (i : grid0.Coords) (k0_t1 : Fin (k0_t1_loop i).trips) (c0_i32_54 : BitVec 32) : Fin 4 → Nat :=
  let c0_86 : Index := 0#32
  let c2_i32_53 : BitVec 32 := 2#32
  let c0_i32_18 : BitVec 32 := 0#32
  let c1_i32_20 : BitVec 32 := 1#32
  let arg17 : BitVec 32 := Scf.iv c0_i32_18 c1_i32_20 k0_t1
  let c8_i32_52 : BitVec 32 := 8#32
  let v92 : BitVec 32 := Scalar.muli arg17 c8_i32_52
  let v93 : BitVec 32 := Scalar.addi c2_i32_53 v92
  let v94 : BitVec 32 := Scalar.addi v93 c0_i32_54
  let c1_i32_79 : BitVec 32 := 1#32
  let v128 : BitVec 32 := Scalar.subi v94 c1_i32_79
  let c0_i32_80 : BitVec 32 := 0#32
  let v129 : BitVec 1 := Scalar.cmpi .eq v128 c0_i32_80
  let arg1 : BitVec 32 := BitVec.ofNat 32 (i 1).val
  let c1_i32_81 : BitVec 32 := 1#32
  let v130 : BitVec 32 := Scalar.subi v128 c1_i32_81
  let v131 : BitVec 32 := Scalar.select v129 arg1 v130
  let v134 : Index := Scalar.indexCast v131
  let c0_87 : Index := 0#32
  let c0_88 : Index := 0#32
  ![0, v134.toNat, 0, 0]
@[reducible] def k0_t2_loop (i : grid0.Coords) : Scf.Loop 32 :=
  let c0_i32_18 : BitVec 32 := 0#32
  let arg1 : BitVec 32 := BitVec.ofNat 32 (i 1).val
  let c2_i32 : BitVec 32 := 2#32
  let v20 : BitVec 32 := Scalar.subi arg1 c2_i32
  let c0_i32_10 : BitVec 32 := 0#32
  let v21 : BitVec 32 := Scalar.maxsi v20 c0_i32_10
  let c0_i32_11 : BitVec 32 := 0#32
  let v23 : BitVec 1 := Scalar.cmpi .sgt v21 c0_i32_11
  let v24 : BitVec 32 := Scalar.extui v23
  let c0_i32_12 : BitVec 32 := 0#32
  let v25 : BitVec 1 := Scalar.cmpi .slt v21 c0_i32_12
  let v26 : BitVec 32 := Scalar.extui v25
  let v27 : BitVec 32 := Scalar.subi v24 v26
  let c8_i32 : BitVec 32 := 8#32
  let c0_i32_13 : BitVec 32 := 0#32
  let v28 : BitVec 1 := Scalar.cmpi .sgt c8_i32 c0_i32_13
  let v29 : BitVec 32 := Scalar.extui v28
  let c0_i32_14 : BitVec 32 := 0#32
  let v30 : BitVec 1 := Scalar.cmpi .slt c8_i32 c0_i32_14
  let v31 : BitVec 32 := Scalar.extui v30
  let v32 : BitVec 32 := Scalar.subi v29 v31
  let v33 : BitVec 1 := Scalar.cmpi .ne v27 v32
  let v34 : BitVec 32 := Scalar.remsi v21 c8_i32
  let c0_i32_15 : BitVec 32 := 0#32
  let v35 : BitVec 1 := Scalar.cmpi .ne v34 c0_i32_15
  let v36 : BitVec 1 := Scalar.andi v33 v35
  let v22 : BitVec 32 := Scalar.divsi v21 c8_i32
  let c1_i32_16 : BitVec 32 := 1#32
  let v37 : BitVec 32 := Scalar.subi v22 c1_i32_16
  let v38 : BitVec 32 := Scalar.select v36 v37 v22
  let v39 : BitVec 32 := Scalar.subi v38 c0_i32_18
  let c1_i32_19 : BitVec 32 := 1#32
  let v41 : BitVec 32 := Scalar.divsi v39 c1_i32_19
  let v42 : BitVec 32 := Scalar.muli v41 c1_i32_19
  let v43 : BitVec 32 := Scalar.addi c0_i32_18 v42
  let v40 : BitVec 32 := Scalar.addi c0_i32_18 v39
  let c1_i32_21 : BitVec 32 := 1#32
  ⟨v43, v40, c1_i32_21⟩
def k0_off10 (i : grid0.Coords) (k0_t2 : Fin (k0_t2_loop i).trips) (c0_i32_54 : BitVec 32) : Fin 4 → Nat :=
  let c0_55 : Index := 0#32
  let c2_i32_53 : BitVec 32 := 2#32
  let c0_i32_18 : BitVec 32 := 0#32
  let arg1 : BitVec 32 := BitVec.ofNat 32 (i 1).val
  let c2_i32 : BitVec 32 := 2#32
  let v20 : BitVec 32 := Scalar.subi arg1 c2_i32
  let c0_i32_10 : BitVec 32 := 0#32
  let v21 : BitVec 32 := Scalar.maxsi v20 c0_i32_10
  let c0_i32_11 : BitVec 32 := 0#32
  let v23 : BitVec 1 := Scalar.cmpi .sgt v21 c0_i32_11
  let v24 : BitVec 32 := Scalar.extui v23
  let c0_i32_12 : BitVec 32 := 0#32
  let v25 : BitVec 1 := Scalar.cmpi .slt v21 c0_i32_12
  let v26 : BitVec 32 := Scalar.extui v25
  let v27 : BitVec 32 := Scalar.subi v24 v26
  let c8_i32 : BitVec 32 := 8#32
  let c0_i32_13 : BitVec 32 := 0#32
  let v28 : BitVec 1 := Scalar.cmpi .sgt c8_i32 c0_i32_13
  let v29 : BitVec 32 := Scalar.extui v28
  let c0_i32_14 : BitVec 32 := 0#32
  let v30 : BitVec 1 := Scalar.cmpi .slt c8_i32 c0_i32_14
  let v31 : BitVec 32 := Scalar.extui v30
  let v32 : BitVec 32 := Scalar.subi v29 v31
  let v33 : BitVec 1 := Scalar.cmpi .ne v27 v32
  let v34 : BitVec 32 := Scalar.remsi v21 c8_i32
  let c0_i32_15 : BitVec 32 := 0#32
  let v35 : BitVec 1 := Scalar.cmpi .ne v34 c0_i32_15
  let v36 : BitVec 1 := Scalar.andi v33 v35
  let v22 : BitVec 32 := Scalar.divsi v21 c8_i32
  let c1_i32_16 : BitVec 32 := 1#32
  let v37 : BitVec 32 := Scalar.subi v22 c1_i32_16
  let v38 : BitVec 32 := Scalar.select v36 v37 v22
  let v39 : BitVec 32 := Scalar.subi v38 c0_i32_18
  let c1_i32_19 : BitVec 32 := 1#32
  let v41 : BitVec 32 := Scalar.divsi v39 c1_i32_19
  let v42 : BitVec 32 := Scalar.muli v41 c1_i32_19
  let v43 : BitVec 32 := Scalar.addi c0_i32_18 v42
  let c1_i32_21 : BitVec 32 := 1#32
  let arg17 : BitVec 32 := Scf.iv v43 c1_i32_21 k0_t2
  let c8_i32_52 : BitVec 32 := 8#32
  let v92 : BitVec 32 := Scalar.muli arg17 c8_i32_52
  let v93 : BitVec 32 := Scalar.addi c2_i32_53 v92
  let v94 : BitVec 32 := Scalar.addi v93 c0_i32_54
  let v95 : Index := Scalar.indexCast v94
  let c0_56 : Index := 0#32
  let c0_57 : Index := 0#32
  ![0, v95.toNat, 0, 0]
def k0_off11 (i : grid0.Coords) (k0_t2 : Fin (k0_t2_loop i).trips) (c0_i32_54 : BitVec 32) : Fin 4 → Nat :=
  let c0_86 : Index := 0#32
  let c2_i32_53 : BitVec 32 := 2#32
  let c0_i32_18 : BitVec 32 := 0#32
  let arg1 : BitVec 32 := BitVec.ofNat 32 (i 1).val
  let c2_i32 : BitVec 32 := 2#32
  let v20 : BitVec 32 := Scalar.subi arg1 c2_i32
  let c0_i32_10 : BitVec 32 := 0#32
  let v21 : BitVec 32 := Scalar.maxsi v20 c0_i32_10
  let c0_i32_11 : BitVec 32 := 0#32
  let v23 : BitVec 1 := Scalar.cmpi .sgt v21 c0_i32_11
  let v24 : BitVec 32 := Scalar.extui v23
  let c0_i32_12 : BitVec 32 := 0#32
  let v25 : BitVec 1 := Scalar.cmpi .slt v21 c0_i32_12
  let v26 : BitVec 32 := Scalar.extui v25
  let v27 : BitVec 32 := Scalar.subi v24 v26
  let c8_i32 : BitVec 32 := 8#32
  let c0_i32_13 : BitVec 32 := 0#32
  let v28 : BitVec 1 := Scalar.cmpi .sgt c8_i32 c0_i32_13
  let v29 : BitVec 32 := Scalar.extui v28
  let c0_i32_14 : BitVec 32 := 0#32
  let v30 : BitVec 1 := Scalar.cmpi .slt c8_i32 c0_i32_14
  let v31 : BitVec 32 := Scalar.extui v30
  let v32 : BitVec 32 := Scalar.subi v29 v31
  let v33 : BitVec 1 := Scalar.cmpi .ne v27 v32
  let v34 : BitVec 32 := Scalar.remsi v21 c8_i32
  let c0_i32_15 : BitVec 32 := 0#32
  let v35 : BitVec 1 := Scalar.cmpi .ne v34 c0_i32_15
  let v36 : BitVec 1 := Scalar.andi v33 v35
  let v22 : BitVec 32 := Scalar.divsi v21 c8_i32
  let c1_i32_16 : BitVec 32 := 1#32
  let v37 : BitVec 32 := Scalar.subi v22 c1_i32_16
  let v38 : BitVec 32 := Scalar.select v36 v37 v22
  let v39 : BitVec 32 := Scalar.subi v38 c0_i32_18
  let c1_i32_19 : BitVec 32 := 1#32
  let v41 : BitVec 32 := Scalar.divsi v39 c1_i32_19
  let v42 : BitVec 32 := Scalar.muli v41 c1_i32_19
  let v43 : BitVec 32 := Scalar.addi c0_i32_18 v42
  let c1_i32_21 : BitVec 32 := 1#32
  let arg17 : BitVec 32 := Scf.iv v43 c1_i32_21 k0_t2
  let c8_i32_52 : BitVec 32 := 8#32
  let v92 : BitVec 32 := Scalar.muli arg17 c8_i32_52
  let v93 : BitVec 32 := Scalar.addi c2_i32_53 v92
  let v94 : BitVec 32 := Scalar.addi v93 c0_i32_54
  let c1_i32_79 : BitVec 32 := 1#32
  let v128 : BitVec 32 := Scalar.subi v94 c1_i32_79
  let c0_i32_80 : BitVec 32 := 0#32
  let v129 : BitVec 1 := Scalar.cmpi .eq v128 c0_i32_80
  let c1_i32_81 : BitVec 32 := 1#32
  let v130 : BitVec 32 := Scalar.subi v128 c1_i32_81
  let v131 : BitVec 32 := Scalar.select v129 arg1 v130
  let v134 : Index := Scalar.indexCast v131
  let c0_87 : Index := 0#32
  let c0_88 : Index := 0#32
  ![0, v134.toNat, 0, 0]
def k0_cond5 (i : grid0.Coords) : BitVec 1 :=
  let arg1 : BitVec 32 := BitVec.ofNat 32 (i 1).val
  let c2_i32 : BitVec 32 := 2#32
  let v20 : BitVec 32 := Scalar.subi arg1 c2_i32
  let c0_i32_10 : BitVec 32 := 0#32
  let v21 : BitVec 32 := Scalar.maxsi v20 c0_i32_10
  let c0_i32_11 : BitVec 32 := 0#32
  let v23 : BitVec 1 := Scalar.cmpi .sgt v21 c0_i32_11
  let v24 : BitVec 32 := Scalar.extui v23
  let c0_i32_12 : BitVec 32 := 0#32
  let v25 : BitVec 1 := Scalar.cmpi .slt v21 c0_i32_12
  let v26 : BitVec 32 := Scalar.extui v25
  let v27 : BitVec 32 := Scalar.subi v24 v26
  let c8_i32 : BitVec 32 := 8#32
  let c0_i32_13 : BitVec 32 := 0#32
  let v28 : BitVec 1 := Scalar.cmpi .sgt c8_i32 c0_i32_13
  let v29 : BitVec 32 := Scalar.extui v28
  let c0_i32_14 : BitVec 32 := 0#32
  let v30 : BitVec 1 := Scalar.cmpi .slt c8_i32 c0_i32_14
  let v31 : BitVec 32 := Scalar.extui v30
  let v32 : BitVec 32 := Scalar.subi v29 v31
  let v33 : BitVec 1 := Scalar.cmpi .ne v27 v32
  let v34 : BitVec 32 := Scalar.remsi v21 c8_i32
  let c0_i32_15 : BitVec 32 := 0#32
  let v35 : BitVec 1 := Scalar.cmpi .ne v34 c0_i32_15
  let v36 : BitVec 1 := Scalar.andi v33 v35
  let v22 : BitVec 32 := Scalar.divsi v21 c8_i32
  let c1_i32_16 : BitVec 32 := 1#32
  let v37 : BitVec 32 := Scalar.subi v22 c1_i32_16
  let v38 : BitVec 32 := Scalar.select v36 v37 v22
  let c8_i32_24 : BitVec 32 := 8#32
  let v46 : BitVec 32 := Scalar.muli v38 c8_i32_24
  let v47 : BitVec 32 := Scalar.subi v21 v46
  let c4_i32 : BitVec 32 := 4#32
  let v48 : BitVec 32 := Scalar.andi v47 c4_i32
  let c0_i32_25 : BitVec 32 := 0#32
  let v49 : BitVec 1 := Scalar.cmpi .ne v48 c0_i32_25
  let v50 : BitVec 32 := Scalar.extui v49
  let c0_i32_26 : BitVec 32 := 0#32
  let v51 : BitVec 1 := Scalar.cmpi .ne v50 c0_i32_26
  v51

def k0_off12 (i : grid0.Coords) (c0_i32_52 : BitVec 32) : Fin 4 → Nat :=
  let c0_53 : Index := 0#32
  let c2_i32_23 : BitVec 32 := 2#32
  let arg1 : BitVec 32 := BitVec.ofNat 32 (i 1).val
  let c2_i32 : BitVec 32 := 2#32
  let v20 : BitVec 32 := Scalar.subi arg1 c2_i32
  let c0_i32_10 : BitVec 32 := 0#32
  let v21 : BitVec 32 := Scalar.maxsi v20 c0_i32_10
  let c0_i32_11 : BitVec 32 := 0#32
  let v23 : BitVec 1 := Scalar.cmpi .sgt v21 c0_i32_11
  let v24 : BitVec 32 := Scalar.extui v23
  let c0_i32_12 : BitVec 32 := 0#32
  let v25 : BitVec 1 := Scalar.cmpi .slt v21 c0_i32_12
  let v26 : BitVec 32 := Scalar.extui v25
  let v27 : BitVec 32 := Scalar.subi v24 v26
  let c8_i32 : BitVec 32 := 8#32
  let c0_i32_13 : BitVec 32 := 0#32
  let v28 : BitVec 1 := Scalar.cmpi .sgt c8_i32 c0_i32_13
  let v29 : BitVec 32 := Scalar.extui v28
  let c0_i32_14 : BitVec 32 := 0#32
  let v30 : BitVec 1 := Scalar.cmpi .slt c8_i32 c0_i32_14
  let v31 : BitVec 32 := Scalar.extui v30
  let v32 : BitVec 32 := Scalar.subi v29 v31
  let v33 : BitVec 1 := Scalar.cmpi .ne v27 v32
  let v34 : BitVec 32 := Scalar.remsi v21 c8_i32
  let c0_i32_15 : BitVec 32 := 0#32
  let v35 : BitVec 1 := Scalar.cmpi .ne v34 c0_i32_15
  let v36 : BitVec 1 := Scalar.andi v33 v35
  let v22 : BitVec 32 := Scalar.divsi v21 c8_i32
  let c1_i32_16 : BitVec 32 := 1#32
  let v37 : BitVec 32 := Scalar.subi v22 c1_i32_16
  let v38 : BitVec 32 := Scalar.select v36 v37 v22
  let c8_i32_22 : BitVec 32 := 8#32
  let v44 : BitVec 32 := Scalar.muli v38 c8_i32_22
  let v45 : BitVec 32 := Scalar.addi c2_i32_23 v44
  let v92 : BitVec 32 := Scalar.addi v45 c0_i32_52
  let v93 : Index := Scalar.indexCast v92
  let c0_54 : Index := 0#32
  let c0_55 : Index := 0#32
  ![0, v93.toNat, 0, 0]
def k0_off13 (i : grid0.Coords) (c0_i32_52 : BitVec 32) : Fin 4 → Nat :=
  let c0_84 : Index := 0#32
  let c2_i32_23 : BitVec 32 := 2#32
  let arg1 : BitVec 32 := BitVec.ofNat 32 (i 1).val
  let c2_i32 : BitVec 32 := 2#32
  let v20 : BitVec 32 := Scalar.subi arg1 c2_i32
  let c0_i32_10 : BitVec 32 := 0#32
  let v21 : BitVec 32 := Scalar.maxsi v20 c0_i32_10
  let c0_i32_11 : BitVec 32 := 0#32
  let v23 : BitVec 1 := Scalar.cmpi .sgt v21 c0_i32_11
  let v24 : BitVec 32 := Scalar.extui v23
  let c0_i32_12 : BitVec 32 := 0#32
  let v25 : BitVec 1 := Scalar.cmpi .slt v21 c0_i32_12
  let v26 : BitVec 32 := Scalar.extui v25
  let v27 : BitVec 32 := Scalar.subi v24 v26
  let c8_i32 : BitVec 32 := 8#32
  let c0_i32_13 : BitVec 32 := 0#32
  let v28 : BitVec 1 := Scalar.cmpi .sgt c8_i32 c0_i32_13
  let v29 : BitVec 32 := Scalar.extui v28
  let c0_i32_14 : BitVec 32 := 0#32
  let v30 : BitVec 1 := Scalar.cmpi .slt c8_i32 c0_i32_14
  let v31 : BitVec 32 := Scalar.extui v30
  let v32 : BitVec 32 := Scalar.subi v29 v31
  let v33 : BitVec 1 := Scalar.cmpi .ne v27 v32
  let v34 : BitVec 32 := Scalar.remsi v21 c8_i32
  let c0_i32_15 : BitVec 32 := 0#32
  let v35 : BitVec 1 := Scalar.cmpi .ne v34 c0_i32_15
  let v36 : BitVec 1 := Scalar.andi v33 v35
  let v22 : BitVec 32 := Scalar.divsi v21 c8_i32
  let c1_i32_16 : BitVec 32 := 1#32
  let v37 : BitVec 32 := Scalar.subi v22 c1_i32_16
  let v38 : BitVec 32 := Scalar.select v36 v37 v22
  let c8_i32_22 : BitVec 32 := 8#32
  let v44 : BitVec 32 := Scalar.muli v38 c8_i32_22
  let v45 : BitVec 32 := Scalar.addi c2_i32_23 v44
  let v92 : BitVec 32 := Scalar.addi v45 c0_i32_52
  let c1_i32_77 : BitVec 32 := 1#32
  let v126 : BitVec 32 := Scalar.subi v92 c1_i32_77
  let c0_i32_78 : BitVec 32 := 0#32
  let v127 : BitVec 1 := Scalar.cmpi .eq v126 c0_i32_78
  let c1_i32_79 : BitVec 32 := 1#32
  let v128 : BitVec 32 := Scalar.subi v126 c1_i32_79
  let v129 : BitVec 32 := Scalar.select v127 arg1 v128
  let v132 : Index := Scalar.indexCast v129
  let c0_85 : Index := 0#32
  let c0_86 : Index := 0#32
  ![0, v132.toNat, 0, 0]
def k0_cond6 (i : grid0.Coords) : BitVec 1 :=
  let arg1 : BitVec 32 := BitVec.ofNat 32 (i 1).val
  let c2_i32 : BitVec 32 := 2#32
  let v20 : BitVec 32 := Scalar.subi arg1 c2_i32
  let c0_i32_10 : BitVec 32 := 0#32
  let v21 : BitVec 32 := Scalar.maxsi v20 c0_i32_10
  let c0_i32_11 : BitVec 32 := 0#32
  let v23 : BitVec 1 := Scalar.cmpi .sgt v21 c0_i32_11
  let v24 : BitVec 32 := Scalar.extui v23
  let c0_i32_12 : BitVec 32 := 0#32
  let v25 : BitVec 1 := Scalar.cmpi .slt v21 c0_i32_12
  let v26 : BitVec 32 := Scalar.extui v25
  let v27 : BitVec 32 := Scalar.subi v24 v26
  let c8_i32 : BitVec 32 := 8#32
  let c0_i32_13 : BitVec 32 := 0#32
  let v28 : BitVec 1 := Scalar.cmpi .sgt c8_i32 c0_i32_13
  let v29 : BitVec 32 := Scalar.extui v28
  let c0_i32_14 : BitVec 32 := 0#32
  let v30 : BitVec 1 := Scalar.cmpi .slt c8_i32 c0_i32_14
  let v31 : BitVec 32 := Scalar.extui v30
  let v32 : BitVec 32 := Scalar.subi v29 v31
  let v33 : BitVec 1 := Scalar.cmpi .ne v27 v32
  let v34 : BitVec 32 := Scalar.remsi v21 c8_i32
  let c0_i32_15 : BitVec 32 := 0#32
  let v35 : BitVec 1 := Scalar.cmpi .ne v34 c0_i32_15
  let v36 : BitVec 1 := Scalar.andi v33 v35
  let v22 : BitVec 32 := Scalar.divsi v21 c8_i32
  let c1_i32_16 : BitVec 32 := 1#32
  let v37 : BitVec 32 := Scalar.subi v22 c1_i32_16
  let v38 : BitVec 32 := Scalar.select v36 v37 v22
  let c8_i32_24 : BitVec 32 := 8#32
  let v46 : BitVec 32 := Scalar.muli v38 c8_i32_24
  let v47 : BitVec 32 := Scalar.subi v21 v46
  let c2_i32_28 : BitVec 32 := 2#32
  let v54 : BitVec 32 := Scalar.andi v47 c2_i32_28
  let c0_i32_29 : BitVec 32 := 0#32
  let v55 : BitVec 1 := Scalar.cmpi .ne v54 c0_i32_29
  let v56 : BitVec 32 := Scalar.extui v55
  let c0_i32_30 : BitVec 32 := 0#32
  let v57 : BitVec 1 := Scalar.cmpi .ne v56 c0_i32_30
  v57

def k0_off14 (i : grid0.Coords) (c0_i32_52 : BitVec 32) : Fin 4 → Nat :=
  let c0_53 : Index := 0#32
  let c2_i32_23 : BitVec 32 := 2#32
  let arg1 : BitVec 32 := BitVec.ofNat 32 (i 1).val
  let c2_i32 : BitVec 32 := 2#32
  let v20 : BitVec 32 := Scalar.subi arg1 c2_i32
  let c0_i32_10 : BitVec 32 := 0#32
  let v21 : BitVec 32 := Scalar.maxsi v20 c0_i32_10
  let c0_i32_11 : BitVec 32 := 0#32
  let v23 : BitVec 1 := Scalar.cmpi .sgt v21 c0_i32_11
  let v24 : BitVec 32 := Scalar.extui v23
  let c0_i32_12 : BitVec 32 := 0#32
  let v25 : BitVec 1 := Scalar.cmpi .slt v21 c0_i32_12
  let v26 : BitVec 32 := Scalar.extui v25
  let v27 : BitVec 32 := Scalar.subi v24 v26
  let c8_i32 : BitVec 32 := 8#32
  let c0_i32_13 : BitVec 32 := 0#32
  let v28 : BitVec 1 := Scalar.cmpi .sgt c8_i32 c0_i32_13
  let v29 : BitVec 32 := Scalar.extui v28
  let c0_i32_14 : BitVec 32 := 0#32
  let v30 : BitVec 1 := Scalar.cmpi .slt c8_i32 c0_i32_14
  let v31 : BitVec 32 := Scalar.extui v30
  let v32 : BitVec 32 := Scalar.subi v29 v31
  let v33 : BitVec 1 := Scalar.cmpi .ne v27 v32
  let v34 : BitVec 32 := Scalar.remsi v21 c8_i32
  let c0_i32_15 : BitVec 32 := 0#32
  let v35 : BitVec 1 := Scalar.cmpi .ne v34 c0_i32_15
  let v36 : BitVec 1 := Scalar.andi v33 v35
  let v22 : BitVec 32 := Scalar.divsi v21 c8_i32
  let c1_i32_16 : BitVec 32 := 1#32
  let v37 : BitVec 32 := Scalar.subi v22 c1_i32_16
  let v38 : BitVec 32 := Scalar.select v36 v37 v22
  let c8_i32_22 : BitVec 32 := 8#32
  let v44 : BitVec 32 := Scalar.muli v38 c8_i32_22
  let v45 : BitVec 32 := Scalar.addi c2_i32_23 v44
  let c8_i32_24 : BitVec 32 := 8#32
  let v46 : BitVec 32 := Scalar.muli v38 c8_i32_24
  let v47 : BitVec 32 := Scalar.subi v21 v46
  let c4_i32_27 : BitVec 32 := 4#32
  let v52 : BitVec 32 := Scalar.andi v47 c4_i32_27
  let v53 : BitVec 32 := Scalar.addi v45 v52
  let v92 : BitVec 32 := Scalar.addi v53 c0_i32_52
  let v93 : Index := Scalar.indexCast v92
  let c0_54 : Index := 0#32
  let c0_55 : Index := 0#32
  ![0, v93.toNat, 0, 0]
def k0_off15 (i : grid0.Coords) (c0_i32_52 : BitVec 32) : Fin 4 → Nat :=
  let c0_84 : Index := 0#32
  let c2_i32_23 : BitVec 32 := 2#32
  let arg1 : BitVec 32 := BitVec.ofNat 32 (i 1).val
  let c2_i32 : BitVec 32 := 2#32
  let v20 : BitVec 32 := Scalar.subi arg1 c2_i32
  let c0_i32_10 : BitVec 32 := 0#32
  let v21 : BitVec 32 := Scalar.maxsi v20 c0_i32_10
  let c0_i32_11 : BitVec 32 := 0#32
  let v23 : BitVec 1 := Scalar.cmpi .sgt v21 c0_i32_11
  let v24 : BitVec 32 := Scalar.extui v23
  let c0_i32_12 : BitVec 32 := 0#32
  let v25 : BitVec 1 := Scalar.cmpi .slt v21 c0_i32_12
  let v26 : BitVec 32 := Scalar.extui v25
  let v27 : BitVec 32 := Scalar.subi v24 v26
  let c8_i32 : BitVec 32 := 8#32
  let c0_i32_13 : BitVec 32 := 0#32
  let v28 : BitVec 1 := Scalar.cmpi .sgt c8_i32 c0_i32_13
  let v29 : BitVec 32 := Scalar.extui v28
  let c0_i32_14 : BitVec 32 := 0#32
  let v30 : BitVec 1 := Scalar.cmpi .slt c8_i32 c0_i32_14
  let v31 : BitVec 32 := Scalar.extui v30
  let v32 : BitVec 32 := Scalar.subi v29 v31
  let v33 : BitVec 1 := Scalar.cmpi .ne v27 v32
  let v34 : BitVec 32 := Scalar.remsi v21 c8_i32
  let c0_i32_15 : BitVec 32 := 0#32
  let v35 : BitVec 1 := Scalar.cmpi .ne v34 c0_i32_15
  let v36 : BitVec 1 := Scalar.andi v33 v35
  let v22 : BitVec 32 := Scalar.divsi v21 c8_i32
  let c1_i32_16 : BitVec 32 := 1#32
  let v37 : BitVec 32 := Scalar.subi v22 c1_i32_16
  let v38 : BitVec 32 := Scalar.select v36 v37 v22
  let c8_i32_22 : BitVec 32 := 8#32
  let v44 : BitVec 32 := Scalar.muli v38 c8_i32_22
  let v45 : BitVec 32 := Scalar.addi c2_i32_23 v44
  let c8_i32_24 : BitVec 32 := 8#32
  let v46 : BitVec 32 := Scalar.muli v38 c8_i32_24
  let v47 : BitVec 32 := Scalar.subi v21 v46
  let c4_i32_27 : BitVec 32 := 4#32
  let v52 : BitVec 32 := Scalar.andi v47 c4_i32_27
  let v53 : BitVec 32 := Scalar.addi v45 v52
  let v92 : BitVec 32 := Scalar.addi v53 c0_i32_52
  let c1_i32_77 : BitVec 32 := 1#32
  let v126 : BitVec 32 := Scalar.subi v92 c1_i32_77
  let c0_i32_78 : BitVec 32 := 0#32
  let v127 : BitVec 1 := Scalar.cmpi .eq v126 c0_i32_78
  let c1_i32_79 : BitVec 32 := 1#32
  let v128 : BitVec 32 := Scalar.subi v126 c1_i32_79
  let v129 : BitVec 32 := Scalar.select v127 arg1 v128
  let v132 : Index := Scalar.indexCast v129
  let c0_85 : Index := 0#32
  let c0_86 : Index := 0#32
  ![0, v132.toNat, 0, 0]
def k0_cond7 (i : grid0.Coords) : BitVec 1 :=
  let arg1 : BitVec 32 := BitVec.ofNat 32 (i 1).val
  let c2_i32 : BitVec 32 := 2#32
  let v20 : BitVec 32 := Scalar.subi arg1 c2_i32
  let c0_i32_10 : BitVec 32 := 0#32
  let v21 : BitVec 32 := Scalar.maxsi v20 c0_i32_10
  let c0_i32_11 : BitVec 32 := 0#32
  let v23 : BitVec 1 := Scalar.cmpi .sgt v21 c0_i32_11
  let v24 : BitVec 32 := Scalar.extui v23
  let c0_i32_12 : BitVec 32 := 0#32
  let v25 : BitVec 1 := Scalar.cmpi .slt v21 c0_i32_12
  let v26 : BitVec 32 := Scalar.extui v25
  let v27 : BitVec 32 := Scalar.subi v24 v26
  let c8_i32 : BitVec 32 := 8#32
  let c0_i32_13 : BitVec 32 := 0#32
  let v28 : BitVec 1 := Scalar.cmpi .sgt c8_i32 c0_i32_13
  let v29 : BitVec 32 := Scalar.extui v28
  let c0_i32_14 : BitVec 32 := 0#32
  let v30 : BitVec 1 := Scalar.cmpi .slt c8_i32 c0_i32_14
  let v31 : BitVec 32 := Scalar.extui v30
  let v32 : BitVec 32 := Scalar.subi v29 v31
  let v33 : BitVec 1 := Scalar.cmpi .ne v27 v32
  let v34 : BitVec 32 := Scalar.remsi v21 c8_i32
  let c0_i32_15 : BitVec 32 := 0#32
  let v35 : BitVec 1 := Scalar.cmpi .ne v34 c0_i32_15
  let v36 : BitVec 1 := Scalar.andi v33 v35
  let v22 : BitVec 32 := Scalar.divsi v21 c8_i32
  let c1_i32_16 : BitVec 32 := 1#32
  let v37 : BitVec 32 := Scalar.subi v22 c1_i32_16
  let v38 : BitVec 32 := Scalar.select v36 v37 v22
  let c8_i32_24 : BitVec 32 := 8#32
  let v46 : BitVec 32 := Scalar.muli v38 c8_i32_24
  let v47 : BitVec 32 := Scalar.subi v21 v46
  let c1_i32_32 : BitVec 32 := 1#32
  let v60 : BitVec 32 := Scalar.andi v47 c1_i32_32
  let c0_i32_33 : BitVec 32 := 0#32
  let v61 : BitVec 1 := Scalar.cmpi .ne v60 c0_i32_33
  let v62 : BitVec 32 := Scalar.extui v61
  let c0_i32_34 : BitVec 32 := 0#32
  let v63 : BitVec 1 := Scalar.cmpi .ne v62 c0_i32_34
  v63

def k0_off16 (i : grid0.Coords) : Fin 4 → Nat :=
  let c0_53 : Index := 0#32
  let c2_i32_23 : BitVec 32 := 2#32
  let arg1 : BitVec 32 := BitVec.ofNat 32 (i 1).val
  let c2_i32 : BitVec 32 := 2#32
  let v20 : BitVec 32 := Scalar.subi arg1 c2_i32
  let c0_i32_10 : BitVec 32 := 0#32
  let v21 : BitVec 32 := Scalar.maxsi v20 c0_i32_10
  let c0_i32_11 : BitVec 32 := 0#32
  let v23 : BitVec 1 := Scalar.cmpi .sgt v21 c0_i32_11
  let v24 : BitVec 32 := Scalar.extui v23
  let c0_i32_12 : BitVec 32 := 0#32
  let v25 : BitVec 1 := Scalar.cmpi .slt v21 c0_i32_12
  let v26 : BitVec 32 := Scalar.extui v25
  let v27 : BitVec 32 := Scalar.subi v24 v26
  let c8_i32 : BitVec 32 := 8#32
  let c0_i32_13 : BitVec 32 := 0#32
  let v28 : BitVec 1 := Scalar.cmpi .sgt c8_i32 c0_i32_13
  let v29 : BitVec 32 := Scalar.extui v28
  let c0_i32_14 : BitVec 32 := 0#32
  let v30 : BitVec 1 := Scalar.cmpi .slt c8_i32 c0_i32_14
  let v31 : BitVec 32 := Scalar.extui v30
  let v32 : BitVec 32 := Scalar.subi v29 v31
  let v33 : BitVec 1 := Scalar.cmpi .ne v27 v32
  let v34 : BitVec 32 := Scalar.remsi v21 c8_i32
  let c0_i32_15 : BitVec 32 := 0#32
  let v35 : BitVec 1 := Scalar.cmpi .ne v34 c0_i32_15
  let v36 : BitVec 1 := Scalar.andi v33 v35
  let v22 : BitVec 32 := Scalar.divsi v21 c8_i32
  let c1_i32_16 : BitVec 32 := 1#32
  let v37 : BitVec 32 := Scalar.subi v22 c1_i32_16
  let v38 : BitVec 32 := Scalar.select v36 v37 v22
  let c8_i32_22 : BitVec 32 := 8#32
  let v44 : BitVec 32 := Scalar.muli v38 c8_i32_22
  let v45 : BitVec 32 := Scalar.addi c2_i32_23 v44
  let c8_i32_24 : BitVec 32 := 8#32
  let v46 : BitVec 32 := Scalar.muli v38 c8_i32_24
  let v47 : BitVec 32 := Scalar.subi v21 v46
  let c4_i32_27 : BitVec 32 := 4#32
  let v52 : BitVec 32 := Scalar.andi v47 c4_i32_27
  let v53 : BitVec 32 := Scalar.addi v45 v52
  let c2_i32_31 : BitVec 32 := 2#32
  let v58 : BitVec 32 := Scalar.andi v47 c2_i32_31
  let v59 : BitVec 32 := Scalar.addi v53 v58
  let c0_i32_52 : BitVec 32 := 0#32
  let v92 : BitVec 32 := Scalar.addi v59 c0_i32_52
  let v93 : Index := Scalar.indexCast v92
  let c0_54 : Index := 0#32
  let c0_55 : Index := 0#32
  ![0, v93.toNat, 0, 0]
def k0_off17 (i : grid0.Coords) : Fin 4 → Nat :=
  let c0_84 : Index := 0#32
  let c2_i32_23 : BitVec 32 := 2#32
  let arg1 : BitVec 32 := BitVec.ofNat 32 (i 1).val
  let c2_i32 : BitVec 32 := 2#32
  let v20 : BitVec 32 := Scalar.subi arg1 c2_i32
  let c0_i32_10 : BitVec 32 := 0#32
  let v21 : BitVec 32 := Scalar.maxsi v20 c0_i32_10
  let c0_i32_11 : BitVec 32 := 0#32
  let v23 : BitVec 1 := Scalar.cmpi .sgt v21 c0_i32_11
  let v24 : BitVec 32 := Scalar.extui v23
  let c0_i32_12 : BitVec 32 := 0#32
  let v25 : BitVec 1 := Scalar.cmpi .slt v21 c0_i32_12
  let v26 : BitVec 32 := Scalar.extui v25
  let v27 : BitVec 32 := Scalar.subi v24 v26
  let c8_i32 : BitVec 32 := 8#32
  let c0_i32_13 : BitVec 32 := 0#32
  let v28 : BitVec 1 := Scalar.cmpi .sgt c8_i32 c0_i32_13
  let v29 : BitVec 32 := Scalar.extui v28
  let c0_i32_14 : BitVec 32 := 0#32
  let v30 : BitVec 1 := Scalar.cmpi .slt c8_i32 c0_i32_14
  let v31 : BitVec 32 := Scalar.extui v30
  let v32 : BitVec 32 := Scalar.subi v29 v31
  let v33 : BitVec 1 := Scalar.cmpi .ne v27 v32
  let v34 : BitVec 32 := Scalar.remsi v21 c8_i32
  let c0_i32_15 : BitVec 32 := 0#32
  let v35 : BitVec 1 := Scalar.cmpi .ne v34 c0_i32_15
  let v36 : BitVec 1 := Scalar.andi v33 v35
  let v22 : BitVec 32 := Scalar.divsi v21 c8_i32
  let c1_i32_16 : BitVec 32 := 1#32
  let v37 : BitVec 32 := Scalar.subi v22 c1_i32_16
  let v38 : BitVec 32 := Scalar.select v36 v37 v22
  let c8_i32_22 : BitVec 32 := 8#32
  let v44 : BitVec 32 := Scalar.muli v38 c8_i32_22
  let v45 : BitVec 32 := Scalar.addi c2_i32_23 v44
  let c8_i32_24 : BitVec 32 := 8#32
  let v46 : BitVec 32 := Scalar.muli v38 c8_i32_24
  let v47 : BitVec 32 := Scalar.subi v21 v46
  let c4_i32_27 : BitVec 32 := 4#32
  let v52 : BitVec 32 := Scalar.andi v47 c4_i32_27
  let v53 : BitVec 32 := Scalar.addi v45 v52
  let c2_i32_31 : BitVec 32 := 2#32
  let v58 : BitVec 32 := Scalar.andi v47 c2_i32_31
  let v59 : BitVec 32 := Scalar.addi v53 v58
  let c0_i32_52 : BitVec 32 := 0#32
  let v92 : BitVec 32 := Scalar.addi v59 c0_i32_52
  let c1_i32_77 : BitVec 32 := 1#32
  let v126 : BitVec 32 := Scalar.subi v92 c1_i32_77
  let c0_i32_78 : BitVec 32 := 0#32
  let v127 : BitVec 1 := Scalar.cmpi .eq v126 c0_i32_78
  let c1_i32_79 : BitVec 32 := 1#32
  let v128 : BitVec 32 := Scalar.subi v126 c1_i32_79
  let v129 : BitVec 32 := Scalar.select v127 arg1 v128
  let v132 : Index := Scalar.indexCast v129
  let c0_85 : Index := 0#32
  let c0_86 : Index := 0#32
  ![0, v132.toNat, 0, 0]
def k0_cond8 (i : grid0.Coords) : BitVec 1 :=
  let arg1 : BitVec 32 := BitVec.ofNat 32 (i 1).val
  let c0_i32_35 : BitVec 32 := 0#32
  let v64 : BitVec 1 := Scalar.cmpi .sgt arg1 c0_i32_35
  let c2_i32_36 : BitVec 32 := 2#32
  let c0_i32_37 : BitVec 32 := 0#32
  let v65 : BitVec 1 := Scalar.cmpi .eq c2_i32_36 c0_i32_37
  let c1_i32_38 : BitVec 32 := 1#32
  let v66 : BitVec 32 := Scalar.select v65 c1_i32_38 c2_i32_36
  let v67 : BitVec 32 := Scalar.remsi arg1 v66
  let c0_i32_40 : BitVec 32 := 0#32
  let v69 : BitVec 1 := Scalar.cmpi .slt v67 c0_i32_40
  let c0_i32_41 : BitVec 32 := 0#32
  let v70 : BitVec 1 := Scalar.cmpi .slt v66 c0_i32_41
  let v71 : BitVec 1 := Scalar.xori v69 v70
  let c0_i32_39 : BitVec 32 := 0#32
  let v68 : BitVec 1 := Scalar.cmpi .ne v67 c0_i32_39
  let v72 : BitVec 1 := Scalar.andi v71 v68
  let v73 : BitVec 32 := Scalar.addi v67 v66
  let v74 : BitVec 32 := Scalar.select v72 v73 v67
  let c0_i32_42 : BitVec 32 := 0#32
  let v75 : BitVec 1 := Scalar.cmpi .eq v74 c0_i32_42
  let v76 : BitVec 1 := Scalar.andi v64 v75
  let v77 : BitVec 32 := Scalar.extui v76
  let c0_i32_43 : BitVec 32 := 0#32
  let v78 : BitVec 1 := Scalar.cmpi .ne v77 c0_i32_43
  v78

def k0_off18 (i : grid0.Coords) : Fin 4 → Nat :=
  let c0_71 : Index := 0#32
  let arg1 : BitVec 32 := BitVec.ofNat 32 (i 1).val
  let c1_i32_64 : BitVec 32 := 1#32
  let v111 : BitVec 32 := Scalar.subi arg1 c1_i32_64
  let c0_i32_65 : BitVec 32 := 0#32
  let v112 : BitVec 1 := Scalar.cmpi .eq v111 c0_i32_65
  let c1_i32_66 : BitVec 32 := 1#32
  let v113 : BitVec 32 := Scalar.subi v111 c1_i32_66
  let v114 : BitVec 32 := Scalar.select v112 arg1 v113
  let v117 : Index := Scalar.indexCast v114
  let c0_72 : Index := 0#32
  let c0_73 : Index := 0#32
  ![0, v117.toNat, 0, 0]
def k0_off19 (i : grid0.Coords) : Fin 4 → Nat :=
  let c0_85 : Index := 0#32
  let arg1 : BitVec 32 := BitVec.ofNat 32 (i 1).val
  let c0_i32_79 : BitVec 32 := 0#32
  let v128 : BitVec 1 := Scalar.cmpi .eq arg1 c0_i32_79
  let c1_i32_80 : BitVec 32 := 1#32
  let v129 : BitVec 32 := Scalar.subi arg1 c1_i32_80
  let v130 : BitVec 32 := Scalar.select v128 arg1 v129
  let v133 : Index := Scalar.indexCast v130
  let c0_86 : Index := 0#32
  let c0_87 : Index := 0#32
  ![0, v133.toNat, 0, 0]
def k0_off20 (i : grid0.Coords) : Fin 4 → Nat :=
  let c0_94 : Index := 0#32
  let arg1 : BitVec 32 := BitVec.ofNat 32 (i 1).val
  let c1_i32_93 : BitVec 32 := 1#32
  let v144 : BitVec 32 := Scalar.addi arg1 c1_i32_93
  let c15_i32 : BitVec 32 := 15#32
  let v145 : BitVec 32 := Scalar.minsi v144 c15_i32
  let v146 : Index := Scalar.indexCast v145
  let c0_95 : Index := 0#32
  let c0_96 : Index := 0#32
  ![0, v146.toNat, 0, 0]
def k0_off21 (i : grid0.Coords) : Fin 4 → Nat :=
  let c0_101 : Index := 0#32
  let arg1 : BitVec 32 := BitVec.ofNat 32 (i 1).val
  let c1_i32_93 : BitVec 32 := 1#32
  let v144 : BitVec 32 := Scalar.addi arg1 c1_i32_93
  let c15_i32 : BitVec 32 := 15#32
  let v145 : BitVec 32 := Scalar.minsi v144 c15_i32
  let v152 : Index := Scalar.indexCast v145
  let c512 : Index := 512#32
  let c0_102 : Index := 0#32
  ![0, v152.toNat, 512, 0]
def k0_cond9 (i : grid0.Coords) : BitVec 1 :=
  let arg1 : BitVec 32 := BitVec.ofNat 32 (i 1).val
  let c2_i32_44 : BitVec 32 := 2#32
  let c0_i32_45 : BitVec 32 := 0#32
  let v79 : BitVec 1 := Scalar.cmpi .eq c2_i32_44 c0_i32_45
  let c1_i32_46 : BitVec 32 := 1#32
  let v80 : BitVec 32 := Scalar.select v79 c1_i32_46 c2_i32_44
  let v81 : BitVec 32 := Scalar.remsi arg1 v80
  let c0_i32_48 : BitVec 32 := 0#32
  let v83 : BitVec 1 := Scalar.cmpi .slt v81 c0_i32_48
  let c0_i32_49 : BitVec 32 := 0#32
  let v84 : BitVec 1 := Scalar.cmpi .slt v80 c0_i32_49
  let v85 : BitVec 1 := Scalar.xori v83 v84
  let c0_i32_47 : BitVec 32 := 0#32
  let v82 : BitVec 1 := Scalar.cmpi .ne v81 c0_i32_47
  let v86 : BitVec 1 := Scalar.andi v85 v82
  let v87 : BitVec 32 := Scalar.addi v81 v80
  let v88 : BitVec 32 := Scalar.select v86 v87 v81
  let c1_i32_50 : BitVec 32 := 1#32
  let v89 : BitVec 1 := Scalar.cmpi .eq v88 c1_i32_50
  let v90 : BitVec 32 := Scalar.extui v89
  let c0_i32_51 : BitVec 32 := 0#32
  let v91 : BitVec 1 := Scalar.cmpi .ne v90 c0_i32_51
  v91

def k0_off22 (i : grid0.Coords) : Fin 4 → Nat :=
  let c0_71 : Index := 0#32
  let arg1 : BitVec 32 := BitVec.ofNat 32 (i 1).val
  let c1_i32_64 : BitVec 32 := 1#32
  let v111 : BitVec 32 := Scalar.subi arg1 c1_i32_64
  let c0_i32_65 : BitVec 32 := 0#32
  let v112 : BitVec 1 := Scalar.cmpi .eq v111 c0_i32_65
  let c1_i32_66 : BitVec 32 := 1#32
  let v113 : BitVec 32 := Scalar.subi v111 c1_i32_66
  let v114 : BitVec 32 := Scalar.select v112 arg1 v113
  let v117 : Index := Scalar.indexCast v114
  let c0_72 : Index := 0#32
  let c0_73 : Index := 0#32
  ![0, v117.toNat, 0, 0]
def k0_off23 (i : grid0.Coords) : Fin 4 → Nat :=
  let c0_85 : Index := 0#32
  let arg1 : BitVec 32 := BitVec.ofNat 32 (i 1).val
  let c0_i32_79 : BitVec 32 := 0#32
  let v128 : BitVec 1 := Scalar.cmpi .eq arg1 c0_i32_79
  let c1_i32_80 : BitVec 32 := 1#32
  let v129 : BitVec 32 := Scalar.subi arg1 c1_i32_80
  let v130 : BitVec 32 := Scalar.select v128 arg1 v129
  let v133 : Index := Scalar.indexCast v130
  let c0_86 : Index := 0#32
  let c0_87 : Index := 0#32
  ![0, v133.toNat, 0, 0]
def k0_off24 (i : grid0.Coords) : Fin 4 → Nat :=
  let c0_94 : Index := 0#32
  let arg1 : BitVec 32 := BitVec.ofNat 32 (i 1).val
  let c1_i32_93 : BitVec 32 := 1#32
  let v144 : BitVec 32 := Scalar.addi arg1 c1_i32_93
  let c15_i32 : BitVec 32 := 15#32
  let v145 : BitVec 32 := Scalar.minsi v144 c15_i32
  let v146 : Index := Scalar.indexCast v145
  let c0_95 : Index := 0#32
  let c0_96 : Index := 0#32
  ![0, v146.toNat, 0, 0]
def k0_off25 (i : grid0.Coords) : Fin 4 → Nat :=
  let c0_101 : Index := 0#32
  let arg1 : BitVec 32 := BitVec.ofNat 32 (i 1).val
  let c1_i32_93 : BitVec 32 := 1#32
  let v144 : BitVec 32 := Scalar.addi arg1 c1_i32_93
  let c15_i32 : BitVec 32 := 15#32
  let v145 : BitVec 32 := Scalar.minsi v144 c15_i32
  let v152 : Index := Scalar.indexCast v145
  let c512 : Index := 512#32
  let c0_102 : Index := 0#32
  ![0, v152.toNat, 512, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  ![arg0.toNat, c0_i32.toNat, v1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x144x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2Ideal.lean ====
variable {F : FTy → Type} [FloatOps F] [Named F]
def κ : String → Option EReal := fun
  | "mask" => some ⊥
  | _ => none
-- ==== Reference2Ideal.lean ====
abbrev S1x16384x8x192 : Shape := ⟨4, ![1, 16384, 8, 192]⟩
abbrev S1x16384x8x128 : Shape := ⟨4, ![1, 16384, 8, 128]⟩
abbrev S1x8x16384x16384 : Shape := ⟨4, ![1, 8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x1x16384x16384 : Shape := ⟨4, ![1, 1, 16384, 16384]⟩
abbrev S1x8x16384 : Shape := ⟨3, ![1, 8, 16384]⟩
abbrev S1x8x16384x1 : Shape := ⟨4, ![1, 8, 16384, 1]⟩
abbrev S1x8x128x16384 : Shape := ⟨4, ![1, 8, 128, 16384]⟩
abbrev S16384x1024 : Shape := ⟨2, ![16384, 1024]⟩

abbrev nBuf : Space → Nat
  | .hbm => 38
  | .vmem => 0
  | .smem => 0
  | _ => 0

abbrev bufTy : (tb : Table) → Fin (tcTables nBuf tb) → BufTy
  | .hbm, ⟨0, _⟩ => ⟨S1x16384x8x192, .f32⟩
  | .hbm, ⟨1, _⟩ => ⟨S1x16384x8x192, .f32⟩
  | .hbm, ⟨2, _⟩ => ⟨S1x16384x8x128, .f32⟩
  | .hbm, ⟨3, _⟩ => ⟨S1x8x16384x16384, .f32⟩
  | .hbm, ⟨4, _⟩ => ⟨S_, .f32⟩
  | .hbm, ⟨5, _⟩ => ⟨S_, .f32⟩
  | .hbm, ⟨6, _⟩ => ⟨S1x8x16384x16384, .f32⟩
  | .hbm, ⟨7, _⟩ => ⟨S1x8x16384x16384, .f32⟩
  | .hbm, ⟨8, _⟩ => ⟨S16384, .i32⟩
  | .hbm, ⟨9, _⟩ => ⟨S1x16384, .i32⟩
  | .hbm, ⟨10, _⟩ => ⟨S16384x1, .i32⟩
  | .hbm, ⟨11, _⟩ => ⟨S16384x16384, .i32⟩
  | .hbm, ⟨12, _⟩ => ⟨S16384x16384, .i32⟩
  | .hbm, ⟨13, _⟩ => ⟨S16384x16384, .i1⟩
  | .hbm, ⟨14, _⟩ => ⟨S1x1x16384x16384, .i1⟩
  | .hbm, ⟨15, _⟩ => ⟨S_, .f32⟩
  | .hbm, ⟨16, _⟩ => ⟨S_, .f32⟩
  | .hbm, ⟨17, _⟩ => ⟨S1x8x16384x16384, .i1⟩
  | .hbm, ⟨18, _⟩ => ⟨S1x8x16384x16384, .f32⟩
  | .hbm, ⟨19, _⟩ => ⟨S1x8x16384x16384, .f32⟩
  | .hbm, ⟨20, _⟩ => ⟨S_, .f32⟩
  | .hbm, ⟨21, _⟩ => ⟨S1x8x16384, .f32⟩
  | .hbm, ⟨22, _⟩ => ⟨S_, .f32⟩
  | .hbm, ⟨23, _⟩ => ⟨S1x8x16384, .f32⟩
  | .hbm, ⟨24, _⟩ => ⟨S1x8x16384, .f32⟩
  | .hbm, ⟨25, _⟩ => ⟨S1x8x16384x1, .f32⟩
  | .hbm, ⟨26, _⟩ => ⟨S1x8x16384x16384, .f32⟩
  | .hbm, ⟨27, _⟩ => ⟨S1x8x16384x16384, .f32⟩
  | .hbm, ⟨28, _⟩ => ⟨S1x8x16384x16384, .f32⟩
  | .hbm, ⟨29, _⟩ => ⟨S_, .f32⟩
  | .hbm, ⟨30, _⟩ => ⟨S1x8x16384, .f32⟩
  | .hbm, ⟨31, _⟩ => ⟨S1x8x16384x1, .f32⟩
  | .hbm, ⟨32, _⟩ => ⟨S1x8x16384x16384, .f32⟩
  | .hbm, ⟨33, _⟩ => ⟨S1x8x16384x16384, .f32⟩
  | .hbm, ⟨34, _⟩ => ⟨S1x8x128x16384, .f32⟩
  | .hbm, ⟨35, _⟩ => ⟨S1x16384x8x128, .f32⟩
  | .hbm, ⟨36, _⟩ => ⟨S16384x1024, .f32⟩
  | .hbm, ⟨37, _⟩ => ⟨S16384x1024, .bf16⟩
  | _, _ => ⟨S1x16384x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel3.lean ====
abbrev S1x16384x1024 : Shape := ⟨3, ![1, 16384, 1024]⟩
abbrev S1x1024x9920 : Shape := ⟨3, ![1, 1024, 9920]⟩
abbrev S1x1024x1024 : Shape := ⟨3, ![1, 1024, 1024]⟩
abbrev S1x3072 : Shape := ⟨2, ![1, 3072]⟩
abbrev S1024 : Shape := ⟨1, ![1024]⟩
abbrev S1024x9920 : Shape := ⟨2, ![1024, 9920]⟩
abbrev S1024x1024 : Shape := ⟨2, ![1024, 1024]⟩
abbrev S1024x2048 : Shape := ⟨2, ![1024, 2048]⟩
abbrev S2048x1024 : Shape := ⟨2, ![2048, 1024]⟩
abbrev S3072x1024 : Shape := ⟨2, ![3072, 1024]⟩
abbrev S16384x1024 : Shape := ⟨2, ![16384, 1024]⟩
abbrev S1x1024 : Shape := ⟨2, ![1, 1024]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 30
  | .vmem => 15
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1x16384x1024, .f32⟩
  | .hbm, ⟨3, _⟩ => ⟨S1x16384x1024, .f32⟩
  | .hbm, ⟨4, _⟩ => ⟨S1x1024x9920, .f32⟩
  | .hbm, ⟨5, _⟩ => ⟨S1x1024x1024, .f32⟩
  | .hbm, ⟨6, _⟩ => ⟨S1x1024x1024, .f32⟩
  | .hbm, ⟨7, _⟩ => ⟨S1x3072, .f32⟩
  | .hbm, ⟨8, _⟩ => ⟨S1024, .f32⟩
  | .hbm, ⟨9, _⟩ => ⟨S1024x9920, .f32⟩
  | .hbm, ⟨10, _⟩ => ⟨S1024x1024, .f32⟩
  | .hbm, ⟨11, _⟩ => ⟨S1024x1024, .f32⟩
  | .hbm, ⟨12, _⟩ => ⟨S1024x9920, .f32⟩
  | .hbm, ⟨13, _⟩ => ⟨S1024x2048, .f32⟩
  | .hbm, ⟨14, _⟩ => ⟨S2048x1024, .f32⟩
  | .hbm, ⟨15, _⟩ => ⟨S3072x1024, .f32⟩
  | .hbm, ⟨16, _⟩ => ⟨S3072x1024, .bf16⟩
  | .hbm, ⟨17, _⟩ => ⟨S16384x1024, .f32⟩
  | .hbm, ⟨18, _⟩ => ⟨S16384x1024, .f32⟩
  | .hbm, ⟨19, _⟩ => ⟨S16384x1024, .bf16⟩
  | .hbm, ⟨20, _⟩ => ⟨S16384x1024, .f32⟩
  | .hbm, ⟨21, _⟩ => ⟨S16384x1024, .bf16⟩
  | .hbm, ⟨22, _⟩ => ⟨S16384x1024, .f32⟩
  | .hbm, ⟨23, _⟩ => ⟨S16384x1024, .bf16⟩
  | .hbm, ⟨24, _⟩ => ⟨S1024x1024, .f32⟩
  | .hbm, ⟨25, _⟩ => ⟨S1024x1024, .bf16⟩
  | .hbm, ⟨26, _⟩ => ⟨S1024x1024, .f32⟩
  | .hbm, ⟨27, _⟩ => ⟨S1024x1024, .bf16⟩
  | .hbm, ⟨28, _⟩ => ⟨S1x1024, .f32⟩
  | .hbm, ⟨29, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S3072x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x3072, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S1x16384x1024 : Shape := ⟨3, ![1, 16384, 1024]⟩
abbrev S1x1024x9920 : Shape := ⟨3, ![1, 1024, 9920]⟩
abbrev S1x1024x1024 : Shape := ⟨3, ![1, 1024, 1024]⟩
abbrev S1x3072 : Shape := ⟨2, ![1, 3072]⟩
abbrev S1024 : Shape := ⟨1, ![1024]⟩
abbrev S1024x9920 : Shape := ⟨2, ![1024, 9920]⟩
abbrev S1x16384x9920 : Shape := ⟨3, ![1, 16384, 9920]⟩
abbrev S1x1024 : Shape := ⟨2, ![1, 1024]⟩
abbrev S1x1x1024 : Shape := ⟨3, ![1, 1, 1024]⟩
abbrev S_ : Shape := ⟨0, ![]⟩
abbrev S1024x1024 : Shape := ⟨2, ![1024, 1024]⟩
abbrev S1x16384 : Shape := ⟨2, ![1, 16384]⟩
abbrev S1x16384x1 : Shape := ⟨3, ![1, 16384, 1]⟩
abbrev S16384x1024 : Shape := ⟨2, ![16384, 1024]⟩

abbrev nBuf : Space → Nat
  | .hbm => 69
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1x16384x1024, .f32⟩
  | .hbm, ⟨3, _⟩ => ⟨S1x16384x1024, .f32⟩
  | .hbm, ⟨4, _⟩ => ⟨S1x1024x9920, .f32⟩
  | .hbm, ⟨5, _⟩ => ⟨S1x1024x1024, .f32⟩
  | .hbm, ⟨6, _⟩ => ⟨S1x1024x1024, .f32⟩
  | .hbm, ⟨7, _⟩ => ⟨S1x3072, .f32⟩
  | .hbm, ⟨8, _⟩ => ⟨S1024, .f32⟩
  | .hbm, ⟨9, _⟩ => ⟨S1024x9920, .f32⟩
  | .hbm, ⟨10, _⟩ => ⟨S1x16384x9920, .f32⟩
  | .hbm, ⟨11, _⟩ => ⟨S1x16384x1024, .f32⟩
  | .hbm, ⟨12, _⟩ => ⟨S1x16384x1024, .f32⟩
  | .hbm, ⟨13, _⟩ => ⟨S1x16384x1024, .f32⟩
  | .hbm, ⟨14, _⟩ => ⟨S1x1024, .f32⟩
  | .hbm, ⟨15, _⟩ => ⟨S1x1x1024, .f32⟩
  | .hbm, ⟨16, _⟩ => ⟨S1x16384x1024, .f32⟩
  | .hbm, ⟨17, _⟩ => ⟨S1x16384x1024, .f32⟩
  | .hbm, ⟨18, _⟩ => ⟨S_, .f32⟩
  | .hbm, ⟨19, _⟩ => ⟨S1x16384x1024, .f32⟩
  | .hbm, ⟨20, _⟩ => ⟨S1x16384x1024, .f32⟩
  | .hbm, ⟨21, _⟩ => ⟨S_, .f32⟩
  | .hbm, ⟨22, _⟩ => ⟨S1x16384x1024, .f32⟩
  | .hbm, ⟨23, _⟩ => ⟨S1x16384x1024, .f32⟩
  | .hbm, ⟨24, _⟩ => ⟨S1x16384x1024, .f32⟩
  | .hbm, ⟨25, _⟩ => ⟨S1x16384x1024, .f32⟩
  | .hbm, ⟨26, _⟩ => ⟨S1x16384x1024, .f32⟩
  | .hbm, ⟨27, _⟩ => ⟨S1x16384x1024, .f32⟩
  | .hbm, ⟨28, _⟩ => ⟨S_, .f32⟩
  | .hbm, ⟨29, _⟩ => ⟨S1x16384x1024, .f32⟩
  | .hbm, ⟨30, _⟩ => ⟨S1x16384x1024, .f32⟩
  | .hbm, ⟨31, _⟩ => ⟨S_, .f32⟩
  | .hbm, ⟨32, _⟩ => ⟨S1x16384x1024, .f32⟩
  | .hbm, ⟨33, _⟩ => ⟨S1x16384x1024, .f32⟩
  | .hbm, ⟨34, _⟩ => ⟨S1024x1024, .f32⟩
  | .hbm, ⟨35, _⟩ => ⟨S1x16384x1024, .f32⟩
  | .hbm, ⟨36, _⟩ => ⟨S1x16384x1024, .f32⟩
  | .hbm, ⟨37, _⟩ => ⟨S1x16384x1024, .f32⟩
  | .hbm, ⟨38, _⟩ => ⟨S1x16384x1024, .f32⟩
  | .hbm, ⟨39, _⟩ => ⟨S_, .f32⟩
  | .hbm, ⟨40, _⟩ => ⟨S1x16384x1024, .f32⟩
  | .hbm, ⟨41, _⟩ => ⟨S1x16384x1024, .f32⟩
  | .hbm, ⟨42, _⟩ => ⟨S_, .f32⟩
  | .hbm, ⟨43, _⟩ => ⟨S1x16384x1024, .f32⟩
  | .hbm, ⟨44, _⟩ => ⟨S1x16384x1024, .f32⟩
  | .hbm, ⟨45, _⟩ => ⟨S1x16384x1024, .f32⟩
  | .hbm, ⟨46, _⟩ => ⟨S1x16384x1024, .f32⟩
  | .hbm, ⟨47, _⟩ => ⟨S1024x1024, .f32⟩
  | .hbm, ⟨48, _⟩ => ⟨S1x16384x1024, .f32⟩
  | .hbm, ⟨49, _⟩ => ⟨S1x16384x1024, .f32⟩
  | .hbm, ⟨50, _⟩ => ⟨S1x16384x1024, .f32⟩
  | .hbm, ⟨51, _⟩ => ⟨S1x16384x1024, .f32⟩
  | .hbm, ⟨52, _⟩ => ⟨S1x16384x1024, .f32⟩
  | .hbm, ⟨53, _⟩ => ⟨S_, .f32⟩
  | .hbm, ⟨54, _⟩ => ⟨S1x16384, .f32⟩
  | .hbm, ⟨55, _⟩ => ⟨S1x16384x1, .f32⟩
  | .hbm, ⟨56, _⟩ => ⟨S_, .f32⟩
  | .hbm, ⟨57, _⟩ => ⟨S1x16384x1, .f32⟩
  | .hbm, ⟨58, _⟩ => ⟨S1x16384x1, .f32⟩
  | .hbm, ⟨59, _⟩ => ⟨S_, .f32⟩
  | .hbm, ⟨60, _⟩ => ⟨S1x16384x1, .f32⟩
  | .hbm, ⟨61, _⟩ => ⟨S1x16384x1, .f32⟩
  | .hbm, ⟨62, _⟩ => ⟨S1x16384x1, .f32⟩
  | .hbm, ⟨63, _⟩ => ⟨S1x16384x1024, .f32⟩
  | .hbm, ⟨64, _⟩ => ⟨S1x16384x1024, .f32⟩
  | .hbm, ⟨65, _⟩ => ⟨S1x1x1024, .f32⟩
  | .hbm, ⟨66, _⟩ => ⟨S1x16384x1024, .f32⟩
  | .hbm, ⟨67, _⟩ => ⟨S1x16384x1024, .f32⟩
  | .hbm, ⟨68, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Kernel4.lean ====
abbrev S1x16384x1024 : Shape := ⟨3, ![1, 16384, 1024]⟩
abbrev S1x16384 : Shape := ⟨2, ![1, 16384]⟩
abbrev S1x1024x9920 : Shape := ⟨3, ![1, 1024, 9920]⟩
abbrev S1x2048 : Shape := ⟨2, ![1, 2048]⟩
abbrev S1x2048x1024 : Shape := ⟨3, ![1, 2048, 1024]⟩
abbrev S16384 : Shape := ⟨1, ![16384]⟩
abbrev S16384x1 : Shape := ⟨2, ![16384, 1]⟩
abbrev S128 : Shape := ⟨1, ![128]⟩
abbrev S_ : Shape := ⟨0, ![]⟩
abbrev S1x128 : Shape := ⟨2, ![1, 128]⟩
abbrev S16384x128 : Shape := ⟨2, ![16384, 128]⟩
abbrev S1024x9920 : Shape := ⟨2, ![1024, 9920]⟩
abbrev S1024x6144 : Shape := ⟨2, ![1024, 6144]⟩
abbrev S6144x1024 : Shape := ⟨2, ![6144, 1024]⟩
abbrev S16384x1024 : Shape := ⟨2, ![16384, 1024]⟩
abbrev S2048 : Shape := ⟨1, ![2048]⟩
abbrev S2048x1024 : Shape := ⟨2, ![2048, 1024]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S1024x1024 : Shape := ⟨2, ![1024, 1024]⟩
abbrev S1024x128 : Shape := ⟨2, ![1024, 128]⟩
abbrev S4x256x512 : Shape := ⟨3, ![4, 256, 512]⟩
abbrev S1024x2048 : Shape := ⟨2, ![1024, 2048]⟩
abbrev S256x1024 : Shape := ⟨2, ![256, 1024]⟩
abbrev S256x6144 : Shape := ⟨2, ![256, 6144]⟩
abbrev S256x128 : Shape := ⟨2, ![256, 128]⟩
abbrev S256x512 : Shape := ⟨2, ![256, 512]⟩
abbrev S1x256x512 : Shape := ⟨3, ![1, 256, 512]⟩
abbrev S1x512 : Shape := ⟨2, ![1, 512]⟩
abbrev S256x2048 : Shape := ⟨2, ![256, 2048]⟩

abbrev nBuf : Space → Nat
  | .hbm => 94
  | .vmem => 16
  | .smem => 0
  | _ => 0

abbrev bufTy : (tb : Table) → Fin (tcTables nBuf tb) → BufTy
  | .hbm, ⟨0, _⟩ => ⟨S1x16384x1024, .f32⟩
  | .hbm, ⟨1, _⟩ => ⟨S1x16384, .i32⟩
  | .hbm, ⟨2, _⟩ => ⟨S1x1024x9920, .f32⟩
  | .hbm, ⟨3, _⟩ => ⟨S1x2048, .f32⟩
  | .hbm, ⟨4, _⟩ => ⟨S1x2048x1024, .f32⟩
  | .hbm, ⟨5, _⟩ => ⟨S16384, .i32⟩
  | .hbm, ⟨6, _⟩ => ⟨S16384, .f32⟩
  | .hbm, ⟨7, _⟩ => ⟨S16384x1, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S16384x128, .f32⟩
  | .hbm, ⟨24, _⟩ => ⟨S16384x128, .f32⟩
  | .hbm, ⟨25, _⟩ => ⟨S16384x128, .f32⟩
  | .hbm, ⟨26, _⟩ => ⟨S1024x9920, .f32⟩
  | .hbm, ⟨27, _⟩ => ⟨S1024x6144, .f32⟩
  | .hbm, ⟨28, _⟩ => ⟨S6144x1024, .f32⟩
  | .hbm, ⟨29, _⟩ => ⟨S6144x1024, .bf16⟩
  | .hbm, ⟨30, _⟩ => ⟨S16384x1024, .f32⟩
  | .hbm, ⟨31, _⟩ => ⟨S16384x1024, .bf16⟩
  | .hbm, ⟨32, _⟩ => ⟨S16384x128, .f32⟩
  | .hbm, ⟨33, _⟩ => ⟨S16384x128, .f32⟩
  | .hbm, ⟨34, _⟩ => ⟨S2048, .f32⟩
  | .hbm, ⟨35, _⟩ => ⟨S2048x1024, .f32⟩
  | .hbm, ⟨36, _⟩ => ⟨S2048x1024, .bf16⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4, .f32⟩
  | .hbm, ⟨41, _⟩ => ⟨S_, .f32⟩
  | .hbm, ⟨42, _⟩ => ⟨S4, .f32⟩
  | .hbm, ⟨43, _⟩ => ⟨S4, .f32⟩
  | .hbm, ⟨44, _⟩ => ⟨S4, .f32⟩
  | .hbm, ⟨45, _⟩ => ⟨S4, .f32⟩
  | .hbm, ⟨46, _⟩ => ⟨S4, .f32⟩
  | .hbm, ⟨47, _⟩ => ⟨S256, .f32⟩
  | .hbm, ⟨48, _⟩ => ⟨S256x1, .f32⟩
  | .hbm, ⟨49, _⟩ => ⟨S1x256, .f32⟩
  | .hbm, ⟨50, _⟩ => ⟨S256x256, .f32⟩
  | .hbm, ⟨51, _⟩ => ⟨S256x256, .f32⟩
  | .hbm, ⟨52, _⟩ => ⟨S256x256, .f32⟩
  | .hbm, ⟨53, _⟩ => ⟨S_, .f32⟩
  | .hbm, ⟨54, _⟩ => ⟨S256x256, .f32⟩
  | .hbm, ⟨55, _⟩ => ⟨S256x256, .i1⟩
  | .hbm, ⟨56, _⟩ => ⟨S4x1x1, .f32⟩
  | .hbm, ⟨57, _⟩ => ⟨S_, .f32⟩
  | .hbm, ⟨58, _⟩ => ⟨S256x256, .f32⟩
  | .hbm, ⟨59, _⟩ => ⟨S256x256, .f32⟩
  | .hbm, ⟨60, _⟩ => ⟨S1x256x256, .f32⟩
  | .hbm, ⟨61, _⟩ => ⟨S4x256x256, .f32⟩
  | .hbm, ⟨62, _⟩ => ⟨S4x256x256, .f32⟩
  | .hbm, ⟨63, _⟩ => ⟨S4x256x256, .f32⟩
  | .hbm, ⟨64, _⟩ => ⟨S4x256x256, .f32⟩
  | .hbm, ⟨65, _⟩ => ⟨S_, .f32⟩
  | .hbm, ⟨66, _⟩ => ⟨S_, .f32⟩
  | .hbm, ⟨67, _⟩ => ⟨S4x256x256, .i1⟩
  | .hbm, ⟨68, _⟩ => ⟨S4x256x256, .f32⟩
  | .hbm, ⟨69, _⟩ => ⟨S4x256x256, .f32⟩
  | .hbm, ⟨70, _⟩ => ⟨S4x1, .f32⟩
  | .hbm, ⟨71, _⟩ => ⟨S_, .f32⟩
  | .hbm, ⟨72, _⟩ => ⟨S256, .f32⟩
  | .hbm, ⟨73, _⟩ => ⟨S256, .f32⟩
  | .hbm, ⟨74, _⟩ => ⟨S1x256, .f32⟩
  | .hbm, ⟨75, _⟩ => ⟨S4x256, .f32⟩
  | .hbm, ⟨76, _⟩ => ⟨S4x256, .f32⟩
  | .hbm, ⟨77, _⟩ => ⟨S4x256, .f32⟩
  | .hbm, ⟨78, _⟩ => ⟨S4x256, .f32⟩
  | .hbm, ⟨79, _⟩ => ⟨S4x1, .f32⟩
  | .hbm, ⟨80, _⟩ => ⟨S_, .f32⟩
  | .hbm, ⟨81, _⟩ => ⟨S256, .f32⟩
  | .hbm, ⟨82, _⟩ => ⟨S256, .f32⟩
  | .hbm, ⟨83, _⟩ => ⟨S1x256, .f32⟩
  | .hbm, ⟨84, _⟩ => ⟨S4x256, .f32⟩
  | .hbm, ⟨85, _⟩ => ⟨S4x256, .f32⟩
  | .hbm, ⟨86, _⟩ => ⟨S4x256, .f32⟩
  | .hbm, ⟨87, _⟩ => ⟨S4x256, .f32⟩
  | .hbm, ⟨88, _⟩ => ⟨S4x256x1, .f32⟩
  | .hbm, ⟨89, _⟩ => ⟨S4x256x256, .f32⟩
  | .hbm, ⟨90, _⟩ => ⟨S4x256x1, .f32⟩
  | .hbm, ⟨91, _⟩ => ⟨S4x256x256, .f32⟩
  | .hbm, ⟨92, _⟩ => ⟨S1x2048, .f32⟩
  | .hbm, ⟨93, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S6144x1024, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S4x256x256, .f32⟩
  | .local _ .vmem, ⟨8, _⟩ => ⟨S4x256x256, .f32⟩
  | .local _ .vmem, ⟨9, _⟩ => ⟨S4x256x256, .f32⟩
  | .local _ .vmem, ⟨10, _⟩ => ⟨S1x2048, .f32⟩
  | .local _ .vmem, ⟨11, _⟩ => ⟨S2048x1024, .bf16⟩
  | .local _ .vmem, ⟨12, _⟩ => ⟨S1024x1024, .bf16⟩
  | .local _ .vmem, ⟨13, _⟩ => ⟨S1024x1024, .bf16⟩
  | .local _ .vmem, ⟨14, _⟩ => ⟨S4x256x512, .f32⟩
  | .local _ .vmem, ⟨15, _⟩ => ⟨S1024x2048, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_7 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6144x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S1x16384x1024 : Shape := ⟨3, ![1, 16384, 1024]⟩
abbrev S1x16384 : Shape := ⟨2, ![1, 16384]⟩
abbrev S1x1024x9920 : Shape := ⟨3, ![1, 1024, 9920]⟩
abbrev S1x2048 : Shape := ⟨2, ![1, 2048]⟩
abbrev S1x2048x1024 : Shape := ⟨3, ![1, 2048, 1024]⟩
abbrev S16384x1024 : Shape := ⟨2, ![16384, 1024]⟩
abbrev S1024x9920 : Shape := ⟨2, ![1024, 9920]⟩
abbrev S16384x9920 : Shape := ⟨2, ![16384, 9920]⟩
abbrev S16384x4x256 : Shape := ⟨3, ![16384, 4, 256]⟩
abbrev S16384x2048 : Shape := ⟨2, ![16384, 2048]⟩
abbrev S16384x4x512 : Shape := ⟨3, ![16384, 4, 512]⟩
abbrev S128 : Shape := ⟨1, ![128]⟩
abbrev S_ : Shape := ⟨0, ![]⟩
abbrev S16384 : Shape := ⟨1, ![16384]⟩
abbrev S16384x1 : Shape := ⟨2, ![16384, 1]⟩
abbrev S1x128 : Shape := ⟨2, ![1, 128]⟩
abbrev S16384x128 : Shape := ⟨2, ![16384, 128]⟩
abbrev S16384x1x128 : Shape := ⟨3, ![16384, 1, 128]⟩
abbrev S16384x4x128 : Shape := ⟨3, ![16384, 4, 128]⟩
abbrev S4 : Shape := ⟨1, ![4]⟩
abbrev S16384x16384 : Shape := ⟨2, ![16384, 16384]⟩
abbrev S4x1x1 : Shape := ⟨3, ![4, 1, 1]⟩
abbrev S1x16384x16384 : Shape := ⟨3, ![1, 16384, 16384]⟩
abbrev S4x16384x16384 : Shape := ⟨3, ![4, 16384, 16384]⟩
abbrev S4x512x16384 : Shape := ⟨3, ![4, 512, 16384]⟩
abbrev S16384x4 : Shape := ⟨2, ![16384, 4]⟩
abbrev S16384x4x1 : Shape := ⟨3, ![16384, 4, 1]⟩
abbrev S2048 : Shape := ⟨1, ![2048]⟩
abbrev S2048x1024 : Shape := ⟨2, ![2048, 1024]⟩

abbrev nBuf : Space → Nat
  | .hbm => 147
  | .vmem => 0
  | .smem => 0
  | _ => 0

abbrev hbmTy0_0 (i : Nat) : BufTy := match i % 128 with
  | 0 => ⟨S1x16384x1024, .f32⟩
  | 1 => ⟨S1x16384, .i32⟩
  | 2 => ⟨S1x1024x9920, .f32⟩
  | 3 => ⟨S1x2048, .f32⟩
  | 4 => ⟨S1x2048x1024, .f32⟩
  | 5 => ⟨S16384x1024, .f32⟩
  | 6 => ⟨S1024x9920, .f32⟩
  | 7 => ⟨S16384x9920, .f32⟩
  | 8 => ⟨S16384x1024, .f32⟩
  | 9 => ⟨S16384x4x256, .f32⟩
  | 10 => ⟨S16384x1024, .f32⟩
  | 11 => ⟨S16384x4x256, .f32⟩
  | 12 => ⟨S16384x2048, .f32⟩
  | 13 => ⟨S16384x4x512, .f32⟩
  | 14 => ⟨S16384x2048, .f32⟩
  | 15 => ⟨S128, .f32⟩
  | 16 => ⟨S_, .f32⟩
  | 17 => ⟨S128, .f32⟩
  | 18 => ⟨S128, .f32⟩
  | 19 => ⟨S_, .f32⟩
  | 20 => ⟨S128, .f32⟩
  | 21 => ⟨S128, .f32⟩
  | 22 => ⟨S128, .f32⟩
  | 23 => ⟨S_, .f32⟩
  | 24 => ⟨S128, .f32⟩
  | 25 => ⟨S128, .f32⟩
  | 26 => ⟨S_, .f32⟩
  | 27 => ⟨S128, .f32⟩
  | 28 => ⟨S128, .f32⟩
  | 29 => ⟨S16384, .i32⟩
  | 30 => ⟨S16384, .f32⟩
  | 31 => ⟨S16384x1, .f32⟩
  | 32 => ⟨S1x128, .f32⟩
  | 33 => ⟨S16384x128, .f32⟩
  | 34 => ⟨S16384x128, .f32⟩
  | 35 => ⟨S16384x128, .f32⟩
  | 36 => ⟨S16384x128, .f32⟩
  | 37 => ⟨S16384x1x128, .f32⟩
  | 38 => ⟨S16384x128, .f32⟩
  | 39 => ⟨S16384x1x128, .f32⟩
  | 40 => ⟨S16384x4x128, .f32⟩
  | 41 => ⟨S16384x4x128, .f32⟩
  | 42 => ⟨S16384x4x128, .f32⟩
  | 43 => ⟨S16384x4x128, .f32⟩
  | 44 => ⟨S16384x4x128, .f32⟩
  | 45 => ⟨S16384x4x128, .f32⟩
  | 46 => ⟨S16384x4x128, .f32⟩
  | 47 => ⟨S16384x4x128, .f32⟩
  | 48 => ⟨S16384x4x128, .f32⟩
  | 49 => ⟨S16384x4x128, .f32⟩
  | 50 => ⟨S16384x4x128, .f32⟩
  | 51 => ⟨S16384x4x128, .f32⟩
  | 52 => ⟨S16384x4x256, .f32⟩
  | 53 => ⟨S16384x4x128, .f32⟩
  | 54 => ⟨S16384x4x128, .f32⟩
  | 55 => ⟨S16384x4x128, .f32⟩
  | 56 => ⟨S16384x4x128, .f32⟩
  | 57 => ⟨S16384x4x128, .f32⟩
  | 58 => ⟨S16384x4x128, .f32⟩
  | 59 => ⟨S16384x4x128, .f32⟩
  | 60 => ⟨S16384x4x128, .f32⟩
  | 61 => ⟨S16384x4x128, .f32⟩
  | 62 => ⟨S16384x4x128, .f32⟩
  | 63 => ⟨S16384x4x128, .f32⟩
  | 64 => ⟨S16384x4x128, .f32⟩
  | 65 => ⟨S16384x4x256, .f32⟩
  | 66 => ⟨S_, .f32⟩
  | 67 => ⟨S16384x4x256, .f32⟩
  | 68 => ⟨S16384x4x256, .f32⟩
  | 69 => ⟨S4, .f32⟩
  | 70 => ⟨S_, .f32⟩
  | 71 => ⟨S4, .f32⟩
  | 72 => ⟨S4, .f32⟩
  | 73 => ⟨S_, .f32⟩
  | 74 => ⟨S4, .f32⟩
  | 75 => ⟨S4, .f32⟩
  | 76 => ⟨S4, .f32⟩
  | 77 => ⟨S4, .f32⟩
  | 78 => ⟨S4, .f32⟩
  | 79 => ⟨S16384, .f32⟩
  | 80 => ⟨S16384x1, .f32⟩
  | 81 => ⟨S1x16384, .f32⟩
  | 82 => ⟨S16384x16384, .f32⟩
  | 83 => ⟨S16384x16384, .f32⟩
  | 84 => ⟨S16384x16384, .f32⟩
  | 85 => ⟨S_, .f32⟩
  | 86 => ⟨S16384x16384, .f32⟩
  | 87 => ⟨S16384x16384, .i1⟩
  | 88 => ⟨S4x1x1, .f32⟩
  | 89 => ⟨S_, .f32⟩
  | 90 => ⟨S16384x16384, .f32⟩
  | 91 => ⟨S16384x16384, .f32⟩
  | 92 => ⟨S1x16384x16384, .f32⟩
  | 93 => ⟨S4x16384x16384, .f32⟩
  | 94 => ⟨S4x16384x16384, .f32⟩
  | 95 => ⟨S4x16384x16384, .f32⟩
  | 96 => ⟨S4x16384x16384, .f32⟩
  | 97 => ⟨S_, .f32⟩
  | 98 => ⟨S_, .f32⟩
  | 99 => ⟨S4x16384x16384, .i1⟩
  | 100 => ⟨S4x16384x16384, .f32⟩
  | 101 => ⟨S4x16384x16384, .f32⟩
  | 102 => ⟨S4x16384x16384, .f32⟩
  | 103 => ⟨S4x16384x16384, .f32⟩
  | 104 => ⟨S4x512x16384, .f32⟩
  | 105 => ⟨S16384x4x512, .f32⟩
  | 106 => ⟨S_, .f32⟩
  | 107 => ⟨S16384x4, .f32⟩
  | 108 => ⟨S16384x4x1, .f32⟩
  | 109 => ⟨S_, .f32⟩
  | 110 => ⟨S16384x4x1, .f32⟩
  | 111 => ⟨S16384x4x1, .f32⟩
  | 112 => ⟨S16384x4x512, .f32⟩
  | 113 => ⟨S16384x4x512, .f32⟩
  | 114 => ⟨S16384x4x512, .f32⟩
  | 115 => ⟨S_, .f32⟩
  | 116 => ⟨S16384x4, .f32⟩
  | 117 => ⟨S16384x4x1, .f32⟩
  | 118 => ⟨S_, .f32⟩
  | 119 => ⟨S16384x4x1, .f32⟩
  | 120 => ⟨S16384x4x1, .f32⟩
  | 121 => ⟨S16384x4x512, .f32⟩
  | 122 => ⟨S16384x4x512, .f32⟩
  | 123 => ⟨S_, .f32⟩
  | 124 => ⟨S16384x4x1, .f32⟩
  | 125 => ⟨S16384x4x1, .f32⟩
  | 126 => ⟨S16384x4x1, .f32⟩
  | 127 => ⟨S16384x4x512, .f32⟩
  | _ => ⟨S1x16384x1024, .f32⟩

abbrev hbmTy0_1 (i : Nat) : BufTy := match i % 128 with
  | 0 => ⟨S16384x4x512, .f32⟩
  | 1 => ⟨S16384x2048, .f32⟩
  | 2 => ⟨S2048, .f32⟩
  | 3 => ⟨S1x2048, .f32⟩
  | 4 => ⟨S16384x2048, .f32⟩
  | 5 => ⟨S16384x2048, .f32⟩
  | 6 => ⟨S16384x2048, .f32⟩
  | 7 => ⟨S16384x2048, .f32⟩
  | 8 => ⟨S_, .f32⟩
  | 9 => ⟨S16384x2048, .f32⟩
  | 10 => ⟨S16384x2048, .f32⟩
  | 11 => ⟨S_, .f32⟩
  | 12 => ⟨S16384x2048, .f32⟩
  | 13 => ⟨S16384x2048, .f32⟩
  | 14 => ⟨S16384x2048, .f32⟩
  | 15 => ⟨S16384x2048, .f32⟩
  | 16 => ⟨S2048x1024, .f32⟩
  | 17 => ⟨S16384x1024, .f32⟩
  | 18 => ⟨S16384x1024, .bf16⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_3 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_4 : Ref sig .tc := ⟨.hbm, 70, rfl⟩
abbrev main_v60 : Ref sig .tc := ⟨.hbm, 71, rfl⟩
abbrev main_v61 : Ref sig .tc := ⟨.hbm, 72, rfl⟩
abbrev main_cst_5 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_6 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_7 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_8 : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_9 : Ref sig .tc := ⟨.hbm, 106, rfl⟩
abbrev main_v88 : Ref sig .tc := ⟨.hbm, 107, rfl⟩
abbrev main_v89 : Ref sig .tc := ⟨.hbm, 108, rfl⟩
abbrev main_cst_10 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_11 : Ref sig .tc := ⟨.hbm, 115, rfl⟩
abbrev main_v95 : Ref sig .tc := ⟨.hbm, 116, rfl⟩
abbrev main_v96 : Ref sig .tc := ⟨.hbm, 117, rfl⟩
abbrev main_cst_12 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_13 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_call1_v0 : Ref sig .tc := ⟨.hbm, 134, rfl⟩
abbrev main_call1_v1 : Ref sig .tc := ⟨.hbm, 135, rfl⟩
abbrev main_call1_cst : Ref sig .tc := ⟨.hbm, 136, rfl⟩
abbrev main_call1_v2 : Ref sig .tc := ⟨.hbm, 137, rfl⟩
abbrev main_call1_v3 : Ref sig .tc := ⟨.hbm, 138, rfl⟩
abbrev main_call1_cst_0 : Ref sig .tc := ⟨.hbm, 139, rfl⟩
abbrev main_call1_v4 : Ref sig .tc := ⟨.hbm, 140, rfl⟩
abbrev main_call1_v5 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩

abbrev nD : Nat := 1
abbrev τ : Topo := Topo.v7x

variable {F : FTy → Type} [FloatOps F]
-- ==== Kernel5.lean ====
abbrev S1x16384x1024 : Shape := ⟨3, ![1, 16384, 1024]⟩
abbrev S1x3072 : Shape := ⟨2, ![1, 3072]⟩
abbrev S1x16384 : Shape := ⟨2, ![1, 16384]⟩
abbrev S1x1024 : Shape := ⟨2, ![1, 1024]⟩
abbrev S1x1024x9920 : Shape := ⟨3, ![1, 1024, 9920]⟩
abbrev S1x384 : Shape := ⟨2, ![1, 384]⟩
abbrev S1x384x1536 : Shape := ⟨3, ![1, 384, 1536]⟩
abbrev S1x256 : Shape := ⟨2, ![1, 256]⟩
abbrev S1x256x2048 : Shape := ⟨3, ![1, 256, 2048]⟩
abbrev S32 : Shape := ⟨1, ![32]⟩
abbrev S_ : Shape := ⟨0, ![]⟩
abbrev S32x1 : Shape := ⟨2, ![32, 1]⟩
abbrev S32x16384 : Shape := ⟨2, ![32, 16384]⟩
abbrev S1024x9920 : Shape := ⟨2, ![1024, 9920]⟩
abbrev S1024x640 : Shape := ⟨2, ![1024, 640]⟩
abbrev S640x1024 : Shape := ⟨2, ![640, 1024]⟩
abbrev S1024x64 : Shape := ⟨2, ![1024, 64]⟩
abbrev S64x1024 : Shape := ⟨2, ![64, 1024]⟩
abbrev S128x1024 : Shape := ⟨2, ![128, 1024]⟩
abbrev S256x2048 : Shape := ⟨2, ![256, 2048]⟩
abbrev S256x8x256 : Shape := ⟨3, ![256, 8, 256]⟩
abbrev S256x8x128 : Shape := ⟨3, ![256, 8, 128]⟩
abbrev S256x1024 : Shape := ⟨2, ![256, 1024]⟩
abbrev S1024x256 : Shape := ⟨2, ![1024, 256]⟩
abbrev S16384x1024 : Shape := ⟨2, ![16384, 1024]⟩
abbrev S1024 : Shape := ⟨1, ![1024]⟩
abbrev S384 : Shape := ⟨1, ![384]⟩
abbrev S256 : Shape := ⟨1, ![256]⟩
abbrev S384x1536 : Shape := ⟨2, ![384, 1536]⟩
abbrev S1536x384 : Shape := ⟨2, ![1536, 384]⟩
abbrev S8x256x16384 : Shape := ⟨3, ![8, 256, 16384]⟩
abbrev S8x16384x256 : Shape := ⟨3, ![8, 16384, 256]⟩
abbrev S8x16x144x1024 : Shape := ⟨4, ![8, 16, 144, 1024]⟩
abbrev S1024x1024 : Shape := ⟨2, ![1024, 1024]⟩
abbrev S32x1024 : Shape := ⟨2, ![32, 1024]⟩
abbrev S8x256x1024 : Shape := ⟨3, ![8, 256, 1024]⟩
abbrev S8x1024x256 : Shape := ⟨3, ![8, 1024, 256]⟩
abbrev S8x1x144x1024 : Shape := ⟨4, ![8, 1, 144, 1024]⟩
abbrev S1024x1 : Shape := ⟨2, ![1024, 1]⟩
abbrev S1024x384 : Shape := ⟨2, ![1024, 384]⟩
abbrev S1536x1024 : Shape := ⟨2, ![1536, 1024]⟩
abbrev S1024x128 : Shape := ⟨2, ![1024, 128]⟩
abbrev S16x1024 : Shape := ⟨2, ![16, 1024]⟩
abbrev S1x128x1024 : Shape := ⟨3, ![1, 128, 1024]⟩
abbrev S1x32x1024 : Shape := ⟨3, ![1, 32, 1024]⟩
abbrev S1x64x1024 : Shape := ⟨3, ![1, 64, 1024]⟩
abbrev S1x1024x128 : Shape := ⟨3, ![1, 1024, 128]⟩
abbrev S1x1x128x1024 : Shape := ⟨4, ![1, 1, 128, 1024]⟩
abbrev S1x1x16x1024 : Shape := ⟨4, ![1, 1, 16, 1024]⟩

abbrev nBuf : Space → Nat
  | .hbm => 63
  | .vmem => 23
  | .smem => 0
  | _ => 0

abbrev bufTy : (tb : Table) → Fin (tcTables nBuf tb) → BufTy
  | .hbm, ⟨0, _⟩ => ⟨S1x16384x1024, .f32⟩
  | .hbm, ⟨1, _⟩ => ⟨S1x3072, .f32⟩
  | .hbm, ⟨2, _⟩ => ⟨S1x16384, .i32⟩
  | .hbm, ⟨3, _⟩ => ⟨S1x1024, .f32⟩
  | .hbm, ⟨4, _⟩ => ⟨S1x1024x9920, .f32⟩
  | .hbm, ⟨5, _⟩ => ⟨S1x384, .f32⟩
  | .hbm, ⟨6, _⟩ => ⟨S1x384x1536, .f32⟩
  | .hbm, ⟨7, _⟩ => ⟨S1x256, .f32⟩
  | .hbm, ⟨8, _⟩ => ⟨S1x256x2048, .f32⟩
  | .hbm, ⟨9, _⟩ => ⟨S1x16384, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S32x1, .f32⟩
  | .hbm, ⟨25, _⟩ => ⟨S32x16384, .f32⟩
  | .hbm, ⟨26, _⟩ => ⟨S32x16384, .f32⟩
  | .hbm, ⟨27, _⟩ => ⟨S32x16384, .f32⟩
  | .hbm, ⟨28, _⟩ => ⟨S1024x9920, .f32⟩
  | .hbm, ⟨29, _⟩ => ⟨S1024x640, .f32⟩
  | .hbm, ⟨30, _⟩ => ⟨S640x1024, .f32⟩
  | .hbm, ⟨31, _⟩ => ⟨S640x1024, .bf16⟩
  | .hbm, ⟨32, _⟩ => ⟨S1024x64, .f32⟩
  | .hbm, ⟨33, _⟩ => ⟨S64x1024, .f32⟩
  | .hbm, ⟨34, _⟩ => ⟨S_, .f32⟩
  | .hbm, ⟨35, _⟩ => ⟨S64x1024, .f32⟩
  | .hbm, ⟨36, _⟩ => ⟨S128x1024, .f32⟩
  | .hbm, ⟨37, _⟩ => ⟨S128x1024, .bf16⟩
  | .hbm, ⟨38, _⟩ => ⟨S256x2048, .f32⟩
  | .hbm, ⟨39, _⟩ => ⟨S256x8x256, .f32⟩
  | .hbm, ⟨40, _⟩ => ⟨S256x8x128, .f32⟩
  | .hbm, ⟨41, _⟩ => ⟨S256x1024, .f32⟩
  | .hbm, ⟨42, _⟩ => ⟨S256x1024, .bf16⟩
  | .hbm, ⟨43, _⟩ => ⟨S256x8x128, .f32⟩
  | .hbm, ⟨44, _⟩ => ⟨S256x1024, .f32⟩
  | .hbm, ⟨45, _⟩ => ⟨S1024x256, .f32⟩
  | .hbm, ⟨46, _⟩ => ⟨S1024x256, .bf16⟩
  | .hbm, ⟨47, _⟩ => ⟨S16384x1024, .f32⟩
  | .hbm, ⟨48, _⟩ => ⟨S1024, .f32⟩
  | .hbm, ⟨49, _⟩ => ⟨S384, .f32⟩
  | .hbm, ⟨50, _⟩ => ⟨S256, .f32⟩
  | .hbm, ⟨51, _⟩ => ⟨S384x1536, .f32⟩
  | .hbm, ⟨52, _⟩ => ⟨S1536x384, .f32⟩
  | .hbm, ⟨53, _⟩ => ⟨S1536x384, .bf16⟩
  | .hbm, ⟨54, _⟩ => ⟨S32x16384, .f32⟩
  | .hbm, ⟨55, _⟩ => ⟨S32x16384, .f32⟩
  | .hbm, ⟨56, _⟩ => ⟨S1x1024, .f32⟩
  | .hbm, ⟨57, _⟩ => ⟨S1x384, .f32⟩
  | .hbm, ⟨58, _⟩ => ⟨S1x256, .f32⟩
  | .hbm, ⟨59, _⟩ => ⟨S8x256x16384, .bf16⟩
  | .hbm, ⟨60, _⟩ => ⟨S8x16384x256, .bf16⟩
  | .hbm, ⟨61, _⟩ => ⟨S8x16x144x1024, .bf16⟩
  | .hbm, ⟨62, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x3072, .f32⟩
  | .local _ .vmem, ⟨3, _⟩ => ⟨S1x1024, .f32⟩
  | .local _ .vmem, ⟨4, _⟩ => ⟨S640x1024, .bf16⟩
  | .local _ .vmem, ⟨5, _⟩ => ⟨S128x1024, .bf16⟩
  | .local _ .vmem, ⟨6, _⟩ => ⟨S1x384, .f32⟩
  | .local _ .vmem, ⟨7, _⟩ => ⟨S1x256, .f32⟩
  | .local _ .vmem, ⟨8, _⟩ => ⟨S1536x384, .bf16⟩
  | .local _ .vmem, ⟨9, _⟩ => ⟨S256x1024, .bf16⟩
  | .local _ .vmem, ⟨10, _⟩ => ⟨S1024x256, .bf16⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S8x256x1024, .bf16⟩
  | .local _ .vmem, ⟨16, _⟩ => ⟨S8x256x1024, .bf16⟩
  | .local _ .vmem, ⟨17, _⟩ => ⟨S8x1024x256, .bf16⟩
  | .local _ .vmem, ⟨18, _⟩ => ⟨S8x1024x256, .bf16⟩
  | .local _ .vmem, ⟨19, _⟩ => ⟨S8x1x144x1024, .bf16⟩
  | .local _ .vmem, ⟨20, _⟩ => ⟨S8x1x144x1024, .bf16⟩
  | .local _ .vmem, ⟨21, _⟩ => ⟨S1024x1024, .bf16⟩
  | .local _ .vmem, ⟨22, _⟩ => ⟨S1024x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45_0 : Ref sig .tc := ⟨.hbm, 59, rfl⟩
abbrev main_v45_1 : Ref sig .tc := ⟨.hbm, 60, rfl⟩
abbrev main_v45_2 : Ref sig .tc := ⟨.hbm, 61, rfl⟩
abbrev main_v45_3 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S640x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x1x144x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel5Ideal.lean ====
variable {F : FTy → Type} [FloatOps F] [Named F]
def κ : String → Option EReal := fun
  | "qscale" => some (((Real.sqrt 192)⁻¹ * (Real.log 2)⁻¹ : ℝ) : EReal)
  | _ => none
-- ==== Reference5Ideal.lean ====
abbrev S1x16384x1024 : Shape := ⟨3, ![1, 16384, 1024]⟩
abbrev S1x3072 : Shape := ⟨2, ![1, 3072]⟩
abbrev S1x16384 : Shape := ⟨2, ![1, 16384]⟩
abbrev S1x1024 : Shape := ⟨2, ![1, 1024]⟩
abbrev S1x1024x9920 : Shape := ⟨3, ![1, 1024, 9920]⟩
abbrev S1x384 : Shape := ⟨2, ![1, 384]⟩
abbrev S1x384x1536 : Shape := ⟨3, ![1, 384, 1536]⟩
abbrev S1x256 : Shape := ⟨2, ![1, 256]⟩
abbrev S1x256x2048 : Shape := ⟨3, ![1, 256, 2048]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x9920 : Shape := ⟨2, ![1024, 9920]⟩
abbrev S1024x704 : Shape := ⟨2, ![1024, 704]⟩
abbrev S16384x704 : Shape := ⟨2, ![16384, 704]⟩
abbrev S16384x384 : Shape := ⟨2, ![16384, 384]⟩
abbrev S16384x256 : Shape := ⟨2, ![16384, 256]⟩
abbrev S16384x64 : Shape := ⟨2, ![16384, 64]⟩
abbrev S32 : Shape := ⟨1, ![32]⟩
abbrev S1x32 : Shape := ⟨2, ![1, 32]⟩
abbrev S16384x32 : Shape := ⟨2, ![16384, 32]⟩
abbrev S16384x1x32 : Shape := ⟨3, ![16384, 1, 32]⟩
abbrev S384 : Shape := ⟨1, ![384]⟩
abbrev S384x1536 : Shape := ⟨2, ![384, 1536]⟩
abbrev S16384x1536 : Shape := ⟨2, ![16384, 1536]⟩
abbrev S16384x8x192 : Shape := ⟨3, ![16384, 8, 192]⟩
abbrev S16384x8x128 : Shape := ⟨3, ![16384, 8, 128]⟩
abbrev S16384x8x64 : Shape := ⟨3, ![16384, 8, 64]⟩
abbrev S16384x8x32 : Shape := ⟨3, ![16384, 8, 32]⟩
abbrev S256 : Shape := ⟨1, ![256]⟩
abbrev S256x2048 : Shape := ⟨2, ![256, 2048]⟩
abbrev S16384x2048 : Shape := ⟨2, ![16384, 2048]⟩
abbrev S16384x8x256 : Shape := ⟨3, ![16384, 8, 256]⟩
abbrev S16384x1x64 : Shape := ⟨3, ![16384, 1, 64]⟩
abbrev S8x192x16384 : Shape := ⟨3, ![8, 192, 16384]⟩
abbrev S8x64x16384 : Shape := ⟨3, ![8, 64, 16384]⟩
abbrev S8x256x16384 : Shape := ⟨3, ![8, 256, 16384]⟩
abbrev S8x16384x192 : Shape := ⟨3, ![8, 16384, 192]⟩
abbrev S8x16384x64 : Shape := ⟨3, ![8, 16384, 64]⟩
abbrev S8x16384x256 : Shape := ⟨3, ![8, 16384, 256]⟩
abbrev S16x1024x8x128 : Shape := ⟨4, ![16, 1024, 8, 128]⟩
abbrev S8x16x128x1024 : Shape := ⟨4, ![8, 16, 128, 1024]⟩
abbrev S8x16x16x1024 : Shape := ⟨4, ![8, 16, 16, 1024]⟩
abbrev S8x16x144x1024 : Shape := ⟨4, ![8, 16, 144, 1024]⟩

abbrev nBuf : Space → Nat
  | .hbm => 163
  | .vmem => 0
  | .smem => 0
  | _ => 0

abbrev hbmTy0_0 (i : Nat) : BufTy := match i % 128 with
  | 0 => ⟨S1x16384x1024, .f32⟩
  | 1 => ⟨S1x3072, .f32⟩
  | 2 => ⟨S1x16384, .i32⟩
  | 3 => ⟨S1x1024, .f32⟩
  | 4 => ⟨S1x1024x9920, .f32⟩
  | 5 => ⟨S1x384, .f32⟩
  | 6 => ⟨S1x384x1536, .f32⟩
  | 7 => ⟨S1x256, .f32⟩
  | 8 => ⟨S1x256x2048, .f32⟩
  | 9 => ⟨S16384x1024, .f32⟩
  | 10 => ⟨S1024, .f32⟩
  | 11 => ⟨S16384x1024, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384x1, .f32⟩
  | 22 => ⟨S16384x1024, .f32⟩
  | 23 => ⟨S16384x1024, .f32⟩
  | 24 => ⟨S1x1024, .f32⟩
  | 25 => ⟨S16384x1024, .f32⟩
  | 26 => ⟨S16384x1024, .f32⟩
  | 27 => ⟨S1x1024, .f32⟩
  | 28 => ⟨S_, .f32⟩
  | 29 => ⟨S1x1024, .f32⟩
  | 30 => ⟨S1x1024, .f32⟩
  | 31 => ⟨S16384x1024, .f32⟩
  | 32 => ⟨S16384x1024, .f32⟩
  | 33 => ⟨S1x1024, .f32⟩
  | 34 => ⟨S16384x1024, .f32⟩
  | 35 => ⟨S16384x1024, .f32⟩
  | 36 => ⟨S1024x9920, .f32⟩
  | 37 => ⟨S1024x704, .f32⟩
  | 38 => ⟨S16384x704, .f32⟩
  | 39 => ⟨S16384x384, .f32⟩
  | 40 => ⟨S16384x256, .f32⟩
  | 41 => ⟨S16384x64, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S16384, .i32⟩
  | 57 => ⟨S16384, .f32⟩
  | 58 => ⟨S16384x1, .f32⟩
  | 59 => ⟨S1x32, .f32⟩
  | 60 => ⟨S16384x32, .f32⟩
  | 61 => ⟨S16384x32, .f32⟩
  | 62 => ⟨S16384x32, .f32⟩
  | 63 => ⟨S16384x32, .f32⟩
  | 64 => ⟨S16384x1x32, .f32⟩
  | 65 => ⟨S16384x32, .f32⟩
  | 66 => ⟨S16384x1x32, .f32⟩
  | 67 => ⟨S384, .f32⟩
  | 68 => ⟨S16384x384, .f32⟩
  | 69 => ⟨S_, .f32⟩
  | 70 => ⟨S16384, .f32⟩
  | 71 => ⟨S16384x1, .f32⟩
  | 72 => ⟨S_, .f32⟩
  | 73 => ⟨S16384x1, .f32⟩
  | 74 => ⟨S16384x1, .f32⟩
  | 75 => ⟨S_, .f32⟩
  | 76 => ⟨S16384x1, .f32⟩
  | 77 => ⟨S16384x1, .f32⟩
  | 78 => ⟨S16384x1, .f32⟩
  | 79 => ⟨S16384x384, .f32⟩
  | 80 => ⟨S16384x384, .f32⟩
  | 81 => ⟨S1x384, .f32⟩
  | 82 => ⟨S16384x384, .f32⟩
  | 83 => ⟨S16384x384, .f32⟩
  | 84 => ⟨S384x1536, .f32⟩
  | 85 => ⟨S16384x1536, .f32⟩
  | 86 => ⟨S16384x8x192, .f32⟩
  | 87 => ⟨S16384x8x128, .f32⟩
  | 88 => ⟨S16384x8x64, .f32⟩
  | 89 => ⟨S16384x8x32, .f32⟩
  | 90 => ⟨S16384x8x32, .f32⟩
  | 91 => ⟨S16384x8x32, .f32⟩
  | 92 => ⟨S16384x8x32, .f32⟩
  | 93 => ⟨S16384x8x32, .f32⟩
  | 94 => ⟨S16384x8x32, .f32⟩
  | 95 => ⟨S16384x8x32, .f32⟩
  | 96 => ⟨S16384x8x32, .f32⟩
  | 97 => ⟨S16384x8x32, .f32⟩
  | 98 => ⟨S16384x8x32, .f32⟩
  | 99 => ⟨S16384x8x32, .f32⟩
  | 100 => ⟨S16384x8x32, .f32⟩
  | 101 => ⟨S16384x8x64, .f32⟩
  | 102 => ⟨S16384x8x192, .f32⟩
  | 103 => ⟨S256, .f32⟩
  | 104 => ⟨S16384x256, .f32⟩
  | 105 => ⟨S_, .f32⟩
  | 106 => ⟨S16384, .f32⟩
  | 107 => ⟨S16384x1, .f32⟩
  | 108 => ⟨S_, .f32⟩
  | 109 => ⟨S16384x1, .f32⟩
  | 110 => ⟨S16384x1, .f32⟩
  | 111 => ⟨S_, .f32⟩
  | 112 => ⟨S16384x1, .f32⟩
  | 113 => ⟨S16384x1, .f32⟩
  | 114 => ⟨S16384x1, .f32⟩
  | 115 => ⟨S16384x256, .f32⟩
  | 116 => ⟨S16384x256, .f32⟩
  | 117 => ⟨S1x256, .f32⟩
  | 118 => ⟨S16384x256, .f32⟩
  | 119 => ⟨S16384x256, .f32⟩
  | 120 => ⟨S256x2048, .f32⟩
  | 121 => ⟨S16384x2048, .f32⟩
  | 122 => ⟨S16384x8x256, .f32⟩
  | 123 => ⟨S16384x1x64, .f32⟩
  | 124 => ⟨S16384x1x32, .f32⟩
  | 125 => ⟨S16384x1x32, .f32⟩
  | 126 => ⟨S16384x1x32, .f32⟩
  | 127 => ⟨S16384x1x32, .f32⟩
  | _ => ⟨S1x16384x1024, .f32⟩

abbrev hbmTy0_1 (i : Nat) : BufTy := match i % 128 with
  | 0 => ⟨S16384x1x32, .f32⟩
  | 1 => ⟨S16384x1x32, .f32⟩
  | 2 => ⟨S16384x1x32, .f32⟩
  | 3 => ⟨S16384x1x32, .f32⟩
  | 4 => ⟨S16384x1x64, .f32⟩
  | 5 => ⟨S16384x8x64, .f32⟩
  | 6 => ⟨S16384x8x128, .f32⟩
  | 7 => ⟨S16384x8x192, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S16384x8x192, .f32⟩
  | 16 => ⟨S16384x8x192, .f32⟩
  | 17 => ⟨S8x192x16384, .f32⟩
  | 18 => ⟨S_, .f32⟩
  | 19 => ⟨S8x64x16384, .f32⟩
  | 20 => ⟨S8x256x16384, .f32⟩
  | 21 => ⟨S8x16384x192, .f32⟩
  | 22 => ⟨S_, .f32⟩
  | 23 => ⟨S8x16384x64, .f32⟩
  | 24 => ⟨S8x16384x256, .f32⟩
  | 25 => ⟨S16384x8x128, .f32⟩
  | 26 => ⟨S16x1024x8x128, .f32⟩
  | 27 => ⟨S8x16x128x1024, .f32⟩
  | 28 => ⟨S_, .f32⟩
  | 29 => ⟨S8x16x16x1024, .f32⟩
  | 30 => ⟨S8x16x144x1024, .f32⟩
  | 31 => ⟨S8x256x16384, .bf16⟩
  | 32 => ⟨S8x16384x256, .bf16⟩
  | 33 => ⟨S8x16x144x1024, .bf16⟩
  | 34 => ⟨S16384x1024, .bf16⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_10 : Ref sig .tc := ⟨.hbm, 105, rfl⟩
abbrev main_v85 : Ref sig .tc := ⟨.hbm, 106, rfl⟩
abbrev main_v86 : Ref sig .tc := ⟨.hbm, 107, rfl⟩
abbrev main_cst_11 : Ref sig .tc := ⟨.hbm, 108, rfl⟩
abbrev main_v87 : Ref sig .tc := ⟨.hbm, 109, rfl⟩
abbrev main_v88 : Ref sig .tc := ⟨.hbm, 110, rfl⟩
abbrev main_cst_12 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_13 : Ref sig .tc := ⟨.hbm, 136, rfl⟩
abbrev main_v113 : Ref sig .tc := ⟨.hbm, 137, rfl⟩
abbrev main_cst_14 : Ref sig .tc := ⟨.hbm, 138, rfl⟩
abbrev main_v114 : Ref sig .tc := ⟨.hbm, 139, rfl⟩
abbrev main_v115 : Ref sig .tc := ⟨.hbm, 140, rfl⟩
abbrev main_cst_15 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_cst_16 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_cst_17 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_cst_18 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩

abbrev nD : Nat := 1
abbrev τ : Topo := Topo.v7x

variable {F : FTy → Type} [FloatOps F]
-- ==== Kernel6.lean ====
abbrev S1x1024 : Shape := ⟨2, ![1, 1024]⟩
abbrev S1x1024x3072 : Shape := ⟨3, ![1, 1024, 3072]⟩
abbrev S1x3072 : Shape := ⟨2, ![1, 3072]⟩
abbrev S1024x3072 : Shape := ⟨2, ![1024, 3072]⟩
abbrev S3072 : Shape := ⟨1, ![3072]⟩
abbrev S1024x512 : Shape := ⟨2, ![1024, 512]⟩
abbrev S1x512 : Shape := ⟨2, ![1, 512]⟩
abbrev S8x1024 : Shape := ⟨2, ![8, 1024]⟩
abbrev S8x512 : Shape := ⟨2, ![8, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024x3072, .f32⟩
  | .hbm, ⟨2, _⟩ => ⟨S1x3072, .f32⟩
  | .hbm, ⟨3, _⟩ => ⟨S1024x3072, .f32⟩
  | .hbm, ⟨4, _⟩ => ⟨S3072, .f32⟩
  | .hbm, ⟨5, _⟩ => ⟨S1x3072, .f32⟩
  | .hbm, ⟨6, _⟩ => ⟨S1x3072, .f32⟩
  | .local _ .vmem, ⟨0, _⟩ => ⟨S1x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S1x1024 : Shape := ⟨2, ![1, 1024]⟩
abbrev S1x1024x3072 : Shape := ⟨3, ![1, 1024, 3072]⟩
abbrev S1x3072 : Shape := ⟨2, ![1, 3072]⟩
abbrev S_ : Shape := ⟨0, ![]⟩
abbrev S1024x3072 : Shape := ⟨2, ![1024, 3072]⟩
abbrev S3072 : Shape := ⟨1, ![3072]⟩

abbrev nBuf : Space → Nat
  | .hbm => 17
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024x3072, .f32⟩
  | .hbm, ⟨2, _⟩ => ⟨S1x3072, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x3072, .f32⟩
  | .hbm, ⟨13, _⟩ => ⟨S1x3072, .f32⟩
  | .hbm, ⟨14, _⟩ => ⟨S3072, .f32⟩
  | .hbm, ⟨15, _⟩ => ⟨S1x3072, .f32⟩
  | .hbm, ⟨16, _⟩ => ⟨S1x3072, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel.lean ====
abbrev S1x1024x9920 : Shape := ⟨3, ![1, 1024, 9920]⟩
abbrev S1024x9920 : Shape := ⟨2, ![1024, 9920]⟩
abbrev S9920x1024 : Shape := ⟨2, ![9920, 1024]⟩
abbrev S640x1024 : Shape := ⟨2, ![640, 1024]⟩
abbrev S128x1024 : Shape := ⟨2, ![128, 1024]⟩
abbrev S6144x1024 : Shape := ⟨2, ![6144, 1024]⟩
abbrev S3072x1024 : Shape := ⟨2, ![3072, 1024]⟩
abbrev S640x256 : Shape := ⟨2, ![640, 256]⟩
abbrev S64x256 : Shape := ⟨2, ![64, 256]⟩
abbrev S1024x256 : Shape := ⟨2, ![1024, 256]⟩
abbrev S6144x256 : Shape := ⟨2, ![6144, 256]⟩
abbrev S2048x256 : Shape := ⟨2, ![2048, 256]⟩
abbrev S128x256 : Shape := ⟨2, ![128, 256]⟩
abbrev S3072x256 : Shape := ⟨2, ![3072, 256]⟩

abbrev nBuf : Space → Nat
  | .hbm => 7
  | .vmem => 18
  | .smem => 0
  | _ => 0

abbrev bufTy : (tb : Table) → Fin (tcTables nBuf tb) → BufTy
  | .hbm, ⟨0, _⟩ => ⟨S1x1024x9920, .f32⟩
  | .hbm, ⟨1, _⟩ => ⟨S1024x9920, .f32⟩
  | .hbm, ⟨2, _⟩ => ⟨S9920x1024, .f32⟩
  | .hbm, ⟨3, _⟩ => ⟨S640x1024, .bf16⟩
  | .hbm, ⟨4, _⟩ => ⟨S128x1024, .bf16⟩
  | .hbm, ⟨5, _⟩ => ⟨S6144x1024, .bf16⟩
  | .hbm, ⟨6, _⟩ => ⟨S3072x1024, .bf16⟩
  | .local _ .vmem, ⟨0, _⟩ => ⟨S640x256, .f32⟩
  | .local _ .vmem, ⟨1, _⟩ => ⟨S640x256, .f32⟩
  | .local _ .vmem, ⟨2, _⟩ => ⟨S64x256, .f32⟩
  | .local _ .vmem, ⟨3, _⟩ => ⟨S64x256, .f32⟩
  | .local _ .vmem, ⟨4, _⟩ => ⟨S1024x256, .f32⟩
  | .local _ .vmem, ⟨5, _⟩ => ⟨S1024x256, .f32⟩
  | .local _ .vmem, ⟨6, _⟩ => ⟨S6144x256, .f32⟩
  | .local _ .vmem, ⟨7, _⟩ => ⟨S6144x256, .f32⟩
  | .local _ .vmem, ⟨8, _⟩ => ⟨S2048x256, .f32⟩
  | .local _ .vmem, ⟨9, _⟩ => ⟨S2048x256, .f32⟩
  | .local _ .vmem, ⟨10, _⟩ => ⟨S640x256, .bf16⟩
  | .local _ .vmem, ⟨11, _⟩ => ⟨S640x256, .bf16⟩
  | .local _ .vmem, ⟨12, _⟩ => ⟨S128x256, .bf16⟩
  | .local _ .vmem, ⟨13, _⟩ => ⟨S128x256, .bf16⟩
  | .local _ .vmem, ⟨14, _⟩ => ⟨S6144x256, .bf16⟩
  | .local _ .vmem, ⟨15, _⟩ => ⟨S6144x256, .bf16⟩
  | .local _ .vmem, ⟨16, _⟩ => ⟨S3072x256, .bf16⟩
  | .local _ .vmem, ⟨17, _⟩ => ⟨S3072x256, .bf16⟩
  | _, _ => ⟨S1x1024x9920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v2_2 : Ref sig .tc := ⟨.hbm, 5, rfl⟩
abbrev main_v2_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c256_i32 : BitVec 32 := 256#32
  let v0 : BitVec 32 := Scalar.muli arg0 c256_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c256_i32 : BitVec 32 := 256#32
  let v0 : BitVec 32 := Scalar.muli arg0 c256_i32
  let c640_i32 : BitVec 32 := 640#32
  let c0_i32 : BitVec 32 := 0#32
  ![c640_i32.toNat, v0.toNat]

def cc0_transform_2 (i : grid0.Coords) : Fin 2 → Nat :=
  let arg0 : BitVec 32 := BitVec.ofNat 32 (i 0).val
  let c256_i32 : BitVec 32 := 256#32
  let v0 : BitVec 32 := Scalar.muli arg0 c256_i32
  let c704_i32 : BitVec 32 := 704#32
  let c0_i32 : BitVec 32 := 0#32
  ![c704_i32.toNat, v0.toNat]

def cc0_transform_3 (i : grid0.Coords) : Fin 2 → Nat :=
  let arg0 : BitVec 32 := BitVec.ofNat 32 (i 0).val
  let c256_i32 : BitVec 32 := 256#32
  let v0 : BitVec 32 := Scalar.muli arg0 c256_i32
  let c1728_i32 : BitVec 32 := 1728#32
  let c0_i32 : BitVec 32 := 0#32
  ![c1728_i32.toNat, v0.toNat]

def cc0_transform_4 (i : grid0.Coords) : Fin 2 → Nat :=
  let arg0 : BitVec 32 := BitVec.ofNat 32 (i 0).val
  let c256_i32 : BitVec 32 := 256#32
  let v0 : BitVec 32 := Scalar.muli arg0 c256_i32
  let c7872_i32 : BitVec 32 := 7872#32
  let c0_i32 : BitVec 32 := 0#32
  ![c7872_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S640x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6144x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S6144x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3072x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference.lean ====
abbrev S1x1024x9920 : Shape := ⟨3, ![1, 1024, 9920]⟩
abbrev S1024x9920 : Shape := ⟨2, ![1024, 9920]⟩
abbrev S1024x640 : Shape := ⟨2, ![1024, 640]⟩
abbrev S640x1024 : Shape := ⟨2, ![640, 1024]⟩
abbrev S1024x64 : Shape := ⟨2, ![1024, 64]⟩
abbrev S64x1024 : Shape := ⟨2, ![64, 1024]⟩
abbrev S_ : Shape := ⟨0, ![]⟩
abbrev S128x1024 : Shape := ⟨2, ![128, 1024]⟩
abbrev S1024x6144 : Shape := ⟨2, ![1024, 6144]⟩
abbrev S6144x1024 : Shape := ⟨2, ![6144, 1024]⟩
abbrev S1024x1024 : Shape := ⟨2, ![1024, 1024]⟩
abbrev S1024x2048 : Shape := ⟨2, ![1024, 2048]⟩
abbrev S2048x1024 : Shape := ⟨2, ![2048, 1024]⟩
abbrev S3072x1024 : Shape := ⟨2, ![3072, 1024]⟩

abbrev nBuf : Space → Nat
  | .hbm => 20
  | .vmem => 0
  | .smem => 0
  | _ => 0

abbrev bufTy : (tb : Table) → Fin (tcTables nBuf tb) → BufTy
  | .hbm, ⟨0, _⟩ => ⟨S1x1024x9920, .f32⟩
  | .hbm, ⟨1, _⟩ => ⟨S1024x9920, .f32⟩
  | .hbm, ⟨2, _⟩ => ⟨S1024x640, .f32⟩
  | .hbm, ⟨3, _⟩ => ⟨S640x1024, .f32⟩
  | .hbm, ⟨4, _⟩ => ⟨S640x1024, .bf16⟩
  | .hbm, ⟨5, _⟩ => ⟨S1024x64, .f32⟩
  | .hbm, ⟨6, _⟩ => ⟨S64x1024, .f32⟩
  | .hbm, ⟨7, _⟩ => ⟨S64x1024, .bf16⟩
  | .hbm, ⟨8, _⟩ => ⟨S_, .bf16⟩
  | .hbm, ⟨9, _⟩ => ⟨S64x1024, .bf16⟩
  | .hbm, ⟨10, _⟩ => ⟨S128x1024, .bf16⟩
  | .hbm, ⟨11, _⟩ => ⟨S1024x6144, .f32⟩
  | .hbm, ⟨12, _⟩ => ⟨S6144x1024, .f32⟩
  | .hbm, ⟨13, _⟩ => ⟨S6144x1024, .bf16⟩
  | .hbm, ⟨14, _⟩ => ⟨S1024x1024, .f32⟩
  | .hbm, ⟨15, _⟩ => ⟨S1024x1024, .f32⟩
  | .hbm, ⟨16, _⟩ => ⟨S1024x2048, .f32⟩
  | .hbm, ⟨17, _⟩ => ⟨S2048x1024, .f32⟩
  | .hbm, ⟨18, _⟩ => ⟨S3072x1024, .f32⟩
  | .hbm, ⟨19, _⟩ => ⟨S3072x1024, .bf16⟩
  | _, _ => ⟨S1x1024x9920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== Proof.Repack.Blocks.lean ====
module

public import proofs.«01_k».proof.Proof.Gen.KernelIdeal.Value
public import Idealize.ShloMosaic.Lib.Pipeline.Value
public import Idealize.ShloMosaic.Lib.Pointwise

@[expose] public section

set_option maxRecDepth 16384

noncomputable section

namespace Cert.KernelIdeal.Repack

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The transposed weight as the call finds it. -/
abbrev wt (c : Dev nD) : S9920x1024.Idx → F .f32 := V m c main_v1

/-- The first result: row `r` is row `r` of the transposed weight, cast. -/
def wc (c : Dev nD) : S640x1024.Idx → F .bf16 := fun i =>
  FloatOps.truncf .bf16 bitsLt_bf16_f32 (wt m c (ix2 ⟨(i 0).val, by have : (i 0).val < 640 := (i 0).isLt; omega⟩ (i 1)))

/-- The second result: 64 rows from row 640 of the transposed weight, cast, then 64 rows of zeros. -/
def wpe (c : Dev nD) : S128x1024.Idx → F .bf16 := fun i =>
  if h : (i 0).val < 64 then
    FloatOps.truncf .bf16 bitsLt_bf16_f32 (wt m c (ix2 ⟨640 + (i 0).val, by omega⟩ (i 1)))
  else Scalar.ofBits .bf16 0x0000#16

/-- The third result: 6144 rows from row 1728 of the transposed weight, cast. -/
def wret (c : Dev nD) : S6144x1024.Idx → F .bf16 := fun i =>
  FloatOps.truncf .bf16 bitsLt_bf16_f32 (wt m c (ix2 ⟨1728 + (i 0).val, by have : (i 0).val < 6144 := (i 0).isLt; omega⟩ (i 1)))

/-- The fourth result: 1024 rows from row 704 of the transposed weight, cast, then 2048 rows from row 7872. -/
def wg (c : Dev nD) : S3072x1024.Idx → F .bf16 := fun i =>
  if h : (i 0).val < 1024 then FloatOps.truncf .bf16 bitsLt_bf16_f32 (wt m c (ix2 ⟨704 + (i 0).val, by omega⟩ (i 1)))
  else FloatOps.truncf .bf16 bitsLt_bf16_f32 (wt m c (ix2 ⟨6848 + (i 0).val, by have : (i 0).val < 3072 := (i 0).isLt; omega⟩ (i 1)))

theorem hz : (![0, 0] : Fin 2 → Nat) = fun _ => 0 := funext fun a => by fin_cases a <;> rfl

/-- Where the block of each window begins at grid point `t`. -/
theorem offs : ∀ t : Fin grid0.N,
    (win0_0.index t = ![0, t.val * 256] ∧ win0_1.index t = ![640, t.val * 256] ∧ win0_2.index t = ![704, t.val * 256]
      ∧ win0_3.index t = ![1728, t.val * 256] ∧ win0_4.index t = ![7872, t.val * 256])
    ∧ (win0_5.index t = ![0, t.val] ∧ win0_6.index t = ![0, t.val] ∧ win0_7.index t = ![0, t.val] ∧ win0_8.index t = ![0, t.val]) := by
  decide +kernel

/-- The grid has four points. -/
theorem pt_lt (t : Fin cfg0.N) : t.val < 4 := lt_of_lt_of_eq t.isLt N_0

/-- The column of the array a block's column `j` is, at grid point `t`. -/
abbrev col (t : Fin cfg0.N) (j : Fin 256) : Fin 1024 := ⟨t.val * 256 + j.val, by have := pt_lt t; omega⟩

/-- Input window 0: 640 rows of the transposed weight from row 0, 256 columns. -/
theorem iblk0 (c : Dev nD) (t : Fin cfg0.N) (x : S640x256.Idx) : iblk m c 0 t x
    = wt m c (ix2 ⟨(x 0).val, by have : (x 0).val < 640 := (x 0).isLt; omega⟩ (col t (x 1))) := by
  show wt m c ((win0_0.rect t).emb x) = _
  refine congrArg _ (funext fun a => Fin.ext ?_)
  rw [Pipeline.Window.rect_emb_val_off, show win0_0.index t = ![0, t.val * 256] from (offs t).1.1]
  match a with
  | ⟨0, _⟩ => show 0 + (x 0).val = (x 0).val; omega
  | ⟨1, _⟩ => rfl

/-- Input window 1: 64 rows of the transposed weight from row 640, 256 columns. -/
theorem iblk1 (c : Dev nD) (t : Fin cfg0.N) (x : S64x256.Idx) : iblk m c 1 t x
    = wt m c (ix2 ⟨640 + (x 0).val, by have : (x 0).val < 64 := (x 0).isLt; omega⟩ (col t (x 1))) := by
  show wt m c ((win0_1.rect t).emb x) = _
  refine congrArg _ (funext fun a => Fin.ext ?_)
  rw [Pipeline.Window.rect_emb_val_off, show win0_1.index t = ![640, t.val * 256] from (offs t).1.2.1]
  match a with
  | ⟨0, _⟩ => show 640 + (x 0).val = 640 + (x 0).val; omega
  | ⟨1, _⟩ => rfl

/-- Input window 2: 1024 rows of the transposed weight from row 704, 256 columns. -/
theorem iblk2 (c : Dev nD) (t : Fin cfg0.N) (x : S1024x256.Idx) : iblk m c 2 t x
    = wt m c (ix2 ⟨704 + (x 0).val, by have : (x 0).val < 1024 := (x 0).isLt; omega⟩ (col t (x 1))) := by
  show wt m c ((win0_2.rect t).emb x) = _
  refine congrArg _ (funext fun a => Fin.ext ?_)
  rw [Pipeline.Window.rect_emb_val_off, show win0_2.index t = ![704, t.val * 256] from (offs t).1.2.2.1]
  match a with
  | ⟨0, _⟩ => show 704 + (x 0).val = 704 + (x 0).val; omega
  | ⟨1, _⟩ => rfl

/-- Input window 3: 6144 rows of the transposed weight from row 1728, 256 columns. -/
theorem iblk3 (c : Dev nD) (t : Fin cfg0.N) (x : S6144x256.Idx) : iblk m c 3 t x
    = wt m c (ix2 ⟨1728 + (x 0).val, by have : (x 0).val < 6144 := (x 0).isLt; omega⟩ (col t (x 1))) := by
  show wt m c ((win0_3.rect t).emb x) = _
  refine congrArg _ (funext fun a => Fin.ext ?_)
  rw [Pipeline.Window.rect_emb_val_off, show win0_3.index t = ![1728, t.val * 256] from (offs t).1.2.2.2.1]
  match a with
  | ⟨0, _⟩ => show 1728 + (x 0).val = 1728 + (x 0).val; omega
  | ⟨1, _⟩ => rfl

/-- Input window 4: 2048 rows of the transposed weight from row 7872, 256 columns. -/
theorem iblk4 (c : Dev nD) (t : Fin cfg0.N) (x : S2048x256.Idx) : iblk m c 4 t x
    = wt m c (ix2 ⟨7872 + (x 0).val, by have : (x 0).val < 2048 := (x 0).isLt; omega⟩ (col t (x 1))) := by
  show wt m c ((win0_4.rect t).emb x) = _
  refine congrArg _ (funext fun a => Fin.ext ?_)
  rw [Pipeline.Window.rect_emb_val_off, show win0_4.index t = ![7872, t.val * 256] from (offs t).1.2.2.2.2]
  match a with
  | ⟨0, _⟩ => show 7872 + (x 0).val = 7872 + (x 0).val; omega
  | ⟨1, _⟩ => rfl

/-- Where result window 5's block sits in its array. -/
theorem emb5 (t : Fin cfg0.N) (x : S640x256.Idx) : (win0_5.rect t).emb x = (ix2 (x 0) (col t (x 1)) : S640x1024.Idx) := by
  refine funext fun a => Fin.ext ?_
  rw [Pipeline.Window.rect_emb_val_off, show win0_5.index t = ![0, t.val] from (offs t).2.1]
  match a with
  | ⟨0, _⟩ => show 0 * 640 + (x 0).val = (x 0).val; omega
  | ⟨1, _⟩ => rfl

/-- Where result window 6's block sits in its array. -/
theorem emb6 (t : Fin cfg0.N) (x : S128x256.Idx) : (win0_6.rect t).emb x = (ix2 (x 0) (col t (x 1)) : S128x1024.Idx) := by
  refine funext fun a => Fin.ext ?_
  rw [Pipeline.Window.rect_emb_val_off, show win0_6.index t = ![0, t.val] from (offs t).2.2.1]
  match a with
  | ⟨0, _⟩ => show 0 * 128 + (x 0).val = (x 0).val; omega
  | ⟨1, _⟩ => rfl

/-- Where result window 7's block sits in its array. -/
theorem emb7 (t : Fin cfg0.N) (x : S6144x256.Idx) : (win0_7.rect t).emb x = (ix2 (x 0) (col t (x 1)) : S6144x1024.Idx) := by
  refine funext fun a => Fin.ext ?_
  rw [Pipeline.Window.rect_emb_val_off, show win0_7.index t = ![0, t.val] from (offs t).2.2.2.1]
  match a with
  | ⟨0, _⟩ => show 0 * 6144 + (x 0).val = (x 0).val; omega
  | ⟨1, _⟩ => rfl

/-- Where result window 8's block sits in its array. -/
theorem emb8 (t : Fin cfg0.N) (x : S3072x256.Idx) : (win0_8.rect t).emb x = (ix2 (x 0) (col t (x 1)) : S3072x1024.Idx) := by
  refine funext fun a => Fin.ext ?_
  rw [Pipeline.Window.rect_emb_val_off, show win0_8.index t = ![0, t.val] from (offs t).2.2.2.2]
  match a with
  | ⟨0, _⟩ => show 0 * 3072 + (x 0).val = (x 0).val; omega
  | ⟨1, _⟩ => rfl

/-- An index of a unit-stride rectangle sits at the rectangle's offset plus its own coordinate. -/
theorem emb_unit_val {S : Shape} (off size : Fin S.rank → Nat) (inb : ∀ a, off a + size a ≤ S.size a)
    (y : (Rect.unit off size inb).shape.Idx) (a : Fin S.rank) : ((Rect.unit off size inb).emb y a).val = off a + (y a).val := by
  rw [Rect.emb_apply]
  show off a + 1 * (y a).val = _
  omega

/-- What grid point `t` writes back to window 5 is its block of `wc`. -/
theorem flushed5 (c : Dev nD) (t : Fin cfg0.N) :
    (dats m 0 c).flushed 5 t = ((cfg0.win 5).blk t).view.read (Elt F) (wc m c) := by
  rw [Value.flushed5_A]
  unfold out0_A_5
  rw [View.read_writes_junk_eq_canon]
  funext x
  refine View.canon_apply_of_pieces (Val := Elt F) (fun y => wc m c ((win0_5.rect t).emb y)) _ ?_ x (cover0_A_5 ..)
  refine List.forall_mem_cons.2 ⟨fun y => ?_, fun _ h => nomatch h⟩
  · have h0 : ((Rect.unit (s := S640x256) ![0, 0] S640x256.size inb_S640x256_S640x256_0_0).emb y 0).val = 0 + (y 0).val := emb_unit_val _ _ _ y 0
    have h1 : ((Rect.unit (s := S640x256) ![0, 0] S640x256.size inb_S640x256_S640x256_0_0).emb y 1).val = 0 + (y 1).val := emb_unit_val _ _ _ y 1
    have hy : (y 0).val < 640 := (y 0).isLt
    show k0_pay1 (View.ld ((ms0_0 t).view.read (Elt F) ((hs0_0 t).unread (iblk m c 0 t)))
        (Rect.unit (s := S640x256) ![0, 0] S640x256.size inb_S640x256_S640x256_0_0)) y = wc m c ((win0_5.rect t).emb ((Rect.unit (s := S640x256) ![0, 0] S640x256.size inb_S640x256_S640x256_0_0).emb y))
    rw [(hs0_0 t).read_unread, View.ld_unit_zero hz, emb5]
    refine Eq.trans (congrArg (FloatOps.truncf .bf16 bitsLt_bf16_f32) ((congrFun (shapeCast_self (iblk m c 0 t) shapeCasts_S640x256_S640x256) y).trans (iblk0 m c t y))) ?_
    refine congrArg (fun i => FloatOps.truncf .bf16 bitsLt_bf16_f32 (wt m c i)) (funext fun a => Fin.ext ?_)
    match a with
    | ⟨0, _⟩ => show (y 0).val = ((Rect.unit (s := S640x256) ![0, 0] S640x256.size inb_S640x256_S640x256_0_0).emb y 0).val; omega
    | ⟨1, _⟩ => show t.val * 256 + (y 1).val = t.val * 256 + ((Rect.unit (s := S640x256) ![0, 0] S640x256.size inb_S640x256_S640x256_0_0).emb y 1).val; omega

/-- Every index of result window 5's array is in the block of the grid point its column names. -/
theorem cover5 (i : S640x1024.Idx) :
    ∃ t : Fin cfg0.N, (cfg0.win 5).flush t = true ∧ i ∈ ((cfg0.win 5).blk t).view.set := by
  have h1 : (i 1).val < 1024 := (i 1).isLt
  have ht : (i 1).val / 256 < grid0.N := lt_of_lt_of_eq (by omega : (i 1).val / 256 < 4) N_0.symm
  refine ⟨⟨(i 1).val / 256, ht⟩, flush0_5 _, ?_⟩
  have h := View.emb_mem_set ((cfg0.win 5).blk ⟨(i 1).val / 256, ht⟩).view (ix2 (i 0) ⟨(i 1).val % 256, by omega⟩ : S640x256.Idx)
  have e : (win0_5.rect ⟨(i 1).val / 256, ht⟩).emb (ix2 (i 0) ⟨(i 1).val % 256, by omega⟩ : S640x256.Idx) = i := by
    rw [emb5]
    refine funext fun a => Fin.ext ?_
    match a with
    | ⟨0, _⟩ => rfl
    | ⟨1, _⟩ => show (i 1).val / 256 * 256 + (i 1).val % 256 = (i 1).val; omega
  change (win0_5.rect ⟨(i 1).val / 256, ht⟩).emb (ix2 (i 0) ⟨(i 1).val % 256, by omega⟩ : S640x256.Idx) ∈ _ at h
  rw [e] at h
  exact h

/-- So result window 5's array ends as `wc`. -/
theorem final5 (c : Dev nD) : (dats m 0 c).arrAt 5 cfg0.N = wc m c :=
  (dats m 0 c).arrAt_eq_of_cover 5 (wc m c) (fun t _ => flushed5 m c t) cover5

/-- What grid point `t` writes back to window 6 is its block of `wpe`. -/
theorem flushed6 (c : Dev nD) (t : Fin cfg0.N) :
    (dats m 0 c).flushed 6 t = ((cfg0.win 6).blk t).view.read (Elt F) (wpe m c) := by
  rw [Value.flushed6_A]
  unfold out0_A_6
  rw [View.read_writes_junk_eq_canon]
  funext x
  refine View.canon_apply_of_pieces (Val := Elt F) (fun y => wpe m c ((win0_6.rect t).emb y)) _ ?_ x (cover0_A_6 ..)
  refine List.forall_mem_cons.2 ⟨fun y => ?_, List.forall_mem_cons.2 ⟨fun y => ?_, fun _ h => nomatch h⟩⟩
  · have h0 : ((Rect.unit (s := S128x256) ![64, 0] S64x256.size inb_S128x256_S64x256_64_0).emb y 0).val = 64 + (y 0).val := emb_unit_val _ _ _ y 0
    have h1 : ((Rect.unit (s := S128x256) ![64, 0] S64x256.size inb_S128x256_S64x256_64_0).emb y 1).val = 0 + (y 1).val := emb_unit_val _ _ _ y 1
    have hy : (y 0).val < 64 := (y 0).isLt
    show Scalar.ofBits .bf16 0x0000#16 = wpe m c ((win0_6.rect t).emb ((Rect.unit (s := S128x256) ![64, 0] S64x256.size inb_S128x256_S64x256_64_0).emb y))
    rw [emb6]
    refine Eq.trans ?_ (dif_neg (by show ¬ ((Rect.unit (s := S128x256) ![64, 0] S64x256.size inb_S128x256_S64x256_64_0).emb y 0).val < 64; omega)).symm
    rfl
  · have h0 : ((Rect.unit (s := S128x256) ![0, 0] S64x256.size inb_S128x256_S64x256_0_0).emb y 0).val = 0 + (y 0).val := emb_unit_val _ _ _ y 0
    have h1 : ((Rect.unit (s := S128x256) ![0, 0] S64x256.size inb_S128x256_S64x256_0_0).emb y 1).val = 0 + (y 1).val := emb_unit_val _ _ _ y 1
    have hy : (y 0).val < 64 := (y 0).isLt
    show k0_pay2 (View.ld ((ms0_1 t).view.read (Elt F) ((hs0_1 t).unread (iblk m c 1 t)))
        (Rect.unit (s := S64x256) ![0, 0] S64x256.size inb_S64x256_S64x256_0_0)) y = wpe m c ((win0_6.rect t).emb ((Rect.unit (s := S128x256) ![0, 0] S64x256.size inb_S128x256_S64x256_0_0).emb y))
    rw [(hs0_1 t).read_unread, View.ld_unit_zero hz, emb6]
    refine Eq.trans (congrArg (FloatOps.truncf .bf16 bitsLt_bf16_f32) ((congrFun (shapeCast_self (iblk m c 1 t) shapeCasts_S64x256_S64x256) y).trans (iblk1 m c t y))) ?_
    refine Eq.trans ?_ (dif_pos (by show ((Rect.unit (s := S128x256) ![0, 0] S64x256.size inb_S128x256_S64x256_0_0).emb y 0).val < 64; omega)).symm
    refine congrArg (fun i => FloatOps.truncf .bf16 bitsLt_bf16_f32 (wt m c i)) (funext fun a => Fin.ext ?_)
    match a with
    | ⟨0, _⟩ => show 640 + (y 0).val = 640 + ((Rect.unit (s := S128x256) ![0, 0] S64x256.size inb_S128x256_S64x256_0_0).emb y 0).val; omega
    | ⟨1, _⟩ => show t.val * 256 + (y 1).val = t.val * 256 + ((Rect.unit (s := S128x256) ![0, 0] S64x256.size inb_S128x256_S64x256_0_0).emb y 1).val; omega

/-- Every index of result window 6's array is in the block of the grid point its column names. -/
theorem cover6 (i : S128x1024.Idx) :
    ∃ t : Fin cfg0.N, (cfg0.win 6).flush t = true ∧ i ∈ ((cfg0.win 6).blk t).view.set := by
  have h1 : (i 1).val < 1024 := (i 1).isLt
  have ht : (i 1).val / 256 < grid0.N := lt_of_lt_of_eq (by omega : (i 1).val / 256 < 4) N_0.symm
  refine ⟨⟨(i 1).val / 256, ht⟩, flush0_6 _, ?_⟩
  have h := View.emb_mem_set ((cfg0.win 6).blk ⟨(i 1).val / 256, ht⟩).view (ix2 (i 0) ⟨(i 1).val % 256, by omega⟩ : S128x256.Idx)
  have e : (win0_6.rect ⟨(i 1).val / 256, ht⟩).emb (ix2 (i 0) ⟨(i 1).val % 256, by omega⟩ : S128x256.Idx) = i := by
    rw [emb6]
    refine funext fun a => Fin.ext ?_
    match a with
    | ⟨0, _⟩ => rfl
    | ⟨1, _⟩ => show (i 1).val / 256 * 256 + (i 1).val % 256 = (i 1).val; omega
  change (win0_6.rect ⟨(i 1).val / 256, ht⟩).emb (ix2 (i 0) ⟨(i 1).val % 256, by omega⟩ : S128x256.Idx) ∈ _ at h
  rw [e] at h
  exact h

/-- So result window 6's array ends as `wpe`. -/
theorem final6 (c : Dev nD) : (dats m 0 c).arrAt 6 cfg0.N = wpe m c :=
  (dats m 0 c).arrAt_eq_of_cover 6 (wpe m c) (fun t _ => flushed6 m c t) cover6

/-- What grid point `t` writes back to window 7 is its block of `wret`. -/
theorem flushed7 (c : Dev nD) (t : Fin cfg0.N) :
    (dats m 0 c).flushed 7 t = ((cfg0.win 7).blk t).view.read (Elt F) (wret m c) := by
  rw [Value.flushed7_A]
  unfold out0_A_7
  rw [View.read_writes_junk_eq_canon]
  funext x
  refine View.canon_apply_of_pieces (Val := Elt F) (fun y => wret m c ((win0_7.rect t).emb y)) _ ?_ x (cover0_A_7 ..)
  refine List.forall_mem_cons.2 ⟨fun y => ?_, fun _ h => nomatch h⟩
  · have h0 : ((Rect.unit (s := S6144x256) ![0, 0] S6144x256.size inb_S6144x256_S6144x256_0_0).emb y 0).val = 0 + (y 0).val := emb_unit_val _ _ _ y 0
    have h1 : ((Rect.unit (s := S6144x256) ![0, 0] S6144x256.size inb_S6144x256_S6144x256_0_0).emb y 1).val = 0 + (y 1).val := emb_unit_val _ _ _ y 1
    have hy : (y 0).val < 6144 := (y 0).isLt
    show k0_pay4 (View.ld ((ms0_3 t).view.read (Elt F) ((hs0_3 t).unread (iblk m c 3 t)))
        (Rect.unit (s := S6144x256) ![0, 0] S6144x256.size inb_S6144x256_S6144x256_0_0)) y = wret m c ((win0_7.rect t).emb ((Rect.unit (s := S6144x256) ![0, 0] S6144x256.size inb_S6144x256_S6144x256_0_0).emb y))
    rw [(hs0_3 t).read_unread, View.ld_unit_zero hz, emb7]
    refine Eq.trans (congrArg (FloatOps.truncf .bf16 bitsLt_bf16_f32) ((congrFun (shapeCast_self (iblk m c 3 t) shapeCasts_S6144x256_S6144x256) y).trans (iblk3 m c t y))) ?_
    refine congrArg (fun i => FloatOps.truncf .bf16 bitsLt_bf16_f32 (wt m c i)) (funext fun a => Fin.ext ?_)
    match a with
    | ⟨0, _⟩ => show 1728 + (y 0).val = 1728 + ((Rect.unit (s := S6144x256) ![0, 0] S6144x256.size inb_S6144x256_S6144x256_0_0).emb y 0).val; omega
    | ⟨1, _⟩ => show t.val * 256 + (y 1).val = t.val * 256 + ((Rect.unit (s := S6144x256) ![0, 0] S6144x256.size inb_S6144x256_S6144x256_0_0).emb y 1).val; omega

/-- Every index of result window 7's array is in the block of the grid point its column names. -/
theorem cover7 (i : S6144x1024.Idx) :
    ∃ t : Fin cfg0.N, (cfg0.win 7).flush t = true ∧ i ∈ ((cfg0.win 7).blk t).view.set := by
  have h1 : (i 1).val < 1024 := (i 1).isLt
  have ht : (i 1).val / 256 < grid0.N := lt_of_lt_of_eq (by omega : (i 1).val / 256 < 4) N_0.symm
  refine ⟨⟨(i 1).val / 256, ht⟩, flush0_7 _, ?_⟩
  have h := View.emb_mem_set ((cfg0.win 7).blk ⟨(i 1).val / 256, ht⟩).view (ix2 (i 0) ⟨(i 1).val % 256, by omega⟩ : S6144x256.Idx)
  have e : (win0_7.rect ⟨(i 1).val / 256, ht⟩).emb (ix2 (i 0) ⟨(i 1).val % 256, by omega⟩ : S6144x256.Idx) = i := by
    rw [emb7]
    refine funext fun a => Fin.ext ?_
    match a with
    | ⟨0, _⟩ => rfl
    | ⟨1, _⟩ => show (i 1).val / 256 * 256 + (i 1).val % 256 = (i 1).val; omega
  change (win0_7.rect ⟨(i 1).val / 256, ht⟩).emb (ix2 (i 0) ⟨(i 1).val % 256, by omega⟩ : S6144x256.Idx) ∈ _ at h
  rw [e] at h
  exact h

/-- So result window 7's array ends as `wret`. -/
theorem final7 (c : Dev nD) : (dats m 0 c).arrAt 7 cfg0.N = wret m c :=
  (dats m 0 c).arrAt_eq_of_cover 7 (wret m c) (fun t _ => flushed7 m c t) cover7

/-- What grid point `t` writes back to window 8 is its block of `wg`. -/
theorem flushed8 (c : Dev nD) (t : Fin cfg0.N) :
    (dats m 0 c).flushed 8 t = ((cfg0.win 8).blk t).view.read (Elt F) (wg m c) := by
  rw [Value.flushed8_A]
  unfold out0_A_8
  rw [View.read_writes_junk_eq_canon]
  funext x
  refine View.canon_apply_of_pieces (Val := Elt F) (fun y => wg m c ((win0_8.rect t).emb y)) _ ?_ x (cover0_A_8 ..)
  refine List.forall_mem_cons.2 ⟨fun y => ?_, List.forall_mem_cons.2 ⟨fun y => ?_, fun _ h => nomatch h⟩⟩
  · have h0 : ((Rect.unit (s := S3072x256) ![1024, 0] S2048x256.size inb_S3072x256_S2048x256_1024_0).emb y 0).val = 1024 + (y 0).val := emb_unit_val _ _ _ y 0
    have h1 : ((Rect.unit (s := S3072x256) ![1024, 0] S2048x256.size inb_S3072x256_S2048x256_1024_0).emb y 1).val = 0 + (y 1).val := emb_unit_val _ _ _ y 1
    have hy : (y 0).val < 2048 := (y 0).isLt
    show k0_pay6 (View.ld ((ms0_4 t).view.read (Elt F) ((hs0_4 t).unread (iblk m c 4 t)))
        (Rect.unit (s := S2048x256) ![0, 0] S2048x256.size inb_S2048x256_S2048x256_0_0)) y = wg m c ((win0_8.rect t).emb ((Rect.unit (s := S3072x256) ![1024, 0] S2048x256.size inb_S3072x256_S2048x256_1024_0).emb y))
    rw [(hs0_4 t).read_unread, View.ld_unit_zero hz, emb8]
    refine Eq.trans (congrArg (FloatOps.truncf .bf16 bitsLt_bf16_f32) ((congrFun (shapeCast_self (iblk m c 4 t) shapeCasts_S2048x256_S2048x256) y).trans (iblk4 m c t y))) ?_
    refine Eq.trans ?_ (dif_neg (by show ¬ ((Rect.unit (s := S3072x256) ![1024, 0] S2048x256.size inb_S3072x256_S2048x256_1024_0).emb y 0).val < 1024; omega)).symm
    refine congrArg (fun i => FloatOps.truncf .bf16 bitsLt_bf16_f32 (wt m c i)) (funext fun a => Fin.ext ?_)
    match a with
    | ⟨0, _⟩ => show 7872 + (y 0).val = 6848 + ((Rect.unit (s := S3072x256) ![1024, 0] S2048x256.size inb_S3072x256_S2048x256_1024_0).emb y 0).val; omega
    | ⟨1, _⟩ => show t.val * 256 + (y 1).val = t.val * 256 + ((Rect.unit (s := S3072x256) ![1024, 0] S2048x256.size inb_S3072x256_S2048x256_1024_0).emb y 1).val; omega
  · have h0 : ((Rect.unit (s := S3072x256) ![0, 0] S1024x256.size inb_S3072x256_S1024x256_0_0).emb y 0).val = 0 + (y 0).val := emb_unit_val _ _ _ y 0
    have h1 : ((Rect.unit (s := S3072x256) ![0, 0] S1024x256.size inb_S3072x256_S1024x256_0_0).emb y 1).val = 0 + (y 1).val := emb_unit_val _ _ _ y 1
    have hy : (y 0).val < 1024 := (y 0).isLt
    show k0_pay5 (View.ld ((ms0_2 t).view.read (Elt F) ((hs0_2 t).unread (iblk m c 2 t)))
        (Rect.unit (s := S1024x256) ![0, 0] S1024x256.size inb_S1024x256_S1024x256_0_0)) y = wg m c ((win0_8.rect t).emb ((Rect.unit (s := S3072x256) ![0, 0] S1024x256.size inb_S3072x256_S1024x256_0_0).emb y))
    rw [(hs0_2 t).read_unread, View.ld_unit_zero hz, emb8]
    refine Eq.trans (congrArg (FloatOps.truncf .bf16 bitsLt_bf16_f32) ((congrFun (shapeCast_self (iblk m c 2 t) shapeCasts_S1024x256_S1024x256) y).trans (iblk2 m c t y))) ?_
    refine Eq.trans ?_ (dif_pos (by show ((Rect.unit (s := S3072x256) ![0, 0] S1024x256.size inb_S3072x256_S1024x256_0_0).emb y 0).val < 1024; omega)).symm
    refine congrArg (fun i => FloatOps.truncf .bf16 bitsLt_bf16_f32 (wt m c i)) (funext fun a => Fin.ext ?_)
    match a with
    | ⟨0, _⟩ => show 704 + (y 0).val = 704 + ((Rect.unit (s := S3072x256) ![0, 0] S1024x256.size inb_S3072x256_S1024x256_0_0).emb y 0).val; omega
    | ⟨1, _⟩ => show t.val * 256 + (y 1).val = t.val * 256 + ((Rect.unit (s := S3072x256) ![0, 0] S1024x256.size inb_S3072x256_S1024x256_0_0).emb y 1).val; omega

/-- Every index of result window 8's array is in the block of the grid point its column names. -/
theorem cover8 (i : S3072x1024.Idx) :
    ∃ t : Fin cfg0.N, (cfg0.win 8).flush t = true ∧ i ∈ ((cfg0.win 8).blk t).view.set := by
  have h1 : (i 1).val < 1024 := (i 1).isLt
  have ht : (i 1).val / 256 < grid0.N := lt_of_lt_of_eq (by omega : (i 1).val / 256 < 4) N_0.symm
  refine ⟨⟨(i 1).val / 256, ht⟩, flush0_8 _, ?_⟩
  have h := View.emb_mem_set ((cfg0.win 8).blk ⟨(i 1).val / 256, ht⟩).view (ix2 (i 0) ⟨(i 1).val % 256, by omega⟩ : S3072x256.Idx)
  have e : (win0_8.rect ⟨(i 1).val / 256, ht⟩).emb (ix2 (i 0) ⟨(i 1).val % 256, by omega⟩ : S3072x256.Idx) = i := by
    rw [emb8]
    refine funext fun a => Fin.ext ?_
    match a with
    | ⟨0, _⟩ => rfl
    | ⟨1, _⟩ => show (i 1).val / 256 * 256 + (i 1).val % 256 = (i 1).val; omega
  change (win0_8.rect ⟨(i 1).val / 256, ht⟩).emb (ix2 (i 0) ⟨(i 1).val % 256, by omega⟩ : S3072x256.Idx) ∈ _ at h
  rw [e] at h
  exact h

/-- So result window 8's array ends as `wg`. -/
theorem final8 (c : Dev nD) : (dats m 0 c).arrAt 8 cfg0.N = wg m c :=
  (dats m 0 c).arrAt_eq_of_cover 8 (wg m c) (fun t _ => flushed8 m c t) cover8

end Cert.KernelIdeal.Repack
end
-- ==== Proof.Repack.Equation.lean ====
/-
  The weight-repacking call against its reference. `Blocks.lean` gives the four result arrays as rows of the transposed
  weight, cast; here the transposed weight is read from the argument, the reference's four results are read at an index,
  and the two sides agree at every index, over any instance of the float operations.
-/
module

public import proofs.«01_k».proof.Proof.Repack.Blocks
public import proofs.«01_k».proof.Proof.Gen.ReferenceIdeal.Read

@[expose] public section

set_option maxRecDepth 16384

noncomputable section

namespace Cert.ReferenceIdeal.Repack

open Cert.ReferenceIdeal Cert.ReferenceIdeal.Gen Idealize.ShloMosaic Idealize.ShloMosaic.TcCoe Idealize.SL.Sem

variable {F : FTy → Type} [FloatOps F]
variable (x : S1x1024x9920.Idx → F .f32)

/-- The reference's first result at an index. -/
theorem wc_apply (i : S640x1024.Idx) : Read.val_main_v3 (F := F) x i =
    FloatOps.truncf .bf16 bitsLt_bf16_f32 (x (ix3 0 (i 1) ⟨(i 0).val, by have : (i 0).val < 640 := (i 0).isLt; omega⟩)) := by
  rw [← Read.val_main_v3_eq]
  pointwise

/-- The reference's second result at an index. -/
theorem wpe_apply (i : S128x1024.Idx) : Read.val_main_v8 (F := F) x i = if h : (i 0).val < 64 then
      FloatOps.truncf .bf16 bitsLt_bf16_f32 (x (ix3 0 (i 1) ⟨640 + (i 0).val, by omega⟩))
    else Scalar.ofBits .bf16 0x0000#16 := by
  rw [← Read.val_main_v8_eq]
  pointwise

/-- The reference's third result at an index. -/
theorem wret_apply (i : S6144x1024.Idx) : Read.val_main_v11 (F := F) x i =
    FloatOps.truncf .bf16 bitsLt_bf16_f32 (x (ix3 0 (i 1) ⟨1728 + (i 0).val, by have : (i 0).val < 6144 := (i 0).isLt; omega⟩)) := by
  rw [← Read.val_main_v11_eq]
  pointwise

/-- The reference's fourth result at an index. -/
theorem wg_apply (i : S3072x1024.Idx) : Read.val_main_v17 (F := F) x i = if h : (i 0).val < 1024 then
      FloatOps.truncf .bf16 bitsLt_bf16_f32 (x (ix3 0 (i 1) ⟨704 + (i 0).val, by omega⟩))
    else FloatOps.truncf .bf16 bitsLt_bf16_f32 (x (ix3 0 (i 1) ⟨6848 + (i 0).val, by have : (i 0).val < 3072 := (i 0).isLt; omega⟩)) := by
  rw [← Read.val_main_v17_eq]
  pointwise
  split
  · rfl
  · rename_i h
    have e : 7872 + ((i 0).val - 1024) = 6848 + (i 0).val := by have : ¬ (i 0).val < 1024 := h; omega
    simp only [e]

end Cert.ReferenceIdeal.Repack

namespace Cert.KernelIdeal.Repack

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The argument, the layer's input projection weight. -/
abbrev arg (c : Dev nD) : S1x1024x9920.Idx → F .f32 := m ((c : Thread nD τ).loc main_arg0)

/-- The transposed weight, from the argument. -/
theorem wt_eq (c : Dev nD) : wt m c = transpose S9920x1024 [1, 0]
    (shapeCast S1024x9920 (arg m c) shapeCasts_S1x1024x9920_S1024x9920)
    transposes_S1024x9920_S9920x1024_1_0 := by
  show StableHlo.after hostOps0 (fun b => m (c, b)) main_v1 = _
  simp only [hostOps0]
  after_results <;> rfl

/-- Row `r`, column `k` of the transposed weight is row `k`, column `r` of the argument. -/
theorem wt_apply (c : Dev nD) (r : Fin 9920) (k : Fin 1024) : wt m c (ix2 r k) = arg m c (ix3 0 k r) := by
  rw [wt_eq, transpose_apply _ _ _ _ (ix2 k r) (fun b => by match b with | ⟨0, _⟩ => rfl | ⟨1, _⟩ => rfl)]
  refine shapeCast_apply _ _ _ _ ?_
  rw [Shape.rowMajor_val_three, Shape.rowMajor_val_two]
  show (0 * 1024 + k.val) * 9920 + r.val = k.val * 9920 + r.val
  omega

/-- The four arrays the call leaves are the reference's four results. -/
theorem wc_eq (c : Dev nD) : wc m c = Cert.ReferenceIdeal.Read.val_main_v3 (arg m c) := by
  funext i
  rw [Cert.ReferenceIdeal.Repack.wc_apply]
  exact congrArg _ (wt_apply m c _ _)

theorem wpe_eq (c : Dev nD) : wpe m c = Cert.ReferenceIdeal.Read.val_main_v8 (arg m c) := by
  funext i
  rw [Cert.ReferenceIdeal.Repack.wpe_apply]
  unfold wpe
  split
  · exact congrArg _ (wt_apply m c _ _)
  · rfl

theorem wret_eq (c : Dev nD) : wret m c = Cert.ReferenceIdeal.Read.val_main_v11 (arg m c) := by
  funext i
  rw [Cert.ReferenceIdeal.Repack.wret_apply]
  exact congrArg _ (wt_apply m c _ _)

theorem wg_eq (c : Dev nD) : wg m c = Cert.ReferenceIdeal.Read.val_main_v17 (arg m c) := by
  funext i
  rw [Cert.ReferenceIdeal.Repack.wg_apply]
  unfold wg
  split
  · exact congrArg _ (wt_apply m c _ _)
  · exact congrArg _ (wt_apply m c _ _)

/-- The call runs, its four results end as the reference's values of the argument, and the argument is unchanged. -/
theorem run : θ_run defs (onTc (τ := τ) (main (F := F))) ⟨m, fun _ => 0, ρ⟩ fun r => ∀ c : Dev nD,
      r.2.mem ((c : Thread nD τ).loc main_v2_0) = Cert.ReferenceIdeal.Read.val_main_v3 (arg m c)
      ∧ r.2.mem ((c : Thread nD τ).loc main_v2_1) = Cert.ReferenceIdeal.Read.val_main_v8 (arg m c)
      ∧ r.2.mem ((c : Thread nD τ).loc main_v2_2) = Cert.ReferenceIdeal.Read.val_main_v11 (arg m c)
      ∧ r.2.mem ((c : Thread nD τ).loc main_v2_3) = Cert.ReferenceIdeal.Read.val_main_v17 (arg m c)
      ∧ r.2.mem ((c : Thread nD τ).loc main_arg0) = m ((c : Thread nD τ).loc main_arg0) :=
  (θ_run defs _ _).mono (fun r h c => ⟨(h c).1.trans ((final5 m c).trans (wc_eq m c)),
      (h c).2.1.trans ((final6 m c).trans (wpe_eq m c)), (h c).2.2.1.trans ((final7 m c).trans (wret_eq m c)),
      (h c).2.2.2.1.trans ((final8 m c).trans (wg_eq m c)), (h c).2.2.2.2⟩)
    (Value.run_blocks m ρ)

end Cert.KernelIdeal.Repack
end
-- ==== Proof.Repack.Claims.lean ====
/-
  The claims about the weight-repacking call, assembled from its run (`Equation.lean`) and the reference's.
-/
module

public import proofs.«01_k».proof.Defs
public import proofs.«01_k».proof.Proof.Repack.Equation
public import proofs.«01_k».proof.Proof.Gen.Kernel
public import proofs.«01_k».proof.Proof.Gen.Kernel.Frame
public import proofs.«01_k».proof.Proof.Gen.Reference
public import proofs.«01_k».proof.Proof.Gen.Reference.Run
public import proofs.«01_k».proof.Proof.Gen.ReferenceIdeal.Run
public import Idealize.ShloMosaic.Lib.Quiescent

@[expose] public section

set_option maxRecDepth 16384

noncomputable section

namespace Cert.Proof.Repack

open Idealize.ShloMosaic Idealize.ShloMosaic.TcCoe Idealize.SL.Sem

/-- The call runs at the bit instance, leaves its argument as it was and every counter at zero. -/
theorem frame_kernel : Cert.quiescent_Kernel := fun m ρ _ => Cert.Kernel.Gen.frame m ρ

/-- The same at the ideal instance. -/
theorem frame_ideal : Cert.quiescent_KernelIdeal := fun m ρ _ => Cert.KernelIdeal.Gen.frame m ρ

/-- The idealized reference runs, leaves its argument as it was and every counter at zero. -/
theorem frame_refIdeal : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The reference runs, leaves its argument as it was and every counter at zero. -/
theorem frame_ref : Cert.quiescent_Reference := fun m ρ _ =>
  (θ_run Cert.Reference.defs _ _).mono (fun r h => ⟨fun c => (h c).2.2.2.2,
      Idealize.ShloMosaic.sem_eq_zero_of_no_sems (by decide) r.2⟩)
    (Cert.Reference.Value.run (F := Bits) m ρ)

/-- Over the extended reals the call's four results are the reference's. -/
theorem algebraic : Cert.algebraic_KernelIdeal_ReferenceIdeal := by
  intro m ρ m' ρ' _ hagree
  refine ⟨fun c => Cert.ReferenceIdeal.Read.val_main_v3 (Cert.KernelIdeal.Repack.arg m c),
    fun c => Cert.ReferenceIdeal.Read.val_main_v8 (Cert.KernelIdeal.Repack.arg m c),
    fun c => Cert.ReferenceIdeal.Read.val_main_v11 (Cert.KernelIdeal.Repack.arg m c),
    fun c => Cert.ReferenceIdeal.Read.val_main_v17 (Cert.KernelIdeal.Repack.arg m c), Cert.KernelIdeal.Repack.run m ρ, ?_⟩
  refine (θ_run Cert.ReferenceIdeal.defs _ _).mono (fun r h c => ?_) (Cert.ReferenceIdeal.Value.run (F := Ideal) m' ρ')
  have e : Cert.KernelIdeal.Repack.arg m c = m' ((c.tc : Thread Cert.ReferenceIdeal.nD Cert.ReferenceIdeal.τ).loc Cert.ReferenceIdeal.main_arg0) :=
    (hagree c).symm
  dsimp only
  rw [e]
  exact h c

/-- The two printings of the call have one body table. -/
theorem defs₀_eq : (Cert.KernelIdeal.defs₀ (F := Bits)) = Cert.Kernel.defs₀ (F := Bits) := by
  delta Cert.KernelIdeal.defs₀ Cert.Kernel.defs₀
  refine congrArg Defs.onTc (funext fun l => funext fun x => ?_)
  match l, x with
  | ⟨0, _⟩, (t, s) => rfl

/-- … and one table of programs. -/
theorem defs_eq : (Cert.KernelIdeal.defs (F := Bits)) = Cert.Kernel.defs (F := Bits) :=
  congrArg (Idealize.ShloMosaic.Pipeline.defs (Cert.Kernel.pcfgs (F := Bits))) defs₀_eq

/-- Word by word the call's four results are the reference's. -/
theorem bitexact : Cert.bitexact_Kernel_Reference := by
  intro m ρ m' ρ' _ hagree
  have hrun := Cert.KernelIdeal.Repack.run (F := Bits) m ρ
  rw [defs_eq] at hrun
  refine ⟨fun c => Cert.ReferenceIdeal.Read.val_main_v3 (Cert.KernelIdeal.Repack.arg (F := Bits) m c),
    fun c => Cert.ReferenceIdeal.Read.val_main_v8 (Cert.KernelIdeal.Repack.arg (F := Bits) m c),
    fun c => Cert.ReferenceIdeal.Read.val_main_v11 (Cert.KernelIdeal.Repack.arg (F := Bits) m c),
    fun c => Cert.ReferenceIdeal.Read.val_main_v17 (Cert.KernelIdeal.Repack.arg (F := Bits) m c),
    hrun, ?_⟩
  refine (θ_run Cert.Reference.defs _ _).mono (fun r h c => ?_) (Cert.Reference.Value.run (F := Bits) m' ρ')
  have e : Cert.KernelIdeal.Repack.arg (F := Bits) m c = m' ((c.tc : Thread Cert.Reference.nD Cert.Reference.τ).loc Cert.Reference.main_arg0) :=
    (hagree c).symm
  dsimp only
  rw [e]
  exact h c

end Cert.Proof.Repack

end
-- ==== Proof.Attention.Rules.lean ====
/- Loads and stores on buffers held whole: what a load of a box reads, and what a store of a box leaves,
   stated of the arrays the buffers hold. -/
module

public import proofs.«01_k».proof.Proof.Gen.Kernel2Ideal.Frame
public import Idealize.ShloMosaic.Lib.VecWindow

@[expose] public section

noncomputable section

namespace Cert.Kernel2Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {defs : Defs nD τ sig (Elt F) Λ₀} (𝒱 : Variants) (c : Dev nD) (bd : Option 𝒱.V) (E : Set ℕ)
variable {s : Shape} {e : EltTy} {α : Type}

/-- A load of a box reads the window of the array there. -/
theorem wp_ld {Φ : α → sProp 𝕄} {m : Memref sig .tc .vmem s e} {off size : Fin s.rank → ℕ} {inb : ∀ a, off a + size a ≤ s.size a}
    {hl : m.view.LoadsAt (Rect.unit off size inb).toLoadRect}
    {k : ((Rect.unit off size inb).shape.Idx → Elt F e) → Prog (TpuEff nD τ sig (Elt F) Λ₀ .tc) α} {X : s.Idx → Elt F e} :
    (owns (c : Thread nD τ) m fullShare X : sProp 𝕄)
      ⊢ iprop((owns (c : Thread nD τ) m fullShare X -∗
            wp frame (wpE defs 𝒱 (c : Thread nD τ) bd) E (k (VecWindow.window X off size inb)) Φ)
        -∗ wp frame (wpE defs 𝒱 (c : Thread nD τ) bd) E (Prog.lift (.load m (Rect.unit off size inb).toLoadRect hl) >>= k) Φ) := by
  unfold owns
  iintro ⟨%f, %hf, H⟩ HK
  have e1 : m.view.readAt (Elt F) (Rect.unit off size inb).toLoadRect f = VecWindow.window X off size inb := by
    rw [← hf]; rfl
  iapply (wp_load 𝒱 (c : Thread nD τ) bd E (m := m) (r := (Rect.unit off size inb).toLoadRect) (hl := hl) (k := k) (S := m.view.set) (f := f) (Q := Φ) (by
    exact Finset.map_subset_map.mpr (Finset.subset_univ _))) $$ H
  iintro H
  rw [e1]
  iapply HK
  iexists f
  isplitr
  · ipureintro; exact hf
  · iexact H

/-- A store of a box puts the payload over the array there. -/
theorem wp_st {Φ : α → sProp 𝕄} {m : Memref sig .tc .vmem s e} {off size : Fin s.rank → ℕ} {inb : ∀ a, off a + size a ≤ s.size a}
    {w : (Rect.unit off size inb).shape.Idx → Elt F e}
    {hx : (m.access (Rect.unit off size inb)).Stores Finset.univ} {hm : Finset.univ = Finset.univ ∨ ∀ a, (Rect.unit off size inb).stride a = 1}
    {k : PUnit → Prog (TpuEff nD τ sig (Elt F) Λ₀ .tc) α} {X : s.Idx → Elt F e} :
    (owns (c : Thread nD τ) m fullShare X : sProp 𝕄)
      ⊢ iprop((owns (c : Thread nD τ) m fullShare (VecWindow.put X off size w) -∗
            wp frame (wpE defs 𝒱 (c : Thread nD τ) bd) E (k ⟨⟩) Φ)
        -∗ wp frame (wpE defs 𝒱 (c : Thread nD τ) bd) E (Prog.lift (.store m (Rect.unit off size inb) w Finset.univ hx hm) >>= k) Φ) := by
  unfold owns
  iintro ⟨%f, %hf, H⟩ HK
  have e1 : m.view.read (Elt F) (m.view.writes (Elt F) f [⟨Rect.unit off size inb, w⟩]) = VecWindow.put X off size w := by
    rw [View.read_writes_cons_put m.view f inb w [] rfl, View.writes_nil, hf]
  iapply (wp_store_writes₀ 𝒱 (c : Thread nD τ) bd E (m := m) (r := Rect.unit off size inb) (w := w) (hx := hx) (hm := hm) (k := k) (S := m.view.set) (f := f) (Q := Φ)
    (View.set_slice_subset _ _)) $$ H
  iintro H
  iapply HK
  iexists _
  isplitr
  · ipureintro; exact e1
  · iexact H

/-- The window of an array's own sizes is the array. -/
theorem window_full {s : Shape} {α : Type} (X : s.Idx → α) {off : Fin s.rank → ℕ} (inb : ∀ a, off a + s.size a ≤ s.size a) :
    VecWindow.window X off s.size inb = X := by
  funext y
  exact congrArg X (funext fun a => Fin.ext (by
    show off a + 1 * (y a).val = (y a).val
    have := inb a; omega))

/-- A store of an array's own sizes leaves the payload. -/
theorem put_full {s : Shape} {α : Type} (X : s.Idx → α) {off : Fin s.rank → ℕ} (inb : ∀ a, off a + s.size a ≤ s.size a)
    (w : (Rect.unit off s.size inb).shape.Idx → α) : VecWindow.put X off s.size w = w := by
  funext y
  have h : ∀ a, off a ≤ (y a).val ∧ (y a).val < off a + s.size a := fun a => by
    have := inb a; have := (y a).isLt; omega
  unfold VecWindow.put
  rw [dif_pos h]
  exact congrArg w (funext fun a => Fin.ext (by
    show (y a).val - off a = (y a).val
    have := inb a; omega))

/-- A load of the whole array reads it. -/
theorem wp_ldf {Φ : α → sProp 𝕄} {m : Memref sig .tc .vmem s e} {off : Fin s.rank → ℕ} {inb : ∀ a, off a + s.size a ≤ s.size a}
    {hl : m.view.LoadsAt (Rect.unit off s.size inb).toLoadRect}
    {k : ((Rect.unit off s.size inb).shape.Idx → Elt F e) → Prog (TpuEff nD τ sig (Elt F) Λ₀ .tc) α} {X : s.Idx → Elt F e} :
    (owns (c : Thread nD τ) m fullShare X : sProp 𝕄)
      ⊢ iprop((owns (c : Thread nD τ) m fullShare X -∗
            wp frame (wpE defs 𝒱 (c : Thread nD τ) bd) E (k X) Φ)
        -∗ wp frame (wpE defs 𝒱 (c : Thread nD τ) bd) E (Prog.lift (.load m (Rect.unit off s.size inb).toLoadRect hl) >>= k) Φ) := by
  have h := wp_ld (defs := defs) 𝒱 c bd E (Φ := Φ) (m := m) (inb := inb) (hl := hl) (k := k) (X := X)
  rw [window_full] at h
  exact h

/-- A store of the whole array leaves the payload. -/
theorem wp_stf {Φ : α → sProp 𝕄} {m : Memref sig .tc .vmem s e} {off : Fin s.rank → ℕ} {inb : ∀ a, off a + s.size a ≤ s.size a}
    {w : (Rect.unit off s.size inb).shape.Idx → Elt F e}
    {hx : (m.access (Rect.unit off s.size inb)).Stores Finset.univ} {hm : Finset.univ = Finset.univ ∨ ∀ a, (Rect.unit off s.size inb).stride a = 1}
    {k : PUnit → Prog (TpuEff nD τ sig (Elt F) Λ₀ .tc) α} {X : s.Idx → Elt F e} :
    (owns (c : Thread nD τ) m fullShare X : sProp 𝕄)
      ⊢ iprop((owns (c : Thread nD τ) m fullShare (w : s.Idx → Elt F e) -∗
            wp frame (wpE defs 𝒱 (c : Thread nD τ) bd) E (k ⟨⟩) Φ)
        -∗ wp frame (wpE defs 𝒱 (c : Thread nD τ) bd) E (Prog.lift (.store m (Rect.unit off s.size inb) w Finset.univ hx hm) >>= k) Φ) := by
  have h := wp_st (defs := defs) 𝒱 c bd E (Φ := Φ) (m := m) (inb := inb) (w := w) (hx := hx) (hm := hm) (k := k) (X := X)
  rw [put_full X inb w] at h
  exact h

end Cert.Kernel2Ideal.Attn

end
-- ==== Proof.Attention.Stages.lean ====
/- The attention kernel's body as a sequence of stages over fifteen buffers: the scores of a key block, the
   running softmax, the values, the diagonal block and the output. -/
module

public import proofs.«01_k».proof.Proof.Attention.Rules
public import proofs.«01_k».proof.Proof.Gen.Kernel2Ideal.Skeleton

@[expose] public section

set_option maxRecDepth 16384

noncomputable section

namespace Cert.Kernel2Ideal.Attn

open Cert.Kernel2Ideal Cert.Kernel2Ideal.Gen
open Idealize.ShloMosaic Idealize.ShloMosaic.TcCoe
open Idealize.SL.Sem

variable {F : FTy → Type} [FloatOps F] [Named F]

/-- The buffers the body works on: the queries, the next point's queries, the keys and the values (transposed, with
    rows of ones), the output block, the running maximum, the accumulator, and two slots of scores, column
    maxima, weights and rescaling factors. -/
structure Bf where
  q : Memref sig .tc .vmem S1x256x1024 .bf16
  qn : Memref sig .tc .vmem S1x256x1024 .bf16
  k : Memref sig .tc .vmem S1x16x1024x256 .bf16
  v : Memref sig .tc .vmem S1x16x144x1024 .bf16
  o : Memref sig .tc .vmem S1024x128 .bf16
  m : Memref sig .tc .vmem S1x1024 .f32
  acc : Memref sig .tc .vmem S144x1024 .f32
  s0 : Memref sig .tc .vmem S1024x1024 .f32
  s1 : Memref sig .tc .vmem S1024x1024 .f32
  c0 : Memref sig .tc .vmem S1x1024 .f32
  c1 : Memref sig .tc .vmem S1x1024 .f32
  p0 : Memref sig .tc .vmem S1024x1024 .bf16
  p1 : Memref sig .tc .vmem S1024x1024 .bf16
  a0 : Memref sig .tc .vmem S1x1024 .f32
  a1 : Memref sig .tc .vmem S1x1024 .f32
  ho : o.IsWhole
  hp0 : p0.IsWhole
  hp1 : p1.IsWhole

/-- The two slots exchanged. -/
@[reducible] def Bf.swap (B : Bf) : Bf :=
  ⟨B.q, B.qn, B.k, B.v, B.o, B.m, B.acc, B.s1, B.s0, B.c1, B.c0, B.p1, B.p0, B.a1, B.a0, B.ho, B.hp1, B.hp0⟩

/-- The running maximum starts at the mask's value, the accumulator at zero. -/
def stInit (B : Bf)  : Prog (TpuEff nD τ sig (Elt F) Λ₀ .tc) PUnit := do
  let _ ← Prog.lift (.load B.m (Rect.unit (s := S1x1024) ![0, 0] S1x1024.size inb_S1x1024_S1x1024_0_0).toLoadRect (View.loadsAt_vmem h_S1x1024))
  Prog.lift (.store B.m (Rect.unit (s := S1x1024) ![0, 0] S1x1024.size inb_S1x1024_S1x1024_0_0) (k0_pay298 (F := F)) Finset.univ (View.stores_vmem_bits_univ h_S1x1024 rfl) (.inl rfl))
  let _ ← Prog.lift (.load B.acc (Rect.unit (s := S144x1024) ![0, 0] S144x1024.size inb_S144x1024_S144x1024_0_0).toLoadRect (View.loadsAt_vmem h_S144x1024))
  Prog.lift (.store B.acc (Rect.unit (s := S144x1024) ![0, 0] S144x1024.size inb_S144x1024_S144x1024_0_0) (k0_pay299 (F := F)) Finset.univ (View.stores_vmem_bits_univ h_S144x1024 rfl) (.inl rfl))
  pure ⟨⟩

/-- The scores of one key block and their column maxima, into the first slot. -/
def stScores (B : Bf) (off : Fin 4 → ℕ) (ho : ∀ a, off a + S1x1x1024x256.size a ≤ S1x16x1024x256.size a) : Prog (TpuEff nD τ sig (Elt F) Λ₀ .tc) PUnit := do
  let k ← Prog.lift (.load B.k (Rect.unit (s := S1x16x1024x256) off S1x1x1024x256.size ho).toLoadRect (View.loadsAt_vmem h_S1x1x1024x256))
  let q ← Prog.lift (.load B.q (Rect.unit (s := S1x256x1024) ![0, 0, 0] S1x256x1024.size inb_S1x256x1024_S1x256x1024_0_0_0).toLoadRect (View.loadsAt_vmem h_S1x256x1024))
  let _ ← Prog.lift (.load B.s0 (Rect.unit (s := S1024x1024) ![0, 0] S1024x1024.size inb_S1024x1024_S1024x1024_0_0).toLoadRect (View.loadsAt_vmem h_S1024x1024))
  Prog.lift (.store B.s0 (Rect.unit (s := S1024x1024) ![0, 0] S1024x1024.size inb_S1024x1024_S1024x1024_0_0) (k0_pay53 k q) Finset.univ (View.stores_vmem_bits_univ h_S1024x1024 rfl) (.inl rfl))
  let _ ← Prog.lift (.load B.c0 (Rect.unit (s := S1x1024) ![0, 0] S1x1024.size inb_S1x1024_S1x1024_0_0).toLoadRect (View.loadsAt_vmem h_S1x1024))
  Prog.lift (.store B.c0 (Rect.unit (s := S1x1024) ![0, 0] S1x1024.size inb_S1x1024_S1x1024_0_0) (k0_pay54 k q) Finset.univ (View.stores_vmem_bits_univ h_S1x1024 rfl) (.inl rfl))
  pure ⟨⟩

/-- The new running maximum, the weights and the rescaling factor of the first slot. -/
def stSoftmax (B : Bf)  : Prog (TpuEff nD τ sig (Elt F) Λ₀ .tc) PUnit := do
  let s ← Prog.lift (.load B.s0 (Rect.unit (s := S1024x1024) ![0, 0] S1024x1024.size inb_S1024x1024_S1024x1024_0_0).toLoadRect (View.loadsAt_vmem h_S1024x1024))
  let cm ← Prog.lift (.load B.c0 (Rect.unit (s := S1x1024) ![0, 0] S1x1024.size inb_S1x1024_S1x1024_0_0).toLoadRect (View.loadsAt_vmem h_S1x1024))
  let m ← Prog.lift (.load B.m (Rect.unit (s := S1x1024) ![0, 0] S1x1024.size inb_S1x1024_S1x1024_0_0).toLoadRect (View.loadsAt_vmem h_S1x1024))
  let _ ← Prog.lift (.load B.m (Rect.unit (s := S1x1024) ![0, 0] S1x1024.size inb_S1x1024_S1x1024_0_0).toLoadRect (View.loadsAt_vmem h_S1x1024))
  Prog.lift (.store B.m (Rect.unit (s := S1x1024) ![0, 0] S1x1024.size inb_S1x1024_S1x1024_0_0) (k0_pay57 cm m) Finset.univ (View.stores_vmem_bits_univ h_S1x1024 rfl) (.inl rfl))
  let _ ← Prog.lift (.load B.p0 (Rect.unit (s := S1024x1024) ![0, 0] S1024x1024.size inb_S1024x1024_S1024x1024_0_0).toLoadRect (View.loadsAt_vmem h_S1024x1024))
  Prog.lift (.store B.p0 (Rect.unit (s := S1024x1024) ![0, 0] S1024x1024.size inb_S1024x1024_S1024x1024_0_0) (k0_pay59 (k0_pay58 s cm m)) Finset.univ (View.stores_vmem h_S1024x1024 (B.hp0.storeExact_slice rfl _ packedbf16_S1024x1024_S1024x1024_0_0) (fun _ => rfl)) (.inl rfl))
  let _ ← Prog.lift (.load B.a0 (Rect.unit (s := S1x1024) ![0, 0] S1x1024.size inb_S1x1024_S1x1024_0_0).toLoadRect (View.loadsAt_vmem h_S1x1024))
  Prog.lift (.store B.a0 (Rect.unit (s := S1x1024) ![0, 0] S1x1024.size inb_S1x1024_S1x1024_0_0) (k0_pay60 (k0_pay56 cm m)) Finset.univ (View.stores_vmem_bits_univ h_S1x1024 rfl) (.inl rfl))
  pure ⟨⟩

/-- The accumulator rescaled, plus one value block against the first slot's weights. -/
def stValue (B : Bf) (off : Fin 4 → ℕ) (ho : ∀ a, off a + S1x1x144x1024.size a ≤ S1x16x144x1024.size a) : Prog (TpuEff nD τ sig (Elt F) Λ₀ .tc) PUnit := do
  let p ← Prog.lift (.load B.p0 (Rect.unit (s := S1024x1024) ![0, 0] S1024x1024.size inb_S1024x1024_S1024x1024_0_0).toLoadRect (View.loadsAt_vmem h_S1024x1024))
  let al ← Prog.lift (.load B.a0 (Rect.unit (s := S1x1024) ![0, 0] S1x1024.size inb_S1x1024_S1x1024_0_0).toLoadRect (View.loadsAt_vmem h_S1x1024))
  let v ← Prog.lift (.load B.v (Rect.unit (s := S1x16x144x1024) off S1x1x144x1024.size ho).toLoadRect (View.loadsAt_vmem h_S1x1x144x1024))
  let acc ← Prog.lift (.load B.acc (Rect.unit (s := S144x1024) ![0, 0] S144x1024.size inb_S144x1024_S144x1024_0_0).toLoadRect (View.loadsAt_vmem h_S144x1024))
  let _ ← Prog.lift (.load B.acc (Rect.unit (s := S144x1024) ![0, 0] S144x1024.size inb_S144x1024_S144x1024_0_0).toLoadRect (View.loadsAt_vmem h_S144x1024))
  Prog.lift (.store B.acc (Rect.unit (s := S144x1024) ![0, 0] S144x1024.size inb_S144x1024_S144x1024_0_0) (k0_pay61 p al v acc) Finset.univ (View.stores_vmem_bits_univ h_S144x1024 rfl) (.inl rfl))
  pure ⟨⟩

/-- The masked scores of the diagonal block, quadrant by quadrant, into the first slot. -/
def stDiag (B : Bf) (off off2 : Fin 4 → ℕ) (ho : ∀ a, off a + S1x1x512x256.size a ≤ S1x16x1024x256.size a) (ho2 : ∀ a, off2 a + S1x1x512x256.size a ≤ S1x16x1024x256.size a) : Prog (TpuEff nD τ sig (Elt F) Λ₀ .tc) PUnit := do
  let k1 ← Prog.lift (.load B.k (Rect.unit (s := S1x16x1024x256) off S1x1x512x256.size ho).toLoadRect (View.loadsAt_vmem h_S1x1x512x256))
  let q1 ← Prog.lift (.load B.q (Rect.unit (s := S1x256x1024) ![0, 0, 0] S1x256x1024.size inb_S1x256x1024_S1x256x1024_0_0_0).toLoadRect (View.loadsAt_vmem h_S1x256x1024))
  let k2 ← Prog.lift (.load B.k (Rect.unit (s := S1x16x1024x256) off2 S1x1x512x256.size ho2).toLoadRect (View.loadsAt_vmem h_S1x1x512x256))
  let q2 ← Prog.lift (.load B.q (Rect.unit (s := S1x256x1024) ![0, 0, 512] S1x256x512.size inb_S1x256x1024_S1x256x512_0_0_512).toLoadRect (View.loadsAt_vmem h_S1x256x512))
  let _ ← Prog.lift (.load B.s0 (Rect.unit (s := S1024x1024) ![0, 0] S512x512.size inb_S1024x1024_S512x512_0_0).toLoadRect (View.loadsAt_vmem h_S512x512))
  Prog.lift (.store B.s0 (Rect.unit (s := S1024x1024) ![0, 0] S512x512.size inb_S1024x1024_S512x512_0_0) (k0_pay9 k1 q1) Finset.univ (View.stores_vmem_bits_univ h_S512x512 rfl) (.inl rfl))
  let _ ← Prog.lift (.load B.s0 (Rect.unit (s := S1024x1024) ![0, 512] S512x512.size inb_S1024x1024_S512x512_0_512).toLoadRect (View.loadsAt_vmem h_S512x512))
  Prog.lift (.store B.s0 (Rect.unit (s := S1024x1024) ![0, 512] S512x512.size inb_S1024x1024_S512x512_0_512) (k0_pay10 k1 q1) Finset.univ (View.stores_vmem_bits_univ h_S512x512 rfl) (.inl rfl))
  let _ ← Prog.lift (.load B.s0 (Rect.unit (s := S1024x1024) ![512, 0] S512x512.size inb_S1024x1024_S512x512_512_0).toLoadRect (View.loadsAt_vmem h_S512x512))
  Prog.lift (.store B.s0 (Rect.unit (s := S1024x1024) ![512, 0] S512x512.size inb_S1024x1024_S512x512_512_0) (k0_pay11 (F := F)) Finset.univ (View.stores_vmem_bits_univ h_S512x512 rfl) (.inl rfl))
  let _ ← Prog.lift (.load B.s0 (Rect.unit (s := S1024x1024) ![512, 512] S512x512.size inb_S1024x1024_S512x512_512_512).toLoadRect (View.loadsAt_vmem h_S512x512))
  Prog.lift (.store B.s0 (Rect.unit (s := S1024x1024) ![512, 512] S512x512.size inb_S1024x1024_S512x512_512_512) (k0_pay300 (k0_pay8 k2 q2)) Finset.univ (View.stores_vmem_bits_univ h_S512x512 rfl) (.inl rfl))
  let _ ← Prog.lift (.load B.c0 (Rect.unit (s := S1x1024) ![0, 0] S1x512.size inb_S1x1024_S1x512_0_0).toLoadRect (View.loadsAt_vmem h_S1x512))
  Prog.lift (.store B.c0 (Rect.unit (s := S1x1024) ![0, 0] S1x512.size inb_S1x1024_S1x512_0_0) (k0_pay301 (k0_pay7 k1 q1)) Finset.univ (View.stores_vmem_bits_univ h_S1x512 rfl) (.inl rfl))
  let _ ← Prog.lift (.load B.c0 (Rect.unit (s := S1x1024) ![0, 512] S1x512.size inb_S1x1024_S1x512_0_512).toLoadRect (View.loadsAt_vmem h_S1x512))
  Prog.lift (.store B.c0 (Rect.unit (s := S1x1024) ![0, 512] S1x512.size inb_S1x1024_S1x512_0_512) (k0_pay302 (k0_pay5 k1 q1) (k0_pay8 k2 q2)) Finset.univ (View.stores_vmem_bits_univ h_S1x512 rfl) (.inl rfl))
  pure ⟨⟩

/-- The same for the next point's queries. -/
def stDiagNext (B : Bf) (off off2 : Fin 4 → ℕ) (ho : ∀ a, off a + S1x1x512x256.size a ≤ S1x16x1024x256.size a) (ho2 : ∀ a, off2 a + S1x1x512x256.size a ≤ S1x16x1024x256.size a) : Prog (TpuEff nD τ sig (Elt F) Λ₀ .tc) PUnit := do
  let k1 ← Prog.lift (.load B.k (Rect.unit (s := S1x16x1024x256) off S1x1x512x256.size ho).toLoadRect (View.loadsAt_vmem h_S1x1x512x256))
  let q1 ← Prog.lift (.load B.qn (Rect.unit (s := S1x256x1024) ![0, 0, 0] S1x256x1024.size inb_S1x256x1024_S1x256x1024_0_0_0).toLoadRect (View.loadsAt_vmem h_S1x256x1024))
  let k2 ← Prog.lift (.load B.k (Rect.unit (s := S1x16x1024x256) off2 S1x1x512x256.size ho2).toLoadRect (View.loadsAt_vmem h_S1x1x512x256))
  let q2 ← Prog.lift (.load B.qn (Rect.unit (s := S1x256x1024) ![0, 0, 512] S1x256x512.size inb_S1x256x1024_S1x256x512_0_0_512).toLoadRect (View.loadsAt_vmem h_S1x256x512))
  let _ ← Prog.lift (.load B.s0 (Rect.unit (s := S1024x1024) ![0, 0] S512x512.size inb_S1024x1024_S512x512_0_0).toLoadRect (View.loadsAt_vmem h_S512x512))
  Prog.lift (.store B.s0 (Rect.unit (s := S1024x1024) ![0, 0] S512x512.size inb_S1024x1024_S512x512_0_0) (k0_pay9 k1 q1) Finset.univ (View.stores_vmem_bits_univ h_S512x512 rfl) (.inl rfl))
  let _ ← Prog.lift (.load B.s0 (Rect.unit (s := S1024x1024) ![0, 512] S512x512.size inb_S1024x1024_S512x512_0_512).toLoadRect (View.loadsAt_vmem h_S512x512))
  Prog.lift (.store B.s0 (Rect.unit (s := S1024x1024) ![0, 512] S512x512.size inb_S1024x1024_S512x512_0_512) (k0_pay10 k1 q1) Finset.univ (View.stores_vmem_bits_univ h_S512x512 rfl) (.inl rfl))
  let _ ← Prog.lift (.load B.s0 (Rect.unit (s := S1024x1024) ![512, 0] S512x512.size inb_S1024x1024_S512x512_512_0).toLoadRect (View.loadsAt_vmem h_S512x512))
  Prog.lift (.store B.s0 (Rect.unit (s := S1024x1024) ![512, 0] S512x512.size inb_S1024x1024_S512x512_512_0) (k0_pay11 (F := F)) Finset.univ (View.stores_vmem_bits_univ h_S512x512 rfl) (.inl rfl))
  let _ ← Prog.lift (.load B.s0 (Rect.unit (s := S1024x1024) ![512, 512] S512x512.size inb_S1024x1024_S512x512_512_512).toLoadRect (View.loadsAt_vmem h_S512x512))
  Prog.lift (.store B.s0 (Rect.unit (s := S1024x1024) ![512, 512] S512x512.size inb_S1024x1024_S512x512_512_512) (k0_pay300 (k0_pay8 k2 q2)) Finset.univ (View.stores_vmem_bits_univ h_S512x512 rfl) (.inl rfl))
  let _ ← Prog.lift (.load B.c0 (Rect.unit (s := S1x1024) ![0, 0] S1x512.size inb_S1x1024_S1x512_0_0).toLoadRect (View.loadsAt_vmem h_S1x512))
  Prog.lift (.store B.c0 (Rect.unit (s := S1x1024) ![0, 0] S1x512.size inb_S1x1024_S1x512_0_0) (k0_pay301 (k0_pay7 k1 q1)) Finset.univ (View.stores_vmem_bits_univ h_S1x512 rfl) (.inl rfl))
  let _ ← Prog.lift (.load B.c0 (Rect.unit (s := S1x1024) ![0, 512] S1x512.size inb_S1x1024_S1x512_0_512).toLoadRect (View.loadsAt_vmem h_S1x512))
  Prog.lift (.store B.c0 (Rect.unit (s := S1x1024) ![0, 512] S1x512.size inb_S1x1024_S1x512_0_512) (k0_pay302 (k0_pay5 k1 q1) (k0_pay8 k2 q2)) Finset.univ (View.stores_vmem_bits_univ h_S1x512 rfl) (.inl rfl))
  pure ⟨⟩

/-- The diagonal block's weights: the lower left quadrant is zero and not computed. -/
def stFirst (B : Bf)  : Prog (TpuEff nD τ sig (Elt F) Λ₀ .tc) PUnit := do
  let m ← Prog.lift (.load B.m (Rect.unit (s := S1x1024) ![0, 0] S1x1024.size inb_S1x1024_S1x1024_0_0).toLoadRect (View.loadsAt_vmem h_S1x1024))
  let cm ← Prog.lift (.load B.c0 (Rect.unit (s := S1x1024) ![0, 0] S1x1024.size inb_S1x1024_S1x1024_0_0).toLoadRect (View.loadsAt_vmem h_S1x1024))
  let _ ← Prog.lift (.load B.a0 (Rect.unit (s := S1x1024) ![0, 0] S1x1024.size inb_S1x1024_S1x1024_0_0).toLoadRect (View.loadsAt_vmem h_S1x1024))
  Prog.lift (.store B.a0 (Rect.unit (s := S1x1024) ![0, 0] S1x1024.size inb_S1x1024_S1x1024_0_0) (k0_pay29 m cm) Finset.univ (View.stores_vmem_bits_univ h_S1x1024 rfl) (.inl rfl))
  let s ← Prog.lift (.load B.s0 (Rect.unit (s := S1024x1024) ![0, 0] S512x1024.size inb_S1024x1024_S512x1024_0_0).toLoadRect (View.loadsAt_vmem h_S512x1024))
  let _ ← Prog.lift (.load B.p0 (Rect.unit (s := S1024x1024) ![0, 0] S512x1024.size inb_S1024x1024_S512x1024_0_0).toLoadRect (View.loadsAt_vmem h_S512x1024))
  Prog.lift (.store B.p0 (Rect.unit (s := S1024x1024) ![0, 0] S512x1024.size inb_S1024x1024_S512x1024_0_0) (k0_pay30 m cm s) Finset.univ (View.stores_vmem h_S512x1024 (B.hp0.storeExact_slice rfl _ packedbf16_S1024x1024_S512x1024_0_0) (fun _ => rfl)) (.inl rfl))
  let _ ← Prog.lift (.load B.p0 (Rect.unit (s := S1024x1024) ![512, 0] S512x512.size inb_S1024x1024_S512x512_512_0).toLoadRect (View.loadsAt_vmem h_S512x512))
  Prog.lift (.store B.p0 (Rect.unit (s := S1024x1024) ![512, 0] S512x512.size inb_S1024x1024_S512x512_512_0) (k0_pay308 (k0_pay31 (F := F))) Finset.univ (View.stores_vmem h_S512x512 (B.hp0.storeExact_slice rfl _ packedbf16_S1024x1024_S512x512_512_0) (fun _ => rfl)) (.inl rfl))
  let s2 ← Prog.lift (.load B.s0 (Rect.unit (s := S1024x1024) ![512, 512] S512x512.size inb_S1024x1024_S512x512_512_512).toLoadRect (View.loadsAt_vmem h_S512x512))
  let _ ← Prog.lift (.load B.p0 (Rect.unit (s := S1024x1024) ![512, 512] S512x512.size inb_S1024x1024_S512x512_512_512).toLoadRect (View.loadsAt_vmem h_S512x512))
  Prog.lift (.store B.p0 (Rect.unit (s := S1024x1024) ![512, 512] S512x512.size inb_S1024x1024_S512x512_512_512) (k0_pay309 (k0_pay28 m cm) s2) Finset.univ (View.stores_vmem h_S512x512 (B.hp0.storeExact_slice rfl _ packedbf16_S1024x1024_S512x512_512_512) (fun _ => rfl)) (.inl rfl))
  let _ ← Prog.lift (.load B.m (Rect.unit (s := S1x1024) ![0, 0] S1x1024.size inb_S1x1024_S1x1024_0_0).toLoadRect (View.loadsAt_vmem h_S1x1024))
  Prog.lift (.store B.m (Rect.unit (s := S1x1024) ![0, 0] S1x1024.size inb_S1x1024_S1x1024_0_0) (k0_pay310 (k0_pay28 m cm)) Finset.univ (View.stores_vmem_bits_univ h_S1x1024 rfl) (.inl rfl))
  pure ⟨⟩

/-- The diagonal block's values, the zero quadrant skipped. -/
def stDiagValue (B : Bf) (off off2 : Fin 4 → ℕ) (ho : ∀ a, off a + S1x1x144x512.size a ≤ S1x16x144x1024.size a) (ho2 : ∀ a, off2 a + S1x1x144x512.size a ≤ S1x16x144x1024.size a) : Prog (TpuEff nD τ sig (Elt F) Λ₀ .tc) PUnit := do
  let v1 ← Prog.lift (.load B.v (Rect.unit (s := S1x16x144x1024) off S1x1x144x512.size ho).toLoadRect (View.loadsAt_vmem h_S1x1x144x512))
  let p1 ← Prog.lift (.load B.p0 (Rect.unit (s := S1024x1024) ![0, 0] S512x1024.size inb_S1024x1024_S512x1024_0_0).toLoadRect (View.loadsAt_vmem h_S512x1024))
  let v2 ← Prog.lift (.load B.v (Rect.unit (s := S1x16x144x1024) off2 S1x1x144x512.size ho2).toLoadRect (View.loadsAt_vmem h_S1x1x144x512))
  let p2 ← Prog.lift (.load B.p0 (Rect.unit (s := S1024x1024) ![512, 512] S512x512.size inb_S1024x1024_S512x512_512_512).toLoadRect (View.loadsAt_vmem h_S512x512))
  let al ← Prog.lift (.load B.a0 (Rect.unit (s := S1x1024) ![0, 0] S1x1024.size inb_S1x1024_S1x1024_0_0).toLoadRect (View.loadsAt_vmem h_S1x1024))
  let x1 ← Prog.lift (.load B.acc (Rect.unit (s := S144x1024) ![0, 0] S144x512.size inb_S144x1024_S144x512_0_0).toLoadRect (View.loadsAt_vmem h_S144x512))
  let _ ← Prog.lift (.load B.acc (Rect.unit (s := S144x1024) ![0, 0] S144x512.size inb_S144x1024_S144x512_0_0).toLoadRect (View.loadsAt_vmem h_S144x512))
  Prog.lift (.store B.acc (Rect.unit (s := S144x1024) ![0, 0] S144x512.size inb_S144x1024_S144x512_0_0) (k0_pay311 (k0_pay51 v1 p1 al x1)) Finset.univ (View.stores_vmem_bits_univ h_S144x512 rfl) (.inl rfl))
  let x2 ← Prog.lift (.load B.acc (Rect.unit (s := S144x1024) ![0, 512] S144x512.size inb_S144x1024_S144x512_0_512).toLoadRect (View.loadsAt_vmem h_S144x512))
  let _ ← Prog.lift (.load B.acc (Rect.unit (s := S144x1024) ![0, 512] S144x512.size inb_S144x1024_S144x512_0_512).toLoadRect (View.loadsAt_vmem h_S144x512))
  Prog.lift (.store B.acc (Rect.unit (s := S144x1024) ![0, 512] S144x512.size inb_S144x1024_S144x512_0_512) (k0_pay312 (k0_pay49 v1 p1) (k0_pay50 v2 p2) al x2) Finset.univ (View.stores_vmem_bits_univ h_S144x512 rfl) (.inl rfl))
  pure ⟨⟩

/-- The output block: the accumulator's value rows over its row of weight sums. -/
def stOut (B : Bf)  : Prog (TpuEff nD τ sig (Elt F) Λ₀ .tc) PUnit := do
  let x ← Prog.lift (.load B.acc (Rect.unit (s := S144x1024) ![0, 0] S128x1024.size inb_S144x1024_S128x1024_0_0).toLoadRect (View.loadsAt_vmem h_S128x1024))
  let l ← Prog.lift (.load B.acc (Rect.unit (s := S144x1024) ![128, 0] S1x1024.size inb_S144x1024_S1x1024_128_0).toLoadRect (View.loadsAt_vmem h_S1x1024))
  let _ ← Prog.lift (.load B.o (Rect.unit (s := S1024x128) ![0, 0] S1024x128.size inb_S1024x128_S1024x128_0_0).toLoadRect (View.loadsAt_vmem h_S1024x128))
  Prog.lift (.store B.o (Rect.unit (s := S1024x128) ![0, 0] S1024x128.size inb_S1024x128_S1024x128_0_0) (k0_pay307 x l) Finset.univ (View.stores_vmem h_S1024x128 (B.ho.storeExact_slice rfl _ packedbf16_S1024x128_S1024x128_0_0) (fun _ => rfl)) (.inl rfl))
  pure ⟨⟩

/-- One step of the pipelined loop: the next block's scores into the other slot, this slot's softmax, the
    previous item's values out of the other slot. -/
def stIter (B : Bf) (off : Fin 4 → ℕ) (ho : ∀ a, off a + S1x1x1024x256.size a ≤ S1x16x1024x256.size a)
    (voff : Fin 4 → ℕ) (hv : ∀ a, voff a + S1x1x144x1024.size a ≤ S1x16x144x1024.size a) :
    Prog (TpuEff nD τ sig (Elt F) Λ₀ .tc) PUnit := do
  stScores B.swap off ho
  stSoftmax B
  stValue B.swap voff hv

/-- The buffers named one by one. -/
@[reducible] def bf (arg2 : Memref sig .tc .vmem S1x256x1024 .bf16) (arg3 : Memref sig .tc .vmem S1x256x1024 .bf16)
    (arg4 : Memref sig .tc .vmem S1x16x1024x256 .bf16) (arg5 : Memref sig .tc .vmem S1x16x144x1024 .bf16)
    (arg6 : Memref sig .tc .vmem S1024x128 .bf16) (harg6 : arg6.IsWhole) (arg7 : Memref sig .tc .vmem S1x1024 .f32)
    (arg8 : Memref sig .tc .vmem S144x1024 .f32) (arg9 arg10 : Memref sig .tc .vmem S1024x1024 .f32)
    (arg11 arg12 : Memref sig .tc .vmem S1x1024 .f32) (arg13 : Memref sig .tc .vmem S1024x1024 .bf16) (harg13 : arg13.IsWhole)
    (arg14 : Memref sig .tc .vmem S1024x1024 .bf16) (harg14 : arg14.IsWhole) (arg15 arg16 : Memref sig .tc .vmem S1x1024 .f32) : Bf :=
  ⟨arg2, arg3, arg4, arg5, arg6, arg7, arg8, arg9, arg10, arg11, arg12, arg13, arg14, arg15, arg16, harg6, harg13, harg14⟩

/-- Eight steps of the loop. -/
def stTrip (B : Bf) (i : grid0.Coords) (t : Fin (k0_t1_loop i).trips) : Prog (TpuEff nD τ sig (Elt F) Λ₀ .tc) PUnit := do
  stIter B (k0_off8 i t 0#32) (k0_off8_inb i t 0) (k0_off9 i t 0#32) (k0_off9_inb i t 0)
  stIter B.swap (k0_off8 i t 1#32) (k0_off8_inb i t 1) (k0_off9 i t 1#32) (k0_off9_inb i t 1)
  stIter B (k0_off8 i t 2#32) (k0_off8_inb i t 2) (k0_off9 i t 2#32) (k0_off9_inb i t 2)
  stIter B.swap (k0_off8 i t 3#32) (k0_off8_inb i t 3) (k0_off9 i t 3#32) (k0_off9_inb i t 3)
  stIter B (k0_off8 i t 4#32) (k0_off8_inb i t 4) (k0_off9 i t 4#32) (k0_off9_inb i t 4)
  stIter B.swap (k0_off8 i t 5#32) (k0_off8_inb i t 5) (k0_off9 i t 5#32) (k0_off9_inb i t 5)
  stIter B (k0_off8 i t 6#32) (k0_off8_inb i t 6) (k0_off9 i t 6#32) (k0_off9_inb i t 6)
  stIter B.swap (k0_off8 i t 7#32) (k0_off8_inb i t 7) (k0_off9 i t 7#32) (k0_off9_inb i t 7)

/-- The word that says whether the point is the second of its head. -/
def cond3 (i : grid0.Coords) : BitVec 1 :=
  Scalar.cmpi .ne (Scalar.extui (Scalar.cmpi .eq (BitVec.ofNat 32 (i 1).val) 1#32) : BitVec 32) 0#32

/-- The last stages of a point whose last item is in the first slot. -/
def stFinish (B : Bf) (o1 o2 : Fin 4 → ℕ) (h1 : ∀ a, o1 a + S1x1x144x1024.size a ≤ S1x16x144x1024.size a)
    (h2 : ∀ a, o2 a + S1x1x144x1024.size a ≤ S1x16x144x1024.size a) : Prog (TpuEff nD τ sig (Elt F) Λ₀ .tc) PUnit := do
  stSoftmax B
  stValue B.swap o1 h1
  stValue B o2 h2

/-- The point up to the loop. -/
def stHead {α : Type} (x : α) (B : Bf) (i : grid0.Coords) : Prog (TpuEff nD τ sig (Elt F) Λ₀ .tc) α := do
  stInit B
  if h : k0_cond1 i = 1#1 then do
    stDiag B (k0_off1 i) (k0_off2 i) (k0_off1_inb i h) (k0_off2_inb i h)
    pure ⟨⟩
  else do
    pure ⟨⟩
  if h : k0_cond2 i = 1#1 then do
    stSoftmax B
    stValue B (k0_off3 i) (k0_off3_inb i h)
    stDiagNext B (k0_off4 i) (k0_off5 i) (k0_off4_inb i h) (k0_off5_inb i h)
    stOut B
    pure ⟨⟩
  else do
    pure ⟨⟩
  if h : cond3 i = 1#1 then do
    stScores B.swap ![0, 0, 0, 0] inb_S1x16x1024x256_S1x1x1024x256_0_0_0_0
    stFirst B
    pure ⟨⟩
  else do
    pure ⟨⟩
  if h : k0_cond4 i = 1#1 then do
    stScores B.swap ![0, 0, 0, 0] inb_S1x16x1024x256_S1x1x1024x256_0_0_0_0
    stFirst B
    stScores B ![0, 1, 0, 0] inb_S1x16x1024x256_S1x1x1024x256_0_1_0_0
    stSoftmax B.swap
    stDiagValue B (k0_off6 i) (k0_off7 i) (k0_off6_inb i h) (k0_off7_inb i h)
    pure ⟨⟩
  else do
    pure ⟨⟩
  pure x

/-- The loop of eight steps, a loop that makes no trips, and the steps left over. -/
def stRest {α : Type} (x : α) (B : Bf) (i : grid0.Coords) (b2 : Fin (k0_t2_loop i).trips → Unit → Prog (TpuEff nD τ sig (Elt F) Λ₀ .tc) Unit) :
    Prog (TpuEff nD τ sig (Elt F) Λ₀ .tc) α := do
  Scf.Loop.for (k0_t1_loop i) (k0_t1_ok i) ⟨⟩ (fun t _ => stTrip B i t)
  Scf.Loop.for (k0_t2_loop i) (k0_t2_ok i) ⟨⟩ b2
  if h : k0_cond5 i = 1#1 then do
    stIter B (k0_off12 i 0#32) (k0_off12_inb i h 0) (k0_off13 i 0#32) (k0_off13_inb i h 0)
    stIter B.swap (k0_off12 i 1#32) (k0_off12_inb i h 1) (k0_off13 i 1#32) (k0_off13_inb i h 1)
    stIter B (k0_off12 i 2#32) (k0_off12_inb i h 2) (k0_off13 i 2#32) (k0_off13_inb i h 2)
    stIter B.swap (k0_off12 i 3#32) (k0_off12_inb i h 3) (k0_off13 i 3#32) (k0_off13_inb i h 3)
    pure ⟨⟩
  else do
    pure ⟨⟩
  if h : k0_cond6 i = 1#1 then do
    stIter B (k0_off14 i 0#32) (k0_off14_inb i h 0) (k0_off15 i 0#32) (k0_off15_inb i h 0)
    stIter B.swap (k0_off14 i 1#32) (k0_off14_inb i h 1) (k0_off15 i 1#32) (k0_off15_inb i h 1)
    pure ⟨⟩
  else do
    pure ⟨⟩
  if h : k0_cond7 i = 1#1 then do
    stIter B (k0_off16 i) (k0_off16_inb i h) (k0_off17 i) (k0_off17_inb i h)
    pure ⟨⟩
  else do
    pure ⟨⟩
  pure x

/-- The whole point. -/
def stBody {α β : Type} (x : α) (y : β) (B : Bf) (i : grid0.Coords) (b2 : α → Fin (k0_t2_loop i).trips → Unit → Prog (TpuEff nD τ sig (Elt F) Λ₀ .tc) Unit) :
    Prog (TpuEff nD τ sig (Elt F) Λ₀ .tc) PUnit := do
  let t ← stHead x B i
  let _ ← stRest y B i (b2 t)
  if h : k0_cond8 i = 1#1 then do
    stFinish B (k0_off18 i) (k0_off19 i) (k0_off18_inb i h) (k0_off19_inb i h)
    stDiagNext B (k0_off20 i) (k0_off21 i) (k0_off20_inb i h) (k0_off21_inb i h)
    stOut B
    pure ⟨⟩
  else do
    pure ⟨⟩
  if h : k0_cond9 i = 1#1 then do
    stFinish B.swap (k0_off22 i) (k0_off23 i) (k0_off22_inb i h) (k0_off23_inb i h)
    stDiagNext B (k0_off24 i) (k0_off25 i) (k0_off24_inb i h) (k0_off25_inb i h)
    stOut B
    pure ⟨⟩
  else do
    pure ⟨⟩
  pure ⟨⟩

end Cert.Kernel2Ideal.Attn

end
-- ==== Proof.Attention.Shape.lean ====
/- The kernel's body is the sequence of stages. -/
module

public import proofs.«01_k».proof.Proof.Attention.Stages

@[expose] public section

set_option maxRecDepth 65536

noncomputable section

namespace Cert.Kernel2Ideal.Attn

open Cert.Kernel2Ideal Cert.Kernel2Ideal.Gen
open Idealize.ShloMosaic Idealize.ShloMosaic.TcCoe
open Idealize.SL.Sem

variable {F : FTy → Type} [FloatOps F] [Named F]

/-- The printed point: its head, its loops and its last stages. -/
theorem body_eq (i : grid0.Coords)
    (arg2 : Memref sig .tc .vmem S1x256x1024 .bf16) (harg2 : arg2.IsWhole)
    (arg3 : Memref sig .tc .vmem S1x256x1024 .bf16) (harg3 : arg3.IsWhole)
    (arg4 : Memref sig .tc .vmem S1x16x1024x256 .bf16) (harg4 : arg4.IsWhole)
    (arg5 : Memref sig .tc .vmem S1x16x144x1024 .bf16) (harg5 : arg5.IsWhole)
    (arg6 : Memref sig .tc .vmem S1024x128 .bf16) (harg6 : arg6.IsWhole)
    (arg7 : Memref sig .tc .vmem S1x1024 .f32) (harg7 : arg7.IsWhole)
    (arg8 : Memref sig .tc .vmem S144x1024 .f32) (harg8 : arg8.IsWhole)
    (arg9 : Memref sig .tc .vmem S1024x1024 .f32) (harg9 : arg9.IsWhole)
    (arg10 : Memref sig .tc .vmem S1024x1024 .f32) (harg10 : arg10.IsWhole)
    (arg11 : Memref sig .tc .vmem S1x1024 .f32) (harg11 : arg11.IsWhole)
    (arg12 : Memref sig .tc .vmem S1x1024 .f32) (harg12 : arg12.IsWhole)
    (arg13 : Memref sig .tc .vmem S1024x1024 .bf16) (harg13 : arg13.IsWhole)
    (arg14 : Memref sig .tc .vmem S1024x1024 .bf16) (harg14 : arg14.IsWhole)
    (arg15 : Memref sig .tc .vmem S1x1024 .f32) (harg15 : arg15.IsWhole)
    (arg16 : Memref sig .tc .vmem S1x1024 .f32) (harg16 : arg16.IsWhole) :
    ∃ (x : Σ' (_ : BitVec 32) (_ : BitVec 32) (_ : BitVec 32) (_ : BitVec 32) (_ : BitVec 32) (_ : BitVec 32), BitVec 1)
      (b2 : _ → _), cc0_mla_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16
      = stBody x (0#32 : BitVec 32) (bf arg2 arg3 arg4 arg5 arg6 harg6 arg7 arg8 arg9 arg10 arg11 arg12 arg13 harg13 arg14 harg14 arg15 arg16) i b2 := by
  rw [cc0_mla_attention_eq_skeleton]
  exact ⟨_, _, rfl⟩

end Cert.Kernel2Ideal.Attn

end
-- ==== Proof.Attention.State.lean ====
/- What each stage does to the buffers: the state of the working buffers, its ownership, and one rule per stage. -/
module

public import proofs.«01_k».proof.Proof.Attention.Stages

@[expose] public section

set_option maxRecDepth 16384

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The arrays a point reads: its queries, the next point's, the head's keys and values. -/
structure Inp (F : FTy → Type) where
  q : Vec F S1x256x1024 .bf16
  qn : Vec F S1x256x1024 .bf16
  k : Vec F S1x16x1024x256 .bf16
  v : Vec F S1x16x144x1024 .bf16

/-- The arrays a point works on. -/
@[ext] structure St (F : FTy → Type) where
  o : Vec F S1024x128 .bf16
  m : Vec F S1x1024 .f32
  acc : Vec F S144x1024 .f32
  s0 : Vec F S1024x1024 .f32
  s1 : Vec F S1024x1024 .f32
  c0 : Vec F S1x1024 .f32
  c1 : Vec F S1x1024 .f32
  p0 : Vec F S1024x1024 .bf16
  p1 : Vec F S1024x1024 .bf16
  a0 : Vec F S1x1024 .f32
  a1 : Vec F S1x1024 .f32

/-- The two slots exchanged. -/
@[reducible] def St.swap (X : St F) : St F :=
  ⟨X.o, X.m, X.acc, X.s1, X.s0, X.c1, X.c0, X.p1, X.p0, X.a1, X.a0⟩

variable {defs : Defs nD τ sig (Elt F) Λ₀} (𝒱 : Variants) (c : Dev nD) (bd : Option 𝒱.V) (E : Set ℕ)

/-- The buffers hold the inputs and the state. -/
def Own (B : Bf) (I : Inp F) (X : St F) : sProp 𝕄 :=
  iprop(owns (c : Thread nD τ) B.q fullShare I.q ∗ owns (c : Thread nD τ) B.qn fullShare I.qn
    ∗ owns (c : Thread nD τ) B.k fullShare I.k ∗ owns (c : Thread nD τ) B.v fullShare I.v
    ∗ owns (c : Thread nD τ) B.o fullShare X.o ∗ owns (c : Thread nD τ) B.m fullShare X.m
    ∗ owns (c : Thread nD τ) B.acc fullShare X.acc ∗ owns (c : Thread nD τ) B.s0 fullShare X.s0
    ∗ owns (c : Thread nD τ) B.s1 fullShare X.s1 ∗ owns (c : Thread nD τ) B.c0 fullShare X.c0
    ∗ owns (c : Thread nD τ) B.c1 fullShare X.c1 ∗ owns (c : Thread nD τ) B.p0 fullShare X.p0
    ∗ owns (c : Thread nD τ) B.p1 fullShare X.p1 ∗ owns (c : Thread nD τ) B.a0 fullShare X.a0
    ∗ owns (c : Thread nD τ) B.a1 fullShare X.a1)

theorem own_swap (B : Bf) (I : Inp F) (X : St F) : Own c B.swap I X.swap ⊢ Own c B I X := by
  unfold Own
  iintro ⟨Hq, Hqn, Hk, Hv, Ho, Hm, Hacc, Hs1, Hs0, Hc1, Hc0, Hp1, Hp0, Ha1, Ha0⟩
  iframe

/-- The diagonal block's masked scores over `x`: the lower left quadrant is the mask's value. -/
def diagS (x : Vec F S1024x1024 .f32) (k1 k2 : Vec F S1x1x512x256 .bf16) (q : Vec F S1x256x1024 .bf16) (q2 : Vec F S1x256x512 .bf16) : Vec F S1024x1024 .f32 :=
  VecWindow.put (s := S1024x1024) (VecWindow.put (s := S1024x1024) (VecWindow.put (s := S1024x1024) (VecWindow.put (s := S1024x1024) x
    ![0, 0] S512x512.size (k0_pay9 k1 q)) ![0, 512] S512x512.size (k0_pay10 k1 q)) ![512, 0] S512x512.size (k0_pay11 (F := F)))
    ![512, 512] S512x512.size (k0_pay300 (k0_pay8 k2 q2))

/-- Its column maxima over `x`. -/
def diagC (x : Vec F S1x1024 .f32) (k1 k2 : Vec F S1x1x512x256 .bf16) (q : Vec F S1x256x1024 .bf16) (q2 : Vec F S1x256x512 .bf16) : Vec F S1x1024 .f32 :=
  VecWindow.put (s := S1x1024) (VecWindow.put (s := S1x1024) x ![0, 0] S1x512.size (k0_pay301 (k0_pay7 k1 q)))
    ![0, 512] S1x512.size (k0_pay302 (k0_pay5 k1 q) (k0_pay8 k2 q2))

/-- The diagonal block's weights over `x`. -/
def firstP (x : Vec F S1024x1024 .bf16) (s : Vec F S1024x1024 .f32) (m cm : Vec F S1x1024 .f32) : Vec F S1024x1024 .bf16 :=
  VecWindow.put (s := S1024x1024) (VecWindow.put (s := S1024x1024) (VecWindow.put (s := S1024x1024) x
    ![0, 0] S512x1024.size (k0_pay30 m cm (VecWindow.window (s := S1024x1024) s ![0, 0] S512x1024.size inb_S1024x1024_S512x1024_0_0)))
    ![512, 0] S512x512.size (k0_pay308 (k0_pay31 (F := F))))
    ![512, 512] S512x512.size (k0_pay309 (k0_pay28 m cm) (VecWindow.window (s := S1024x1024) s ![512, 512] S512x512.size inb_S1024x1024_S512x512_512_512))

/-- The accumulator after the diagonal block's values, its left half first. -/
def diagAcc (acc : Vec F S144x1024 .f32) (v1 v2 : Vec F S1x1x144x512 .bf16) (p : Vec F S1024x1024 .bf16) (al : Vec F S1x1024 .f32) : Vec F S144x1024 .f32 :=
  let p1 := VecWindow.window (s := S1024x1024) p ![0, 0] S512x1024.size inb_S1024x1024_S512x1024_0_0
  let p2 := VecWindow.window (s := S1024x1024) p ![512, 512] S512x512.size inb_S1024x1024_S512x512_512_512
  let acc1 := VecWindow.put (s := S144x1024) acc ![0, 0] S144x512.size
    (k0_pay311 (k0_pay51 v1 p1 al (VecWindow.window (s := S144x1024) acc ![0, 0] S144x512.size inb_S144x1024_S144x512_0_0)))
  VecWindow.put (s := S144x1024) acc1 ![0, 512] S144x512.size
    (k0_pay312 (k0_pay49 v1 p1) (k0_pay50 v2 p2) al (VecWindow.window (s := S144x1024) acc1 ![0, 512] S144x512.size inb_S144x1024_S144x512_0_512))

/-- The output block of an accumulator. -/
def outB (acc : Vec F S144x1024 .f32) : Vec F S1024x128 .bf16 :=
  k0_pay307 (VecWindow.window (s := S144x1024) acc ![0, 0] S128x1024.size inb_S144x1024_S128x1024_0_0)
    (VecWindow.window (s := S144x1024) acc ![128, 0] S1x1024.size inb_S144x1024_S1x1024_128_0)

/-- The state at a point's start. -/
@[reducible] def St.init (X : St F) (I : Inp F)  : St F :=
  { X with m := k0_pay298, acc := k0_pay299 }

theorem wp_init (B : Bf) (I : Inp F) (X : St F)  :
    Own c B I X ⊢ wp frame (wpE defs 𝒱 (c : Thread nD τ) bd) E (stInit B ) (fun _ => Own c B I (X.init I )) := by
  unfold Own stInit
  iintro ⟨Hq, Hqn, Hk, Hv, Ho, Hm, Hacc, Hs0, Hs1, Hc0, Hc1, Hp0, Hp1, Ha0, Ha1⟩
  iapply (wp_ldf 𝒱 c bd E) $$ Hm
  iintro Hm
  iapply (wp_stf 𝒱 c bd E) $$ Hm
  iintro Hm
  iapply (wp_ldf 𝒱 c bd E) $$ Hacc
  iintro Hacc
  iapply (wp_stf 𝒱 c bd E) $$ Hacc
  iintro Hacc
  iapply le_wp_ret
  iframe

/-- The state after a block's scores. -/
@[reducible] def St.scores (X : St F) (I : Inp F) (off : Fin 4 → ℕ) (ho : ∀ a, off a + S1x1x1024x256.size a ≤ S1x16x1024x256.size a) : St F :=
  { X with s0 := k0_pay53 (VecWindow.window (s := S1x16x1024x256) I.k off S1x1x1024x256.size ho) I.q, c0 := k0_pay54 (VecWindow.window (s := S1x16x1024x256) I.k off S1x1x1024x256.size ho) I.q }

theorem wp_scores (B : Bf) (I : Inp F) (X : St F) (off : Fin 4 → ℕ) (ho : ∀ a, off a + S1x1x1024x256.size a ≤ S1x16x1024x256.size a) :
    Own c B I X ⊢ wp frame (wpE defs 𝒱 (c : Thread nD τ) bd) E (stScores B off ho) (fun _ => Own c B I (X.scores I off ho)) := by
  unfold Own stScores
  iintro ⟨Hq, Hqn, Hk, Hv, Ho, Hm, Hacc, Hs0, Hs1, Hc0, Hc1, Hp0, Hp1, Ha0, Ha1⟩
  iapply (wp_ld 𝒱 c bd E) $$ Hk
  iintro Hk
  iapply (wp_ldf 𝒱 c bd E) $$ Hq
  iintro Hq
  iapply (wp_ldf 𝒱 c bd E) $$ Hs0
  iintro Hs0
  iapply (wp_stf 𝒱 c bd E) $$ Hs0
  iintro Hs0
  iapply (wp_ldf 𝒱 c bd E) $$ Hc0
  iintro Hc0
  iapply (wp_stf 𝒱 c bd E) $$ Hc0
  iintro Hc0
  iapply le_wp_ret
  iframe

/-- The state after a softmax. -/
@[reducible] def St.softmax (X : St F) (I : Inp F)  : St F :=
  { X with m := k0_pay57 X.c0 X.m, p0 := k0_pay59 (k0_pay58 X.s0 X.c0 X.m), a0 := k0_pay60 (k0_pay56 X.c0 X.m) }

theorem wp_softmax (B : Bf) (I : Inp F) (X : St F)  :
    Own c B I X ⊢ wp frame (wpE defs 𝒱 (c : Thread nD τ) bd) E (stSoftmax B ) (fun _ => Own c B I (X.softmax I )) := by
  unfold Own stSoftmax
  iintro ⟨Hq, Hqn, Hk, Hv, Ho, Hm, Hacc, Hs0, Hs1, Hc0, Hc1, Hp0, Hp1, Ha0, Ha1⟩
  iapply (wp_ldf 𝒱 c bd E) $$ Hs0
  iintro Hs0
  iapply (wp_ldf 𝒱 c bd E) $$ Hc0
  iintro Hc0
  iapply (wp_ldf 𝒱 c bd E) $$ Hm
  iintro Hm
  iapply (wp_ldf 𝒱 c bd E) $$ Hm
  iintro Hm
  iapply (wp_stf 𝒱 c bd E) $$ Hm
  iintro Hm
  iapply (wp_ldf 𝒱 c bd E) $$ Hp0
  iintro Hp0
  iapply (wp_stf 𝒱 c bd E) $$ Hp0
  iintro Hp0
  iapply (wp_ldf 𝒱 c bd E) $$ Ha0
  iintro Ha0
  iapply (wp_stf 𝒱 c bd E) $$ Ha0
  iintro Ha0
  iapply le_wp_ret
  iframe

/-- The state after a block's values. -/
@[reducible] def St.value (X : St F) (I : Inp F) (off : Fin 4 → ℕ) (ho : ∀ a, off a + S1x1x144x1024.size a ≤ S1x16x144x1024.size a) : St F :=
  { X with acc := k0_pay61 X.p0 X.a0 (VecWindow.window (s := S1x16x144x1024) I.v off S1x1x144x1024.size ho) X.acc }

theorem wp_value (B : Bf) (I : Inp F) (X : St F) (off : Fin 4 → ℕ) (ho : ∀ a, off a + S1x1x144x1024.size a ≤ S1x16x144x1024.size a) :
    Own c B I X ⊢ wp frame (wpE defs 𝒱 (c : Thread nD τ) bd) E (stValue B off ho) (fun _ => Own c B I (X.value I off ho)) := by
  unfold Own stValue
  iintro ⟨Hq, Hqn, Hk, Hv, Ho, Hm, Hacc, Hs0, Hs1, Hc0, Hc1, Hp0, Hp1, Ha0, Ha1⟩
  iapply (wp_ldf 𝒱 c bd E) $$ Hp0
  iintro Hp0
  iapply (wp_ldf 𝒱 c bd E) $$ Ha0
  iintro Ha0
  iapply (wp_ld 𝒱 c bd E) $$ Hv
  iintro Hv
  iapply (wp_ldf 𝒱 c bd E) $$ Hacc
  iintro Hacc
  iapply (wp_ldf 𝒱 c bd E) $$ Hacc
  iintro Hacc
  iapply (wp_stf 𝒱 c bd E) $$ Hacc
  iintro Hacc
  iapply le_wp_ret
  iframe

/-- The state after the diagonal block's scores. -/
@[reducible] def St.diag (X : St F) (I : Inp F) (off off2 : Fin 4 → ℕ) (ho : ∀ a, off a + S1x1x512x256.size a ≤ S1x16x1024x256.size a) (ho2 : ∀ a, off2 a + S1x1x512x256.size a ≤ S1x16x1024x256.size a) : St F :=
  { X with s0 := diagS X.s0 (VecWindow.window (s := S1x16x1024x256) I.k off S1x1x512x256.size ho) (VecWindow.window (s := S1x16x1024x256) I.k off2 S1x1x512x256.size ho2) I.q (VecWindow.window (s := S1x256x1024) I.q ![0, 0, 512] S1x256x512.size inb_S1x256x1024_S1x256x512_0_0_512), c0 := diagC X.c0 (VecWindow.window (s := S1x16x1024x256) I.k off S1x1x512x256.size ho) (VecWindow.window (s := S1x16x1024x256) I.k off2 S1x1x512x256.size ho2) I.q (VecWindow.window (s := S1x256x1024) I.q ![0, 0, 512] S1x256x512.size inb_S1x256x1024_S1x256x512_0_0_512) }

theorem wp_diag (B : Bf) (I : Inp F) (X : St F) (off off2 : Fin 4 → ℕ) (ho : ∀ a, off a + S1x1x512x256.size a ≤ S1x16x1024x256.size a) (ho2 : ∀ a, off2 a + S1x1x512x256.size a ≤ S1x16x1024x256.size a) :
    Own c B I X ⊢ wp frame (wpE defs 𝒱 (c : Thread nD τ) bd) E (stDiag B off off2 ho ho2) (fun _ => Own c B I (X.diag I off off2 ho ho2)) := by
  unfold Own stDiag
  iintro ⟨Hq, Hqn, Hk, Hv, Ho, Hm, Hacc, Hs0, Hs1, Hc0, Hc1, Hp0, Hp1, Ha0, Ha1⟩
  iapply (wp_ld 𝒱 c bd E) $$ Hk
  iintro Hk
  iapply (wp_ldf 𝒱 c bd E) $$ Hq
  iintro Hq
  iapply (wp_ld 𝒱 c bd E) $$ Hk
  iintro Hk
  iapply (wp_ld 𝒱 c bd E) $$ Hq
  iintro Hq
  iapply (wp_ld 𝒱 c bd E) $$ Hs0
  iintro Hs0
  iapply (wp_st 𝒱 c bd E) $$ Hs0
  iintro Hs0
  iapply (wp_ld 𝒱 c bd E) $$ Hs0
  iintro Hs0
  iapply (wp_st 𝒱 c bd E) $$ Hs0
  iintro Hs0
  iapply (wp_ld 𝒱 c bd E) $$ Hs0
  iintro Hs0
  iapply (wp_st 𝒱 c bd E) $$ Hs0
  iintro Hs0
  iapply (wp_ld 𝒱 c bd E) $$ Hs0
  iintro Hs0
  iapply (wp_st 𝒱 c bd E) $$ Hs0
  iintro Hs0
  iapply (wp_ld 𝒱 c bd E) $$ Hc0
  iintro Hc0
  iapply (wp_st 𝒱 c bd E) $$ Hc0
  iintro Hc0
  iapply (wp_ld 𝒱 c bd E) $$ Hc0
  iintro Hc0
  iapply (wp_st 𝒱 c bd E) $$ Hc0
  iintro Hc0
  iapply le_wp_ret
  iframe
  isplitl [Hs0]
  · iexact Hs0
  · iexact Hc0

/-- The state after the next point's diagonal scores. -/
@[reducible] def St.diagNext (X : St F) (I : Inp F) (off off2 : Fin 4 → ℕ) (ho : ∀ a, off a + S1x1x512x256.size a ≤ S1x16x1024x256.size a) (ho2 : ∀ a, off2 a + S1x1x512x256.size a ≤ S1x16x1024x256.size a) : St F :=
  { X with s0 := diagS X.s0 (VecWindow.window (s := S1x16x1024x256) I.k off S1x1x512x256.size ho) (VecWindow.window (s := S1x16x1024x256) I.k off2 S1x1x512x256.size ho2) I.qn (VecWindow.window (s := S1x256x1024) I.qn ![0, 0, 512] S1x256x512.size inb_S1x256x1024_S1x256x512_0_0_512), c0 := diagC X.c0 (VecWindow.window (s := S1x16x1024x256) I.k off S1x1x512x256.size ho) (VecWindow.window (s := S1x16x1024x256) I.k off2 S1x1x512x256.size ho2) I.qn (VecWindow.window (s := S1x256x1024) I.qn ![0, 0, 512] S1x256x512.size inb_S1x256x1024_S1x256x512_0_0_512) }

theorem wp_diagNext (B : Bf) (I : Inp F) (X : St F) (off off2 : Fin 4 → ℕ) (ho : ∀ a, off a + S1x1x512x256.size a ≤ S1x16x1024x256.size a) (ho2 : ∀ a, off2 a + S1x1x512x256.size a ≤ S1x16x1024x256.size a) :
    Own c B I X ⊢ wp frame (wpE defs 𝒱 (c : Thread nD τ) bd) E (stDiagNext B off off2 ho ho2) (fun _ => Own c B I (X.diagNext I off off2 ho ho2)) := by
  unfold Own stDiagNext
  iintro ⟨Hq, Hqn, Hk, Hv, Ho, Hm, Hacc, Hs0, Hs1, Hc0, Hc1, Hp0, Hp1, Ha0, Ha1⟩
  iapply (wp_ld 𝒱 c bd E) $$ Hk
  iintro Hk
  iapply (wp_ldf 𝒱 c bd E) $$ Hqn
  iintro Hqn
  iapply (wp_ld 𝒱 c bd E) $$ Hk
  iintro Hk
  iapply (wp_ld 𝒱 c bd E) $$ Hqn
  iintro Hqn
  iapply (wp_ld 𝒱 c bd E) $$ Hs0
  iintro Hs0
  iapply (wp_st 𝒱 c bd E) $$ Hs0
  iintro Hs0
  iapply (wp_ld 𝒱 c bd E) $$ Hs0
  iintro Hs0
  iapply (wp_st 𝒱 c bd E) $$ Hs0
  iintro Hs0
  iapply (wp_ld 𝒱 c bd E) $$ Hs0
  iintro Hs0
  iapply (wp_st 𝒱 c bd E) $$ Hs0
  iintro Hs0
  iapply (wp_ld 𝒱 c bd E) $$ Hs0
  iintro Hs0
  iapply (wp_st 𝒱 c bd E) $$ Hs0
  iintro Hs0
  iapply (wp_ld 𝒱 c bd E) $$ Hc0
  iintro Hc0
  iapply (wp_st 𝒱 c bd E) $$ Hc0
  iintro Hc0
  iapply (wp_ld 𝒱 c bd E) $$ Hc0
  iintro Hc0
  iapply (wp_st 𝒱 c bd E) $$ Hc0
  iintro Hc0
  iapply le_wp_ret
  iframe
  isplitl [Hs0]
  · iexact Hs0
  · iexact Hc0

/-- The state after the diagonal block's softmax. -/
@[reducible] def St.first (X : St F) (I : Inp F)  : St F :=
  { X with m := k0_pay310 (k0_pay28 X.m X.c0), p0 := firstP X.p0 X.s0 X.m X.c0, a0 := k0_pay29 X.m X.c0 }

theorem wp_first (B : Bf) (I : Inp F) (X : St F)  :
    Own c B I X ⊢ wp frame (wpE defs 𝒱 (c : Thread nD τ) bd) E (stFirst B ) (fun _ => Own c B I (X.first I )) := by
  unfold Own stFirst
  iintro ⟨Hq, Hqn, Hk, Hv, Ho, Hm, Hacc, Hs0, Hs1, Hc0, Hc1, Hp0, Hp1, Ha0, Ha1⟩
  iapply (wp_ldf 𝒱 c bd E) $$ Hm
  iintro Hm
  iapply (wp_ldf 𝒱 c bd E) $$ Hc0
  iintro Hc0
  iapply (wp_ldf 𝒱 c bd E) $$ Ha0
  iintro Ha0
  iapply (wp_stf 𝒱 c bd E) $$ Ha0
  iintro Ha0
  iapply (wp_ld 𝒱 c bd E) $$ Hs0
  iintro Hs0
  iapply (wp_ld 𝒱 c bd E) $$ Hp0
  iintro Hp0
  iapply (wp_st 𝒱 c bd E) $$ Hp0
  iintro Hp0
  iapply (wp_ld 𝒱 c bd E) $$ Hp0
  iintro Hp0
  iapply (wp_st 𝒱 c bd E) $$ Hp0
  iintro Hp0
  iapply (wp_ld 𝒱 c bd E) $$ Hs0
  iintro Hs0
  iapply (wp_ld 𝒱 c bd E) $$ Hp0
  iintro Hp0
  iapply (wp_st 𝒱 c bd E) $$ Hp0
  iintro Hp0
  iapply (wp_ldf 𝒱 c bd E) $$ Hm
  iintro Hm
  iapply (wp_stf 𝒱 c bd E) $$ Hm
  iintro Hm
  iapply le_wp_ret
  iframe
  iexact Hp0

/-- The state after the diagonal block's values. -/
@[reducible] def St.diagValue (X : St F) (I : Inp F) (off off2 : Fin 4 → ℕ) (ho : ∀ a, off a + S1x1x144x512.size a ≤ S1x16x144x1024.size a) (ho2 : ∀ a, off2 a + S1x1x144x512.size a ≤ S1x16x144x1024.size a) : St F :=
  { X with acc := diagAcc X.acc (VecWindow.window (s := S1x16x144x1024) I.v off S1x1x144x512.size ho) (VecWindow.window (s := S1x16x144x1024) I.v off2 S1x1x144x512.size ho2) X.p0 X.a0 }

theorem wp_diagValue (B : Bf) (I : Inp F) (X : St F) (off off2 : Fin 4 → ℕ) (ho : ∀ a, off a + S1x1x144x512.size a ≤ S1x16x144x1024.size a) (ho2 : ∀ a, off2 a + S1x1x144x512.size a ≤ S1x16x144x1024.size a) :
    Own c B I X ⊢ wp frame (wpE defs 𝒱 (c : Thread nD τ) bd) E (stDiagValue B off off2 ho ho2) (fun _ => Own c B I (X.diagValue I off off2 ho ho2)) := by
  unfold Own stDiagValue
  iintro ⟨Hq, Hqn, Hk, Hv, Ho, Hm, Hacc, Hs0, Hs1, Hc0, Hc1, Hp0, Hp1, Ha0, Ha1⟩
  iapply (wp_ld 𝒱 c bd E) $$ Hv
  iintro Hv
  iapply (wp_ld 𝒱 c bd E) $$ Hp0
  iintro Hp0
  iapply (wp_ld 𝒱 c bd E) $$ Hv
  iintro Hv
  iapply (wp_ld 𝒱 c bd E) $$ Hp0
  iintro Hp0
  iapply (wp_ldf 𝒱 c bd E) $$ Ha0
  iintro Ha0
  iapply (wp_ld 𝒱 c bd E) $$ Hacc
  iintro Hacc
  iapply (wp_ld 𝒱 c bd E) $$ Hacc
  iintro Hacc
  iapply (wp_st 𝒱 c bd E) $$ Hacc
  iintro Hacc
  iapply (wp_ld 𝒱 c bd E) $$ Hacc
  iintro Hacc
  iapply (wp_ld 𝒱 c bd E) $$ Hacc
  iintro Hacc
  iapply (wp_st 𝒱 c bd E) $$ Hacc
  iintro Hacc
  iapply le_wp_ret
  iframe
  iexact Hacc

/-- The state after the output. -/
@[reducible] def St.out (X : St F) (I : Inp F)  : St F :=
  { X with o := outB X.acc }

theorem wp_out (B : Bf) (I : Inp F) (X : St F)  :
    Own c B I X ⊢ wp frame (wpE defs 𝒱 (c : Thread nD τ) bd) E (stOut B ) (fun _ => Own c B I (X.out I )) := by
  unfold Own stOut
  iintro ⟨Hq, Hqn, Hk, Hv, Ho, Hm, Hacc, Hs0, Hs1, Hc0, Hc1, Hp0, Hp1, Ha0, Ha1⟩
  iapply (wp_ld 𝒱 c bd E) $$ Hacc
  iintro Hacc
  iapply (wp_ld 𝒱 c bd E) $$ Hacc
  iintro Hacc
  iapply (wp_ldf 𝒱 c bd E) $$ Ho
  iintro Ho
  iapply (wp_stf 𝒱 c bd E) $$ Ho
  iintro Ho
  iapply le_wp_ret
  iframe
  iexact Ho

end Cert.Kernel2Ideal.Attn

end
-- ==== Proof.Attention.Spec.lean ====
/- What a point computes, item by item: item 0 is the diagonal block, item t the key block t - 1. -/
module

public import proofs.«01_k».proof.Proof.Attention.State

@[expose] public section

set_option maxRecDepth 16384

noncomputable section

namespace Cert.Kernel2Ideal.Attn

open Cert.Kernel2Ideal Cert.Kernel2Ideal.Gen
open Idealize.ShloMosaic

variable {F : FTy → Type} [FloatOps F] [Named F]

theorem inbK (n : ℕ) (hn : n < 16) : ∀ a, (![0, n, 0, 0] : Fin 4 → ℕ) a + S1x1x1024x256.size a ≤ S1x16x1024x256.size a := by
  intro a; fin_cases a <;> simp [S1x1x1024x256, S1x16x1024x256] ; omega

theorem inbV (n : ℕ) (hn : n < 16) : ∀ a, (![0, n, 0, 0] : Fin 4 → ℕ) a + S1x1x144x1024.size a ≤ S1x16x144x1024.size a := by
  intro a; fin_cases a <;> simp [S1x1x144x1024, S1x16x144x1024] ; omega

theorem inbK1 (n : ℕ) (hn : n < 16) : ∀ a, (![0, n, 0, 0] : Fin 4 → ℕ) a + S1x1x512x256.size a ≤ S1x16x1024x256.size a := by
  intro a; fin_cases a <;> simp [S1x1x512x256, S1x16x1024x256] ; omega

theorem inbK2 (n : ℕ) (hn : n < 16) : ∀ a, (![0, n, 512, 0] : Fin 4 → ℕ) a + S1x1x512x256.size a ≤ S1x16x1024x256.size a := by
  intro a; fin_cases a <;> simp [S1x1x512x256, S1x16x1024x256] ; omega

theorem inbV1 (n : ℕ) (hn : n < 16) : ∀ a, (![0, n, 0, 0] : Fin 4 → ℕ) a + S1x1x144x512.size a ≤ S1x16x144x1024.size a := by
  intro a; fin_cases a <;> simp [S1x1x144x512, S1x16x144x1024] ; omega

theorem inbV2 (n : ℕ) (hn : n < 16) : ∀ a, (![0, n, 0, 512] : Fin 4 → ℕ) a + S1x1x144x512.size a ≤ S1x16x144x1024.size a := by
  intro a; fin_cases a <;> simp [S1x1x144x512, S1x16x144x1024] ; omega

/-- Key block `n` (mod 16), and its halves; value block `n`, and its halves. -/
def kB (K : Vec F S1x16x1024x256 .bf16) (n : ℕ) : Vec F S1x1x1024x256 .bf16 :=
  VecWindow.window (s := S1x16x1024x256) K ![0, n % 16, 0, 0] S1x1x1024x256.size (inbK _ (Nat.mod_lt _ (by norm_num)))
def kB1 (K : Vec F S1x16x1024x256 .bf16) (n : ℕ) : Vec F S1x1x512x256 .bf16 :=
  VecWindow.window (s := S1x16x1024x256) K ![0, n % 16, 0, 0] S1x1x512x256.size (inbK1 _ (Nat.mod_lt _ (by norm_num)))
def kB2 (K : Vec F S1x16x1024x256 .bf16) (n : ℕ) : Vec F S1x1x512x256 .bf16 :=
  VecWindow.window (s := S1x16x1024x256) K ![0, n % 16, 512, 0] S1x1x512x256.size (inbK2 _ (Nat.mod_lt _ (by norm_num)))
def vB (V : Vec F S1x16x144x1024 .bf16) (n : ℕ) : Vec F S1x1x144x1024 .bf16 :=
  VecWindow.window (s := S1x16x144x1024) V ![0, n % 16, 0, 0] S1x1x144x1024.size (inbV _ (Nat.mod_lt _ (by norm_num)))
def vB1 (V : Vec F S1x16x144x1024 .bf16) (n : ℕ) : Vec F S1x1x144x512 .bf16 :=
  VecWindow.window (s := S1x16x144x1024) V ![0, n % 16, 0, 0] S1x1x144x512.size (inbV1 _ (Nat.mod_lt _ (by norm_num)))
def vB2 (V : Vec F S1x16x144x1024 .bf16) (n : ℕ) : Vec F S1x1x144x512 .bf16 :=
  VecWindow.window (s := S1x16x144x1024) V ![0, n % 16, 0, 512] S1x1x144x512.size (inbV2 _ (Nat.mod_lt _ (by norm_num)))
/-- The right half of the queries. -/
def q2 (q : Vec F S1x256x1024 .bf16) : Vec F S1x256x512 .bf16 :=
  VecWindow.window (s := S1x256x1024) q ![0, 0, 512] S1x256x512.size inb_S1x256x1024_S1x256x512_0_0_512

theorem window_congr {s : Shape} {α : Type} (x : s.Idx → α) {off off' size : Fin s.rank → ℕ} (inb : ∀ a, off a + size a ≤ s.size a)
    (inb' : ∀ a, off' a + size a ≤ s.size a) (h : off = off') : VecWindow.window x off size inb = VecWindow.window x off' size inb' := by
  subst h; rfl

/-- Any contents: what the diagonal scores are put over. -/
def junkS : Vec F S1024x1024 .f32 := fun _ => FloatOps.ofBits .f32 0x00000000#32
def junkC : Vec F S1x1024 .f32 := fun _ => FloatOps.ofBits .f32 0x00000000#32
def junkP : Vec F S1024x1024 .bf16 := fun _ => FloatOps.ofBits .bf16 0x0000#16

/-- The diagonal block's scores for queries `q` at block `n`, and their column maxima. -/
def dS (q : Vec F S1x256x1024 .bf16) (K : Vec F S1x16x1024x256 .bf16) (n : ℕ) : Vec F S1024x1024 .f32 :=
  diagS junkS (kB1 K n) (kB2 K n) q (q2 q)
def dC (q : Vec F S1x256x1024 .bf16) (K : Vec F S1x16x1024x256 .bf16) (n : ℕ) : Vec F S1x1024 .f32 :=
  diagC junkC (kB1 K n) (kB2 K n) q (q2 q)

variable (I : Inp F) (n : ℕ)

/-- The block of item `t`. -/
def blk (t : ℕ) : ℕ := if t = 0 then n else t - 1
/-- The scores of item `t`. -/
def sS (t : ℕ) : Vec F S1024x1024 .f32 := if t = 0 then dS I.q I.k n else k0_pay53 (kB I.k (t - 1)) I.q
/-- Their column maxima. -/
def cC (t : ℕ) : Vec F S1x1024 .f32 := if t = 0 then dC I.q I.k n else k0_pay54 (kB I.k (t - 1)) I.q
/-- The running maximum before item `t`. -/
def mM : ℕ → Vec F S1x1024 .f32
  | 0 => k0_pay298
  | t + 1 => k0_pay57 (cC I n t) (mM t)
/-- The rescaling factor at item `t`. -/
def aA (t : ℕ) : Vec F S1x1024 .f32 := k0_pay60 (k0_pay56 (cC I n t) (mM I n t))
/-- The weights of item `t`. -/
def pP (t : ℕ) : Vec F S1024x1024 .bf16 :=
  if t = 0 ∧ n ≠ 0 then firstP junkP (sS I n 0) (mM I n 0) (cC I n 0) else k0_pay59 (k0_pay58 (sS I n t) (cC I n t) (mM I n t))
/-- The accumulator before item `t`'s values. -/
def ac : ℕ → Vec F S144x1024 .f32
  | 0 => k0_pay299
  | t + 1 => if t = 0 ∧ 2 ≤ n then diagAcc (ac 0) (vB1 I.v n) (vB2 I.v n) (pP I n 0) (aA I n 0)
      else k0_pay61 (pP I n t) (aA I n t) (vB I.v (blk n t)) (ac t)

/-- The output block. -/
def outP : Vec F S1024x128 .bf16 := outB (ac I n (n + 1))

/-! ## Stores that cover -/

theorem put_apply_of_mem {s : Shape} {α : Type} (x : s.Idx → α) (off size : Fin s.rank → ℕ) (w : ((a : Fin s.rank) → Fin (size a)) → α) (y : s.Idx)
    (h : ∀ a, off a ≤ (y a).val ∧ (y a).val < off a + size a) : VecWindow.put x off size w y = w (Rect.unitLocal (s := s) (off := off) (size := size) y h) := by
  unfold VecWindow.put; rw [dif_pos h]

theorem put_apply_of_not {s : Shape} {α : Type} (x : s.Idx → α) (off size : Fin s.rank → ℕ) (w : ((a : Fin s.rank) → Fin (size a)) → α) (y : s.Idx)
    (h : ¬ ∀ a, off a ≤ (y a).val ∧ (y a).val < off a + size a) : VecWindow.put x off size w y = x y := by
  unfold VecWindow.put; rw [dif_neg h]

theorem put_congr_at {s : Shape} {α : Type} (x x' : s.Idx → α) (off size : Fin s.rank → ℕ) (w : ((a : Fin s.rank) → Fin (size a)) → α) (y : s.Idx)
    (h : (¬ ∀ a, off a ≤ (y a).val ∧ (y a).val < off a + size a) → x y = x' y) : VecWindow.put x off size w y = VecWindow.put x' off size w y := by
  by_cases hm : ∀ a, off a ≤ (y a).val ∧ (y a).val < off a + size a
  · rw [put_apply_of_mem _ _ _ _ _ hm, put_apply_of_mem _ _ _ _ _ hm]
  · rw [put_apply_of_not _ _ _ _ _ hm, put_apply_of_not _ _ _ _ _ hm, h hm]

theorem diagS_congr (x x' : Vec F S1024x1024 .f32) (k1 k2 : Vec F S1x1x512x256 .bf16) (q : Vec F S1x256x1024 .bf16) (qq : Vec F S1x256x512 .bf16) :
    diagS x k1 k2 q qq = diagS x' k1 k2 q qq := by
  funext y
  unfold diagS
  refine put_congr_at _ _ _ _ _ _ fun h3 => put_congr_at _ _ _ _ _ _ fun h2 => put_congr_at _ _ _ _ _ _ fun h1 => put_congr_at _ _ _ _ _ _ fun h0 => ?_
  exfalso
  have b0 : (y 0).val < 1024 := (y 0).isLt
  have b1 : (y 1).val < 1024 := (y 1).isLt
  rw [Fin.forall_fin_two] at h0 h1 h2 h3
  simp [S512x512] at h0 h1 h2 h3
  omega

theorem diagC_congr (x x' : Vec F S1x1024 .f32) (k1 k2 : Vec F S1x1x512x256 .bf16) (q : Vec F S1x256x1024 .bf16) (qq : Vec F S1x256x512 .bf16) :
    diagC x k1 k2 q qq = diagC x' k1 k2 q qq := by
  funext y
  unfold diagC
  refine put_congr_at _ _ _ _ _ _ fun h1 => put_congr_at _ _ _ _ _ _ fun h0 => ?_
  exfalso
  have b0 : (y 0).val < 1 := (y 0).isLt
  have b1 : (y 1).val < 1024 := (y 1).isLt
  rw [Fin.forall_fin_two] at h0 h1
  simp [S1x512] at h0 h1
  omega

theorem firstP_congr (x x' : Vec F S1024x1024 .bf16) (s : Vec F S1024x1024 .f32) (m cm : Vec F S1x1024 .f32) :
    firstP x s m cm = firstP x' s m cm := by
  funext y
  unfold firstP
  refine put_congr_at _ _ _ _ _ _ fun h2 => put_congr_at _ _ _ _ _ _ fun h1 => put_congr_at _ _ _ _ _ _ fun h0 => ?_
  exfalso
  have b0 : (y 0).val < 1024 := (y 0).isLt
  have b1 : (y 1).val < 1024 := (y 1).isLt
  rw [Fin.forall_fin_two] at h0 h1 h2
  simp [S512x512, S512x1024] at h0 h1 h2
  omega

end Cert.Kernel2Ideal.Attn

end
-- ==== Proof.Attention.Offsets.lean ====
/- The body's conditions and offsets at a point, as numbers. -/
module

public import proofs.«01_k».proof.Proof.Attention.Stages

@[expose] public section

set_option maxRecDepth 65536

noncomputable section

namespace Cert.Kernel2Ideal.Attn

open Cert.Kernel2Ideal Cert.Kernel2Ideal.Gen
open Idealize.ShloMosaic

/-- The query block of a point. -/
abbrev nf (i : grid0.Coords) : ℕ := (i 1).val

/-- How many items the loop of eight leaves behind it. -/
def pos1 (i : grid0.Coords) : ℕ := 2 + 8 * (k0_t1_loop i).trips
def pos2 (i : grid0.Coords) : ℕ := if k0_cond5 i = 1#1 then pos1 i + 4 else pos1 i
def pos3 (i : grid0.Coords) : ℕ := if k0_cond6 i = 1#1 then pos2 i + 2 else pos2 i

theorem nf_lt (i : grid0.Coords) : nf i < 16 := (i 1).isLt

theorem conds : ∀ i : grid0.Coords, (k0_cond1 i = 1#1 ↔ nf i = 0) ∧ (k0_cond2 i = 1#1 ↔ nf i = 0) ∧ (cond3 i = 1#1 ↔ nf i = 1)
    ∧ (k0_cond4 i = 1#1 ↔ 2 ≤ nf i) ∧ (k0_cond8 i = 1#1 ↔ 1 ≤ nf i ∧ nf i % 2 = 0) ∧ (k0_cond9 i = 1#1 ↔ nf i % 2 = 1) := by decide +kernel

theorem trips1 : ∀ i : grid0.Coords, (k0_t1_loop i).trips ≤ 1 ∧ (nf i < 2 → (k0_t1_loop i).trips = 0) ∧ (k0_t2_loop i).trips = 0 := by decide +kernel

theorem lows : ∀ i : grid0.Coords, nf i < 2 → ¬ k0_cond5 i = 1#1 ∧ ¬ k0_cond6 i = 1#1 ∧ ¬ k0_cond7 i = 1#1 := by decide +kernel

theorem rests : ∀ i : grid0.Coords, 2 ≤ nf i → (nf i = if k0_cond7 i = 1#1 then pos3 i + 1 else pos3 i) ∧ pos3 i % 2 = 0 := by decide +kernel

theorem off1 : ∀ i : grid0.Coords, k0_cond1 i = 1#1 → k0_off1 i = ![0, nf i, 0, 0] ∧ k0_off2 i = ![0, nf i, 512, 0] := by decide +kernel

theorem off3 : ∀ i : grid0.Coords, k0_cond2 i = 1#1 → k0_off3 i = ![0, nf i, 0, 0]
    ∧ k0_off4 i = ![0, min (nf i + 1) 15, 0, 0] ∧ k0_off5 i = ![0, min (nf i + 1) 15, 512, 0] := by decide +kernel

theorem off6 : ∀ i : grid0.Coords, k0_cond4 i = 1#1 → k0_off6 i = ![0, nf i, 0, 0] ∧ k0_off7 i = ![0, nf i, 0, 512] := by decide +kernel

theorem off12 : ∀ i : grid0.Coords, k0_cond5 i = 1#1 → ∀ r : Fin 4, k0_off12 i (BitVec.ofNat 32 r.val) = ![0, pos1 i + r.val, 0, 0]
    ∧ k0_off13 i (BitVec.ofNat 32 r.val) = ![0, pos1 i + r.val - 2, 0, 0] := by decide +kernel

theorem off14 : ∀ i : grid0.Coords, k0_cond6 i = 1#1 → ∀ r : Fin 2, k0_off14 i (BitVec.ofNat 32 r.val) = ![0, pos2 i + r.val, 0, 0]
    ∧ k0_off15 i (BitVec.ofNat 32 r.val) = ![0, pos2 i + r.val - 2, 0, 0] := by decide +kernel

theorem off16 : ∀ i : grid0.Coords, k0_cond7 i = 1#1 → k0_off16 i = ![0, pos3 i, 0, 0] ∧ k0_off17 i = ![0, pos3 i - 2, 0, 0] := by decide +kernel

theorem off18 : ∀ i : grid0.Coords, k0_cond8 i = 1#1 → k0_off18 i = ![0, nf i - 2, 0, 0] ∧ k0_off19 i = ![0, nf i - 1, 0, 0]
    ∧ k0_off20 i = ![0, min (nf i + 1) 15, 0, 0] ∧ k0_off21 i = ![0, min (nf i + 1) 15, 512, 0] := by decide +kernel

theorem off22 : ∀ i : grid0.Coords, k0_cond9 i = 1#1 → k0_off22 i = ![0, if nf i = 1 then 1 else nf i - 2, 0, 0] ∧ k0_off23 i = ![0, nf i - 1, 0, 0]
    ∧ k0_off24 i = ![0, min (nf i + 1) 15, 0, 0] ∧ k0_off25 i = ![0, min (nf i + 1) 15, 512, 0] := by decide +kernel

theorem off8 : ∀ (i : grid0.Coords) (t : Fin (k0_t1_loop i).trips) (r : Fin 8), k0_off8 i t (BitVec.ofNat 32 r.val) = ![0, 2 + 8 * t.val + r.val, 0, 0]
    ∧ k0_off9 i t (BitVec.ofNat 32 r.val) = ![0, 2 + 8 * t.val + r.val - 2, 0, 0] := by decide +kernel

end Cert.Kernel2Ideal.Attn

end
-- ==== Proof.Attention.Steps.lean ====
/- The steps of the pipelined loop, in terms of the items they finish. -/
module

public import proofs.«01_k».proof.Proof.Attention.Spec
public import proofs.«01_k».proof.Proof.Attention.Offsets

@[expose] public section

set_option maxRecDepth 65536

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {defs : Defs nD τ sig (Elt F) Λ₀} (𝒱 : Variants) (c : Dev nD) (bd : Option 𝒱.V) (E : Set ℕ)

/-- Exchanging the slots exchanges what they hold. -/
theorem own_unswap (B : Bf) (I : Inp F) (X : St F) : Own c B I X ⊢ Own c B.swap I X.swap := own_swap c B.swap I X.swap

/-- One stage and then the rest. -/
theorem wp_seq {α : Type} {P Q : sProp 𝕄} {p : Prog (TpuEff nD τ sig (Elt F) Λ₀ .tc) PUnit} {k : PUnit → Prog (TpuEff nD τ sig (Elt F) Λ₀ .tc) α} {Φ : α → sProp 𝕄}
    (h : P ⊢ wp frame (wpE defs 𝒱 (c : Thread nD τ) bd) E p (fun _ => Q)) (hk : Q ⊢ wp frame (wpE defs 𝒱 (c : Thread nD τ) bd) E (k ⟨⟩) Φ) :
    P ⊢ wp frame (wpE defs 𝒱 (c : Thread nD τ) bd) E (p >>= k) Φ := by
  rw [wp_bind]
  exact h.trans (wp_mono _ _ _ fun _ => hk)

/-- Nothing left to do. -/
theorem wp_done {α : Type} {P : sProp 𝕄} {a : α} {Φ : α → sProp 𝕄} (h : P ⊢ Φ a) : P ⊢ wp frame (wpE defs 𝒱 (c : Thread nD τ) bd) E (pure a) Φ :=
  h.trans (le_wp_ret _ _ _ _ _)

/-- A stage on the exchanged slots. -/
theorem wp_swapped {B : Bf} {I : Inp F} {X Y : St F} {p : Prog (TpuEff nD τ sig (Elt F) Λ₀ .tc) PUnit}
    (h : Own c B.swap I X.swap ⊢ wp frame (wpE defs 𝒱 (c : Thread nD τ) bd) E p (fun _ => Own c B.swap I Y)) :
    Own c B I X ⊢ wp frame (wpE defs 𝒱 (c : Thread nD τ) bd) E p (fun _ => Own c B I Y.swap) :=
  ((own_unswap c B I X).trans h).trans (wp_mono _ _ _ fun _ => own_swap c B I Y.swap)

/-- The state after one step of the loop, in the exchanged slots. -/
@[reducible] def St.iter (X : St F) (I : Inp F) (off : Fin 4 → ℕ) (ho : ∀ a, off a + S1x1x1024x256.size a ≤ S1x16x1024x256.size a)
    (voff : Fin 4 → ℕ) (hv : ∀ a, voff a + S1x1x144x1024.size a ≤ S1x16x144x1024.size a) : St F :=
  (((X.swap.scores I off ho).swap.softmax I).swap.value I voff hv)

theorem wp_iter (B : Bf) (I : Inp F) (X : St F) (off : Fin 4 → ℕ) (ho : ∀ a, off a + S1x1x1024x256.size a ≤ S1x16x1024x256.size a)
    (voff : Fin 4 → ℕ) (hv : ∀ a, voff a + S1x1x144x1024.size a ≤ S1x16x144x1024.size a) :
    Own c B I X ⊢ wp frame (wpE defs 𝒱 (c : Thread nD τ) bd) E (stIter B off ho voff hv) (fun _ => Own c B.swap I (X.iter I off ho voff hv)) := by
  unfold stIter
  refine wp_seq 𝒱 c bd E (wp_swapped 𝒱 c bd E (Y := X.swap.scores I off ho) (wp_scores 𝒱 c bd E B.swap I X.swap off ho)) ?_
  refine wp_seq 𝒱 c bd E (wp_softmax 𝒱 c bd E B I _) ?_
  exact (own_unswap c B I ((X.swap.scores I off ho).swap.softmax I)).trans (wp_value 𝒱 c bd E B.swap I ((X.swap.scores I off ho).swap.softmax I).swap voff hv)

/-- Item `u`'s scores are in the first slot, item `u - 1`'s weights in the second, and everything before is accumulated. -/
structure Inv (I : Inp F) (n u : ℕ) (X : St F) : Prop where
  s : X.s0 = sS I n u
  c : X.c0 = cC I n u
  p : X.p1 = pP I n (u - 1)
  a : X.a1 = aA I n (u - 1)
  m : X.m = mM I n u
  acc : X.acc = ac I n (u - 1)

theorem kB_eq (K : Vec F S1x16x1024x256 .bf16) (n : ℕ) (h : n < 16) (off : Fin 4 → ℕ) (ho : ∀ a, off a + S1x1x1024x256.size a ≤ S1x16x1024x256.size a)
    (e : off = ![0, n, 0, 0]) : VecWindow.window (s := S1x16x1024x256) K off S1x1x1024x256.size ho = kB K n :=
  window_congr _ _ _ (by rw [e, Nat.mod_eq_of_lt h])

theorem vB_eq (V : Vec F S1x16x144x1024 .bf16) (n : ℕ) (h : n < 16) (off : Fin 4 → ℕ) (ho : ∀ a, off a + S1x1x144x1024.size a ≤ S1x16x144x1024.size a)
    (e : off = ![0, n, 0, 0]) : VecWindow.window (s := S1x16x144x1024) V off S1x1x144x1024.size ho = vB V n :=
  window_congr _ _ _ (by rw [e, Nat.mod_eq_of_lt h])

theorem sS_succ (I : Inp F) (n t : ℕ) : sS I n (t + 1) = k0_pay53 (kB I.k t) I.q := by
  rw [sS, if_neg (Nat.succ_ne_zero t), Nat.add_sub_cancel]

theorem cC_succ (I : Inp F) (n t : ℕ) : cC I n (t + 1) = k0_pay54 (kB I.k t) I.q := by
  rw [cC, if_neg (Nat.succ_ne_zero t), Nat.add_sub_cancel]

theorem mM_succ (I : Inp F) (n t : ℕ) : mM I n (t + 1) = k0_pay57 (cC I n t) (mM I n t) := rfl

theorem blk_succ (n t : ℕ) : blk n (t + 1) = t := by
  rw [blk, if_neg (Nat.succ_ne_zero t), Nat.add_sub_cancel]

/-- Adding item `t`'s values. -/
theorem ac_succ (I : Inp F) (n t : ℕ) (h : ¬ (t = 0 ∧ 2 ≤ n)) : ac I n (t + 1) = k0_pay61 (pP I n t) (aA I n t) (vB I.v (blk n t)) (ac I n t) := by
  rw [ac, if_neg h]

theorem Inv.iter {I : Inp F} {n u : ℕ} {X : St F} (h : Inv I n u X) (hu : 2 ≤ u) (hu' : u < 16) (off : Fin 4 → ℕ) (ho : ∀ a, off a + S1x1x1024x256.size a ≤ S1x16x1024x256.size a)
    (voff : Fin 4 → ℕ) (hv : ∀ a, voff a + S1x1x144x1024.size a ≤ S1x16x144x1024.size a) (e : off = ![0, u, 0, 0]) (ev : voff = ![0, u - 2, 0, 0]) :
    Inv I n (u + 1) (X.iter I off ho voff hv) := by
  obtain ⟨t, rfl⟩ : ∃ t, u = t + 2 := ⟨u - 2, by omega⟩
  refine ⟨?_, ?_, ?_, ?_, ?_, ?_⟩
  · rw [sS_succ I n (t + 2), ← kB_eq I.k (t + 2) hu' off ho e]
  · rw [cC_succ I n (t + 2), ← kB_eq I.k (t + 2) hu' off ho e]
  · show k0_pay59 (k0_pay58 X.s0 X.c0 X.m) = pP I n (t + 2)
    rw [h.s, h.c, h.m, pP, if_neg (by omega)]
  · show k0_pay60 (k0_pay56 X.c0 X.m) = aA I n (t + 2)
    rw [h.c, h.m, aA]
  · show k0_pay57 X.c0 X.m = _
    rw [h.c, h.m, mM_succ I n (t + 2)]
  · show k0_pay61 X.p1 X.a1 (VecWindow.window (s := S1x16x144x1024) I.v voff S1x1x144x1024.size hv) X.acc = ac I n (t + 2)
    rw [vB_eq I.v t (by omega) voff hv ev, h.p, h.a, h.acc, ac_succ I n (t + 1) (by omega), blk_succ]
    rfl

/-- The buffers with item `u` in the first slot. -/
def At (B : Bf) (I : Inp F) (n u : ℕ) : sProp 𝕄 := iprop(∃ X, ⌜Inv I n u X⌝ ∗ Own c B I X)

theorem at_intro {B : Bf} {I : Inp F} {n u : ℕ} {X : St F} (h : Inv I n u X) : Own c B I X ⊢ At c B I n u := by
  unfold At
  iintro H
  iexists X
  iframe
  ipureintro
  exact h

theorem at_elim {B : Bf} {I : Inp F} {n u : ℕ} {P : sProp 𝕄} (h : ∀ X, Inv I n u X → Own c B I X ⊢ P) : At c B I n u ⊢ P := by
  unfold At
  iintro ⟨%X, %hX, H⟩
  iapply (h X hX) $$ H

/-- One step, from item to item. -/
theorem wp_step {α : Type} {k : PUnit → Prog (TpuEff nD τ sig (Elt F) Λ₀ .tc) α} {Φ : α → sProp 𝕄} (B : Bf) (I : Inp F) (n u : ℕ) (hu : 2 ≤ u) (hu' : u < 16)
    {off : Fin 4 → ℕ} {ho : ∀ a, off a + S1x1x1024x256.size a ≤ S1x16x1024x256.size a}
    {voff : Fin 4 → ℕ} {hv : ∀ a, voff a + S1x1x144x1024.size a ≤ S1x16x144x1024.size a} (e : off = ![0, u, 0, 0] ∧ voff = ![0, u - 2, 0, 0])
    (hk : At c B.swap I n (u + 1) ⊢ wp frame (wpE defs 𝒱 (c : Thread nD τ) bd) E (k ⟨⟩) Φ) :
    At c B I n u ⊢ wp frame (wpE defs 𝒱 (c : Thread nD τ) bd) E (stIter B off ho voff hv >>= k) Φ :=
  at_elim c fun X hX => wp_seq 𝒱 c bd E (wp_iter 𝒱 c bd E B I X off ho voff hv) ((at_intro c (hX.iter hu hu' off ho voff hv e.1 e.2)).trans hk)

/-- The last step of a list. -/
theorem wp_step' (B : Bf) (I : Inp F) (n u : ℕ) (hu : 2 ≤ u) (hu' : u < 16)
    {off : Fin 4 → ℕ} {ho : ∀ a, off a + S1x1x1024x256.size a ≤ S1x16x1024x256.size a}
    {voff : Fin 4 → ℕ} {hv : ∀ a, voff a + S1x1x144x1024.size a ≤ S1x16x144x1024.size a} (e : off = ![0, u, 0, 0] ∧ voff = ![0, u - 2, 0, 0]) :
    At c B I n u ⊢ wp frame (wpE defs 𝒱 (c : Thread nD τ) bd) E (stIter B off ho voff hv) (fun _ => At c B.swap I n (u + 1)) :=
  at_elim c fun X hX => (wp_iter 𝒱 c bd E B I X off ho voff hv).trans (wp_mono _ _ _ fun _ => at_intro c (hX.iter hu hu' off ho voff hv e.1 e.2))

/-- Eight steps. -/
theorem wp_trip (B : Bf) (I : Inp F) (i : grid0.Coords) (t : Fin (k0_t1_loop i).trips) :
    At c B I (nf i) (2 + 8 * t.val) ⊢ wp frame (wpE defs 𝒱 (c : Thread nD τ) bd) E (stTrip B i t) (fun _ => At c B I (nf i) (2 + 8 * (t.val + 1))) := by
  have ht : t.val = 0 := by have := t.isLt; have := (trips1 i).1; omega
  have o := off8 i t
  unfold stTrip
  refine wp_step 𝒱 c bd E B I _ _ (by omega) (by omega) (o 0) ?_
  refine wp_step 𝒱 c bd E B.swap I _ _ (by omega) (by omega) (o 1) ?_
  refine wp_step 𝒱 c bd E B I _ _ (by omega) (by omega) (o 2) ?_
  refine wp_step 𝒱 c bd E B.swap I _ _ (by omega) (by omega) (o 3) ?_
  refine wp_step 𝒱 c bd E B I _ _ (by omega) (by omega) (o 4) ?_
  refine wp_step 𝒱 c bd E B.swap I _ _ (by omega) (by omega) (o 5) ?_
  refine wp_step 𝒱 c bd E B I _ _ (by omega) (by omega) (o 6) ?_
  exact wp_step' 𝒱 c bd E B.swap I _ _ (by omega) (by omega) (o 7)

end Cert.Kernel2Ideal.Attn

end
-- ==== Proof.Attention.Run.lean ====
/- One point: from the diagonal scores it starts with to its output block and the next point's diagonal scores. -/
module

public import proofs.«01_k».proof.Proof.Attention.Steps

@[expose] public section

set_option maxRecDepth 65536

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {defs : Defs nD τ sig (Elt F) Λ₀} (𝒱 : Variants) (c : Dev nD) (bd : Option 𝒱.V) (E : Set ℕ)

/-- What a point starts from: unless it is the first of its head, its diagonal scores are in the first slot. -/
def Starts (I : Inp F) (n : ℕ) (X : St F) : Prop := n ≠ 0 → X.s0 = dS I.q I.k n ∧ X.c0 = dC I.q I.k n

/-- What a point ends with: its output block, and the next point's diagonal scores. -/
structure Ends (I : Inp F) (n : ℕ) (X : St F) : Prop where
  o : X.o = outP I n
  s : X.s0 = dS I.qn I.k (min (n + 1) 15)
  c : X.c0 = dC I.qn I.k (min (n + 1) 15)

/-- The buffers after point `n`. -/
def Post (B : Bf) (I : Inp F) (n : ℕ) : sProp 𝕄 := iprop(∃ X, ⌜Ends I n X⌝ ∗ Own c B I X)

theorem post_intro {B : Bf} {I : Inp F} {n : ℕ} {X : St F} (h : Ends I n X) : Own c B I X ⊢ Post c B I n := by
  unfold Post
  iintro H
  iexists X
  iframe
  ipureintro
  exact h

theorem kB1_eq (K : Vec F S1x16x1024x256 .bf16) (n : ℕ) (h : n < 16) (off : Fin 4 → ℕ) (ho : ∀ a, off a + S1x1x512x256.size a ≤ S1x16x1024x256.size a)
    (e : off = ![0, n, 0, 0]) : VecWindow.window (s := S1x16x1024x256) K off S1x1x512x256.size ho = kB1 K n :=
  window_congr _ _ _ (by rw [e, Nat.mod_eq_of_lt h])

theorem kB2_eq (K : Vec F S1x16x1024x256 .bf16) (n : ℕ) (h : n < 16) (off : Fin 4 → ℕ) (ho : ∀ a, off a + S1x1x512x256.size a ≤ S1x16x1024x256.size a)
    (e : off = ![0, n, 512, 0]) : VecWindow.window (s := S1x16x1024x256) K off S1x1x512x256.size ho = kB2 K n :=
  window_congr _ _ _ (by rw [e, Nat.mod_eq_of_lt h])

theorem vB1_eq (V : Vec F S1x16x144x1024 .bf16) (n : ℕ) (h : n < 16) (off : Fin 4 → ℕ) (ho : ∀ a, off a + S1x1x144x512.size a ≤ S1x16x144x1024.size a)
    (e : off = ![0, n, 0, 0]) : VecWindow.window (s := S1x16x144x1024) V off S1x1x144x512.size ho = vB1 V n :=
  window_congr _ _ _ (by rw [e, Nat.mod_eq_of_lt h])

theorem vB2_eq (V : Vec F S1x16x144x1024 .bf16) (n : ℕ) (h : n < 16) (off : Fin 4 → ℕ) (ho : ∀ a, off a + S1x1x144x512.size a ≤ S1x16x144x1024.size a)
    (e : off = ![0, n, 0, 512]) : VecWindow.window (s := S1x16x144x1024) V off S1x1x144x512.size ho = vB2 V n :=
  window_congr _ _ _ (by rw [e, Nat.mod_eq_of_lt h])

/-- The diagonal scores, whatever they are put over. -/
theorem dS_eq (x : Vec F S1024x1024 .f32) (q : Vec F S1x256x1024 .bf16) (K : Vec F S1x16x1024x256 .bf16) (n : ℕ) (h : n < 16) (off off2 : Fin 4 → ℕ)
    (ho : ∀ a, off a + S1x1x512x256.size a ≤ S1x16x1024x256.size a) (ho2 : ∀ a, off2 a + S1x1x512x256.size a ≤ S1x16x1024x256.size a)
    (e : off = ![0, n, 0, 0]) (e2 : off2 = ![0, n, 512, 0]) :
    diagS x (VecWindow.window (s := S1x16x1024x256) K off S1x1x512x256.size ho) (VecWindow.window (s := S1x16x1024x256) K off2 S1x1x512x256.size ho2) q
      (VecWindow.window (s := S1x256x1024) q ![0, 0, 512] S1x256x512.size inb_S1x256x1024_S1x256x512_0_0_512) = dS q K n := by
  rw [kB1_eq K n h off ho e, kB2_eq K n h off2 ho2 e2]
  exact diagS_congr _ _ _ _ _ _

theorem dC_eq (x : Vec F S1x1024 .f32) (q : Vec F S1x256x1024 .bf16) (K : Vec F S1x16x1024x256 .bf16) (n : ℕ) (h : n < 16) (off off2 : Fin 4 → ℕ)
    (ho : ∀ a, off a + S1x1x512x256.size a ≤ S1x16x1024x256.size a) (ho2 : ∀ a, off2 a + S1x1x512x256.size a ≤ S1x16x1024x256.size a)
    (e : off = ![0, n, 0, 0]) (e2 : off2 = ![0, n, 512, 0]) :
    diagC x (VecWindow.window (s := S1x16x1024x256) K off S1x1x512x256.size ho) (VecWindow.window (s := S1x16x1024x256) K off2 S1x1x512x256.size ho2) q
      (VecWindow.window (s := S1x256x1024) q ![0, 0, 512] S1x256x512.size inb_S1x256x1024_S1x256x512_0_0_512) = dC q K n := by
  rw [kB1_eq K n h off ho e, kB2_eq K n h off2 ho2 e2]
  exact diagC_congr _ _ _ _ _ _

theorem mM_zero (I : Inp F) (n : ℕ) : mM I n 0 = k0_pay298 := by rw [mM]
theorem ac_zero (I : Inp F) (n : ℕ) : ac I n 0 = k0_pay299 := by rw [ac]
theorem sS_zero (I : Inp F) (n : ℕ) : sS I n 0 = dS I.q I.k n := if_pos rfl
theorem cC_zero (I : Inp F) (n : ℕ) : cC I n 0 = dC I.q I.k n := if_pos rfl
theorem pP_zero (I : Inp F) (n : ℕ) (h : n ≠ 0) (x : Vec F S1024x1024 .bf16) : pP I n 0 = firstP x (sS I n 0) (mM I n 0) (cC I n 0) := by
  rw [pP, if_pos ⟨rfl, h⟩]; exact firstP_congr _ _ _ _ _
theorem pP_soft (I : Inp F) (n t : ℕ) (h : ¬ (t = 0 ∧ n ≠ 0)) : pP I n t = k0_pay59 (k0_pay58 (sS I n t) (cC I n t) (mM I n t)) := by
  rw [pP, if_neg h]

/-! ## The head of a point -/

/-- The first point of a head does all its work at once. -/
theorem wp_head0 {α : Type} (x : α) (B : Bf) (I : Inp F) (i : grid0.Coords) (hn : nf i = 0) (X : St F) :
    Own c B I X ⊢ wp frame (wpE defs 𝒱 (c : Thread nD τ) bd) E (stHead x B i) (fun _ => Post c B I (nf i)) := by
  obtain ⟨h1, h2, h3, h4, -, -⟩ := conds i
  have h1 := h1.2 hn
  have h2 := h2.2 hn
  have h3 : ¬ cond3 i = 1#1 := fun h => by have := h3.1 h; omega
  have h4 : ¬ k0_cond4 i = 1#1 := fun h => by have := h4.1 h; omega
  unfold stHead
  simp only [dif_pos h1, dif_pos h2, dif_neg h3, dif_neg h4]
  refine wp_seq 𝒱 c bd E (wp_init 𝒱 c bd E B I X) ?_
  refine wp_seq 𝒱 c bd E (wp_diag 𝒱 c bd E B I _ _ _ _ _) ?_
  refine wp_seq 𝒱 c bd E (wp_softmax 𝒱 c bd E B I _) ?_
  refine wp_seq 𝒱 c bd E (wp_value 𝒱 c bd E B I _ _ _) ?_
  refine wp_seq 𝒱 c bd E (wp_diagNext 𝒱 c bd E B I _ _ _ _ _) ?_
  refine wp_seq 𝒱 c bd E (wp_out 𝒱 c bd E B I _) ?_
  refine wp_done 𝒱 c bd E ?_
  refine post_intro c ⟨?_, ?_, ?_⟩
  · obtain ⟨e1, e2⟩ := off1 i h1
    obtain ⟨e3, -, -⟩ := off3 i h2
    have hS := dS_eq X.s0 I.q I.k (nf i) (nf_lt i) _ _ (k0_off1_inb i h1) (k0_off2_inb i h1) e1 e2
    have hC := dC_eq X.c0 I.q I.k (nf i) (nf_lt i) _ _ (k0_off1_inb i h1) (k0_off2_inb i h1) e1 e2
    dsimp only
    rw [hS, hC, vB_eq I.v (nf i) (nf_lt i) _ (k0_off3_inb i h2) e3, outP, hn, ac_succ I 0 0 (by omega), pP_soft I 0 0 (by simp), sS_zero, aA, cC_zero, mM_zero, ac_zero]
    rfl
  · obtain ⟨-, e4, e5⟩ := off3 i h2
    exact dS_eq _ I.qn I.k _ (by omega) _ _ (k0_off4_inb i h2) (k0_off5_inb i h2) e4 e5
  · obtain ⟨-, e4, e5⟩ := off3 i h2
    exact dC_eq _ I.qn I.k _ (by omega) _ _ (k0_off4_inb i h2) (k0_off5_inb i h2) e4 e5

/-- The second point of a head ends its head with item 1's scores in the second slot. -/
theorem wp_head1 {α : Type} (x : α) (B : Bf) (I : Inp F) (i : grid0.Coords) (hn : nf i = 1) (X : St F) (hX : Starts I (nf i) X) :
    Own c B I X ⊢ wp frame (wpE defs 𝒱 (c : Thread nD τ) bd) E (stHead x B i) (fun _ => At c B.swap I (nf i) (nf i)) := by
  obtain ⟨h1, h2, h3, h4, -, -⟩ := conds i
  have h1 : ¬ k0_cond1 i = 1#1 := fun h => by have := h1.1 h; omega
  have h2 : ¬ k0_cond2 i = 1#1 := fun h => by have := h2.1 h; omega
  have h3 := h3.2 hn
  have h4 : ¬ k0_cond4 i = 1#1 := fun h => by have := h4.1 h; omega
  obtain ⟨hS, hC⟩ := hX (by omega)
  unfold stHead
  simp only [dif_neg h1, dif_neg h2, dif_pos h3, dif_neg h4]
  refine wp_seq 𝒱 c bd E (wp_init 𝒱 c bd E B I X) ?_
  refine wp_seq 𝒱 c bd E (wp_swapped 𝒱 c bd E (wp_scores 𝒱 c bd E B.swap I (X.init I).swap _ _)) ?_
  refine wp_seq 𝒱 c bd E (wp_first 𝒱 c bd E B I _) ?_
  refine wp_done 𝒱 c bd E ?_
  refine (own_unswap c B I _).trans (at_intro c ?_)
  rw [hn] at hS hC ⊢
  have hS := hS.trans (sS_zero I 1).symm
  have hC := hC.trans (cC_zero I 1).symm
  refine ⟨?_, ?_, ?_, ?_, ?_, (ac_zero I 1).symm⟩
  · rw [sS_succ I 1 0, ← kB_eq I.k 0 (by omega) _ inb_S1x16x1024x256_S1x1x1024x256_0_0_0_0 rfl]
  · rw [cC_succ I 1 0, ← kB_eq I.k 0 (by omega) _ inb_S1x16x1024x256_S1x1x1024x256_0_0_0_0 rfl]
  · dsimp only
    rw [hS, hC, pP_zero I 1 (by omega) X.p0, mM_zero]
  · dsimp only
    rw [hC, aA, mM_zero]; rfl
  · dsimp only
    rw [hC, mM_succ I 1 0, mM_zero]; rfl

/-- Any later point ends its head with item 2's scores in the first slot. -/
theorem wp_head2 {α : Type} (x : α) (B : Bf) (I : Inp F) (i : grid0.Coords) (hn : 2 ≤ nf i) (X : St F) (hX : Starts I (nf i) X) :
    Own c B I X ⊢ wp frame (wpE defs 𝒱 (c : Thread nD τ) bd) E (stHead x B i) (fun _ => At c B I (nf i) 2) := by
  obtain ⟨h1, h2, h3, h4, -, -⟩ := conds i
  have h1 : ¬ k0_cond1 i = 1#1 := fun h => by have := h1.1 h; omega
  have h2 : ¬ k0_cond2 i = 1#1 := fun h => by have := h2.1 h; omega
  have h3 : ¬ cond3 i = 1#1 := fun h => by have := h3.1 h; omega
  have h4 := h4.2 hn
  obtain ⟨hS, hC⟩ := hX (by omega)
  unfold stHead
  simp only [dif_neg h1, dif_neg h2, dif_neg h3, dif_pos h4]
  refine wp_seq 𝒱 c bd E (wp_init 𝒱 c bd E B I X) ?_
  refine wp_seq 𝒱 c bd E (wp_swapped 𝒱 c bd E (wp_scores 𝒱 c bd E B.swap I (X.init I).swap _ _)) ?_
  refine wp_seq 𝒱 c bd E (wp_first 𝒱 c bd E B I _) ?_
  refine wp_seq 𝒱 c bd E (wp_scores 𝒱 c bd E B I _ _ _) ?_
  refine wp_seq 𝒱 c bd E (wp_swapped 𝒱 c bd E (wp_softmax 𝒱 c bd E B.swap I _)) ?_
  refine wp_seq 𝒱 c bd E (wp_diagValue 𝒱 c bd E B I _ _ _ _ _) ?_
  refine wp_done 𝒱 c bd E ?_
  refine at_intro c ?_
  generalize hnn : nf i = n at hS hC hn ⊢
  have hS := hS.trans (sS_zero I n).symm
  have hC := hC.trans (cC_zero I n).symm
  have hm : k0_pay310 (k0_pay28 (k0_pay298 (F := F)) X.c0) = mM I n 1 := by rw [hC, mM_succ I n 0, mM_zero]; rfl
  have hs1 : k0_pay53 (VecWindow.window (s := S1x16x1024x256) I.k _ S1x1x1024x256.size inb_S1x16x1024x256_S1x1x1024x256_0_0_0_0) I.q = sS I n 1 := by
    rw [sS_succ I n 0, ← kB_eq I.k 0 (by omega) _ inb_S1x16x1024x256_S1x1x1024x256_0_0_0_0 rfl]
  have hc1 : k0_pay54 (VecWindow.window (s := S1x16x1024x256) I.k _ S1x1x1024x256.size inb_S1x16x1024x256_S1x1x1024x256_0_0_0_0) I.q = cC I n 1 := by
    rw [cC_succ I n 0, ← kB_eq I.k 0 (by omega) _ inb_S1x16x1024x256_S1x1x1024x256_0_0_0_0 rfl]
  refine ⟨?_, ?_, ?_, ?_, ?_, ?_⟩
  · rw [sS_succ I n 1, ← kB_eq I.k 1 (by omega) _ inb_S1x16x1024x256_S1x1x1024x256_0_1_0_0 rfl]
  · rw [cC_succ I n 1, ← kB_eq I.k 1 (by omega) _ inb_S1x16x1024x256_S1x1x1024x256_0_1_0_0 rfl]
  · dsimp only
    rw [hs1, hc1, hm, pP_soft I n 1 (by simp)]
  · dsimp only
    rw [hc1, hm, aA]
  · dsimp only
    rw [hc1, hm, mM_succ I n 1]
  · obtain ⟨e6, e7⟩ := off6 i h4
    rw [hnn] at e6 e7
    have hl : n < 16 := hnn ▸ nf_lt i
    dsimp only
    rw [vB1_eq I.v n hl _ (k0_off6_inb i h4) e6, vB2_eq I.v n hl _ (k0_off7_inb i h4) e7, hS, hC]
    show _ = ac I n 1
    rw [ac, if_pos ⟨rfl, hn⟩, pP_zero I n (by omega) X.p0, aA, mM_zero, ac_zero]
    rfl

/-! ## The loops and the steps left over -/

/-- A loop that makes no trips. -/
theorem wp_loop0 {w : ℕ} (l : Scf.Loop w) (hok : l.OK) (b : Fin l.trips → PUnit → Prog (TpuEff nD τ sig (Elt F) Λ₀ .tc) PUnit) (ht : l.trips = 0) {P : sProp 𝕄} :
    P ⊢ wp frame (wpE defs 𝒱 (c : Thread nD τ) bd) E (Scf.Loop.for l hok ⟨⟩ b) (fun _ => P) := by
  have h := Scf.wp_for frame (wpE defs 𝒱 (c : Thread nD τ) bd) E l.lb l.ub l.st hok ⟨⟩ b (fun _ _ => P) (Q := fun _ => P) (fun k _ => absurd k.isLt (by
    have : Scf.trips l.lb l.ub l.st = 0 := ht
    omega))
  iintro H
  iapply h
  iframe
  iintro %_ H
  iexact H

/-- The loop of eight steps. -/
theorem wp_loop1 (B : Bf) (I : Inp F) (i : grid0.Coords) :
    At c B I (nf i) 2 ⊢ wp frame (wpE defs 𝒱 (c : Thread nD τ) bd) E (Scf.Loop.for (k0_t1_loop i) (k0_t1_ok i) ⟨⟩ (fun t _ => stTrip B i t))
      (fun _ => At c B I (nf i) (pos1 i)) := by
  have h := Scf.wp_for frame (wpE defs 𝒱 (c : Thread nD τ) bd) E (k0_t1_loop i).lb (k0_t1_loop i).ub (k0_t1_loop i).st (k0_t1_ok i) ⟨⟩
    (fun t (_ : PUnit) => stTrip (F := F) B i t) (fun k _ => At c B I (nf i) (2 + 8 * k)) (Q := fun _ => At c B I (nf i) (pos1 i)) (fun k _ => wp_trip 𝒱 c bd E B I i k)
  iintro H
  iapply h
  iframe
  iintro %_ H
  iexact H

/-- In the first two points of a head nothing is left to do there. -/
theorem wp_rest0 {α : Type} (x : α) (B : Bf) (i : grid0.Coords) (b2 : Fin (k0_t2_loop i).trips → Unit → Prog (TpuEff nD τ sig (Elt F) Λ₀ .tc) Unit)
    (hn : nf i < 2) (P : sProp 𝕄) :
    P ⊢ wp frame (wpE defs 𝒱 (c : Thread nD τ) bd) E (stRest x B i b2) (fun _ => P) := by
  obtain ⟨h5, h6, h7⟩ := lows i hn
  obtain ⟨-, ht1, ht2⟩ := trips1 i
  unfold stRest
  simp only [dif_neg h5, dif_neg h6, dif_neg h7]
  refine wp_seq 𝒱 c bd E (Q := P) (wp_loop0 𝒱 c bd E _ _ _ (ht1 hn)) ?_
  refine wp_seq 𝒱 c bd E (Q := P) (wp_loop0 𝒱 c bd E _ _ _ ht2) ?_
  exact wp_done 𝒱 c bd E .rfl

/-- The step left over when the last item is odd. -/
theorem wp_rest7 {α : Type} (x : α) (B : Bf) (I : Inp F) (i : grid0.Coords) (hn : 2 ≤ nf i) (hp : 2 ≤ pos3 i) :
    At c B I (nf i) (pos3 i) ⊢ wp frame (wpE defs 𝒱 (c : Thread nD τ) bd) E
      (if h : k0_cond7 i = 1#1 then (stIter B (k0_off16 i) (k0_off16_inb i h) (k0_off17 i) (k0_off17_inb i h) >>= fun _ => pure x) else pure x)
      (fun _ => At c (if nf i % 2 = 0 then B else B.swap) I (nf i) (nf i)) := by
  obtain ⟨he, hev⟩ := rests i hn
  have hl := nf_lt i
  by_cases h7 : k0_cond7 i = 1#1
  · rw [dif_pos h7]
    rw [if_pos h7] at he
    refine wp_step 𝒱 c bd E B I _ _ hp (by omega) (off16 i h7) (wp_done 𝒱 c bd E ?_)
    rw [if_neg (by omega), ← he]
  · rw [dif_neg h7]
    rw [if_neg h7] at he
    refine wp_done 𝒱 c bd E ?_
    rw [if_pos (by omega), ← he]

/-- The steps left over from two on. -/
theorem wp_rest6 {α : Type} (x : α) (B : Bf) (I : Inp F) (i : grid0.Coords) (hn : 2 ≤ nf i) (hp : 2 ≤ pos2 i) :
    At c B I (nf i) (pos2 i) ⊢ wp frame (wpE defs 𝒱 (c : Thread nD τ) bd) E
      (if h : k0_cond6 i = 1#1 then (stIter B (k0_off14 i 0#32) (k0_off14_inb i h 0) (k0_off15 i 0#32) (k0_off15_inb i h 0) >>= fun _ =>
        stIter B.swap (k0_off14 i 1#32) (k0_off14_inb i h 1) (k0_off15 i 1#32) (k0_off15_inb i h 1) >>= fun _ =>
        (if h : k0_cond7 i = 1#1 then (stIter B (k0_off16 i) (k0_off16_inb i h) (k0_off17 i) (k0_off17_inb i h) >>= fun _ => pure x) else pure x))
       else (if h : k0_cond7 i = 1#1 then (stIter B (k0_off16 i) (k0_off16_inb i h) (k0_off17 i) (k0_off17_inb i h) >>= fun _ => pure x) else pure x))
      (fun _ => At c (if nf i % 2 = 0 then B else B.swap) I (nf i) (nf i)) := by
  obtain ⟨he, hev⟩ := rests i hn
  have hl := nf_lt i
  have h7 := wp_rest7 (defs := defs) 𝒱 c bd E x B I i hn
  have hpos : pos3 i ≤ nf i := by split at he <;> omega
  by_cases h6 : k0_cond6 i = 1#1
  · rw [dif_pos h6]
    have hp3 : pos3 i = pos2 i + 2 := if_pos h6
    refine wp_step 𝒱 c bd E B I _ _ hp (by omega) (off14 i h6 0) ?_
    refine wp_step 𝒱 c bd E B.swap I _ _ (by omega) (by omega) (off14 i h6 1) ?_
    have := h7 (by omega)
    rw [hp3] at this
    exact this
  · rw [dif_neg h6]
    have hp3 : pos3 i = pos2 i := if_neg h6
    rw [hp3] at h7
    exact h7 hp

/-- From item 2 to the last one. -/
theorem wp_rest2 {α : Type} (x : α) (B : Bf) (I : Inp F) (i : grid0.Coords) (b2 : Fin (k0_t2_loop i).trips → Unit → Prog (TpuEff nD τ sig (Elt F) Λ₀ .tc) Unit)
    (hn : 2 ≤ nf i) :
    At c B I (nf i) 2 ⊢ wp frame (wpE defs 𝒱 (c : Thread nD τ) bd) E (stRest x B i b2) (fun _ => At c (if nf i % 2 = 0 then B else B.swap) I (nf i) (nf i)) := by
  obtain ⟨he, hev⟩ := rests i hn
  have hl := nf_lt i
  have hpos : pos3 i ≤ nf i := by split at he <;> omega
  have h6 := wp_rest6 (defs := defs) 𝒱 c bd E x B I i hn
  have h23 : pos2 i ≤ pos3 i := by unfold pos3; split <;> omega
  unfold stRest
  refine wp_seq 𝒱 c bd E (Q := At c B I (nf i) (pos1 i)) (wp_loop1 𝒱 c bd E B I i) ?_
  refine wp_seq 𝒱 c bd E (Q := At c B I (nf i) (pos1 i)) (wp_loop0 𝒱 c bd E _ _ _ (trips1 i).2.2) ?_
  have hp1 : 2 ≤ pos1 i := Nat.le_add_right _ _
  by_cases h5 : k0_cond5 i = 1#1
  · have hp2 : pos2 i = pos1 i + 4 := if_pos h5
    simp only [dif_pos h5]
    refine wp_step 𝒱 c bd E B I _ _ (by omega) (by omega) (off12 i h5 0) ?_
    refine wp_step 𝒱 c bd E B.swap I _ _ (by omega) (by omega) (off12 i h5 1) ?_
    refine wp_step 𝒱 c bd E B I _ _ (by omega) (by omega) (off12 i h5 2) ?_
    refine wp_step 𝒱 c bd E B.swap I _ _ (by omega) (by omega) (off12 i h5 3) ?_
    have := h6 (by omega)
    rw [hp2] at this
    exact this
  · have hp2 : pos2 i = pos1 i := if_neg h5
    simp only [dif_neg h5]
    rw [hp2] at h6
    exact h6 hp1

/-! ## The end of a point -/

/-- The last two items' values, the next point's diagonal scores, the output. -/
theorem wp_tail {α : Type} {k : PUnit → Prog (TpuEff nD τ sig (Elt F) Λ₀ .tc) α} {Φ : α → sProp 𝕄} (B : Bf) (I : Inp F) (n : ℕ) (hn : 1 ≤ n) (hl : n < 16)
    (B' : Bf) (hB : (B' = B) ∨ (B' = B.swap))
    {o1 o2 : Fin 4 → ℕ} {h1 : ∀ a, o1 a + S1x1x144x1024.size a ≤ S1x16x144x1024.size a} {h2 : ∀ a, o2 a + S1x1x144x1024.size a ≤ S1x16x144x1024.size a}
    {o3 o4 : Fin 4 → ℕ} {h3 : ∀ a, o3 a + S1x1x512x256.size a ≤ S1x16x1024x256.size a} {h4 : ∀ a, o4 a + S1x1x512x256.size a ≤ S1x16x1024x256.size a}
    (e1 : o1 = ![0, if n = 1 then 1 else n - 2, 0, 0]) (e2 : o2 = ![0, n - 1, 0, 0])
    (e3 : o3 = ![0, min (n + 1) 15, 0, 0]) (e4 : o4 = ![0, min (n + 1) 15, 512, 0])
    (hk : Post c B I n ⊢ wp frame (wpE defs 𝒱 (c : Thread nD τ) bd) E (k ⟨⟩) Φ) :
    At c B' I n n ⊢ wp frame (wpE defs 𝒱 (c : Thread nD τ) bd) E
      (stFinish B' o1 o2 h1 h2 >>= fun _ => stDiagNext B o3 o4 h3 h4 >>= fun _ => stOut B >>= k) Φ := by
  refine at_elim c fun X hX => ?_
  have hF : Own c B' I X ⊢ wp frame (wpE defs 𝒱 (c : Thread nD τ) bd) E (stFinish B' o1 o2 h1 h2)
      (fun _ => Own c B' I (((X.softmax I).swap.value I o1 h1).swap.value I o2 h2)) := by
    unfold stFinish
    refine wp_seq 𝒱 c bd E (wp_softmax 𝒱 c bd E B' I X) ?_
    refine wp_seq 𝒱 c bd E (wp_swapped 𝒱 c bd E (wp_value 𝒱 c bd E B'.swap I (X.softmax I).swap o1 h1)) ?_
    exact wp_value 𝒱 c bd E B' I _ o2 h2
  have hacc : (((X.softmax I).swap.value I o1 h1).swap.value I o2 h2).acc = ac I n (n + 1) := by
    obtain ⟨t, rfl⟩ : ∃ t, n = t + 1 := ⟨n - 1, by omega⟩
    have hv1 : VecWindow.window (s := S1x16x144x1024) I.v o1 S1x1x144x1024.size h1 = vB I.v (blk (t + 1) t) := by
      by_cases h0 : t = 0
      · subst h0
        exact vB_eq I.v 1 (by omega) o1 h1 (by rw [e1, if_pos rfl])
      · rw [blk, if_neg h0]
        exact vB_eq I.v (t - 1) (by omega) o1 h1 (by rw [e1, if_neg (by omega)]; rfl)
    have hv2 : VecWindow.window (s := S1x16x144x1024) I.v o2 S1x1x144x1024.size h2 = vB I.v t := vB_eq I.v t (by omega) o2 h2 e2
    dsimp only
    rw [hv1, hv2, hX.s, hX.c, hX.m, hX.p, hX.a, hX.acc, ac_succ I (t + 1) (t + 1) (by omega), pP_soft I (t + 1) (t + 1) (by omega), blk_succ, aA,
      ac_succ I (t + 1) t (by omega)]
    rfl
  refine wp_seq 𝒱 c bd E hF ?_
  have hown : ∃ Y : St F, Y.acc = ac I n (n + 1) ∧ (Own c B' I (((X.softmax I).swap.value I o1 h1).swap.value I o2 h2) ⊢ Own c B I Y) := by
    rcases hB with rfl | rfl
    · exact ⟨_, hacc, .rfl⟩
    · exact ⟨(((X.softmax I).swap.value I o1 h1).swap.value I o2 h2).swap, hacc, own_swap c B I (((X.softmax I).swap.value I o1 h1).swap.value I o2 h2).swap⟩
  obtain ⟨Y, hY, hO⟩ := hown
  refine hO.trans ?_
  refine wp_seq 𝒱 c bd E (wp_diagNext 𝒱 c bd E B I Y o3 o4 h3 h4) ?_
  refine wp_seq 𝒱 c bd E (wp_out 𝒱 c bd E B I _) ?_
  refine (post_intro c ⟨?_, ?_, ?_⟩).trans hk
  · dsimp only
    rw [hY, outP]
  · exact dS_eq _ I.qn I.k _ (by omega) _ _ h3 h4 e3 e4
  · exact dC_eq _ I.qn I.k _ (by omega) _ _ h3 h4 e3 e4

/-! ## The whole point -/

theorem wp_body {α β : Type} (x : α) (y : β) (B : Bf) (I : Inp F) (i : grid0.Coords)
    (b2 : α → Fin (k0_t2_loop i).trips → Unit → Prog (TpuEff nD τ sig (Elt F) Λ₀ .tc) Unit) (X : St F) (hX : Starts I (nf i) X) :
    Own c B I X ⊢ wp frame (wpE defs 𝒱 (c : Thread nD τ) bd) E (stBody x y B i b2) (fun _ => Post c B I (nf i)) := by
  obtain ⟨-, -, -, -, h8, h9⟩ := conds i
  have hl := nf_lt i
  unfold stBody
  rw [wp_bind]
  rcases Nat.lt_or_ge (nf i) 2 with hn | hn
  · rcases Nat.lt_or_ge (nf i) 1 with hn0 | hn1
    · refine (wp_head0 𝒱 c bd E x B I i (by omega) X).trans (wp_mono _ _ _ fun t => ?_)
      rw [wp_bind]
      refine (wp_rest0 𝒱 c bd E y B i (b2 t) hn _).trans (wp_mono _ _ _ fun _ => ?_)
      have h8 : ¬ k0_cond8 i = 1#1 := fun h => by have := h8.1 h; omega
      have h9 : ¬ k0_cond9 i = 1#1 := fun h => by have := h9.1 h; omega
      simp only [dif_neg h8, dif_neg h9]
      exact wp_done 𝒱 c bd E .rfl
    · refine (wp_head1 𝒱 c bd E x B I i (by omega) X hX).trans (wp_mono _ _ _ fun t => ?_)
      rw [wp_bind]
      refine (wp_rest0 𝒱 c bd E y B i (b2 t) hn _).trans (wp_mono _ _ _ fun _ => ?_)
      have h8 : ¬ k0_cond8 i = 1#1 := fun h => by have := h8.1 h; omega
      have h9 := h9.2 (by omega)
      simp only [dif_neg h8, dif_pos h9]
      obtain ⟨e1, e2, e3, e4⟩ := off22 i h9
      exact wp_tail 𝒱 c bd E B I _ hn1 hl B.swap (.inr rfl) e1 e2 e3 e4 (wp_done 𝒱 c bd E .rfl)
  · refine (wp_head2 𝒱 c bd E x B I i hn X hX).trans (wp_mono _ _ _ fun t => ?_)
    rw [wp_bind]
    refine (wp_rest2 𝒱 c bd E y B I i (b2 t) hn).trans (wp_mono _ _ _ fun _ => ?_)
    by_cases he : nf i % 2 = 0
    · have h8 := h8.2 ⟨by omega, he⟩
      have h9 : ¬ k0_cond9 i = 1#1 := fun h => by have := h9.1 h; omega
      simp only [dif_pos h8, dif_neg h9, if_pos he]
      obtain ⟨e1, e2, e3, e4⟩ := off18 i h8
      refine wp_tail 𝒱 c bd E B I _ (by omega) hl B (.inl rfl) ?_ e2 e3 e4 (wp_done 𝒱 c bd E .rfl)
      rw [e1, if_neg (by omega)]
    · have h8 : ¬ k0_cond8 i = 1#1 := fun h => by have := h8.1 h; omega
      have h9 := h9.2 (by omega)
      simp only [dif_neg h8, dif_pos h9, if_neg he]
      obtain ⟨e1, e2, e3, e4⟩ := off22 i h9
      exact wp_tail 𝒱 c bd E B I _ (by omega) hl B.swap (.inr rfl) e1 e2 e3 e4 (wp_done 𝒱 c bd E .rfl)

end Cert.Kernel2Ideal.Attn

end
-- ==== Proof.Attention.Blocks.lean ====
/- Where each window's block lies in its array. -/
module

public import proofs.«01_k».proof.Proof.Attention.Run
public import Idealize.ShloMosaic.Lib.Pipeline.Value
public import Idealize.ShloMosaic.Lib.Pointwise

@[expose] public section

set_option maxRecDepth 65536

noncomputable section

namespace Cert.Kernel2Ideal.Attn

open Cert.Kernel2Ideal Cert.Kernel2Ideal.Gen
open Idealize.ShloMosaic Idealize.ShloMosaic.TcCoe

variable {F : FTy → Type} [FloatOps F] [Named F]

variable (m : (ℓ : Loc nD τ sig) → Buf (Elt F) ℓ)

/-- The queries, the keys and the values as the region finds them. -/
abbrev qA (c : Dev nD) : Vec F S8x256x16384 .bf16 := V m c main_v9
abbrev kA (c : Dev nD) : Vec F S8x16x1024x256 .bf16 := V m c main_v14
abbrev vA (c : Dev nD) : Vec F S8x16x144x1024 .bf16 := V m c main_v20

theorem pt_lt (t : Fin cfg0.N) : t.val < 128 := lt_of_lt_of_eq t.isLt N_0

/-- The head of grid point `t`. -/
abbrev hd (t : Fin cfg0.N) : Fin 8 := ⟨t.val / 16, by have := pt_lt t; omega⟩
/-- Position `y` of query block `n`. -/
abbrev pos (n : ℕ) (hn : n < 16) (y : Fin 1024) : Fin 16384 := ⟨n * 1024 + y.val, by omega⟩
/-- Column `y` of head `h`. -/
abbrev lane (h : Fin 8) (y : Fin 128) : Fin 1024 := ⟨h.val * 128 + y.val, by omega⟩

theorem nf_coords : ∀ t : Fin grid0.N, nf (grid0.coords t) = t.val % 16 := by decide +kernel

theorem offs : ∀ t : Fin grid0.N,
    (win0_0.index t = ![t.val / 16, 0, t.val % 16] ∧ win0_1.index t = ![t.val / 16, 0, min (t.val % 16 + 1) 15]
      ∧ win0_2.index t = ![t.val / 16, 0, 0, 0] ∧ win0_3.index t = ![t.val / 16, 0, 0, 0])
    ∧ win0_4.index t = ![t.val % 16, t.val / 16] := by
  decide +kernel

/-- The point's queries: 1024 columns of its head's. -/
theorem read0 (W : (b : Ref sig .tc) → b.ty.Contents (Elt F)) (t : Fin cfg0.N) (x : S1x256x1024.Idx) :
    ((cfg0.win 0).blk t).view.read (Elt F) (W (Pipeline.arrRef spec0 0)) x = W main_v9 (ix3 (hd t) (x 1) (pos (t.val % 16) (by omega) (x 2))) := by
  show W main_v9 ((win0_0.rect t).emb x) = _
  refine congrArg (W main_v9) (funext fun a => Fin.ext ?_)
  rw [Pipeline.Window.rect_emb_val_off, show win0_0.index t = ![t.val / 16, 0, t.val % 16] from (offs t).1.1]
  match a with
  | ⟨0, _⟩ =>
    have : (x 0).val < 1 := (x 0).isLt
    show t.val / 16 * 1 + (x 0).val = t.val / 16
    omega
  | ⟨1, _⟩ => show 0 * 256 + (x 1).val = (x 1).val; omega
  | ⟨2, _⟩ => rfl

theorem iblk0 (c : Dev nD) (t : Fin cfg0.N) (x : S1x256x1024.Idx) : iblk m c 0 t x = qA m c (ix3 (hd t) (x 1) (pos (t.val % 16) (by omega) (x 2))) :=
  read0 (V m c) t x

/-- The next point's queries. -/
theorem read1 (W : (b : Ref sig .tc) → b.ty.Contents (Elt F)) (t : Fin cfg0.N) (x : S1x256x1024.Idx) :
    ((cfg0.win 1).blk t).view.read (Elt F) (W (Pipeline.arrRef spec0 1)) x = W main_v9 (ix3 (hd t) (x 1) (pos (min (t.val % 16 + 1) 15) (by omega) (x 2))) := by
  show W main_v9 ((win0_1.rect t).emb x) = _
  refine congrArg (W main_v9) (funext fun a => Fin.ext ?_)
  rw [Pipeline.Window.rect_emb_val_off, show win0_1.index t = ![t.val / 16, 0, min (t.val % 16 + 1) 15] from (offs t).1.2.1]
  match a with
  | ⟨0, _⟩ =>
    have : (x 0).val < 1 := (x 0).isLt
    show t.val / 16 * 1 + (x 0).val = t.val / 16
    omega
  | ⟨1, _⟩ => show 0 * 256 + (x 1).val = (x 1).val; omega
  | ⟨2, _⟩ => rfl

theorem iblk1 (c : Dev nD) (t : Fin cfg0.N) (x : S1x256x1024.Idx) : iblk m c 1 t x = qA m c (ix3 (hd t) (x 1) (pos (min (t.val % 16 + 1) 15) (by omega) (x 2))) :=
  read1 (V m c) t x

/-- The head's keys. -/
theorem read2 (W : (b : Ref sig .tc) → b.ty.Contents (Elt F)) (t : Fin cfg0.N) (x : S1x16x1024x256.Idx) :
    ((cfg0.win 2).blk t).view.read (Elt F) (W (Pipeline.arrRef spec0 2)) x = W main_v14 (ix4 (hd t) (x 1) (x 2) (x 3)) := by
  show W main_v14 ((win0_2.rect t).emb x) = _
  refine congrArg (W main_v14) (funext fun a => Fin.ext ?_)
  rw [Pipeline.Window.rect_emb_val_off, show win0_2.index t = ![t.val / 16, 0, 0, 0] from (offs t).1.2.2.1]
  match a with
  | ⟨0, _⟩ =>
    have : (x 0).val < 1 := (x 0).isLt
    show t.val / 16 * 1 + (x 0).val = t.val / 16
    omega
  | ⟨1, _⟩ => show 0 * 16 + (x 1).val = (x 1).val; omega
  | ⟨2, _⟩ => show 0 * 1024 + (x 2).val = (x 2).val; omega
  | ⟨3, _⟩ => show 0 * 256 + (x 3).val = (x 3).val; omega

theorem iblk2 (c : Dev nD) (t : Fin cfg0.N) (x : S1x16x1024x256.Idx) : iblk m c 2 t x = kA m c (ix4 (hd t) (x 1) (x 2) (x 3)) :=
  read2 (V m c) t x

/-- The head's values. -/
theorem read3 (W : (b : Ref sig .tc) → b.ty.Contents (Elt F)) (t : Fin cfg0.N) (x : S1x16x144x1024.Idx) :
    ((cfg0.win 3).blk t).view.read (Elt F) (W (Pipeline.arrRef spec0 3)) x = W main_v20 (ix4 (hd t) (x 1) (x 2) (x 3)) := by
  show W main_v20 ((win0_3.rect t).emb x) = _
  refine congrArg (W main_v20) (funext fun a => Fin.ext ?_)
  rw [Pipeline.Window.rect_emb_val_off, show win0_3.index t = ![t.val / 16, 0, 0, 0] from (offs t).1.2.2.2]
  match a with
  | ⟨0, _⟩ =>
    have : (x 0).val < 1 := (x 0).isLt
    show t.val / 16 * 1 + (x 0).val = t.val / 16
    omega
  | ⟨1, _⟩ => show 0 * 16 + (x 1).val = (x 1).val; omega
  | ⟨2, _⟩ => show 0 * 144 + (x 2).val = (x 2).val; omega
  | ⟨3, _⟩ => show 0 * 1024 + (x 3).val = (x 3).val; omega

theorem iblk3 (c : Dev nD) (t : Fin cfg0.N) (x : S1x16x144x1024.Idx) : iblk m c 3 t x = vA m c (ix4 (hd t) (x 1) (x 2) (x 3)) :=
  read3 (V m c) t x

/-- Where the result's block sits in its array: rows of the point's query block, columns of its head. -/
theorem emb4 (t : Fin cfg0.N) (x : S1024x128.Idx) : (win0_4.rect t).emb x
    = (ix2 (pos (t.val % 16) (by omega) (x 0)) (lane (hd t) (x 1)) : S16384x1024.Idx) := by
  refine funext fun a => Fin.ext ?_
  rw [Pipeline.Window.rect_emb_val_off, show win0_4.index t = ![t.val % 16, t.val / 16] from (offs t).2]
  match a with
  | ⟨0, _⟩ => rfl
  | ⟨1, _⟩ => rfl

/-- The arrays point `t` reads. -/
def inp (c : Dev nD) (t : Fin cfg0.N) : Inp F := ⟨iblk m c 0 t, iblk m c 1 t, iblk m c 2 t, iblk m c 3 t⟩

/-- The next point of the same head finds as its queries what this point had as the next one's. -/
theorem inp_next (c : Dev nD) (t t' : Fin cfg0.N) (h : t'.val = t.val + 1) (h' : t'.val % 16 ≠ 0) :
    (inp m c t').q = (inp m c t).qn ∧ (inp m c t').k = (inp m c t).k ∧ t'.val % 16 = min (t.val % 16 + 1) 15 := by
  have hn : t'.val % 16 = min (t.val % 16 + 1) 15 := by omega
  have hh : t'.val / 16 = t.val / 16 := by omega
  refine ⟨funext fun x => ?_, funext fun x => ?_, hn⟩
  · show iblk m c 0 t' x = iblk m c 1 t x
    rw [iblk0, iblk1]
    refine congrArg _ ?_
    congr 1
    · exact Fin.ext hh
    · refine Fin.ext ?_
      show t'.val % 16 * 1024 + _ = min (t.val % 16 + 1) 15 * 1024 + _
      rw [hn]
  · show iblk m c 2 t' x = iblk m c 2 t x
    rw [iblk2, iblk2]
    refine congrArg _ ?_
    congr 1
    exact Fin.ext hh

end Cert.Kernel2Ideal.Attn

end
-- ==== Proof.Attention.Frame.lean ====
/- The launch of the attention: what is carried from point to point, and the run of the whole program. -/
module

public import proofs.«01_k».proof.Proof.Attention.Shape
public import proofs.«01_k».proof.Proof.Attention.Blocks
public import Idealize.ShloMosaic.Lib.Claim

@[expose] public section

set_option maxRecDepth 65536

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The ten scratch buffers, at a state's arrays. -/
def Scr (c : Dev nD) (X : St F) : sProp 𝕄 :=
  iprop(owns (c : Thread nD τ) (Memref.whole cc0_scratch0) fullShare X.m ∗ owns (c : Thread nD τ) (Memref.whole cc0_scratch1) fullShare X.acc
    ∗ owns (c : Thread nD τ) (Memref.whole cc0_scratch2) fullShare X.s0 ∗ owns (c : Thread nD τ) (Memref.whole cc0_scratch3) fullShare X.s1
    ∗ owns (c : Thread nD τ) (Memref.whole cc0_scratch4) fullShare X.c0 ∗ owns (c : Thread nD τ) (Memref.whole cc0_scratch5) fullShare X.c1
    ∗ owns (c : Thread nD τ) (Memref.whole cc0_scratch6) fullShare X.p0 ∗ owns (c : Thread nD τ) (Memref.whole cc0_scratch7) fullShare X.p1
    ∗ owns (c : Thread nD τ) (Memref.whole cc0_scratch8) fullShare X.a0 ∗ owns (c : Thread nD τ) (Memref.whole cc0_scratch9) fullShare X.a1)

/-- The scratch at whatever it holds at the launch. -/
theorem scr_of_rest (c : Dev nD) (o : Vec F S1024x128 .bf16) :
    (Pipeline.scopedRest (Ix := Unit) (Name := ℕ) (U := UR sig nD τ) (Lvl := ℕ) (Val := Elt F) spec0 c : sProp 𝕄) ⊢ iprop(∃ X : St F, Scr c X) := by
  rw [scopedRest0_eq]
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩
  iexists (⟨o, f0, f1, f2, f3, f4, f5, f6, f7, f8, f9⟩ : St F)
  unfold Scr
  simp only [owns_whole_eq]
  isplitl [H0]
  · iexists f0; iframe; ipureintro; rfl
  isplitl [H1]
  · iexists f1; iframe; ipureintro; rfl
  isplitl [H2]
  · iexists f2; iframe; ipureintro; rfl
  isplitl [H3]
  · iexists f3; iframe; ipureintro; rfl
  isplitl [H4]
  · iexists f4; iframe; ipureintro; rfl
  isplitl [H5]
  · iexists f5; iframe; ipureintro; rfl
  isplitl [H6]
  · iexists f6; iframe; ipureintro; rfl
  isplitl [H7]
  · iexists f7; iframe; ipureintro; rfl
  isplitl [H8]
  · iexists f8; iframe; ipureintro; rfl
  · iexists f9; iframe; ipureintro; rfl

/-- The scratch given back. -/
theorem rest_of_scr (c : Dev nD) (X : St F) :
    Scr c X ⊢ (Pipeline.scopedRest (Ix := Unit) (Name := ℕ) (U := UR sig nD τ) (Lvl := ℕ) (Val := Elt F) spec0 c : sProp 𝕄) := by
  rw [scopedRest0_eq]
  unfold Scr
  simp only [owns_whole_eq]
  iintro ⟨⟨%f0, -, H0⟩, ⟨%f1, -, H1⟩, ⟨%f2, -, H2⟩, ⟨%f3, -, H3⟩, ⟨%f4, -, H4⟩, ⟨%f5, -, H5⟩, ⟨%f6, -, H6⟩, ⟨%f7, -, H7⟩, ⟨%f8, -, H8⟩, ⟨%f9, -, H9⟩⟩
  isplitl [H0]
  · iexists f0; iexact H0
  isplitl [H1]
  · iexists f1; iexact H1
  isplitl [H2]
  · iexists f2; iexact H2
  isplitl [H3]
  · iexists f3; iexact H3
  isplitl [H4]
  · iexists f4; iexact H4
  isplitl [H5]
  · iexists f5; iexact H5
  isplitl [H6]
  · iexists f6; iexact H6
  isplitl [H7]
  · iexists f7; iexact H7
  isplitl [H8]
  · iexists f8; iexact H8
  · iexists f9; iexact H9

variable (m : (ℓ : Loc nD τ sig) → Buf (Elt F) ℓ) (ρ : Dev nD → PrngReg)

/-- What a point finds: unless it is its head's first, its diagonal scores and their column maxima. -/
def Carry (c : Dev nD) (k : ℕ) (X : St F) : Prop :=
  ∀ h : k < cfg0.N, k % 16 ≠ 0 → X.s0 = dS (inp m c ⟨k, h⟩).q (inp m c ⟨k, h⟩).k (k % 16) ∧ X.c0 = dC (inp m c ⟨k, h⟩).q (inp m c ⟨k, h⟩).k (k % 16)

/-- The invariant before point `k`. -/
def PhiS (c : Dev nD) (k : ℕ) (_ : k ≤ cfg0.N) : sProp 𝕄 :=
  iprop((∃ X : St F, ⌜Carry m c k X⌝ ∗ Scr c X) ∗ ∃ r, prngReg c r)

/-- The proof data: the arrays as found, every input's buffer left at its block, the output's at the attention of the
    point's query block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outP (inp m c t) (t.val % 16)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by
  dsimp only [dats]
theorem after1 (c : Dev nD) (t : Fin cfg0.N) : (dats m 0 c).after 1 t = iblk m c 1 t := by
  dsimp only [dats]
theorem after2 (c : Dev nD) (t : Fin cfg0.N) : (dats m 0 c).after 2 t = iblk m c 2 t := by
  dsimp only [dats]
theorem after3 (c : Dev nD) (t : Fin cfg0.N) : (dats m 0 c).after 3 t = iblk m c 3 t := by
  dsimp only [dats]
theorem after4 (c : Dev nD) (t : Fin cfg0.N) : (dats m 0 c).after 4 t = outP (inp m c t) (t.val % 16) := by
  dsimp only [dats]

theorem defs₀_row (t : Fin cfg0.N) :
    defs₀ (F := F) .tc cfg0.body (cfg0.bodyArgs t (cfg0.slots t)) = bodyAt0 t := by
  unfold defs₀; rw [Defs.onTc_tc]

theorem before0 (c : Dev nD) (t : Fin cfg0.N) (d) : (dats m 0 c).before 0 t d = iblk m c 0 t :=
  before0_0_of m (dats m 0 c) (A_eq m c 0) (fun _ => by dsimp only [dats]) t d
theorem before1 (c : Dev nD) (t : Fin cfg0.N) (d) : (dats m 0 c).before 1 t d = iblk m c 1 t :=
  before0_1_of m (dats m 0 c) (A_eq m c 1) (fun _ => by dsimp only [dats]) t d
theorem before2 (c : Dev nD) (t : Fin cfg0.N) (d) : (dats m 0 c).before 2 t d = iblk m c 2 t :=
  before0_2_of m (dats m 0 c) (A_eq m c 2) (fun _ => by dsimp only [dats]) t d
theorem before3 (c : Dev nD) (t : Fin cfg0.N) (d) : (dats m 0 c).before 3 t d = iblk m c 3 t :=
  before0_3_of m (dats m 0 c) (A_eq m c 3) (fun _ => by dsimp only [dats]) t d

/-- The carried scores after a point are the ones its successor wants. -/
theorem carry_next (c : Dev nD) (t : Fin cfg0.N) {X : St F} (h : Ends (inp m c t) (t.val % 16) X) : Carry m c (t.val + 1) X := by
  intro hk hne
  obtain ⟨hq, hkk, hn⟩ := inp_next m c t ⟨t.val + 1, hk⟩ rfl hne
  rw [hq, hkk, show (t.val + 1) % 16 = min (t.val % 16 + 1) 15 from hn]
  exact ⟨h.s, h.c⟩

/-- The buffers of a point. -/
abbrev bufs (t : Fin cfg0.N) : Bf :=
  bf (st0_0 t) (st0_1 t) (st0_2 t) (st0_3 t) (st0_4 t) (hstage0_4 ((cfg0.slots t 4).cast nbuf0_4)) (Memref.whole cc0_scratch0)
    (Memref.whole cc0_scratch1) (Memref.whole cc0_scratch2) (Memref.whole cc0_scratch3) (Memref.whole cc0_scratch4)
    (Memref.whole cc0_scratch5) (Memref.whole cc0_scratch6) (Memref.isWhole_whole _) (Memref.whole cc0_scratch7)
    (Memref.isWhole_whole _) (Memref.whole cc0_scratch8) (Memref.whole cc0_scratch9)

/-- The body at a point, over the buffers it owns. -/
theorem wp_point (c : Dev nD) (t : Fin cfg0.N) (X : St F) (hX : Carry m c t.val X) :
    Own c (bufs t) (inp m c t) X ⊢ wp frame (wpE (defs₀ (F := F)) Variants.none (c : Thread nD τ) none) Set.univ (bodyAt0 t)
      (fun _ => Post c (bufs t) (inp m c t) (t.val % 16)) := by
  obtain ⟨x, b2, h⟩ := body_eq (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)
  rw [bodyAt0, h, ← nf_coords t]
  refine wp_body Variants.none c none Set.univ x _ (bufs t) (inp m c t) (grid0.coords t) b2 X ?_
  rw [Starts, nf_coords t]
  exact hX t.isLt

theorem phi_start (c : Dev nD) (t : Fin cfg0.N) : (dats m 0 c).Φ t.castSucc = PhiS m c t.val (Nat.le_of_lt t.isLt) := by
  dsimp only [dats]; exact Pipeline.Dat.Φ_castSucc (PhiS m c) t

theorem phi_end (c : Dev nD) (t : Fin cfg0.N) : (dats m 0 c).Φ t.succ = PhiS m c (t.val + 1) t.isLt := by
  dsimp only [dats]; rfl

/-- What the body finds at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)))

/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t))

/-- What the body does not touch. -/
def Rest (c : Dev nD) (t : Fin cfg0.N) : sProp 𝕄 := iprop((∃ r, prngReg c r) ∗ (dats m 0 c).owesAt () t.castSucc)

theorem open_pre (c : Dev nD) (t : Fin cfg0.N) :
    bodyPre m c t ⊢ iprop(∃ X : St F, ⌜Carry m c t.val X⌝ ∗ Own c (bufs t) (inp m c t) X ∗ Rest m c t) := by
  unfold bodyPre Own Rest
  rw [phi_start m c t]
  unfold PhiS Scr
  iintro ⟨⟨⟨%X, %hX, Hm, Hacc, Hs0, Hs1, Hc0, Hc1, Hp0, Hp1, Ha0, Ha1⟩, Hg⟩, Hw, ⟨%d0, H0⟩, ⟨%d1, H1⟩, ⟨%d2, H2⟩, ⟨%d3, H3⟩, ⟨%d4, H4⟩⟩
  rw [before0, before1, before2, before3]
  iexists (⟨(dats m 0 c).before 4 t d4, X.m, X.acc, X.s0, X.s1, X.c0, X.c1, X.p0, X.p1, X.a0, X.a1⟩ : St F)
  isplitl []
  · ipureintro; exact hX
  iframe
  isplitl [H0]
  · iexact H0
  isplitl [H1]
  · iexact H1
  isplitl [H2]
  · iexact H2
  · iexact H3

theorem close_post (c : Dev nD) (t : Fin cfg0.N) :
    iprop(Post c (bufs t) (inp m c t) (t.val % 16) ∗ Rest m c t) ⊢ bodyPost m c t := by
  unfold bodyPost Post Own Rest
  rw [phi_end m c t]
  unfold PhiS Scr
  iintro ⟨⟨%X, %hX, Hq, Hqn, Hk, Hv, Ho, Hm, Hacc, Hs0, Hs1, Hc0, Hc1, Hp0, Hp1, Ha0, Ha1⟩, Hg, Hw⟩
  isplitl [Hm Hacc Hs0 Hs1 Hc0 Hc1 Hp0 Hp1 Ha0 Ha1 Hg]
  · isplitr [Hg]
    · iexists X
      isplitl []
      · ipureintro; exact carry_next m c t hX
      iframe
    iexact Hg
  isplitl [Hw]
  · iexact Hw
  rw [after0, after1, after2, after3, after4, ← hX.o]
  iframe
  isplitl [Hq]
  · iexact Hq
  isplitl [Hqn]
  · iexact Hqn
  isplitl [Hk]
  · iexact Hk
  · iexact Hv

/-- One point of the grid. -/
theorem sound_body (c : Dev nD) (t : Fin cfg0.N) :
    bodyPre m c t ⊢ wp frame (wpE (defs₀ (F := F)) Variants.none c none) Set.univ (bodyAt0 t) (fun _ => bodyPost m c t) := by
  refine (open_pre m c t).trans ?_
  iintro ⟨%X, %hX, HO, HR⟩
  iapply (show iprop(Own c (bufs t) (inp m c t) X ∗ Rest m c t) ⊢ _ from
    (sep_mono (wp_point m c t X hX) .rfl).trans ((wp_frame_r frame (wpE (defs₀ (F := F)) Variants.none c none) Set.univ).trans
      (wp_mono _ _ _ fun _ => close_post m c t)))
  iframe

/-- Every point writes its output block. -/
theorem busy : ∀ t : Fin grid0.N, idle0 4 (grid0.coords t) = false := by decide +kernel

/-- The body's obligation at every point. -/
theorem body_obligation (c : Dev nD) : BodyObligation (dats (F := F) m 0 c) (defs₀ (F := F)) Variants.none () Set.univ := fun t => by
  rw [bigSep_W0, bigSep_W0, defs₀_row]
  have hi : cfg0.idle 4 (cfg0.grid.coords t) = false := busy t
  refine triple_restated (sound_body m c t) rfl .rfl fun _ => ?_
  unfold bodyPost
  rw [hi]

theorem carry_zero (c : Dev nD) (X : St F) : Carry m c 0 X := fun _ h => absurd (Nat.zero_mod 16) h

theorem phi_zero (c : Dev nD) (R : sProp 𝕄) : iprop((∃ X : St F, Scr c X) ∗ R) ⊢ iprop((∃ X : St F, ⌜Carry m c 0 X⌝ ∗ Scr c X) ∗ R) := by
  refine sep_mono ?_ .rfl
  iintro ⟨%X, H⟩
  have hX := carry_zero m c X
  iexists X
  iframe
  ipureintro
  exact hX

theorem scr_in (c : Dev nD) : (Pipeline.ΦA spec0 c : sProp 𝕄) ⊢ (dats m 0 c).Φ 0 := by
  unfold Pipeline.ΦA
  refine (sep_mono (scr_of_rest c fun _ => Scalar.ofBits .bf16 0#16) .rfl).trans ((phi_zero m c _).trans ?_)
  dsimp only [dats]
  unfold PhiS
  exact .rfl

theorem scr_out (c : Dev nD) : (dats m 0 c).Φ (Fin.last cfg0.N) ⊢ (Pipeline.ΦA spec0 c : sProp 𝕄) := by
  unfold Pipeline.ΦA
  dsimp only [dats]
  unfold PhiS
  refine sep_mono ?_ .rfl
  iintro ⟨%X, -, H⟩
  iapply (rest_of_scr c X)
  iexact H

set_option backward.isDefEq.respectTransparency.types false in
/-- The run: every array of the pipeline at what the proof data gives, every other buffer as the region found it, and
    every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := scr_in m) (hout := scr_out m)

theorem run_main : θ_run defs (onTc (τ := τ) (main (F := F))) (s₀ m ρ) (Pipeline.FramePost cfgs (dats m) 0 (V m)) :=
  (θ_run defs _ _).mono (fun _ h => h.1) (run_main_quiescent m ρ)

/-- The frame of the attention: it ends, its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel2Ideal.Attn

end
-- ==== Proof.Attention.Weights.lean ====
/- The mathematics of the online softmax, over the extended reals: no program is mentioned here. -/
module

public import Idealize.ShloMosaic.PureOps.Ideal

@[expose] public section

noncomputable section

namespace Cert.Attn

open Idealize.ShloMosaic

/-- The weight of a score: two to its power, nothing for a masked one. -/
def w2 (s : EReal) : ℝ := if s = ⊥ then 0 else Real.rpow 2 s.toReal

theorem w2_nonneg (s : EReal) : 0 ≤ w2 s := by
  unfold w2; split_ifs
  · exact le_rfl
  · exact Real.rpow_nonneg (by norm_num) _

theorem w2_bot : w2 ⊥ = 0 := by simp [w2]

theorem w2_coe (r : ℝ) : w2 (r : EReal) = Real.rpow 2 r := by simp [w2]

theorem w2_coe_pos (r : ℝ) : 0 < w2 (r : EReal) := by
  rw [w2_coe]; exact Real.rpow_pos_of_pos (by norm_num) _

/-- A shifted score's exponential is its weight times the shift's. -/
theorem exp2_sub {s : EReal} (hs : s ≠ ⊤) (M : ℝ) : Ideal.exp2 (s - (M : EReal)) = ((w2 s * Real.rpow 2 (-M) : ℝ) : EReal) := by
  induction s using EReal.rec with
  | bot => simp [w2_bot, EReal.bot_sub]
  | top => exact absurd rfl hs
  | coe r =>
    rw [← EReal.coe_sub, Ideal.exp2_coe, w2_coe]
    congr 1
    show (2 : ℝ) ^ (r - M) = (2 : ℝ) ^ r * (2 : ℝ) ^ (-M)
    rw [sub_eq_add_neg, Real.rpow_add (by norm_num)]

/-- A nonnegative real goes into a sum of extended reals. -/
theorem coe_mul_sum {ι : Type*} (S : Finset ι) {a : ℝ} (ha : 0 ≤ a) (f : ι → EReal) :
    (a : EReal) * ∑ i ∈ S, f i = ∑ i ∈ S, (a : EReal) * f i := by
  classical
  induction S using Finset.induction_on with
  | empty => simp
  | insert i S hi ih => rw [Finset.sum_insert hi, Finset.sum_insert hi, EReal.left_distrib_of_nonneg_of_ne_top (EReal.coe_nonneg.mpr ha) (EReal.coe_ne_top a), ih]

theorem coe_sum {ι : Type*} (S : Finset ι) (f : ι → ℝ) : ∑ i ∈ S, (f i : EReal) = ((∑ i ∈ S, f i : ℝ) : EReal) := by
  classical
  induction S using Finset.induction_on with
  | empty => simp
  | insert i S hi ih => rw [Finset.sum_insert hi, Finset.sum_insert hi, ih, EReal.coe_add]

/-- The accumulator of an online softmax: whatever the shifts, it is the weighted sum of the values up to the last
    shift's factor. -/
theorem online {K : ℕ} (s v : ℕ → Fin K → EReal) (M acc : ℕ → EReal) (N : ℕ) (hs : ∀ t < N, ∀ r, s t r ≠ ⊤) (hM0 : M 0 = ⊥)
    (μ : ℕ → ℝ) (hM : ∀ t < N, M (t + 1) = (μ t : EReal)) (h0 : acc 0 = 0)
    (hacc : ∀ t < N, acc (t + 1) = Ideal.exp2 (M t - M (t + 1)) * acc t + ∑ r, v t r * Ideal.exp2 (s t r - M (t + 1))) (t : ℕ) (ht : t < N) :
    acc (t + 1) = ∑ u ∈ Finset.range (t + 1), ∑ r, ((w2 (s u r) * Real.rpow 2 (-μ t) : ℝ) : EReal) * v u r := by
  induction t with
  | zero =>
    rw [hacc 0 ht, h0, mul_zero, zero_add, Finset.sum_range_one]
    refine Finset.sum_congr rfl fun r _ => ?_
    rw [hM 0 ht, exp2_sub (hs 0 ht r), mul_comm]
  | succ t ih =>
    rw [hacc _ ht, ih (by omega), hM t (by omega), hM (t + 1) ht, ← EReal.coe_sub, Ideal.exp2_coe, Finset.sum_range_succ _ (t + 1)]
    congr 1
    · have ha : 0 ≤ Real.rpow 2 (μ t - μ (t + 1)) := Real.rpow_nonneg (by norm_num) _
      rw [coe_mul_sum _ ha]
      refine Finset.sum_congr rfl fun u _ => ?_
      rw [coe_mul_sum _ ha]
      refine Finset.sum_congr rfl fun r _ => ?_
      rw [← mul_assoc, ← EReal.coe_mul]
      congr 2
      show (2 : ℝ) ^ (μ t - μ (t + 1)) * (w2 (s u r) * (2 : ℝ) ^ (-μ t)) = w2 (s u r) * (2 : ℝ) ^ (-μ (t + 1))
      rw [mul_left_comm, ← Real.rpow_add (by norm_num)]
      ring_nf
    · refine Finset.sum_congr rfl fun r _ => ?_
      rw [exp2_sub (hs _ ht r), mul_comm]

/-- A quotient of weighted sums with one positive factor in every weight. -/
theorem quotient {ι : Type*} (S : Finset ι) (w : ι → ℝ) (v : ι → EReal) {c : ℝ} (hc : 0 < c) (hw : ∀ i ∈ S, 0 ≤ w i) (hW : 0 < ∑ i ∈ S, w i) :
    Ideal.div (∑ i ∈ S, ((w i * c : ℝ) : EReal) * v i) ((∑ i ∈ S, w i * c : ℝ) : EReal) = ∑ i ∈ S, ((w i / ∑ j ∈ S, w j : ℝ) : EReal) * v i := by
  have hd : (∑ i ∈ S, w i * c) = (∑ i ∈ S, w i) * c := (Finset.sum_mul ..).symm
  have hne : (∑ i ∈ S, w i * c) ≠ 0 := by rw [hd]; exact (mul_pos hW hc).ne'
  rw [Ideal.div_coe hne, mul_comm, coe_mul_sum _ (by rw [hd]; exact (one_div_pos.mpr (mul_pos hW hc)).le)]
  refine Finset.sum_congr rfl fun i _ => ?_
  rw [← mul_assoc, ← EReal.coe_mul, hd]
  congr 2
  field_simp

/-- A sum over positions, block by block. -/
theorem sum_blocks (f : Fin 16384 → EReal) : ∑ j, f j = ∑ b : Fin 16, ∑ r : Fin 1024, f ⟨b.val * 1024 + r.val, by omega⟩ := by
  rw [← Fintype.sum_prod_type']
  refine (Equiv.sum_comp (finProdFinEquiv (m := 16) (n := 1024)) f).symm.trans ?_
  refine Finset.sum_congr rfl fun x _ => congrArg f (Fin.ext ?_)
  show x.2.val + 1024 * x.1.val = x.1.val * 1024 + x.2.val
  omega

/-- The first item is the last block, the others the blocks before it. -/
theorem sum_items {α : Type*} [AddCommMonoid α] (n : ℕ) (f : ℕ → α) : ∑ u ∈ Finset.range (n + 1), f (if u = 0 then n else u - 1) = ∑ b ∈ Finset.range (n + 1), f b := by
  rw [Finset.sum_range_succ', Finset.sum_range_succ]
  simp

end Cert.Attn

end
-- ==== Proof.Attention.Means.lean ====
/- The attention's weights as real numbers, of the queries' and the keys' arrays. -/
module

public import proofs.«01_k».proof.Proof.Attention.Weights
public import Idealize.ShloMosaic.Lib.Pointwise

@[expose] public section

noncomputable section

namespace Cert.Attn

open Idealize.ShloMosaic

abbrev SQ : Shape := ⟨4, ![1, 16384, 8, 192]⟩
abbrev SV : Shape := ⟨4, ![1, 16384, 8, 128]⟩

/-- Every element is a real number. -/
def Reals {s : Shape} (x : s.Idx → EReal) : Prop := ∀ i, ∃ r : ℝ, x i = (r : EReal)

/-- The product of query `i` and key `j` of head `h`. -/
def dot (q k : SQ.Idx → EReal) (h : Fin 8) (i j : Fin 16384) : ℝ := ∑ d : Fin 192, (q (ix4 0 i h d)).toReal * (k (ix4 0 j h d)).toReal

/-- The weight of key `j` for query `i` of head `h`: the exponential of the scaled product up to the query's own place, nothing after it. -/
def weight (q k : SQ.Idx → EReal) (h : Fin 8) (i j : Fin 16384) : ℝ := if j.val ≤ i.val then Real.exp (dot q k h i j / √192) else 0

/-- The attention's result: for query `i`, head `h`, column `d` the values' mean by their weights. -/
def mean (q k : SQ.Idx → EReal) (v : SV.Idx → EReal) (h : Fin 8) (i : Fin 16384) (d : Fin 128) : EReal :=
  ∑ j, ((weight q k h i j / ∑ j', weight q k h i j' : ℝ) : EReal) * v (ix4 0 j h d)

theorem weight_nonneg (q k : SQ.Idx → EReal) (h : Fin 8) (i j : Fin 16384) : 0 ≤ weight q k h i j := by
  unfold weight; split_ifs
  · exact (Real.exp_pos _).le
  · exact le_rfl

theorem weight_sum_pos (q k : SQ.Idx → EReal) (h : Fin 8) (i : Fin 16384) : 0 < ∑ j, weight q k h i j := by
  refine Finset.sum_pos' (fun j _ => weight_nonneg q k h i j) ⟨i, Finset.mem_univ _, ?_⟩
  unfold weight
  rw [if_pos le_rfl]
  exact Real.exp_pos _

/-- The exact sum of products is the real one. -/
theorem dot_coe {q k : SQ.Idx → EReal} (hq : Reals q) (hk : Reals k) (h : Fin 8) (i j : Fin 16384) :
    ∑ d : Fin 192, q (ix4 0 i h d) * k (ix4 0 j h d) = ((dot q k h i j : ℝ) : EReal) := by
  unfold dot
  rw [← coe_sum]
  refine Finset.sum_congr rfl fun d _ => ?_
  obtain ⟨a, ha⟩ := hq (ix4 0 i h d)
  obtain ⟨b, hb⟩ := hk (ix4 0 j h d)
  rw [ha, hb, EReal.toReal_coe, EReal.toReal_coe, EReal.coe_mul]

/-- A power of two of a product scaled by one over √192 · log 2 is the exponential of the product over √192. -/
theorem two_pow_scaled (x : ℝ) : Real.rpow 2 (x * (1 / (√192 * Real.log 2))) = Real.exp (x / √192) := by
  have h2 : Real.log 2 ≠ 0 := (Real.log_pos (by norm_num)).ne'
  have h1 : √192 ≠ 0 := (Real.sqrt_pos.mpr (by norm_num)).ne'
  show (2 : ℝ) ^ (x * (1 / (√192 * Real.log 2))) = Real.exp (x / √192)
  rw [Real.rpow_def_of_pos (by norm_num)]
  congr 1
  field_simp

theorem real_192 : Ideal.ofBits .f32 0x43400000#32 = ((192 : ℝ) : EReal) := by
  simp [Ideal.ofBits, Ideal.ieee]
  rw [← EReal.coe_mul]
  norm_num

theorem real_2 : Ideal.ofBits .f32 0x40000000#32 = ((2 : ℝ) : EReal) := by
  simp [Ideal.ofBits, Ideal.ieee]
  rw [← EReal.coe_mul]
  norm_num

theorem negInf : Ideal.ofBits .f32 0xFF800000#32 = (⊥ : EReal) := by
  simp [Ideal.ofBits, Ideal.ieee]

end Cert.Attn

end
-- ==== Proof.Attention.Host.lean ====
/- What the launch's arrays hold, in terms of the arguments. -/
module

public import proofs.«01_k».proof.Proof.Attention.Blocks
public import proofs.«01_k».proof.Proof.Attention.Means
public import Idealize.ShloMosaic.Lib.Pipeline.Value
public import Idealize.ShloMosaic.Lib.Pointwise

@[expose] public section

set_option maxRecDepth 65536

noncomputable section

namespace Cert.Kernel2Ideal.Attn

open Cert.Kernel2Ideal Cert.Kernel2Ideal.Gen Cert.Attn
open Idealize.ShloMosaic Idealize.ShloMosaic.TcCoe

variable {F : FTy → Type} [FloatOps F] [Named F]

/-- The scale of the queries: one over √192 · log 2. -/
def scl : FVec F S_ .f32 :=
  Host.divf (constant S_ .f32 0x3F800000#32) (mulf (Host.sqrt (constant S_ .f32 0x43400000#32)) (Host.log (constant S_ .f32 0x40000000#32)))

/-- The queries' layout: scaled, head by head, 64 zero rows behind. -/
def qH (x : FVec F S1x16384x8x192 .f32) : FVec F S8x256x16384 .bf16 :=
  pad S8x256x16384 ![0, 0, 0] ![0, 64, 0] ![0, 0, 0]
    (transpose S8x192x16384 [1, 2, 0] (truncf .bf16 (mulf (shapeCast S16384x8x192 x shapeCasts_S1x16384x8x192_S16384x8x192)
      (broadcastInDim S16384x8x192 ![] bcast_S_S16384x8x192 scl : FVec F S16384x8x192 .f32)) bitsLt_bf16_f32 : FVec F S16384x8x192 .bf16)
      transposes_S16384x8x192_S8x192x16384_1_2_0)
    (sitofp (F := F) .bf16 (constantI S_ 32 0#32)) pads_S8x192x16384_S8x256x16384_000_0640_000 h_S_

/-- The keys' layout: head by head, 64 zero columns behind, cut into blocks. -/
def kH (x : FVec F S1x16384x8x192 .f32) : FVec F S8x16x1024x256 .bf16 :=
  shapeCast S8x16x1024x256 (pad S8x16384x256 ![0, 0, 0] ![0, 0, 64] ![0, 0, 0]
    (transpose S8x16384x192 [1, 0, 2] (truncf .bf16 (shapeCast S16384x8x192 x shapeCasts_S1x16384x8x192_S16384x8x192 : FVec F S16384x8x192 .f32) bitsLt_bf16_f32 : FVec F S16384x8x192 .bf16)
      transposes_S16384x8x192_S8x16384x192_1_0_2)
    (sitofp (F := F) .bf16 (constantI S_ 32 0#32)) pads_S8x16384x192_S8x16384x256_000_000_0640 h_S_) shapeCasts_S8x16384x256_S8x16x1024x256

/-- The values' layout: head by head and block by block, transposed, 16 rows of ones below. -/
def vH (x : FVec F S1x16384x8x128 .f32) : FVec F S8x16x144x1024 .bf16 :=
  concatenate S8x16x144x1024 2
    [⟨S8x16x128x1024, transpose S8x16x128x1024 [2, 0, 3, 1] (shapeCast S16x1024x8x128
      (truncf .bf16 (shapeCast S16384x8x128 x shapeCasts_S1x16384x8x128_S16384x8x128 : FVec F S16384x8x128 .f32) bitsLt_bf16_f32 : FVec F S16384x8x128 .bf16) shapeCasts_S16384x8x128_S16x1024x8x128)
      transposes_S16x1024x8x128_S8x16x128x1024_2_0_3_1⟩,
     ⟨S8x16x16x1024, broadcastInDim S8x16x16x1024 ![] bcast_S_S8x16x16x1024 (constant (F := F) S_ .bf16 0x3F80#16)⟩] concatenates_S8x16x128x1024_S8x16x16x1024_S8x16x144x1024_d2

variable (m : (ℓ : Loc nD τ sig) → Buf (Elt F) ℓ)

abbrev arg0 (c : Dev nD) : FVec F S1x16384x8x192 .f32 := m ((c : Thread nD τ).loc main_arg0)
abbrev arg1 (c : Dev nD) : FVec F S1x16384x8x192 .f32 := m ((c : Thread nD τ).loc main_arg1)
abbrev arg2 (c : Dev nD) : FVec F S1x16384x8x128 .f32 := m ((c : Thread nD τ).loc main_arg2)

theorem qA_eq (c : Dev nD) : qA m c = qH (arg0 m c) := by
  show StableHlo.after (List.flatten [hostOps0, hostOps0_1, hostOps0_2, hostOps0_3, hostOps0_4]) (fun b => m (c, b)) main_v9 = _
  simp only [hostOps0, hostOps0_1, hostOps0_2, hostOps0_3, hostOps0_4, List.flatten_cons, List.flatten_nil, List.append_nil, List.cons_append, List.nil_append]
  after_results
  simp -implicitDefEqProofs only [StableHlo.TRef.ofBuf_toBuf, StableHlo.TRef.toBuf, StableHlo.TRef.ofBuf, cast_eq]
  rfl

theorem kA_eq (c : Dev nD) : kA m c = kH (arg1 m c) := by
  show StableHlo.after (List.flatten [hostOps0, hostOps0_1, hostOps0_2, hostOps0_3, hostOps0_4]) (fun b => m (c, b)) main_v14 = _
  simp only [hostOps0, hostOps0_1, hostOps0_2, hostOps0_3, hostOps0_4, List.flatten_cons, List.flatten_nil, List.append_nil, List.cons_append, List.nil_append]
  after_results
  simp -implicitDefEqProofs only [StableHlo.TRef.ofBuf_toBuf, StableHlo.TRef.toBuf, StableHlo.TRef.ofBuf, cast_eq]
  rfl

theorem vA_eq (c : Dev nD) : vA m c = vH (arg2 m c) := by
  show StableHlo.after (List.flatten [hostOps0, hostOps0_1, hostOps0_2, hostOps0_3, hostOps0_4]) (fun b => m (c, b)) main_v20 = _
  simp only [hostOps0, hostOps0_1, hostOps0_2, hostOps0_3, hostOps0_4, List.flatten_cons, List.flatten_nil, List.append_nil, List.cons_append, List.nil_append]
  after_results
  simp -implicitDefEqProofs only [StableHlo.TRef.ofBuf_toBuf, StableHlo.TRef.toBuf, StableHlo.TRef.ofBuf, cast_eq]
  rfl

theorem word_zero : (FloatOps.sitofp (F := Ideal) .bf16 (0#32 : BitVec 32) : EReal) = 0 := by
  show (((0#32 : BitVec 32).toInt : ℝ) : EReal) = 0
  simp

theorem qH_at (x : FVec Ideal S1x16384x8x192 .f32) (h : Fin 8) (d : Fin 256) (i : Fin 16384) :
    qH x (ix3 h d i) = if hd : d.val < 192 then (x (ix4 0 i h ⟨d.val, hd⟩) : EReal) * (scl (F := Ideal) ix0 : EReal) else 0 := by
  unfold qH
  pointwise
  exact dite_congr rfl (fun _ => rfl) fun _ => word_zero

theorem kH_at (x : FVec Ideal S1x16384x8x192 .f32) (h : Fin 8) (b : Fin 16) (r : Fin 1024) (d : Fin 256) :
    kH x (ix4 h b r d) = if hd : d.val < 192 then (x (ix4 0 (pos b.val b.isLt r) h ⟨d.val, hd⟩) : EReal) else 0 := by
  unfold kH
  pointwise
  have hb := b.isLt
  have hr := r.isLt
  by_cases h0 : d.val < 192
  · rw [dif_pos ⟨by omega, h0⟩, dif_pos h0]
  · rw [dif_neg fun h => h0 h.2, dif_neg h0]
    exact word_zero

theorem vH_at (x : FVec Ideal S1x16384x8x128 .f32) (h : Fin 8) (b : Fin 16) (d : Fin 144) (r : Fin 1024) :
    vH x (ix4 h b d r) = if hd : d.val < 128 then (x (ix4 0 (pos b.val b.isLt r) h ⟨d.val, hd⟩) : EReal) else 1 := by
  unfold vH
  pointwise

/-- The factor of the queries is a real number. -/
theorem scl_at : (scl (F := Ideal) ix0 : EReal) = ((1 / (√192 * Real.log 2) : ℝ) : EReal) := by
  unfold scl
  pointwise
  have h1 : (0 : ℝ) < √192 := Real.sqrt_pos.mpr (by norm_num)
  have h2 : (0 : ℝ) < Real.log 2 := Real.log_pos (by norm_num)
  rw [real_192, real_2, Ideal.sqrt_coe, Ideal.log_coe, if_neg (by norm_num), if_neg (by norm_num), ← EReal.coe_mul,
    Ideal.div_coe (by positivity), one_mul]

end Cert.Kernel2Ideal.Attn

end
-- ==== Proof.Attention.Point.lean ====
/- A point of the attention over the extended reals, element by element. -/
module

public import proofs.«01_k».proof.Proof.Attention.Run
public import proofs.«01_k».proof.Proof.Attention.Weights
public import Idealize.ShloMosaic.Lib.Pipeline.Value
public import Idealize.ShloMosaic.Lib.Pointwise

@[expose] public section

set_option maxRecDepth 65536

noncomputable section

namespace Cert.Kernel2Ideal.Attn

open Cert.Kernel2Ideal Cert.Kernel2Ideal.Gen Cert.Attn
open Idealize.ShloMosaic Idealize.ShloMosaic.TcCoe

/-! ## The payloads -/

theorem mask_bot : (Named.named κ "mask" 0xF149F2CA#32 : Ideal .f32) = (⊥ : EReal) := rfl

theorem pay53_at (W : Vec Ideal S1x1x1024x256 .bf16) (q : Vec Ideal S1x256x1024 .bf16) (r x : Fin 1024) :
    k0_pay53 W q (ix2 r x) = ∑ d : Fin 256, (W (ix4 0 0 r d) : EReal) * q (ix3 0 d x) := by
  unfold k0_pay53 k0_pay52
  pointwise

theorem pay54_at (W : Vec Ideal S1x1x1024x256 .bf16) (q : Vec Ideal S1x256x1024 .bf16) (x : Fin 1024) :
    k0_pay54 W q (ix2 0 x) = Finset.univ.fold max (Ideal.ofBits .f32 0xFF800000#32) (fun r : Fin 1024 => ∑ d : Fin 256, (W (ix4 0 0 r d) : EReal) * q (ix3 0 d x)) := by
  unfold k0_pay54 k0_pay52
  pointwise

theorem pay57_at (c m : Vec Ideal S1x1024 .f32) (x : Fin 1024) : k0_pay57 c m (ix2 0 x) = max (m (ix2 0 x) : EReal) (c (ix2 0 x)) := by
  unfold k0_pay57 k0_pay55
  pointwise

theorem pay60_at (c m : Vec Ideal S1x1024 .f32) (x : Fin 1024) :
    k0_pay60 (k0_pay56 c m) (ix2 0 x) = Ideal.exp2 ((m (ix2 0 x) : EReal) - max (m (ix2 0 x) : EReal) (c (ix2 0 x))) := by
  unfold k0_pay60 k0_pay56 k0_pay55
  pointwise
  rfl

theorem pay61_at (p : Vec Ideal S1024x1024 .bf16) (a : Vec Ideal S1x1024 .f32) (v : Vec Ideal S1x1x144x1024 .bf16) (acc : Vec Ideal S144x1024 .f32) (d : Fin 144) (x : Fin 1024) :
    k0_pay61 p a v acc (ix2 d x) = (a (ix2 0 x) : EReal) * acc (ix2 d x) + ∑ r : Fin 1024, (v (ix4 0 0 d r) : EReal) * p (ix2 r x) := by
  unfold k0_pay61
  pointwise

theorem pay59_at (s : Vec Ideal S1024x1024 .f32) (c m : Vec Ideal S1x1024 .f32) (r x : Fin 1024) :
    k0_pay59 (k0_pay58 s c m) (ix2 r x) = Ideal.exp2 ((s (ix2 r x) : EReal) - max (m (ix2 0 x) : EReal) (c (ix2 0 x))) := by
  unfold k0_pay59 k0_pay58 k0_pay55
  pointwise
  rfl

theorem pay298_at (i : S1x1024.Idx) : (k0_pay298 (F := Ideal)) i = (⊥ : EReal) := by
  unfold k0_pay298
  pointwise
  rfl

theorem pay299_at (i : S144x1024.Idx) : (k0_pay299 (F := Ideal)) i = (0 : EReal) := by
  unfold k0_pay299
  pointwise

theorem pay307_at (a : Vec Ideal S128x1024 .f32) (l : Vec Ideal S1x1024 .f32) (x : Fin 1024) (d : Fin 128) :
    k0_pay307 a l (ix2 x d) = Ideal.div (a (ix2 d x)) (l (ix2 0 x)) := by
  unfold k0_pay307
  pointwise

/-- The mask of a 512×512 diagonal quadrant. -/
theorem le_mask (r x : Fin 512) (a b : EReal) :
    Scalar.select (IntOp.cmpi .sle (BitVec.ofNat 32 r.val) (BitVec.ofNat 32 x.val)) (a : Ideal .f32) (b : Ideal .f32) = if r.val ≤ x.val then a else b := by
  have e : IntOp.cmpi .sle (BitVec.ofNat 32 r.val) (BitVec.ofNat 32 x.val) = if r.val ≤ x.val then 1#1 else 0#1 := by
    unfold IntOp.cmpi
    have h : (BitVec.ofNat 32 r.val).sle (BitVec.ofNat 32 x.val) = decide (r.val ≤ x.val) := by
      have hr := r.isLt
      have hx := x.isLt
      rw [BitVec.sle_eq_decide, BitVec.toInt_eq_toNat_of_lt (by simp; omega), BitVec.toInt_eq_toNat_of_lt (by simp; omega)]
      simp only [BitVec.toNat_ofNat]
      refine decide_eq_decide.mpr ?_
      omega
    simp only [h]
    split_ifs with hh <;> simp [hh]
  rw [e]
  split_ifs <;> rfl

theorem pay9_at (W : Vec Ideal S1x1x512x256 .bf16) (q : Vec Ideal S1x256x1024 .bf16) (r x : Fin 512) :
    k0_pay9 W q (ix2 r x) = if r.val ≤ x.val then ∑ d : Fin 256, (W (ix4 0 0 r d) : EReal) * q (ix3 0 d ⟨x.val, by omega⟩) else ⊥ := by
  unfold k0_pay9 k0_pay7 k0_pay6 k0_pay5
  pointwise
  exact le_mask r x _ _

theorem pay301_at (W : Vec Ideal S1x1x512x256 .bf16) (q : Vec Ideal S1x256x1024 .bf16) (x : Fin 512) :
    k0_pay301 (k0_pay7 W q) (ix2 0 x) = Finset.univ.fold max (Ideal.ofBits .f32 0xFF800000#32) (fun r : Fin 512 => k0_pay9 W q (ix2 r x)) := by
  unfold k0_pay301 k0_pay9 k0_pay7 k0_pay6 k0_pay5
  pointwise

theorem pay10_at (W : Vec Ideal S1x1x512x256 .bf16) (q : Vec Ideal S1x256x1024 .bf16) (r x : Fin 512) :
    k0_pay10 W q (ix2 r x) = ∑ d : Fin 256, (W (ix4 0 0 r d) : EReal) * q (ix3 0 d ⟨512 + x.val, by omega⟩) := by
  unfold k0_pay10 k0_pay5
  pointwise

theorem pay11_at (i : S512x512.Idx) : (k0_pay11 (F := Ideal)) i = (⊥ : EReal) := by
  unfold k0_pay11
  pointwise
  rfl

theorem pay8_at (W : Vec Ideal S1x1x512x256 .bf16) (q : Vec Ideal S1x256x512 .bf16) (r x : Fin 512) :
    k0_pay300 (k0_pay8 W q) (ix2 r x) = if r.val ≤ x.val then ∑ d : Fin 256, (W (ix4 0 0 r d) : EReal) * q (ix3 0 d x) else ⊥ := by
  unfold k0_pay300 k0_pay8
  try unfold k0_pay6
  pointwise
  exact le_mask r x _ _

theorem pay302_at (W W' : Vec Ideal S1x1x512x256 .bf16) (q : Vec Ideal S1x256x1024 .bf16) (q' : Vec Ideal S1x256x512 .bf16) (x : Fin 512) :
    k0_pay302 (k0_pay5 W q) (k0_pay8 W' q') (ix2 0 x)
      = max (Finset.univ.fold max (Ideal.ofBits .f32 0xFF800000#32) (fun r : Fin 512 => k0_pay10 W q (ix2 r x)))
          (Finset.univ.fold max (Ideal.ofBits .f32 0xFF800000#32) (fun r : Fin 512 => k0_pay300 (k0_pay8 W' q') (ix2 r x))) := by
  unfold k0_pay302 k0_pay300 k0_pay10 k0_pay8 k0_pay5
  try unfold k0_pay6
  pointwise

theorem pay30_at (m c : Vec Ideal S1x1024 .f32) (s : Vec Ideal S512x1024 .f32) (r : Fin 512) (x : Fin 1024) :
    k0_pay30 m c s (ix2 r x) = Ideal.exp2 ((s (ix2 r x) : EReal) - max (m (ix2 0 x) : EReal) (c (ix2 0 x))) := by
  unfold k0_pay30 k0_pay28
  pointwise
  rfl

theorem pay308_at (i : S512x512.Idx) : (k0_pay308 (k0_pay31 (F := Ideal))) i = (0 : EReal) := by
  unfold k0_pay308 k0_pay31
  pointwise

theorem pay309_at (m c : Vec Ideal S1x1024 .f32) (s : Vec Ideal S512x512 .f32) (r x : Fin 512) :
    k0_pay309 (k0_pay28 m c) s (ix2 r x)
      = Ideal.exp2 ((s (ix2 r x) : EReal) - max (m (ix2 0 ⟨512 + x.val, by omega⟩) : EReal) (c (ix2 0 ⟨512 + x.val, by omega⟩))) := by
  unfold k0_pay309 k0_pay28
  pointwise
  rfl

theorem pay51_at (v : Vec Ideal S1x1x144x512 .bf16) (p : Vec Ideal S512x1024 .bf16) (a : Vec Ideal S1x1024 .f32) (acc : Vec Ideal S144x512 .f32) (d : Fin 144) (x : Fin 512) :
    k0_pay311 (k0_pay51 v p a acc) (ix2 d x) = (a (ix2 0 ⟨x.val, by omega⟩) : EReal) * acc (ix2 d x)
      + ∑ r : Fin 512, (v (ix4 0 0 d r) : EReal) * p (ix2 r ⟨x.val, by omega⟩) := by
  unfold k0_pay311 k0_pay51 k0_pay49
  pointwise

theorem pay312_at (v v' : Vec Ideal S1x1x144x512 .bf16) (p : Vec Ideal S512x1024 .bf16) (p' : Vec Ideal S512x512 .bf16) (a : Vec Ideal S1x1024 .f32) (acc : Vec Ideal S144x512 .f32) (d : Fin 144) (x : Fin 512) :
    k0_pay312 (k0_pay49 v p) (k0_pay50 v' p') a acc (ix2 d x) = (a (ix2 0 ⟨512 + x.val, by omega⟩) : EReal) * acc (ix2 d x)
      + ((∑ r : Fin 512, (v (ix4 0 0 d r) : EReal) * p (ix2 r ⟨512 + x.val, by omega⟩)) + ∑ r : Fin 512, (v' (ix4 0 0 d r) : EReal) * p' (ix2 r x)) := by
  unfold k0_pay312 k0_pay49 k0_pay50
  pointwise

end Cert.Kernel2Ideal.Attn

end
-- ==== Proof.Attention.Item.lean ====
/- One item of a point over the extended reals: its scores, its shift, its weights and its step of the accumulator. -/
module

public import proofs.«01_k».proof.Proof.Attention.Point

@[expose] public section

set_option maxRecDepth 65536

noncomputable section

namespace Cert.Kernel2Ideal.Attn

open Cert.Kernel2Ideal Cert.Kernel2Ideal.Gen Cert.Attn
open Idealize.ShloMosaic Idealize.ShloMosaic.TcCoe

/-! ## Windows at an index -/

theorem put_in {α : Type} {A B C D : ℕ} (X : (⟨2, ![A, B]⟩ : Shape).Idx → α) (o0 o1 : ℕ) (w : (⟨2, ![C, D]⟩ : Shape).Idx → α) (r : Fin A) (x : Fin B)
    (h0 : o0 ≤ r.val ∧ r.val < o0 + C) (h1 : o1 ≤ x.val ∧ x.val < o1 + D) :
    VecWindow.put (s := ⟨2, ![A, B]⟩) X ![o0, o1] (⟨2, ![C, D]⟩ : Shape).size w (ix2 r x) = w (ix2 ⟨r.val - o0, by omega⟩ ⟨x.val - o1, by omega⟩) := by
  rw [put_apply_of_mem _ _ _ _ _ (by intro a; fin_cases a; exacts [h0, h1])]
  refine congrArg w ?_
  funext a
  fin_cases a <;> rfl

theorem put_out {α : Type} {A B C D : ℕ} (X : (⟨2, ![A, B]⟩ : Shape).Idx → α) (o0 o1 : ℕ) (w : (⟨2, ![C, D]⟩ : Shape).Idx → α) (r : Fin A) (x : Fin B)
    (h : ¬ ((o0 ≤ r.val ∧ r.val < o0 + C) ∧ (o1 ≤ x.val ∧ x.val < o1 + D))) :
    VecWindow.put (s := ⟨2, ![A, B]⟩) X ![o0, o1] (⟨2, ![C, D]⟩ : Shape).size w (ix2 r x) = X (ix2 r x) :=
  put_apply_of_not _ _ _ _ _ fun hm => h ⟨hm 0, hm 1⟩

theorem window_at {α : Type} {A B C D : ℕ} (X : (⟨2, ![A, B]⟩ : Shape).Idx → α) (o0 o1 : ℕ) (inb) (r : Fin C) (x : Fin D) (h0 : o0 + C ≤ A) (h1 : o1 + D ≤ B) :
    VecWindow.window (s := ⟨2, ![A, B]⟩) X ![o0, o1] (⟨2, ![C, D]⟩ : Shape).size inb (ix2 r x) = X (ix2 ⟨o0 + r.val, by omega⟩ ⟨o1 + x.val, by omega⟩) := by
  refine congrArg X ?_
  funext a
  fin_cases a <;> exact Fin.ext (by show _ + 1 * _ = _; rw [one_mul]; rfl)

theorem window4_at {α : Type} {A B C D A' B' C' D' : ℕ} (X : (⟨4, ![A, B, C, D]⟩ : Shape).Idx → α) (o0 o1 o2 o3 : ℕ) (inb) (a : Fin A') (b : Fin B') (c : Fin C') (d : Fin D')
    (h0 : o0 + A' ≤ A) (h1 : o1 + B' ≤ B) (h2 : o2 + C' ≤ C) (h3 : o3 + D' ≤ D) :
    VecWindow.window (s := ⟨4, ![A, B, C, D]⟩) X ![o0, o1, o2, o3] (⟨4, ![A', B', C', D']⟩ : Shape).size inb (ix4 a b c d)
      = X (ix4 ⟨o0 + a.val, by omega⟩ ⟨o1 + b.val, by omega⟩ ⟨o2 + c.val, by omega⟩ ⟨o3 + d.val, by omega⟩) := by
  refine congrArg X ?_
  funext a
  fin_cases a <;> exact Fin.ext (by show _ + 1 * _ = _; rw [one_mul]; rfl)

variable (I : Inp Ideal) (n : ℕ)

/-- The score of key `r` of block `b` against query `x`, and value row `d` of that key. -/
def sc (b : ℕ) (r x : Fin 1024) : EReal := ∑ d : Fin 256, (I.k (ix4 0 ⟨b % 16, Nat.mod_lt _ (by norm_num)⟩ r d) : EReal) * I.q (ix3 0 d x)
def vv (b : ℕ) (d : Fin 144) (r : Fin 1024) : EReal := I.v (ix4 0 ⟨b % 16, Nat.mod_lt _ (by norm_num)⟩ d r)
/-- The masked score: on the diagonal block `n` a key after the query counts for nothing. -/
def sm (b : ℕ) (r x : Fin 1024) : EReal := if b = n ∧ x.val < r.val then ⊥ else sc I b r x

theorem kB_at (b : ℕ) (r : Fin 1024) (d : Fin 256) : kB I.k b (ix4 0 0 r d) = I.k (ix4 0 ⟨b % 16, Nat.mod_lt _ (by norm_num)⟩ r d) := by
  unfold kB
  rw [window4_at _ _ _ _ _ _ _ _ _ _ (by norm_num) (by have := Nat.mod_lt b (show 16 > 0 by norm_num); omega) (by norm_num) (by norm_num)]
  simp

theorem kB1_at (b : ℕ) (r : Fin 512) (d : Fin 256) : kB1 I.k b (ix4 0 0 r d) = I.k (ix4 0 ⟨b % 16, Nat.mod_lt _ (by norm_num)⟩ ⟨r.val, by omega⟩ d) := by
  unfold kB1
  rw [window4_at _ _ _ _ _ _ _ _ _ _ (by norm_num) (by have := Nat.mod_lt b (show 16 > 0 by norm_num); omega) (by norm_num) (by norm_num)]
  simp

theorem kB2_at (b : ℕ) (r : Fin 512) (d : Fin 256) : kB2 I.k b (ix4 0 0 r d) = I.k (ix4 0 ⟨b % 16, Nat.mod_lt _ (by norm_num)⟩ ⟨512 + r.val, by omega⟩ d) := by
  unfold kB2
  rw [window4_at _ _ _ _ _ _ _ _ _ _ (by norm_num) (by have := Nat.mod_lt b (show 16 > 0 by norm_num); omega) (by norm_num) (by norm_num)]
  simp

theorem vB_at (b : ℕ) (d : Fin 144) (r : Fin 1024) : vB I.v b (ix4 0 0 d r) = vv I b d r := by
  unfold vB vv
  rw [window4_at _ _ _ _ _ _ _ _ _ _ (by norm_num) (by have := Nat.mod_lt b (show 16 > 0 by norm_num); omega) (by norm_num) (by norm_num)]
  simp

theorem vB1_at (b : ℕ) (d : Fin 144) (r : Fin 512) : vB1 I.v b (ix4 0 0 d r) = vv I b d ⟨r.val, by omega⟩ := by
  unfold vB1 vv
  rw [window4_at _ _ _ _ _ _ _ _ _ _ (by norm_num) (by have := Nat.mod_lt b (show 16 > 0 by norm_num); omega) (by norm_num) (by norm_num)]
  simp

theorem vB2_at (b : ℕ) (d : Fin 144) (r : Fin 512) : vB2 I.v b (ix4 0 0 d r) = vv I b d ⟨512 + r.val, by omega⟩ := by
  unfold vB2 vv
  rw [window4_at _ _ _ _ _ _ _ _ _ _ (by norm_num) (by have := Nat.mod_lt b (show 16 > 0 by norm_num); omega) (by norm_num) (by norm_num)]
  simp

theorem q2_at (d : Fin 256) (x : Fin 512) : q2 I.q (ix3 0 d x) = I.q (ix3 0 d ⟨512 + x.val, by omega⟩) := by
  unfold q2
  refine congrArg I.q ?_
  funext a
  fin_cases a <;> exact Fin.ext (by show _ + 1 * _ = _; rw [one_mul]; simp)

/-! ## The scores -/

theorem dS_at (r x : Fin 1024) : dS I.q I.k n (ix2 r x) = sm I n n r x := by
  have hr := r.isLt
  have hx := x.isLt
  unfold dS diagS sm sc
  by_cases h0 : r.val < 512 <;> by_cases h1 : x.val < 512
  · rw [put_out _ _ _ _ _ _ (by omega), put_out _ _ _ _ _ _ (by omega), put_out _ _ _ _ _ _ (by omega), put_in _ _ _ _ _ _ (by omega) (by omega), pay9_at]
    simp only [kB1_at, Nat.sub_zero, true_and, ← not_lt, ite_not]
  · rw [put_out _ _ _ _ _ _ (by omega), put_out _ _ _ _ _ _ (by omega), put_in _ _ _ _ _ _ (by omega) (by omega), pay10_at, if_neg (by omega)]
    have e : 512 + (x.val - 512) = x.val := by omega
    simp only [kB1_at, Nat.sub_zero, e]
  · rw [put_out _ _ _ _ _ _ (by omega), put_in _ _ _ _ _ _ (by omega) (by omega), pay11_at, if_pos ⟨rfl, by omega⟩]
  · rw [put_in _ _ _ _ _ _ (by omega) (by omega), pay8_at]
    have e : 512 + (x.val - 512) = x.val := by omega
    have e' : 512 + (r.val - 512) = r.val := by omega
    simp only [kB2_at, q2_at, e, e']
    by_cases hh : x.val < r.val
    · rw [if_neg (by omega), if_pos ⟨trivial, hh⟩]
    · rw [if_pos (by omega), if_neg (fun h => hh h.2)]

/-- Item `t`'s scores are the masked scores of its block. -/
theorem sS_at (t : ℕ) (ht : t ≤ n) (r x : Fin 1024) : sS I n t (ix2 r x) = sm I n (blk n t) r x := by
  unfold sS blk
  split_ifs with h
  · exact dS_at I n r x
  · rw [pay53_at]
    unfold sm sc
    rw [if_neg (by omega)]
    simp only [kB_at]

/-! ## The shift -/

theorem real_of {x : EReal} (h1 : x ≠ ⊤) (h2 : x ≠ ⊥) : ∃ μ : ℝ, x = (μ : EReal) := ⟨x.toReal, (EReal.coe_toReal h1 h2).symm⟩

theorem fold_eq_sup {ι : Type*} (S : Finset ι) (f : ι → EReal) : S.fold max (Ideal.ofBits .f32 0xFF800000#32) f = S.sup f := by
  have e : Ideal.ofBits .f32 0xFF800000#32 = (⊥ : EReal) := by
    simp [Ideal.ofBits, Ideal.ieee]
  rw [e]
  rfl

theorem sup_real {ι : Type*} (S : Finset ι) (f : ι → EReal) (h : ∀ i ∈ S, f i ≠ ⊤) (h' : ∃ i ∈ S, f i ≠ ⊥) : ∃ μ : ℝ, S.sup f = (μ : EReal) := by
  refine real_of ?_ ?_
  · exact ((Finset.sup_lt_iff bot_lt_top).mpr fun i hi => lt_top_iff_ne_top.mpr (h i hi)).ne
  · obtain ⟨i, hi, hb⟩ := h'
    intro hs
    exact hb (le_bot_iff.mp (hs ▸ Finset.le_sup hi))

/-- What is asked of a point's arrays: queries and keys are real numbers, value row 128 is all ones. -/
structure Fine (I : Inp Ideal) : Prop where
  q : ∀ i, ∃ r : ℝ, I.q i = (r : EReal)
  k : ∀ i, ∃ r : ℝ, I.k i = (r : EReal)
  one : ∀ b r, vv I b ⟨128, by norm_num⟩ r = 1

variable {I}

theorem sc_real (h : Fine I) (b : ℕ) (r x : Fin 1024) : ∃ μ : ℝ, sc I b r x = (μ : EReal) := by
  choose fq hq using h.q
  choose fk hk using h.k
  refine ⟨∑ d : Fin 256, fk (ix4 0 ⟨b % 16, Nat.mod_lt _ (by norm_num)⟩ r d) * fq (ix3 0 d x), ?_⟩
  unfold sc
  rw [← coe_sum]
  refine Finset.sum_congr rfl fun d _ => ?_
  rw [hq, hk, EReal.coe_mul]

theorem sm_ne_top (h : Fine I) (b : ℕ) (r x : Fin 1024) : sm I n b r x ≠ ⊤ := by
  unfold sm
  split_ifs
  · exact bot_ne_top
  · obtain ⟨μ, e⟩ := sc_real h b r x
    rw [e]; exact EReal.coe_ne_top _

theorem sm_real (h : Fine I) (b : ℕ) (r x : Fin 1024) (hb : ¬ (b = n ∧ x.val < r.val)) : ∃ μ : ℝ, sm I n b r x = (μ : EReal) := by
  unfold sm
  rw [if_neg hb]
  exact sc_real h b r x

theorem dC_at (x : Fin 1024) : ∃ S : Finset (Fin 1024), ⟨0, by norm_num⟩ ∈ S ∧ dC I.q I.k n (ix2 0 x) = S.sup (fun r => sm I n n r x) := by
  have hx := x.isLt
  unfold dC diagC
  by_cases h1 : x.val < 512
  · refine ⟨Finset.univ.image (fun r : Fin 512 => (⟨r.val, by omega⟩ : Fin 1024)), Finset.mem_image.mpr ⟨0, Finset.mem_univ _, rfl⟩, ?_⟩
    rw [put_out _ _ _ _ _ _ (by omega), put_in _ _ _ _ _ _ (by norm_num) (by omega)]
    refine (pay301_at _ _ _).trans ?_
    rw [fold_eq_sup, Finset.sup_image]
    refine Finset.sup_congr rfl fun r _ => ?_
    rw [pay9_at]
    simp only [kB1_at, Function.comp, sm, sc, Nat.sub_zero, true_and, ← not_lt, ite_not]
  · refine ⟨Finset.univ.image (fun r : Fin 512 => (⟨r.val, by omega⟩ : Fin 1024)) ∪ Finset.univ.image (fun r : Fin 512 => (⟨512 + r.val, by omega⟩ : Fin 1024)),
      Finset.mem_union_left _ (Finset.mem_image.mpr ⟨0, Finset.mem_univ _, rfl⟩), ?_⟩
    have e : 512 + (x.val - 512) = x.val := by omega
    rw [put_in _ _ _ _ _ _ (by norm_num) (by omega)]
    refine (pay302_at _ _ _ _ _).trans ?_
    rw [fold_eq_sup, fold_eq_sup, Finset.sup_union, Finset.sup_image, Finset.sup_image]
    refine congrArg₂ _ (Finset.sup_congr rfl fun r _ => ?_) (Finset.sup_congr rfl fun r _ => ?_)
    · rw [pay10_at]
      simp only [kB1_at, Function.comp, sm, sc, e]
      rw [if_neg (by omega)]
    · rw [pay8_at]
      simp only [kB2_at, q2_at, Function.comp, sm, sc, e]
      by_cases hh : x.val < 512 + r.val
      · rw [if_neg (by omega), if_pos ⟨trivial, hh⟩]
      · rw [if_pos (by omega), if_neg (fun h => hh h.2)]

/-- Column maxima are real numbers. -/
theorem cC_real (h : Fine I) (t : ℕ) (ht : t ≤ n) (x : Fin 1024) : ∃ μ : ℝ, cC I n t (ix2 0 x) = (μ : EReal) := by
  unfold cC
  split_ifs with h0
  · obtain ⟨S, hS, e⟩ := dC_at (I := I) n x
    rw [e]
    refine sup_real S _ (fun i _ => sm_ne_top n h _ _ _) ⟨_, hS, ?_⟩
    obtain ⟨μ, e⟩ := sm_real n h n ⟨0, by norm_num⟩ x (by simp)
    rw [e]; exact EReal.coe_ne_bot _
  · rw [pay54_at, fold_eq_sup]
    have e : (fun r : Fin 1024 => ∑ d : Fin 256, (kB I.k (t - 1) (ix4 0 0 r d) : EReal) * I.q (ix3 0 d x)) = fun r => sc I (t - 1) r x := by
      funext r; unfold sc; simp only [kB_at]
    rw [e]
    refine sup_real _ _ (fun i _ => ?_) ⟨⟨0, by norm_num⟩, Finset.mem_univ _, ?_⟩
    · obtain ⟨μ, e⟩ := sc_real h (t - 1) i x
      rw [e]; exact EReal.coe_ne_top _
    · obtain ⟨μ, e⟩ := sc_real h (t - 1) ⟨0, by norm_num⟩ x
      rw [e]; exact EReal.coe_ne_bot _

theorem mM_zero_at (x : Fin 1024) : mM I n 0 (ix2 0 x) = (⊥ : EReal) := pay298_at _
theorem mM_succ_at (t : ℕ) (x : Fin 1024) : mM I n (t + 1) (ix2 0 x) = max (mM I n t (ix2 0 x) : EReal) (cC I n t (ix2 0 x)) := pay57_at _ _ _

/-- After an item the running maximum is a real number. -/
theorem mM_real (h : Fine I) (x : Fin 1024) (t : ℕ) (ht : t ≤ n) : ∃ μ : ℝ, mM I n (t + 1) (ix2 0 x) = (μ : EReal) := by
  induction t with
  | zero =>
    obtain ⟨μ, e⟩ := cC_real n h 0 ht x
    exact ⟨μ, by rw [mM_succ_at, mM_zero_at, e]; exact max_eq_right bot_le⟩
  | succ t ih =>
    obtain ⟨μ, e⟩ := cC_real n h (t + 1) ht x
    obtain ⟨μ', e'⟩ := ih (by omega)
    exact ⟨max μ' μ, by rw [mM_succ_at, e, e']; exact (EReal.coe_strictMono.monotone.map_max).symm⟩

/-! ## The weights and the accumulator -/

theorem aA_at (t : ℕ) (x : Fin 1024) : aA I n t (ix2 0 x) = Ideal.exp2 ((mM I n t (ix2 0 x) : EReal) - mM I n (t + 1) (ix2 0 x)) := by
  rw [mM_succ_at]
  exact pay60_at _ _ _

theorem pP_at (h : Fine I) (t : ℕ) (ht : t ≤ n) (r x : Fin 1024) :
    pP I n t (ix2 r x) = Ideal.exp2 (sm I n (blk n t) r x - (mM I n (t + 1) (ix2 0 x) : EReal)) := by
  have hr := r.isLt
  have hx := x.isLt
  have hS := sS_at I n t ht
  obtain ⟨μ, hμ⟩ := mM_real n h x t ht
  unfold pP
  split_ifs with h0
  · obtain ⟨rfl, hn⟩ := h0
    unfold firstP
    by_cases h0 : r.val < 512
    · rw [put_out _ _ _ _ _ _ (by omega), put_out _ _ _ _ _ _ (by omega), put_in _ _ _ _ _ _ (by omega) (by omega), pay30_at,
        window_at _ _ _ _ _ _ (by norm_num) (by norm_num), mM_succ_at]
      simp only [Nat.sub_zero, Nat.zero_add, hS]
    · by_cases h1 : x.val < 512
      · rw [put_out _ _ _ _ _ _ (by omega), put_in _ _ _ _ _ _ (by omega) (by omega), pay308_at, hμ]
        unfold sm blk
        rw [if_pos ⟨by simp, by omega⟩, EReal.bot_sub, Ideal.exp2_bot]
      · have e : 512 + (x.val - 512) = x.val := by omega
        have e' : 512 + (r.val - 512) = r.val := by omega
        rw [put_in _ _ _ _ _ _ (by omega) (by omega), pay309_at, window_at _ _ _ _ _ _ (by norm_num) (by norm_num), mM_succ_at]
        simp only [e, e', hS]
  · rw [pay59_at, hS, mM_succ_at]

theorem sum_halves (f : Fin 1024 → EReal) : ∑ r, f r = (∑ r : Fin 512, f ⟨r.val, by omega⟩) + ∑ r : Fin 512, f ⟨512 + r.val, by omega⟩ :=
  Fin.sum_univ_add (a := 512) (b := 512) f

/-- The accumulator's step at item `t`. -/
theorem ac_at (h : Fine I) (t : ℕ) (ht : t ≤ n) (d : Fin 144) (x : Fin 1024) :
    ac I n (t + 1) (ix2 d x) = Ideal.exp2 ((mM I n t (ix2 0 x) : EReal) - mM I n (t + 1) (ix2 0 x)) * ac I n t (ix2 d x)
      + ∑ r : Fin 1024, vv I (blk n t) d r * Ideal.exp2 (sm I n (blk n t) r x - (mM I n (t + 1) (ix2 0 x) : EReal)) := by
  have hd := d.isLt
  have hx := x.isLt
  have hP := fun r => pP_at n h t ht r x
  simp only [← hP, ← aA_at]
  rw [ac]
  split_ifs with h0
  · obtain ⟨rfl, hn⟩ := h0
    unfold diagAcc
    rw [sum_halves]
    simp only []
    by_cases h1 : x.val < 512
    · rw [put_out _ _ _ _ _ _ (by omega), put_in _ _ _ _ _ _ (by omega) (by omega), pay51_at, window_at _ _ _ _ _ _ (by norm_num) (by norm_num)]
      have z : (∑ r : Fin 512, vv I (blk n 0) d ⟨512 + r.val, by omega⟩ * pP I n 0 (ix2 ⟨512 + r.val, by omega⟩ x)) = (0 : EReal) := by
        refine Finset.sum_eq_zero fun r _ => ?_
        obtain ⟨μ, hμ⟩ := mM_real n h x 0 ht
        rw [hP, hμ]
        unfold sm
        rw [if_pos ⟨by simp [blk], by show x.val < 512 + r.val; omega⟩, EReal.bot_sub, Ideal.exp2_bot, mul_zero]
      rw [z, add_zero]
      simp only [Nat.sub_zero, Nat.zero_add, vB1_at, blk, if_true]
      refine congrArg₂ _ rfl (Finset.sum_congr rfl fun r _ => ?_)
      rw [window_at _ _ _ _ _ _ (by norm_num) (by norm_num)]
      simp only [Nat.zero_add]
    · have e : 512 + (x.val - 512) = x.val := by omega
      rw [put_in _ _ _ _ _ _ (by omega) (by omega), pay312_at, window_at _ _ _ _ _ _ (by norm_num) (by norm_num), put_out _ _ _ _ _ _ (by show ¬ (_ ∧ _ ∧ _ < _); simp only []; omega)]
      simp only [Nat.sub_zero, Nat.zero_add, vB1_at, vB2_at, blk, if_true, e]
      refine congrArg₂ _ rfl (congrArg₂ _ (Finset.sum_congr rfl fun r _ => ?_) (Finset.sum_congr rfl fun r _ => ?_))
      · rw [window_at _ _ _ _ _ _ (by norm_num) (by norm_num)]
        simp only [Nat.zero_add]
      · rw [window_at _ _ _ _ _ _ (by norm_num) (by norm_num)]
        simp only [e]
  · rw [pay61_at]
    simp only [vB_at, aA_at]

theorem ac_zero_at (d : Fin 144) (x : Fin 1024) : ac I n 0 (ix2 d x) = (0 : EReal) := by
  rw [ac]; exact pay299_at _

end Cert.Kernel2Ideal.Attn

end
-- ==== Proof.Attention.Out.lean ====
/- A point's output block over the extended reals: weighted means of the values. -/
module

public import proofs.«01_k».proof.Proof.Attention.Item

@[expose] public section

set_option maxRecDepth 65536

noncomputable section

namespace Cert.Kernel2Ideal.Attn

open Cert.Kernel2Ideal Cert.Kernel2Ideal.Gen Cert.Attn
open Idealize.ShloMosaic Idealize.ShloMosaic.TcCoe

/-- A sum over the first blocks is one over all keys of a function that vanishes on the later blocks. -/
theorem sum_keys (n : ℕ) (hn : n < 16) (g : ℕ → Fin 1024 → EReal) (G : Fin 16384 → EReal)
    (h0 : ∀ (b : ℕ) (hb : b < 16) (r : Fin 1024), n < b → G ⟨b * 1024 + r.val, by omega⟩ = 0)
    (h1 : ∀ (b : ℕ) (hb : b < 16) (r : Fin 1024), b ≤ n → G ⟨b * 1024 + r.val, by omega⟩ = g b r) :
    ∑ b ∈ Finset.range (n + 1), ∑ r, g b r = ∑ j, G j := by
  have e : ∑ j, G j = ∑ b ∈ Finset.range 16, ∑ r : Fin 1024, if h : b < 16 then G ⟨b * 1024 + r.val, by omega⟩ else 0 := by
    rw [sum_blocks, Finset.sum_range]
    refine Finset.sum_congr rfl fun b _ => Finset.sum_congr rfl fun r _ => ?_
    rw [dif_pos b.isLt]
  rw [e, ← Finset.sum_subset (s₁ := Finset.range (n + 1)) (s₂ := Finset.range 16)]
  · refine Finset.sum_congr rfl fun b hb => Finset.sum_congr rfl fun r _ => ?_
    have hb' := Finset.mem_range.mp hb
    rw [dif_pos (by omega), h1 b (by omega) r (by omega)]
  · intro b hb
    have hb' := Finset.mem_range.mp hb
    exact Finset.mem_range.mpr (by omega)
  · intro b hb hb'
    have hb := Finset.mem_range.mp hb
    have hb' : ¬ b < n + 1 := fun h => hb' (Finset.mem_range.mpr h)
    refine Finset.sum_eq_zero fun r _ => ?_
    rw [dif_pos hb, h0 b hb r (by omega)]

variable {I : Inp Ideal} (n : ℕ)

/-- Block and place of a key. -/
abbrev place (j : Fin 16384) : Fin 1024 := ⟨j.val % 1024, Nat.mod_lt _ (by norm_num)⟩

variable (I) in
/-- The weight of key `j` for query `x` of block `n`: a power of two of the score up to the query's own place, nothing after it. -/
def gw (x : Fin 1024) (j : Fin 16384) : ℝ := if j.val ≤ n * 1024 + x.val then w2 (sc I (j.val / 1024) (place j) x) else 0

theorem gw_nonneg (x : Fin 1024) (j : Fin 16384) : 0 ≤ gw I n x j := by
  unfold gw; split_ifs
  · exact w2_nonneg _
  · exact le_rfl

theorem gw_block (b : ℕ) (hb : b < 16) (r x : Fin 1024) : gw I n x ⟨b * 1024 + r.val, by omega⟩ = if b ≤ n then w2 (sm I n b r x) else 0 := by
  have hr := r.isLt
  have hx := x.isLt
  have e : (b * 1024 + r.val) / 1024 = b := by omega
  have e' : place ⟨b * 1024 + r.val, by omega⟩ = r := Fin.ext (by show (b * 1024 + r.val) % 1024 = r.val; omega)
  unfold gw sm
  simp only [e, e']
  by_cases h : b ≤ n
  · rw [if_pos h]
    by_cases h' : b = n ∧ x.val < r.val
    · rw [if_neg (by omega), if_pos h', w2_bot]
    · rw [if_pos (by omega), if_neg h']
  · rw [if_neg (by omega), if_neg h]

theorem gw_sum_pos (hn : n < 16) (h : Fine I) (x : Fin 1024) : 0 < ∑ j, gw I n x j := by
  refine Finset.sum_pos' (fun j _ => gw_nonneg n x j) ⟨⟨n * 1024 + (0 : Fin 1024).val, by simp; omega⟩, Finset.mem_univ _, ?_⟩
  rw [gw_block n n hn, if_pos le_rfl]
  obtain ⟨μ, e⟩ := sm_real n h n 0 x (by simp)
  rw [e]; exact w2_coe_pos μ

/-- The accumulator after the last item: for each value row the weighted sum of all keys' values, with one common factor. -/
theorem ac_last (h : Fine I) (hn : n < 16) (x : Fin 1024) : ∃ c : ℝ, 0 < c ∧ ∀ d : Fin 144,
    ac I n (n + 1) (ix2 d x) = ∑ j, ((gw I n x j * c : ℝ) : EReal) * vv I (j.val / 1024) d (place j) := by
  have hM : ∀ t < n + 1, mM I n (t + 1) (ix2 0 x) = (((mM I n (t + 1) (ix2 0 x) : EReal).toReal : ℝ) : EReal) := fun t ht => by
    obtain ⟨μ, e⟩ := mM_real n h x t (by omega)
    rw [e, EReal.toReal_coe]
  refine ⟨Real.rpow 2 (-((mM I n (n + 1) (ix2 0 x) : EReal).toReal)), Real.rpow_pos_of_pos (by norm_num) _, fun d => ?_⟩
  refine (online (fun t r => sm I n (blk n t) r x) (fun t r => vv I (blk n t) d r) (fun t => mM I n t (ix2 0 x)) (fun t => ac I n t (ix2 d x)) (n + 1)
    (fun t _ r => sm_ne_top n h _ _ _) (mM_zero_at n x) (fun t => (mM I n (t + 1) (ix2 0 x) : EReal).toReal) hM (ac_zero_at n d x)
    (fun t ht => ac_at n h t (by omega) d x) n (by omega)).trans ?_
  refine (sum_items n (fun b => ∑ r, ((w2 (sm I n b r x) * Real.rpow 2 (-((mM I n (n + 1) (ix2 0 x) : EReal).toReal)) : ℝ) : EReal) * vv I b d r)).trans ?_
  refine sum_keys n hn _ _ (fun b hb r hbn => ?_) (fun b hb r hbn => ?_)
  · rw [gw_block n b hb, if_neg (by omega), zero_mul, EReal.coe_zero, zero_mul]
  · have e : (b * 1024 + r.val) / 1024 = b := by omega
    have e' : place ⟨b * 1024 + r.val, by omega⟩ = r := Fin.ext (by show (b * 1024 + r.val) % 1024 = r.val; omega)
    rw [gw_block n b hb, if_pos hbn, e']
    simp only [e]

/-- A point's output: for query `x` and value column `d` the mean of the keys' values by their weights. -/
theorem outP_at (h : Fine I) (hn : n < 16) (x : Fin 1024) (d : Fin 128) :
    outP I n (ix2 x d) = ∑ j, ((gw I n x j / ∑ j', gw I n x j' : ℝ) : EReal) * vv I (j.val / 1024) ⟨d.val, by omega⟩ (place j) := by
  obtain ⟨c, hc, hac⟩ := ac_last n h hn x
  unfold outP outB
  rw [pay307_at, window_at _ _ _ _ _ _ (by norm_num) (by norm_num), window_at _ _ _ _ _ _ (by norm_num) (by norm_num)]
  simp only [Nat.zero_add]
  refine (congrArg₂ Ideal.div (hac _) (hac _)).trans ?_
  have e : (∑ j, ((gw I n x j * c : ℝ) : EReal) * vv I (j.val / 1024) ⟨128 + (0 : Fin 1).val, by simp⟩ (place j)) = ((∑ j, gw I n x j * c : ℝ) : EReal) := by
    rw [← coe_sum]
    refine Finset.sum_congr rfl fun j _ => ?_
    rw [show vv I (j.val / 1024) ⟨128 + (0 : Fin 1).val, by simp⟩ (place j) = 1 from h.one _ _, mul_one]
  refine (congrArg (Ideal.div _) e).trans ?_
  exact quotient Finset.univ (gw I n x) _ hc (fun j _ => gw_nonneg n x j) (gw_sum_pos n hn h x)

end Cert.Kernel2Ideal.Attn

end
-- ==== Proof.Attention.Equation.lean ====
/- The attention's result array, over the extended reals: at every position of every head the weighted mean of the values. -/
module

public import proofs.«01_k».proof.Proof.Attention.Frame
public import proofs.«01_k».proof.Proof.Attention.Host
public import proofs.«01_k».proof.Proof.Attention.Out

@[expose] public section

set_option maxRecDepth 65536

noncomputable section

namespace Cert.Kernel2Ideal.Attn

open Cert.Kernel2Ideal Cert.Kernel2Ideal.Gen Cert.Attn
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD) (t : Fin cfg0.N)

/-- The factor of the queries. -/
abbrev σ : ℝ := 1 / (√192 * Real.log 2)

/-- A point's queries: scaled, zero past the head dimension. -/
theorem q_at (d : Fin 256) (x : Fin 1024) : ((inp m c t).q (ix3 0 d x) : EReal)
    = if hd' : d.val < 192 then (arg0 m c (ix4 0 (pos (t.val % 16) (by omega) x) (hd t) ⟨d.val, hd'⟩) : EReal) * (σ : EReal) else 0 := by
  have e : (inp m c t).q (ix3 0 d x) = qH (arg0 m c) (ix3 (hd t) d (pos (t.val % 16) (by omega) x)) :=
    (iblk0 m c t _).trans (congrFun (qA_eq m c) _)
  rw [← scl_at]
  exact e.trans (qH_at _ _ _ _)

/-- A point's keys: zero past the head dimension. -/
theorem k_at (b : Fin 16) (r : Fin 1024) (d : Fin 256) : ((inp m c t).k (ix4 0 b r d) : EReal)
    = if hd' : d.val < 192 then (arg1 m c (ix4 0 (pos b.val b.isLt r) (hd t) ⟨d.val, hd'⟩) : EReal) else 0 := by
  have e : (inp m c t).k (ix4 0 b r d) = kH (arg1 m c) (ix4 (hd t) b r d) := (iblk2 m c t _).trans (congrFun (kA_eq m c) _)
  exact e.trans (kH_at _ _ _ _ _)

/-- A point's values: one past the head dimension. -/
theorem v_at (b : Fin 16) (d : Fin 144) (r : Fin 1024) : ((inp m c t).v (ix4 0 b d r) : EReal)
    = if hd' : d.val < 128 then (arg2 m c (ix4 0 (pos b.val b.isLt r) (hd t) ⟨d.val, hd'⟩) : EReal) else 1 := by
  have e : (inp m c t).v (ix4 0 b d r) = vH (arg2 m c) (ix4 (hd t) b d r) := (iblk3 m c t _).trans (congrFun (vA_eq m c) _)
  exact e.trans (vH_at _ _ _ _ _)

variable {m c}

/-- With real queries and keys, what a point reads is real. -/
theorem fine (h0 : Reals (arg0 m c)) (h1 : Reals (arg1 m c)) : Fine (inp m c t) where
  q i := by
    obtain ⟨z, d, x, rfl⟩ : ∃ (z : Fin 1) (d : Fin 256) (x : Fin 1024), i = ix3 z d x := ⟨i 0, i 1, i 2, eq_ix3 i⟩
    obtain rfl : z = 0 := Subsingleton.elim _ _
    rw [q_at]
    split
    · obtain ⟨a, ha⟩ := h0 (ix4 0 (pos (t.val % 16) (by omega) x) (hd t) ⟨d.val, ‹_›⟩)
      exact ⟨a * σ, by rw [ha, EReal.coe_mul]⟩
    · exact ⟨0, rfl⟩
  k i := by
    obtain ⟨z, b, r, d, rfl⟩ : ∃ (z : Fin 1) (b : Fin 16) (r : Fin 1024) (d : Fin 256), i = ix4 z b r d := ⟨i 0, i 1, i 2, i 3, eq_ix4 i⟩
    obtain rfl : z = 0 := Subsingleton.elim _ _
    rw [k_at]
    split
    · exact h1 _
    · exact ⟨0, rfl⟩
  one b r := by
    unfold vv
    rw [v_at]
    exact dif_neg (by norm_num)

/-- A sum over the padded head dimension of terms that vanish on the padding. -/
theorem sum_padded (f : Fin 256 → EReal) (g : Fin 192 → EReal) (h0 : ∀ d : Fin 192, f ⟨d.val, by omega⟩ = g d) (h1 : ∀ d : Fin 256, 192 ≤ d.val → f d = 0) :
    ∑ d, f d = ∑ d, g d := by
  rw [show ∑ d, f d = ∑ d : Fin (192 + 64), f d from rfl, Fin.sum_univ_add]
  rw [Finset.sum_eq_zero (s := Finset.univ) (f := fun d : Fin 64 => f (Fin.natAdd 192 d)) fun d _ => h1 _ (by simp), add_zero]
  exact Finset.sum_congr rfl fun d _ => h0 d

/-- A point's score of a key: the product of the query and the key, scaled. -/
theorem sc_at (h0 : Reals (arg0 m c)) (h1 : Reals (arg1 m c)) (b : ℕ) (hb : b < 16) (r x : Fin 1024) :
    sc (inp m c t) b r x = ((dot (arg0 m c) (arg1 m c) (hd t) (pos (t.val % 16) (by omega) x) (pos b hb r) * σ : ℝ) : EReal) := by
  have hbb : (⟨b % 16, Nat.mod_lt _ (by norm_num)⟩ : Fin 16) = ⟨b, hb⟩ := Fin.ext (Nat.mod_eq_of_lt hb)
  unfold sc
  rw [hbb, sum_padded _ (fun d : Fin 192 => (arg0 m c (ix4 0 (pos (t.val % 16) (by omega) x) (hd t) d) : EReal)
    * (arg1 m c (ix4 0 (pos b hb r) (hd t) d) : EReal) * (σ : EReal)) (fun d => ?_) (fun d hd' => ?_)]
  · choose f0 e0 using h0
    choose f1 e1 using h1
    have e := dot_coe (q := arg0 m c) (k := arg1 m c) (fun i => ⟨f0 i, e0 i⟩) (fun i => ⟨f1 i, e1 i⟩) (hd t) (pos (t.val % 16) (by omega) x) (pos b hb r)
    rw [EReal.coe_mul, ← e]
    simp only [e0, e1, ← EReal.coe_mul, coe_sum]
    rw [Finset.sum_mul]
  · rw [q_at, k_at, dif_pos d.isLt, dif_pos d.isLt, mul_left_comm, ← mul_assoc]
  · rw [q_at, dif_neg (by omega), mul_zero]

/-- A point's weight of a key is the key's weight in the mean. -/
theorem gw_at (h0 : Reals (arg0 m c)) (h1 : Reals (arg1 m c)) (x : Fin 1024) (j : Fin 16384) :
    gw (inp m c t) (t.val % 16) x j = weight (arg0 m c) (arg1 m c) (hd t) (pos (t.val % 16) (by omega) x) j := by
  have ej : pos (j.val / 1024) (by omega) (place j) = j := Fin.ext (by show j.val / 1024 * 1024 + j.val % 1024 = j.val; omega)
  unfold gw weight
  rw [sc_at t h0 h1 (j.val / 1024) (by omega), w2_coe, two_pow_scaled, ej]

/-- A point's output block is the weighted mean of the values, at the point's head and positions. -/
theorem block_at (h0 : Reals (arg0 m c)) (h1 : Reals (arg1 m c)) (x : Fin 1024) (d : Fin 128) :
    (outP (inp m c t) (t.val % 16) (ix2 x d) : EReal) = mean (arg0 m c) (arg1 m c) (arg2 m c) (hd t) (pos (t.val % 16) (by omega) x) d := by
  refine (outP_at (t.val % 16) (fine t h0 h1) (by omega) x d).trans ?_
  unfold mean
  refine Finset.sum_congr rfl fun j _ => ?_
  have ej : pos (j.val / 1024) (by omega) (place j) = j := Fin.ext (by show j.val / 1024 * 1024 + j.val % 1024 = j.val; omega)
  have hbb : (⟨j.val / 1024 % 16, Nat.mod_lt _ (by norm_num)⟩ : Fin 16) = ⟨j.val / 1024, by omega⟩ := Fin.ext (Nat.mod_eq_of_lt (by omega))
  have hv : vv (inp m c t) (j.val / 1024) ⟨d.val, by omega⟩ (place j) = (arg2 m c (ix4 0 j (hd t) d) : EReal) := by
    unfold vv
    rw [hbb, v_at, dif_pos d.isLt, ej]
  rw [hv]
  simp only [gw_at t h0 h1]

/-- The whole array: the head of a column is its number over the head dimension. -/
def whole (q k : SQ.Idx → EReal) (v : SV.Idx → EReal) (i : S16384x1024.Idx) : EReal :=
  mean q k v ⟨(i 1).val / 128, by have : (i 1).val < 1024 := (i 1).isLt; omega⟩ (i 0) ⟨(i 1).val % 128, by omega⟩

/-- What grid point `t` writes back is its block of the whole array. -/
theorem flushed4 (h0 : Reals (arg0 m c)) (h1 : Reals (arg1 m c)) :
    (dats m 0 c).flushed 4 t = ((cfg0.win 4).blk t).view.read (Elt Ideal) (whole (arg0 m c) (arg1 m c) (arg2 m c)) := by
  show (cfg0.win 4).cut (grid0.coords t) ((dats m 0 c).after 4 t) = _
  rw [after4]
  funext y
  obtain ⟨x, d, rfl⟩ : ∃ (x : Fin 1024) (d : Fin 128), y = ix2 x d := ⟨y 0, y 1, eq_ix2 y⟩
  refine (block_at t h0 h1 x d).trans ?_
  show _ = whole (arg0 m c) (arg1 m c) (arg2 m c) ((win0_4.rect t).emb (ix2 x d : S1024x128.Idx))
  rw [emb4]
  have hd' := d.isLt
  have ht := pt_lt t
  refine congr (congrArg (mean (arg0 m c) (arg1 m c) (arg2 m c) · (pos (t.val % 16) (by omega) x)) (Fin.ext ?_)) (Fin.ext ?_)
  · show t.val / 16 = (t.val / 16 * 128 + d.val) / 128
    omega
  · show d.val = (t.val / 16 * 128 + d.val) % 128
    omega

/-- Every index of the result is in the block of the grid point its row and its column name. -/
theorem cover4 (i : S16384x1024.Idx) : ∃ t : Fin cfg0.N, (cfg0.win 4).flush t = true ∧ i ∈ ((cfg0.win 4).blk t).view.set := by
  have hi0 : (i 0).val < 16384 := (i 0).isLt
  have hi1 : (i 1).val < 1024 := (i 1).isLt
  have ht : (i 1).val / 128 * 16 + (i 0).val / 1024 < grid0.N := lt_of_lt_of_eq (by omega : _ < 128) N_0.symm
  refine ⟨⟨(i 1).val / 128 * 16 + (i 0).val / 1024, ht⟩, flush0_4 _, ?_⟩
  have h := View.emb_mem_set ((cfg0.win 4).blk ⟨(i 1).val / 128 * 16 + (i 0).val / 1024, ht⟩).view
    (ix2 ⟨(i 0).val % 1024, by omega⟩ ⟨(i 1).val % 128, by omega⟩ : S1024x128.Idx)
  have e : (win0_4.rect ⟨(i 1).val / 128 * 16 + (i 0).val / 1024, ht⟩).emb
      (ix2 ⟨(i 0).val % 1024, by omega⟩ ⟨(i 1).val % 128, by omega⟩ : S1024x128.Idx) = i := by
    rw [emb4]
    refine funext fun a => Fin.ext ?_
    match a with
    | ⟨0, _⟩ => show ((i 1).val / 128 * 16 + (i 0).val / 1024) % 16 * 1024 + (i 0).val % 1024 = (i 0).val; omega
    | ⟨1, _⟩ => show ((i 1).val / 128 * 16 + (i 0).val / 1024) / 16 * 128 + (i 1).val % 128 = (i 1).val; omega
  change (win0_4.rect ⟨(i 1).val / 128 * 16 + (i 0).val / 1024, ht⟩).emb
      (ix2 ⟨(i 0).val % 1024, by omega⟩ ⟨(i 1).val % 128, by omega⟩ : S1024x128.Idx) ∈ _ at h
  rw [e] at h
  exact h

/-- So the result array ends as the whole. -/
theorem final4 (h0 : Reals (arg0 m c)) (h1 : Reals (arg1 m c)) : (dats m 0 c).arrAt 4 cfg0.N = whole (arg0 m c) (arg1 m c) (arg2 m c) :=
  (dats m 0 c).arrAt_eq_of_cover 4 (whole (arg0 m c) (arg1 m c) (arg2 m c)) (fun t _ => flushed4 t h0 h1) cover4

variable (m)

/-- The attention's run, its result named. -/
theorem run (h0 : ∀ c, Reals (arg0 m c)) (h1 : ∀ c, Reals (arg1 m c)) :
    θ_run defs (onTc (τ := τ) (main (F := Ideal))) ⟨m, fun _ => 0, ρ⟩ fun r => ∀ c : Dev nD,
      r.2.mem ((c.tc : Thread nD τ).loc main_v21) = whole (arg0 m c) (arg1 m c) (arg2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 4).trans (final4 (h0 c) (h1 c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Kernel2Ideal.Attn

end
-- ==== Proof.Attention.Finite.lean ====
/- What the precondition says: the queries and the keys are real numbers. -/
module

public import proofs.«01_k».proof.Defs
public import proofs.«01_k».proof.Proof.Attention.Host
public import proofs.«01_k».proof.Proof.Gen.Pre_finite
public import Idealize.ShloMosaic.Lib.ReduceAll
public import Idealize.ShloMosaic.Lib.WordArith
public import Idealize.ShloMosaic.Lib.Pointwise

@[expose] public section

set_option maxRecDepth 65536

noncomputable section

namespace Cert.Proof.Attention

open Idealize.ShloMosaic Idealize.ShloMosaic.TcCoe Idealize.SL.Sem Cert.Pre_finite Cert.Attn

/-- The word of the bound is +∞. -/
theorem posInf : Ideal.ofBits .f32 0x7F800000#32 = (⊤ : EReal) := by
  simp [Ideal.ofBits, Ideal.ieee]

/-- An extended real whose absolute value is below +∞ is real. -/
theorem real_of_abs {x : EReal} (h : max x (-x) < ⊤) : ∃ r : ℝ, x = (r : EReal) := by
  induction x with
  | bot => simp at h
  | top => simp at h
  | coe r => exact ⟨r, rfl⟩

/-- `all(|x| < ∞)` is 1 only where every element is real. -/
theorem reals_of_all (x : FVec Ideal S1x16384x8x192 .f32) (j : S_.Idx)
    (e : Host.reduce IntOp.andi (cmpf .olt (Host.absf x)
        (broadcastInDim S1x16384x8x192 ![] Cert.Pre_finite.Gen.facts.bcast_S_S1x16384x8x192 (constant (F := Ideal) S_ .f32 0x7F800000#32)))
      (constantI S_ 1 1#1) Cert.Pre_finite.Gen.facts.reducesTo_S1x16384x8x192_S_d0_1_2_3 Cert.Pre_finite.Gen.facts.h_S_ j = 1#1) :
    Reals x := by
  intro i
  haveI : Subsingleton S_.Idx := ⟨fun a b => funext fun k => k.elim0⟩
  have h := Host.reduce_andi_all _ _ _ _ j e i
  refine real_of_abs ?_
  rw [← posInf]
  exact of_decide_eq_true ((WordArith.ofBool_eq_one_iff _).1 h)

/-- The precondition: on every device the queries and the keys are real. -/
theorem reals (m : (ℓ : Loc Cert.Kernel2Ideal.nD Cert.Kernel2Ideal.τ Cert.Kernel2Ideal.sig) → Buf (Elt Ideal) ℓ)
    (h : Cert.Pre_Kernel2Ideal_finite (hPre_finite := Cert.Pre_finite.Gen.facts) m) (c : Dev Cert.Kernel2Ideal.nD) :
    Reals (Cert.Kernel2Ideal.Attn.arg0 m c) ∧ Reals (Cert.Kernel2Ideal.Attn.arg1 m c) := by
  have e := congrFun (h c) ix0
  have e' := IntOp.andi_eq_one.1 e
  exact ⟨reals_of_all _ _ e'.1, reals_of_all _ _ e'.2⟩

end Cert.Proof.Attention

end
-- ==== Proof.Attention.Frames.lean ====
/- The frames of the attention, of its idealization and of the idealized reference. -/
module

public import proofs.«01_k».proof.Defs
public import proofs.«01_k».proof.Proof.Attention.Frame
public import proofs.«01_k».proof.Proof.Gen.Kernel2
public import proofs.«01_k».proof.Proof.Gen.Reference2Ideal
public import proofs.«01_k».proof.Proof.Gen.Reference2Ideal.Run
public import Idealize.ShloMosaic.Lib.Quiescent

@[expose] public section

set_option maxRecDepth 65536

noncomputable section

namespace Cert.Proof.Attention

open Idealize.ShloMosaic Idealize.ShloMosaic.TcCoe Idealize.SL.Sem

/-- The idealized attention runs, leaves its arguments as they were and every counter at zero. -/
theorem frame_ideal : Cert.quiescent_Kernel2Ideal := fun m ρ _ => Cert.Kernel2Ideal.Attn.frame m ρ

/-- At the bit instance a named constant is its word. -/
local instance bitsNamed : Named Bits where named _ _ {φ} bits := FloatOps.ofBits φ bits

/-- The two printings of the call have one body table. -/
theorem defs₀_eq : (Cert.Kernel2Ideal.defs₀ (F := Bits)) = Cert.Kernel2.defs₀ (F := Bits) := by
  delta Cert.Kernel2Ideal.defs₀ Cert.Kernel2.defs₀
  refine congrArg Defs.onTc (funext fun l => funext fun x => ?_)
  match l, x with
  | ⟨0, _⟩, (t, s) => rfl

/-- … and one table of programs. -/
theorem defs_eq : (Cert.Kernel2Ideal.defs (F := Bits)) = Cert.Kernel2.defs (F := Bits) :=
  congrArg (Idealize.ShloMosaic.Pipeline.defs (Cert.Kernel2.pcfgs (F := Bits))) defs₀_eq

/-- The attention runs at the bit instance, leaves its arguments as they were and every counter at zero. -/
theorem frame_kernel : Cert.quiescent_Kernel2 := by
  intro m ρ _
  have h := Cert.Kernel2Ideal.Attn.frame (F := Bits) m ρ
  rw [defs_eq] at h
  exact h

/-- The idealized reference runs, leaves its arguments as they were and every counter at zero. -/
theorem frame_ref : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

end Cert.Proof.Attention

end
-- ==== Proof.Attention.Ref.lean ====
/- What the attention's reference computes, element by element over the extended reals. -/
module

public import proofs.«01_k».proof.Proof.Attention.Means
public import proofs.«01_k».proof.Proof.Gen.Reference2Ideal.Read
public import Idealize.ShloMosaic.Lib.Pointwise

@[expose] public section

set_option maxRecDepth 65536

noncomputable section

namespace Cert.Reference2Ideal.Attn

open Cert.Reference2Ideal Cert.Reference2Ideal.Gen Cert.Reference2Ideal.Read Cert.Attn
open Idealize.ShloMosaic Idealize.ShloMosaic.TcCoe

/-- A comparison of two positions' words is that of the positions. -/
theorem le_positions (j i : Fin 16384) (a b : EReal) :
    Scalar.select (IntOp.cmpi .sle (BitVec.ofNat 32 j.val) (BitVec.ofNat 32 i.val)) (a : Ideal .f32) (b : Ideal .f32) = if j.val ≤ i.val then a else b := by
  have h : (BitVec.ofNat 32 j.val).sle (BitVec.ofNat 32 i.val) = decide (j.val ≤ i.val) := by
    have hj := j.isLt
    have hi := i.isLt
    rw [BitVec.sle_eq_decide, BitVec.toInt_eq_toNat_of_lt (by simp; omega), BitVec.toInt_eq_toNat_of_lt (by simp; omega)]
    simp only [BitVec.toNat_ofNat]
    refine decide_eq_decide.mpr ?_
    omega
  have e : IntOp.cmpi .sle (BitVec.ofNat 32 j.val) (BitVec.ofNat 32 i.val) = if j.val ≤ i.val then 1#1 else 0#1 := by
    unfold IntOp.cmpi
    simp only [h]
    split_ifs with hh <;> simp [hh]
  rw [e]
  split_ifs <;> rfl

variable (x0 x1 : FVec Ideal S1x16384x8x192 .f32) (x2 : FVec Ideal S1x16384x8x128 .f32)

theorem v3_at (h : Fin 8) (i j : Fin 16384) : val_main_v3 (F := Ideal) x0 x1 (ix4 0 h i j)
    = Ideal.div (∑ d : Fin 192, (x0 (ix4 0 i h d) : EReal) * x1 (ix4 0 j h d)) (Ideal.sqrt ((192 : ℝ) : EReal)) := by
  unfold val_main_v3 val_main_v2 val_main_v1 val_main_v0 val_main_cst
  pointwise
  rw [real_192]

theorem v11_at (h : Fin 8) (i j : Fin 16384) : val_main_v11 (F := Ideal) x0 x1 (ix4 0 h i j)
    = if j.val ≤ i.val then (val_main_v3 (F := Ideal) x0 x1 (ix4 0 h i j) : EReal) else ⊥ := by
  rw [val_main_v11_apply]
  generalize val_main_v3 (F := Ideal) x0 x1 = y
  unfold val_main_call0_v1 val_main_call0_v2 val_main_call0_v0 val_main_cst_0 val_main_v10 val_main_v9 val_main_v8 val_main_v7 val_main_v6 val_main_v5 val_main_v4
  pointwise
  refine (le_positions j i _ _).trans ?_
  refine if_congr Iff.rfl rfl ?_
  exact negInf

theorem v18_at (h : Fin 8) (i j : Fin 16384) : val_main_v18 (F := Ideal) x0 x1 (ix4 0 h i j)
    = Ideal.exp ((val_main_v11 (F := Ideal) x0 x1 (ix4 0 h i j) : EReal) - val_main_v14 (F := Ideal) x0 x1 (ix3 0 h i)) := by
  unfold val_main_v18 val_main_v17 val_main_v16 val_main_v15
  generalize val_main_v11 (F := Ideal) x0 x1 = y
  generalize val_main_v14 (F := Ideal) x0 x1 = z
  pointwise

theorem v22_at (h : Fin 8) (i j : Fin 16384) : val_main_v22 (F := Ideal) x0 x1 (ix4 0 h i j)
    = Ideal.div (val_main_v18 (F := Ideal) x0 x1 (ix4 0 h i j)) (∑ k : Fin 16384, (val_main_v18 (F := Ideal) x0 x1 (ix4 0 h i k) : EReal)) := by
  unfold val_main_v22 val_main_v21 val_main_v20 val_main_v19 val_main_cst_3
  generalize val_main_v18 (F := Ideal) x0 x1 = y
  pointwise

theorem v26_at (h : Fin 8) (i : Fin 16384) (d : Fin 128) : val_main_v26 (F := Ideal) x0 x1 x2 (ix2 i ⟨h.val * 128 + d.val, by omega⟩)
    = ∑ j : Fin 16384, (x2 (ix4 0 j h d) : EReal) * val_main_v22 (F := Ideal) x0 x1 (ix4 0 h i j) := by
  unfold val_main_v26 val_main_v25 val_main_v24 val_main_v23
  generalize val_main_v22 (F := Ideal) x0 x1 = y
  pointwise

variable {x0 x1}

/-- The masked score. -/
theorem score (h0 : Reals x0) (h1 : Reals x1) (h : Fin 8) (i j : Fin 16384) : val_main_v11 (F := Ideal) x0 x1 (ix4 0 h i j)
    = if j.val ≤ i.val then ((dot x0 x1 h i j / √192 : ℝ) : EReal) else ⊥ := by
  rw [v11_at, v3_at]
  refine if_congr Iff.rfl ?_ rfl
  refine (congrArg (fun y => Ideal.div y _) (dot_coe h0 h1 h i j)).trans ?_
  rw [Ideal.sqrt_coe, if_neg (by norm_num), Ideal.div_coe (Real.sqrt_pos.mpr (by norm_num)).ne', ← EReal.coe_mul]
  exact congrArg _ (div_eq_mul_one_div _ _).symm

/-- A maximum along an axis is one over a set of the indices that holds all that drop to the place. -/
theorem max_along {s t u : Shape} {axes : List (Fin s.rank)} (y : FVec Ideal s .f32) (init : FVec Ideal u .f32) (h : s.ReducesTo axes t) (hu : 0 < u.numel) (j : t.Idx) :
    ∃ S : Finset s.Idx, (∀ z, h.drop z = j → z ∈ S) ∧ Host.reduce (FloatOps.maximumf (F := Ideal) (φ := .f32)) y init h hu j = S.fold max (init (Shape.Idx.first hu) : EReal) (fun z => (y z : EReal)) :=
  ⟨_, fun z hz => Finset.mem_filter.mpr ⟨Finset.mem_univ _, hz⟩, Host.reduce_eq_fold (α := EReal) max y init h hu j⟩

/-- Such a maximum from −∞ is a real number when no element is +∞ and one of them is not −∞. -/
theorem max_along_real {s t u : Shape} {axes : List (Fin s.rank)} (y : FVec Ideal s .f32) (init : FVec Ideal u .f32) (h : s.ReducesTo axes t) (hu : 0 < u.numel) (j : t.Idx)
    (hi : (init (Shape.Idx.first hu) : EReal) = ⊥) (hS : ∀ z, (y z : EReal) ≠ ⊤) (z : s.Idx) (hz : h.drop z = j) (hB : (y z : EReal) ≠ ⊥) :
    ∃ μ : ℝ, Host.reduce (FloatOps.maximumf (F := Ideal) (φ := .f32)) y init h hu j = ((μ : EReal) : Ideal .f32) := by
  obtain ⟨S, hm, e⟩ := max_along y init h hu j
  rw [e, hi]
  have es : S.fold max (⊥ : EReal) (fun z => (y z : EReal)) = S.sup (fun z => (y z : EReal)) := rfl
  rw [es]
  refine ⟨(S.sup (fun z => (y z : EReal))).toReal, (EReal.coe_toReal ?_ ?_).symm⟩
  · exact ((Finset.sup_lt_iff bot_lt_top).mpr fun z _ => lt_top_iff_ne_top.mpr (hS z)).ne
  · exact fun hb => hB (le_bot_iff.mp (hb ▸ Finset.le_sup (f := fun z => (y z : EReal)) (hm z hz)))

/-- An index of the scores by its coordinates. -/
theorem score_ne_top (h0 : Reals x0) (h1 : Reals x1) (y : S1x8x16384x16384.Idx) : (val_main_v11 (F := Ideal) x0 x1 y : EReal) ≠ ⊤ := by
  obtain ⟨h, i, j, rfl⟩ : ∃ (h : Fin 8) (i j : Fin 16384), y = ix4 0 h i j := ⟨y 1, y 2, y 3, by
    funext a
    match a with
    | ⟨0, _⟩ => exact Subsingleton.elim (α := Fin 1) _ _
    | ⟨1, _⟩ => rfl
    | ⟨2, _⟩ => rfl
    | ⟨3, _⟩ => rfl⟩
  rw [score h0 h1]
  split_ifs
  · exact EReal.coe_ne_top _
  · exact bot_ne_top

theorem score_first (h0 : Reals x0) (h1 : Reals x1) (h : Fin 8) (i : Fin 16384) : (val_main_v11 (F := Ideal) x0 x1 (ix4 0 h i 0) : EReal) ≠ ⊥ := by
  rw [score h0 h1, if_pos (by show 0 ≤ i.val; omega)]
  exact EReal.coe_ne_bot _

theorem drop_first (h : Fin 8) (i : Fin 16384) : reducesTo_S1x8x16384x16384_S1x8x16384_d3.drop (ix4 0 h i 0) = ix3 0 h i := by
  funext a
  match a with
  | ⟨0, _⟩ => exact Subsingleton.elim (α := Fin 1) _ _
  | ⟨1, _⟩ => exact Fin.ext (Shape.ReducesTo.drop_apply_val_of_eq (s := S1x8x16384x16384) (axes := [3]) (t := S1x8x16384) reducesTo_S1x8x16384x16384_S1x8x16384_d3 (ix4 0 h i 0) (1 : Fin 3) (1 : Fin 4))
  | ⟨2, _⟩ => exact Fin.ext (Shape.ReducesTo.drop_apply_val_of_eq (s := S1x8x16384x16384) (axes := [3]) (t := S1x8x16384) reducesTo_S1x8x16384x16384_S1x8x16384_d3 (ix4 0 h i 0) (2 : Fin 3) (2 : Fin 4))

theorem max_bot (a b : Ideal .f32) (ha : (a : EReal) = ⊥) : (FloatOps.maximumf a b : EReal) = b := by
  show max (a : EReal) b = b
  rw [ha]; exact max_eq_right bot_le

theorem v14_at (h : Fin 8) (i : Fin 16384) : (val_main_v14 (F := Ideal) x0 x1 (ix3 0 h i) : EReal) = val_main_v12 (F := Ideal) x0 x1 (ix3 0 h i) := by
  rw [val_main_v14_apply]
  generalize val_main_v12 (F := Ideal) x0 x1 (ix3 0 h i) = y
  refine max_bot _ _ ?_
  rw [val_main_v13_apply, val_main_cst_2_apply]
  exact negInf

/-- The shift is a real number. -/
theorem shift_real (h0 : Reals x0) (h1 : Reals x1) (h : Fin 8) (i : Fin 16384) : ∃ μ : ℝ, val_main_v14 (F := Ideal) x0 x1 (ix3 0 h i) = (μ : EReal) := by
  have hS := score_ne_top h0 h1
  have hB := score_first h0 h1 h i
  rw [v14_at]
  unfold val_main_v12
  revert hS hB
  generalize val_main_v11 (F := Ideal) x0 x1 = y
  intro hS hB
  exact max_along_real y _ _ _ _ ((val_main_cst_1_apply _).trans negInf) hS _ (drop_first h i) hB

/-- The reference's result is the values' mean by the weights. -/
theorem value (h0 : Reals x0) (h1 : Reals x1) (h : Fin 8) (i : Fin 16384) (d : Fin 128) :
    val_main_v26 (F := Ideal) x0 x1 x2 (ix2 i ⟨h.val * 128 + d.val, by omega⟩) = mean x0 x1 x2 h i d := by
  obtain ⟨μ, hμ⟩ := shift_real h0 h1 h i
  have hc : 0 < Real.exp (-μ) := Real.exp_pos _
  have e18 : ∀ j, (val_main_v18 (F := Ideal) x0 x1 (ix4 0 h i j) : EReal) = ((weight x0 x1 h i j * Real.exp (-μ) : ℝ) : EReal) := fun j => by
    rw [v18_at, hμ, score h0 h1]
    unfold weight
    split_ifs
    · rw [← EReal.coe_sub, Ideal.exp_coe, sub_eq_add_neg, Real.exp_add]
    · rw [EReal.bot_sub, Ideal.exp_bot, zero_mul, EReal.coe_zero]
  rw [v26_at]
  unfold mean
  refine Finset.sum_congr rfl fun j _ => ?_
  rw [v22_at, mul_comm]
  refine congrArg (· * _) ?_
  rw [e18 j, Finset.sum_congr rfl fun k _ => e18 k, coe_sum, ← Finset.sum_mul,
    Ideal.div_coe (mul_pos (weight_sum_pos x0 x1 h i) hc).ne', ← EReal.coe_mul]
  refine congrArg _ ?_
  have hW := (weight_sum_pos x0 x1 h i).ne'
  field_simp

end Cert.Reference2Ideal.Attn

end
-- ==== Proof.Attention.Claims.lean ====
/- The value claim about the attention, assembled from its run and the reference's. -/
module

public import proofs.«01_k».proof.Proof.Attention.Equation
public import proofs.«01_k».proof.Proof.Attention.Finite
public import proofs.«01_k».proof.Proof.Attention.Frames
public import proofs.«01_k».proof.Proof.Attention.Ref

@[expose] public section

set_option maxRecDepth 65536

noncomputable section

namespace Cert.Proof.Attention

open Idealize.ShloMosaic Idealize.ShloMosaic.TcCoe Idealize.SL.Sem Cert.Attn

/-- For real queries and keys the attention's array is the reference's. -/
theorem whole_eq {q k : SQ.Idx → EReal} (v : SV.Idx → EReal) (hq : Reals q) (hk : Reals k) :
    Cert.Kernel2Ideal.Attn.whole q k v = Cert.Reference2Ideal.Read.val_main_v26 (F := Ideal) q k v := by
  funext i
  obtain ⟨a, b, rfl⟩ : ∃ (a : Fin 16384) (b : Fin 1024), i = ix2 a b := ⟨i 0, i 1, eq_ix2 i⟩
  have e : (⟨b.val / 128 * 128 + b.val % 128, by omega⟩ : Fin 1024) = b := Fin.ext (by show b.val / 128 * 128 + b.val % 128 = b.val; omega)
  have h := Cert.Reference2Ideal.Attn.value v hq hk ⟨b.val / 128, by omega⟩ a ⟨b.val % 128, by omega⟩
  rw [e] at h
  exact h.symm

/-- Over the extended reals, with real queries and keys, the attention's result is the reference's. -/
theorem algebraic : Cert.algebraic_Kernel2Ideal_Reference2Ideal_pre_finite (hPre_finite := Cert.Pre_finite.Gen.facts) := by
  intro m ρ m' ρ' hpre hagree
  refine ⟨fun c => Cert.Reference2Ideal.Read.val_main_v26 (F := Ideal) (Cert.Kernel2Ideal.Attn.arg0 m c) (Cert.Kernel2Ideal.Attn.arg1 m c)
    (Cert.Kernel2Ideal.Attn.arg2 m c), ?_, ?_⟩
  · refine (θ_run Cert.Kernel2Ideal.defs _ _).mono (fun r h c => ?_)
      (Cert.Kernel2Ideal.Attn.run m ρ (fun c => (reals m hpre c).1) (fun c => (reals m hpre c).2))
    exact ⟨(h c).1.trans (whole_eq _ (reals m hpre c).1 (reals m hpre c).2), (h c).2⟩
  · refine (θ_run Cert.Reference2Ideal.defs _ _).mono (fun r h c => ?_) (Cert.Reference2Ideal.Value.run (F := Ideal) m' ρ')
    obtain ⟨e0, e1, e2⟩ := hagree c
    refine ⟨(h c).1.trans ?_, (h c).2⟩
    rw [Cert.Reference2Ideal.Read.val_main_v26_eq]
    dsimp only
    rw [e0, e1, e2]

/-- The mask's literal stands for −∞. -/
theorem preserves : Cert.preserves_Kernel2_Kernel2Ideal := IdealRules.named_const.statement Cert.Kernel2Ideal.κ "mask" .f32 0xF149F2CA#32 ⊥ rfl

end Cert.Proof.Attention

end
-- ==== Proof.Merge.Spec.lean ====
/- Gates, merge, output projection, residual and final norm, written element by element over the extended reals. -/
module

public import Idealize.ShloMosaic.PureOps
public import Idealize.ShloMosaic.PureOps.Ideal
public import Idealize.ShloMosaic.Lib.Pointwise

@[expose] public section

noncomputable section

namespace Cert.Merge

open Idealize.ShloMosaic

/-- The logistic function. -/
def sg (y : EReal) : EReal := Ideal.div 1 (1 + Ideal.exp (-y))

abbrev SX : Shape := ⟨3, ![1, 16384, 1024]⟩
abbrev SW : Shape := ⟨3, ![1, 1024, 9920]⟩
abbrev SP : Shape := ⟨3, ![1, 1024, 1024]⟩
abbrev SM : Shape := ⟨2, ![1, 3072]⟩
abbrev SG : Shape := ⟨1, ![1024]⟩

variable (x h y b : SX.Idx → EReal) (w : SW.Idx → EReal) (wp wo : SP.Idx → EReal) (mo : SM.Idx → EReal) (g : SG.Idx → EReal)

/-- A column of the input projection. -/
def pj (i : Fin 16384) (e : Fin 9920) : EReal := ∑ k : Fin 1024, h (ix3 0 i k) * w (ix3 0 k e)

/-- The gated attention. -/
def ym (i : Fin 16384) (e : Fin 1024) : EReal :=
  y (ix3 0 i e) * (pj h w i ⟨704 + e.val, by omega⟩ * sg (pj h w i ⟨704 + e.val, by omega⟩))

/-- The two branches merged. -/
def mg (i : Fin 16384) (e : Fin 1024) : EReal :=
  sg (pj h w i ⟨7872 + e.val, by omega⟩) * (∑ k, ym h y w i k * wp (ix3 0 k e)) + sg (pj h w i ⟨8896 + e.val, by omega⟩) * b (ix3 0 i e)

/-- The residual stream. -/
def ro (i : Fin 16384) (e : Fin 1024) : EReal :=
  x (ix3 0 i e) + mo (ix2 0 ⟨2048 + e.val, by omega⟩) * ∑ k, mg h y b w wp i k * wo (ix3 0 k e)

/-- A row's norm: the reciprocal root of its mean square. -/
def nm (r : Fin 1024 → EReal) : EReal :=
  Ideal.rsqrt (Ideal.div (∑ k, r k * r k) (Ideal.ofBits .f32 0x44800000#32) + Ideal.ofBits .f32 0x358637BD#32)

/-- The result. -/
def res (i : Fin 16384) (e : Fin 1024) : EReal :=
  ro x h y b w wp wo mo i e * nm (ro x h y b w wp wo mo i) * g (ix1 e)

end Cert.Merge

end
-- ==== Proof.Merge.Block.lean ====
/- The block a point of the merge writes, over the extended reals. -/
module

public import proofs.«01_k».proof.Proof.Merge.Spec
public import proofs.«01_k».proof.Proof.Gen.Kernel3Ideal.Value
public import Idealize.ShloMosaic.Lib.Pointwise

@[expose] public section

set_option maxRecDepth 65536

noncomputable section

namespace Cert.Kernel3Ideal.Merge

open Cert.Kernel3Ideal Cert.Kernel3Ideal.Gen Cert.Merge
open Idealize.ShloMosaic Idealize.ShloMosaic.TcCoe

/-- Zero less a number is its opposite. -/
theorem zero_sub' (a : EReal) : (0 : EReal) - a = -a := by rw [sub_eq_add_neg, zero_add]

/-- A point's columns of the input projection. -/
theorem pay2_at (v0 : Vec Ideal S512x1024 .bf16) (v2 : Vec Ideal S3072x1024 .bf16) (x : Fin 512) (f : Fin 3072) :
    k0_pay2 v0 v2 (ix2 x f) = ∑ k : Fin 1024, (v0 (ix2 x k) : EReal) * v2 (ix2 f k) := by
  unfold k0_pay2
  pointwise

/-- The retention's rows, cast. -/
theorem pay3_at (v22 : Vec Ideal S512x1024 .bf16) (x : Fin 512) (e : Fin 1024) : k0_pay3 v22 (ix2 x e) = v22 (ix2 x e) := by
  unfold k0_pay3
  pointwise

/-- The gated and projected attention, gated again. -/
theorem pay4_at (v0 : Vec Ideal S512x1024 .bf16) (v2 : Vec Ideal S3072x1024 .bf16) (v5 : Vec Ideal S512x1024 .bf16) (v19 : Vec Ideal S1024x1024 .bf16)
    (x : Fin 512) (e : Fin 1024) : k0_pay4 v0 v2 v5 v19 (ix2 x e)
    = sg (k0_pay2 v0 v2 (ix2 x ⟨1024 + e.val, by omega⟩)) * ∑ k : Fin 1024, ((v5 (ix2 x k) : EReal)
        * ((k0_pay2 v0 v2 (ix2 x ⟨k.val, by omega⟩) : EReal) * sg (k0_pay2 v0 v2 (ix2 x ⟨k.val, by omega⟩)))) * v19 (ix2 k e) := by
  unfold k0_pay4 sg
  generalize k0_pay2 v0 v2 = p
  pointwise
  simp only [zero_sub']

/-- The exponential in the retention's gate. -/
theorem pay5_at (v0 : Vec Ideal S512x1024 .bf16) (v2 : Vec Ideal S3072x1024 .bf16) (x : Fin 512) (e : Fin 1024) :
    k0_pay5 v0 v2 (ix2 x e) = Ideal.exp (-(k0_pay2 v0 v2 (ix2 x ⟨2048 + e.val, by omega⟩) : EReal)) := by
  unfold k0_pay5
  generalize k0_pay2 v0 v2 = p
  pointwise
  simp only [zero_sub']

/-- The stored block from the merged branches' parts. -/
theorem pay1_at (v24 v33 v37 : FVec Ideal S512x1024 .f32) (v45 : Vec Ideal S1024x1024 .bf16) (v48 : Vec Ideal S512x1024 .f32) (v50 v54 : Vec Ideal S1x1024 .f32)
    (x : Fin 512) (e : Fin 1024) (r : Fin 1024 → EReal)
    (hr : ∀ e, r e = (v48 (ix2 x e) : EReal) + (v50 (ix2 0 e) : EReal) * ∑ k : Fin 1024, ((v33 (ix2 x k) : EReal) + Ideal.div 1 (1 + (v37 (ix2 x k) : EReal)) * v24 (ix2 x k)) * v45 (ix2 k e)) :
    k0_pay1 v24 v33 v37 (k0_pay6 (F := Ideal)) v45 v48 v50 v54 (ix2 x e) = r e * nm r * (v54 (ix2 0 e) : EReal) := by
  unfold nm
  simp only [hr]
  unfold k0_pay1 k0_pay6
  pointwise

variable {x0 : Vec Ideal S512x1024 .f32} {x1 x2 x3 : Vec Ideal S512x1024 .bf16} {x4 : Vec Ideal S3072x1024 .bf16}
  {x5 x6 : Vec Ideal S1024x1024 .bf16} {x7 : Vec Ideal S1x3072 .f32} {x8 : Vec Ideal S1x1024 .f32}
variable {X H Y B : SX.Idx → EReal} {W : SW.Idx → EReal} {WP WO : SP.Idx → EReal} {MO : SM.Idx → EReal} {G : SG.Idx → EReal}

/-- Where a row of the gathered gate weights lies among the columns of the input projection. -/
def gcol (f : Fin 3072) : Fin 9920 := if f.val < 1024 then ⟨704 + f.val, by omega⟩ else ⟨6848 + f.val, by omega⟩

/-- The block a point stores is the result's, at the position its row names. -/
theorem out_at (x : Fin 512) (i : Fin 16384) (h0 : ∀ e, (x0 (ix2 x e) : EReal) = X (ix3 0 i e)) (h1 : ∀ k, (x1 (ix2 x k) : EReal) = H (ix3 0 i k))
    (h2 : ∀ k, (x2 (ix2 x k) : EReal) = Y (ix3 0 i k)) (h3 : ∀ k, (x3 (ix2 x k) : EReal) = B (ix3 0 i k))
    (h4 : ∀ f k, (x4 (ix2 f k) : EReal) = W (ix3 0 k (gcol f))) (h5 : ∀ k e, (x5 (ix2 k e) : EReal) = WP (ix3 0 k e))
    (h6 : ∀ k e, (x6 (ix2 k e) : EReal) = WO (ix3 0 k e)) (h7 : ∀ e, (x7 (ix2 0 e) : EReal) = MO (ix2 0 e)) (h8 : ∀ e, (x8 (ix2 0 e) : EReal) = G (ix1 e))
    (e : Fin 1024) : (out0_9 x0 x1 x2 x3 x4 x5 x6 x7 x8 (ix2 x e) : EReal) = res X H Y B W WP WO MO G i e := by
  have hz : (![0, 0] : Fin 2 → Nat) = fun _ => 0 := by funext a; match a with | ⟨0, _⟩ => rfl | ⟨1, _⟩ => rfl
  have hp : ∀ (f : Fin 3072) (j : Fin 9920), gcol f = j → (k0_pay2 x1 x4 (ix2 x f) : EReal) = pj H W i j := by
    intro f j hf
    rw [pay2_at, ← hf]
    unfold pj
    exact Finset.sum_congr rfl fun k _ => by rw [h1, h4]
  have ha : ∀ k : Fin 1024, (k0_pay2 x1 x4 (ix2 x ⟨k.val, by omega⟩) : EReal) = pj H W i ⟨704 + k.val, by omega⟩ :=
    fun k => hp _ _ (if_pos k.isLt)
  have hb : ∀ k : Fin 1024, (k0_pay2 x1 x4 (ix2 x ⟨1024 + k.val, by omega⟩) : EReal) = pj H W i ⟨7872 + k.val, by omega⟩ :=
    fun k => hp _ _ ((if_neg (by show ¬ 1024 + k.val < 1024; omega)).trans (Fin.ext (by show 6848 + (1024 + k.val) = 7872 + k.val; omega)))
  have hc : ∀ k : Fin 1024, (k0_pay2 x1 x4 (ix2 x ⟨2048 + k.val, by omega⟩) : EReal) = pj H W i ⟨8896 + k.val, by omega⟩ :=
    fun k => hp _ _ ((if_neg (by show ¬ 2048 + k.val < 1024; omega)).trans (Fin.ext (by show 6848 + (2048 + k.val) = 8896 + k.val; omega)))
  have hmod : ∀ e : Fin 1024, (View.ld x7 r0_3 (ix2 0 e) : EReal) = MO (ix2 0 ⟨2048 + e.val, by omega⟩) := by
    intro e
    rw [← h7]
    refine congrArg x7 (funext fun a => Fin.ext ?_)
    match a with
    | ⟨0, _⟩ => rfl
    | ⟨1, _⟩ => show 2048 + 1 * e.val = 2048 + e.val; omega
  unfold out0_9
  rw [View.canon_unit_zero hz]
  unfold r0_0 r0_1 r0_2 r0_4
  rw [View.ld_unit_zero hz, View.ld_unit_zero hz, View.ld_unit_zero hz, View.ld_unit_zero hz, View.ld_unit_zero hz, View.ld_unit_zero hz, View.ld_unit_zero hz, View.ld_unit_zero hz]
  refine (pay1_at _ _ _ _ _ _ _ x e (ro X H Y B W WP WO MO i) fun e => ?_).trans ?_
  · unfold ro mg ym
    rw [h0, hmod]
    simp only [pay3_at, pay4_at, pay5_at, ha, hb, hc, h2, h3, h5, h6]
    rfl
  · rw [h8]
    rfl

end Cert.Kernel3Ideal.Merge

end
-- ==== Proof.Merge.Host.lean ====
/- What the merge's arrays hold when its call starts, in terms of the arguments. -/
module

public import proofs.«01_k».proof.Proof.Merge.Block

@[expose] public section

set_option maxRecDepth 65536

noncomputable section

namespace Cert.Kernel3Ideal.Merge

open Cert.Kernel3Ideal Cert.Kernel3Ideal.Gen Cert.Merge
open Idealize.ShloMosaic Idealize.ShloMosaic.TcCoe

variable {F : FTy → Type} [FloatOps F]

/-- A matrix of the layout [1, 16384, 1024] without its leading axis. -/
def rowsH (x : FVec F S1x16384x1024 .f32) : FVec F S16384x1024 .f32 := shapeCast S16384x1024 x shapeCasts_S1x16384x1024_S16384x1024

/-- … and cast. -/
def castH (x : FVec F S1x16384x1024 .f32) : FVec F S16384x1024 .bf16 := truncf .bf16 (rowsH x) bitsLt_bf16_f32

/-- A square weight without its leading axis, cast. -/
def squareH (x : FVec F S1x1024x1024 .f32) : FVec F S1024x1024 .bf16 := truncf .bf16 (shapeCast S1024x1024 x shapeCasts_S1x1024x1024_S1024x1024 : FVec F S1024x1024 .f32) bitsLt_bf16_f32

/-- The gates' weights: columns 704 to 1728 of the input projection, then columns 7872 to 9920, transposed and cast. -/
def gateH (x : FVec F S1x1024x9920 .f32) : FVec F S3072x1024 .bf16 :=
  truncf .bf16 (concatenate S3072x1024 0
    [⟨S1024x1024, (transpose S1024x1024 [1, 0] (extractStridedSlice S1024x1024 ![0, 704] (shapeCast S1024x9920 x shapeCasts_S1x1024x9920_S1024x9920 : FVec F S1024x9920 .f32) slices_S1024x9920_S1024x1024_0_704 : FVec F S1024x1024 .f32) transposes_S1024x1024_S1024x1024_1_0 : FVec F S1024x1024 .f32)⟩,
     ⟨S2048x1024, (transpose S2048x1024 [1, 0] (extractStridedSlice S1024x2048 ![0, 7872] (shapeCast S1024x9920 x shapeCasts_S1x1024x9920_S1024x9920 : FVec F S1024x9920 .f32) slices_S1024x9920_S1024x2048_0_7872 : FVec F S1024x2048 .f32) transposes_S1024x2048_S2048x1024_1_0 : FVec F S2048x1024 .f32)⟩]
    concatenates_S1024x1024_S2048x1024_S3072x1024_d0 : FVec F S3072x1024 .f32) bitsLt_bf16_f32

/-- The gain of the norm as one row. -/
def gainH (x : FVec F S1024 .f32) : FVec F S1x1024 .f32 := shapeCast S1x1024 x shapeCasts_S1024_S1x1024

variable (m : (ℓ : Loc nD τ sig) → Buf (Elt F) ℓ) (c : Dev nD)

abbrev arg0 : FVec F S1x16384x1024 .f32 := m ((c : Thread nD τ).loc main_arg0)
abbrev arg1 : FVec F S1x16384x1024 .f32 := m ((c : Thread nD τ).loc main_arg1)
abbrev arg2 : FVec F S1x16384x1024 .f32 := m ((c : Thread nD τ).loc main_arg2)
abbrev arg3 : FVec F S1x16384x1024 .f32 := m ((c : Thread nD τ).loc main_arg3)
abbrev arg4 : FVec F S1x1024x9920 .f32 := m ((c : Thread nD τ).loc main_arg4)
abbrev arg5 : FVec F S1x1024x1024 .f32 := m ((c : Thread nD τ).loc main_arg5)
abbrev arg6 : FVec F S1x1024x1024 .f32 := m ((c : Thread nD τ).loc main_arg6)
abbrev arg7 : FVec F S1x3072 .f32 := m ((c : Thread nD τ).loc main_arg7)
abbrev arg8 : FVec F S1024 .f32 := m ((c : Thread nD τ).loc main_arg8)

/-- The call's arrays are these layouts of the arguments. -/
theorem V7_eq : V m c main_v7 = gateH (arg4 m c) := by
  show StableHlo.after hostOps0 (fun b => m (c, b)) main_v7 = _
  unfold hostOps0
  after_results
  simp -implicitDefEqProofs only [StableHlo.TRef.ofBuf_toBuf, StableHlo.TRef.toBuf, StableHlo.TRef.ofBuf, cast_eq]
  rfl

theorem V8_eq : V m c main_v8 = rowsH (arg0 m c) := by
  show StableHlo.after hostOps0 (fun b => m (c, b)) main_v8 = _
  unfold hostOps0
  after_results
  simp -implicitDefEqProofs only [StableHlo.TRef.ofBuf_toBuf, StableHlo.TRef.toBuf, StableHlo.TRef.ofBuf, cast_eq]
  rfl

theorem V10_eq : V m c main_v10 = castH (arg1 m c) := by
  show StableHlo.after hostOps0 (fun b => m (c, b)) main_v10 = _
  unfold hostOps0
  after_results
  simp -implicitDefEqProofs only [StableHlo.TRef.ofBuf_toBuf, StableHlo.TRef.toBuf, StableHlo.TRef.ofBuf, cast_eq]
  rfl

theorem V12_eq : V m c main_v12 = castH (arg2 m c) := by
  show StableHlo.after hostOps0 (fun b => m (c, b)) main_v12 = _
  unfold hostOps0
  after_results
  simp -implicitDefEqProofs only [StableHlo.TRef.ofBuf_toBuf, StableHlo.TRef.toBuf, StableHlo.TRef.ofBuf, cast_eq]
  rfl

theorem V14_eq : V m c main_v14 = castH (arg3 m c) := by
  show StableHlo.after hostOps0 (fun b => m (c, b)) main_v14 = _
  unfold hostOps0
  after_results
  simp -implicitDefEqProofs only [StableHlo.TRef.ofBuf_toBuf, StableHlo.TRef.toBuf, StableHlo.TRef.ofBuf, cast_eq]
  rfl

theorem V16_eq : V m c main_v16 = squareH (arg5 m c) := by
  show StableHlo.after hostOps0 (fun b => m (c, b)) main_v16 = _
  unfold hostOps0
  after_results
  simp -implicitDefEqProofs only [StableHlo.TRef.ofBuf_toBuf, StableHlo.TRef.toBuf, StableHlo.TRef.ofBuf, cast_eq]
  rfl

theorem V18_eq : V m c main_v18 = squareH (arg6 m c) := by
  show StableHlo.after hostOps0 (fun b => m (c, b)) main_v18 = _
  unfold hostOps0
  after_results
  simp -implicitDefEqProofs only [StableHlo.TRef.ofBuf_toBuf, StableHlo.TRef.toBuf, StableHlo.TRef.ofBuf, cast_eq]
  rfl

theorem V19_eq : V m c main_v19 = gainH (arg8 m c) := by
  show StableHlo.after hostOps0 (fun b => m (c, b)) main_v19 = _
  unfold hostOps0
  after_results
  simp -implicitDefEqProofs only [StableHlo.TRef.ofBuf_toBuf, StableHlo.TRef.toBuf, StableHlo.TRef.ofBuf, cast_eq]
  rfl

/-- Each layout, element by element. -/
theorem rowsH_at (x : FVec Ideal S1x16384x1024 .f32) (i : Fin 16384) (e : Fin 1024) : (rowsH x (ix2 i e) : EReal) = x (ix3 0 i e) := by
  unfold rowsH
  pointwise

theorem castH_at (x : FVec Ideal S1x16384x1024 .f32) (i : Fin 16384) (e : Fin 1024) : (castH x (ix2 i e) : EReal) = x (ix3 0 i e) := by
  exact rowsH_at x i e

theorem squareH_at (x : FVec Ideal S1x1024x1024 .f32) (i : Fin 1024) (e : Fin 1024) : (squareH x (ix2 i e) : EReal) = x (ix3 0 i e) := by
  unfold squareH
  pointwise

theorem gainH_at (x : FVec Ideal S1024 .f32) (e : Fin 1024) : (gainH x (ix2 0 e) : EReal) = x (ix1 e) := by
  unfold gainH
  pointwise

/-- A row of the gates' weights is a column of the input projection. -/
theorem gateH_at (x : FVec Ideal S1x1024x9920 .f32) (f : Fin 3072) (k : Fin 1024) : (gateH x (ix2 f k) : EReal) = x (ix3 0 k (gcol f)) := by
  have e : gateH x (ix2 f k) = if h : f.val < 1024 then x (ix3 0 k ⟨704 + f.val, by omega⟩) else x (ix3 0 k ⟨7872 + (f.val - 1024), by omega⟩) := by
    unfold gateH
    pointwise
  rw [e]
  unfold gcol
  split
  · rfl
  · exact congrArg (fun j => x (ix3 0 k j)) (Fin.ext (by show 7872 + (f.val - 1024) = 6848 + f.val; omega))

end Cert.Kernel3Ideal.Merge

end
-- ==== Proof.Merge.Equation.lean ====
/- The merge's result array, over the extended reals. -/
module

public import proofs.«01_k».proof.Proof.Merge.Host

@[expose] public section

set_option maxRecDepth 65536

noncomputable section

namespace Cert.Kernel3Ideal.Merge

open Cert.Kernel3Ideal Cert.Kernel3Ideal.Gen Cert.Merge
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD) (t : Fin cfg0.N)

/-- The grid has 32 points. -/
theorem pt_lt : t.val < 32 := lt_of_lt_of_eq t.isLt N_0

/-- A position of a point's 512 rows. -/
def row (x : Fin 512) : Fin 16384 := ⟨t.val * 512 + x.val, by have := pt_lt t; omega⟩

/-- Where the windows' blocks begin. -/
theorem offs : ∀ t : Fin grid0.N, (win0_0.index t = ![t.val, 0] ∧ win0_1.index t = ![t.val, 0] ∧ win0_2.index t = ![t.val, 0] ∧ win0_3.index t = ![t.val, 0])
    ∧ (win0_4.index t = ![0, 0] ∧ win0_5.index t = ![0, 0] ∧ win0_6.index t = ![0, 0] ∧ win0_7.index t = ![0, 0] ∧ win0_8.index t = ![0, 0])
    ∧ win0_9.index t = ![t.val, 0] := by decide +kernel

/-- Input window 0: the point's rows. -/
theorem blk0 (x : Fin 512) (e : Fin 1024) : iblk m c 0 t (ix2 x e) = V m c main_v8 (ix2 (row t x) e) := by
  show V m c main_v8 ((win0_0.rect t).emb (ix2 x e : S512x1024.Idx)) = _
  refine congrArg _ (funext fun a => Fin.ext ?_)
  rw [Pipeline.Window.rect_emb_val_off, show win0_0.index t = ![t.val, 0] from (offs t).1.1]
  match a with
  | ⟨0, _⟩ => rfl
  | ⟨1, _⟩ => show 0 * 1024 + e.val = e.val; omega

/-- Input window 1: the point's rows. -/
theorem blk1 (x : Fin 512) (e : Fin 1024) : iblk m c 1 t (ix2 x e) = V m c main_v10 (ix2 (row t x) e) := by
  show V m c main_v10 ((win0_1.rect t).emb (ix2 x e : S512x1024.Idx)) = _
  refine congrArg _ (funext fun a => Fin.ext ?_)
  rw [Pipeline.Window.rect_emb_val_off, show win0_1.index t = ![t.val, 0] from (offs t).1.2.1]
  match a with
  | ⟨0, _⟩ => rfl
  | ⟨1, _⟩ => show 0 * 1024 + e.val = e.val; omega

/-- Input window 2: the point's rows. -/
theorem blk2 (x : Fin 512) (e : Fin 1024) : iblk m c 2 t (ix2 x e) = V m c main_v12 (ix2 (row t x) e) := by
  show V m c main_v12 ((win0_2.rect t).emb (ix2 x e : S512x1024.Idx)) = _
  refine congrArg _ (funext fun a => Fin.ext ?_)
  rw [Pipeline.Window.rect_emb_val_off, show win0_2.index t = ![t.val, 0] from (offs t).1.2.2.1]
  match a with
  | ⟨0, _⟩ => rfl
  | ⟨1, _⟩ => show 0 * 1024 + e.val = e.val; omega

/-- Input window 3: the point's rows. -/
theorem blk3 (x : Fin 512) (e : Fin 1024) : iblk m c 3 t (ix2 x e) = V m c main_v14 (ix2 (row t x) e) := by
  show V m c main_v14 ((win0_3.rect t).emb (ix2 x e : S512x1024.Idx)) = _
  refine congrArg _ (funext fun a => Fin.ext ?_)
  rw [Pipeline.Window.rect_emb_val_off, show win0_3.index t = ![t.val, 0] from (offs t).1.2.2.2]
  match a with
  | ⟨0, _⟩ => rfl
  | ⟨1, _⟩ => show 0 * 1024 + e.val = e.val; omega

/-- Input window 4: a whole array. -/
theorem blk4 (x : Fin 3072) (e : Fin 1024) : iblk m c 4 t (ix2 x e) = V m c main_v7 (ix2 x e) := by
  show V m c main_v7 ((win0_4.rect t).emb (ix2 x e : S3072x1024.Idx)) = _
  refine congrArg _ (funext fun a => Fin.ext ?_)
  rw [Pipeline.Window.rect_emb_val_off, show win0_4.index t = ![0, 0] from (offs t).2.1.1]
  match a with
  | ⟨0, _⟩ => show 0 * 3072 + x.val = x.val; omega
  | ⟨1, _⟩ => show 0 * 1024 + e.val = e.val; omega

/-- Input window 5: a whole array. -/
theorem blk5 (x : Fin 1024) (e : Fin 1024) : iblk m c 5 t (ix2 x e) = V m c main_v16 (ix2 x e) := by
  show V m c main_v16 ((win0_5.rect t).emb (ix2 x e : S1024x1024.Idx)) = _
  refine congrArg _ (funext fun a => Fin.ext ?_)
  rw [Pipeline.Window.rect_emb_val_off, show win0_5.index t = ![0, 0] from (offs t).2.1.2.1]
  match a with
  | ⟨0, _⟩ => show 0 * 1024 + x.val = x.val; omega
  | ⟨1, _⟩ => show 0 * 1024 + e.val = e.val; omega

/-- Input window 6: a whole array. -/
theorem blk6 (x : Fin 1024) (e : Fin 1024) : iblk m c 6 t (ix2 x e) = V m c main_v18 (ix2 x e) := by
  show V m c main_v18 ((win0_6.rect t).emb (ix2 x e : S1024x1024.Idx)) = _
  refine congrArg _ (funext fun a => Fin.ext ?_)
  rw [Pipeline.Window.rect_emb_val_off, show win0_6.index t = ![0, 0] from (offs t).2.1.2.2.1]
  match a with
  | ⟨0, _⟩ => show 0 * 1024 + x.val = x.val; omega
  | ⟨1, _⟩ => show 0 * 1024 + e.val = e.val; omega

/-- Input window 7: a whole array. -/
theorem blk7 (x : Fin 1) (e : Fin 3072) : iblk m c 7 t (ix2 x e) = V m c main_arg7 (ix2 x e) := by
  show V m c main_arg7 ((win0_7.rect t).emb (ix2 x e : S1x3072.Idx)) = _
  refine congrArg _ (funext fun a => Fin.ext ?_)
  rw [Pipeline.Window.rect_emb_val_off, show win0_7.index t = ![0, 0] from (offs t).2.1.2.2.2.1]
  match a with
  | ⟨0, _⟩ => show 0 * 1 + x.val = x.val; omega
  | ⟨1, _⟩ => show 0 * 3072 + e.val = e.val; omega

/-- Input window 8: a whole array. -/
theorem blk8 (x : Fin 1) (e : Fin 1024) : iblk m c 8 t (ix2 x e) = V m c main_v19 (ix2 x e) := by
  show V m c main_v19 ((win0_8.rect t).emb (ix2 x e : S1x1024.Idx)) = _
  refine congrArg _ (funext fun a => Fin.ext ?_)
  rw [Pipeline.Window.rect_emb_val_off, show win0_8.index t = ![0, 0] from (offs t).2.1.2.2.2.2]
  match a with
  | ⟨0, _⟩ => show 0 * 1 + x.val = x.val; omega
  | ⟨1, _⟩ => show 0 * 1024 + e.val = e.val; omega

/-- Where the result's block sits in its array. -/
theorem emb9 (x : Fin 512) (e : Fin 1024) : (win0_9.rect t).emb (ix2 x e : S512x1024.Idx) = (ix2 (row t x) e : S16384x1024.Idx) := by
  refine funext fun a => Fin.ext ?_
  rw [Pipeline.Window.rect_emb_val_off, show win0_9.index t = ![t.val, 0] from (offs t).2.2]
  match a with
  | ⟨0, _⟩ => rfl
  | ⟨1, _⟩ => show 0 * 1024 + e.val = e.val; omega

/-- The whole result. -/
def whole (i : S16384x1024.Idx) : EReal :=
  res (arg0 m c) (arg1 m c) (arg2 m c) (arg3 m c) (arg4 m c) (arg5 m c) (arg6 m c) (arg7 m c) (arg8 m c) (i 0) (i 1)

/-- What grid point `t` writes back is its block of the whole result. -/
theorem flushed9 : (dats m 0 c).flushed 9 t = ((cfg0.win 9).blk t).view.read (Elt Ideal) (whole m c) := by
  rw [Value.flushed9]
  funext y
  obtain ⟨x, e, rfl⟩ : ∃ (x : Fin 512) (e : Fin 1024), y = ix2 x e := ⟨y 0, y 1, eq_ix2 y⟩
  show _ = whole m c ((win0_9.rect t).emb (ix2 x e : S512x1024.Idx))
  rw [emb9]
  refine out_at x (row t x) (fun e => ?_) (fun k => ?_) (fun k => ?_) (fun k => ?_) (fun f k => ?_) (fun k e => ?_) (fun k e => ?_) (fun e => ?_) (fun e => ?_) e
  · exact ((blk0 m c t x e).trans (congrFun (V8_eq m c) _)).trans (rowsH_at _ _ _)
  · exact ((blk1 m c t x k).trans (congrFun (V10_eq m c) _)).trans (castH_at _ _ _)
  · exact ((blk2 m c t x k).trans (congrFun (V12_eq m c) _)).trans (castH_at _ _ _)
  · exact ((blk3 m c t x k).trans (congrFun (V14_eq m c) _)).trans (castH_at _ _ _)
  · exact ((blk4 m c t f k).trans (congrFun (V7_eq m c) _)).trans (gateH_at _ _ _)
  · exact ((blk5 m c t k e).trans (congrFun (V16_eq m c) _)).trans (squareH_at _ _ _)
  · exact ((blk6 m c t k e).trans (congrFun (V18_eq m c) _)).trans (squareH_at _ _ _)
  · exact (blk7 m c t 0 e).trans (congrFun (V_main_arg7 m c) _)
  · exact ((blk8 m c t 0 e).trans (congrFun (V19_eq m c) _)).trans (gainH_at _ _)

/-- Every index of the result is in the block of the point its row names. -/
theorem cover9 (i : S16384x1024.Idx) : ∃ t : Fin cfg0.N, (cfg0.win 9).flush t = true ∧ i ∈ ((cfg0.win 9).blk t).view.set := by
  have h0 : (i 0).val < 16384 := (i 0).isLt
  have ht : (i 0).val / 512 < grid0.N := lt_of_lt_of_eq (by omega : _ < 32) N_0.symm
  refine ⟨⟨(i 0).val / 512, ht⟩, flush0_9 _, ?_⟩
  have h := View.emb_mem_set ((cfg0.win 9).blk ⟨(i 0).val / 512, ht⟩).view (ix2 ⟨(i 0).val % 512, by omega⟩ (i 1) : S512x1024.Idx)
  have e : (win0_9.rect ⟨(i 0).val / 512, ht⟩).emb (ix2 ⟨(i 0).val % 512, by omega⟩ (i 1) : S512x1024.Idx) = i := by
    refine (emb9 _ _ _).trans (funext fun a => Fin.ext ?_)
    match a with
    | ⟨0, _⟩ => show (i 0).val / 512 * 512 + (i 0).val % 512 = (i 0).val; omega
    | ⟨1, _⟩ => rfl
  change (win0_9.rect ⟨(i 0).val / 512, ht⟩).emb (ix2 ⟨(i 0).val % 512, by omega⟩ (i 1) : S512x1024.Idx) ∈ _ at h
  rw [e] at h
  exact h

/-- The result array after the run. -/
theorem final9 : (dats m 0 c).arrAt 9 cfg0.N = whole m c :=
  (dats m 0 c).arrAt_eq_of_cover 9 (whole m c) (fun t _ => flushed9 m c t) cover9

end Cert.Kernel3Ideal.Merge

end
-- ==== Proof.Merge.Ref.lean ====
/- The merge's reference, element by element over the extended reals. -/
module

public import proofs.«01_k».proof.Proof.Merge.Spec
public import proofs.«01_k».proof.Proof.Gen.Reference3Ideal.Read
public import Idealize.ShloMosaic.Lib.Pointwise

@[expose] public section

set_option maxRecDepth 65536

noncomputable section

namespace Cert.Reference3Ideal.Merge

open Cert.Reference3Ideal Cert.Reference3Ideal.Gen Cert.Reference3Ideal.Read Cert.Merge
open Idealize.ShloMosaic Idealize.ShloMosaic.TcCoe

variable (x0 x1 x2 x3 : FVec Ideal S1x16384x1024 .f32) (x4 : FVec Ideal S1x1024x9920 .f32) (x5 x6 : FVec Ideal S1x1024x1024 .f32)
  (x7 : FVec Ideal S1x3072 .f32) (x8 : FVec Ideal S1024 .f32)

theorem v1_at (i : Fin 16384) (e : Fin 9920) : val_main_v1 (F := Ideal) x1 x4 (ix3 0 i e) = pj x1 x4 i e := by
  unfold val_main_v1 val_main_v0
  pointwise
  rfl

theorem v8_at (i : Fin 16384) (e : Fin 1024) : val_main_v8 (F := Ideal) x1 x2 x4 (ix3 0 i e) = ym x1 x2 x4 i e := by
  unfold ym sg
  rw [← v1_at]
  unfold val_main_v8 val_main_v7 val_main_call0_v5 val_main_call0_v4 val_main_call0_cst_0 val_main_call0_v3 val_main_call0_v2 val_main_call0_cst val_main_call0_v1 val_main_call0_v0 val_main_v2
  generalize val_main_v1 (F := Ideal) x1 x4 = p
  pointwise

theorem v25_at (i : Fin 16384) (e : Fin 1024) : val_main_v25 (F := Ideal) x1 x2 x3 x4 x5 (ix3 0 i e) = mg x1 x2 x3 x4 x5 i e := by
  unfold mg sg
  simp only [← v8_at, ← v1_at]
  unfold val_main_v25 val_main_v24 val_main_v23 val_main_v22 val_main_cst_2 val_main_v21 val_main_v20 val_main_cst_1 val_main_v19 val_main_v18 val_main_v4
    val_main_v17 val_main_v16 val_main_v15 val_main_v14 val_main_v13 val_main_cst_0 val_main_v12 val_main_v11 val_main_cst val_main_v10 val_main_v9 val_main_v3
  generalize val_main_v8 (F := Ideal) x1 x2 x4 = q
  generalize val_main_v1 (F := Ideal) x1 x4 = p
  pointwise

theorem v30_at (i : Fin 16384) (e : Fin 1024) : val_main_v30 (F := Ideal) x0 x1 x2 x3 x4 x5 x6 x7 (ix3 0 i e) = ro x0 x1 x2 x3 x4 x5 x6 x7 i e := by
  unfold ro
  simp only [← v25_at]
  unfold val_main_v30 val_main_v29 val_main_v28 val_main_v27 val_main_v26 val_main_v6 val_main_v5
  generalize val_main_v25 (F := Ideal) x1 x2 x3 x4 x5 = q
  pointwise

/-- The reference's result. -/
theorem value (i : Fin 16384) (e : Fin 1024) : val_main_v44 (F := Ideal) x0 x1 x2 x3 x4 x5 x6 x7 x8 (ix2 i e) = res x0 x1 x2 x3 x4 x5 x6 x7 x8 i e := by
  unfold res nm
  simp only [← v30_at]
  unfold val_main_v44 val_main_v43 val_main_v42 val_main_v41 val_main_v40 val_main_v39 val_main_v38 val_main_v37 val_main_v36 val_main_cst_5 val_main_v35 val_main_v34
    val_main_cst_4 val_main_v33 val_main_v32 val_main_cst_3 val_main_v31
  generalize val_main_v30 (F := Ideal) x0 x1 x2 x3 x4 x5 x6 x7 = q
  pointwise

end Cert.Reference3Ideal.Merge

end
-- ==== Proof.Merge.Claims.lean ====
/- The claims about the gates, the merge, the output projection and the final norm. -/
module

public import proofs.«01_k».proof.Defs
public import proofs.«01_k».proof.Proof.Merge.Equation
public import proofs.«01_k».proof.Proof.Merge.Ref
public import proofs.«01_k».proof.Proof.Gen.Kernel3
public import proofs.«01_k».proof.Proof.Gen.Kernel3.Frame
public import proofs.«01_k».proof.Proof.Gen.Reference3Ideal
public import proofs.«01_k».proof.Proof.Gen.Reference3Ideal.Run
public import Idealize.ShloMosaic.Lib.Quiescent

@[expose] public section

set_option maxRecDepth 65536

noncomputable section

namespace Cert.Proof.Merge

open Idealize.ShloMosaic Idealize.ShloMosaic.TcCoe Idealize.SL.Sem Cert.Merge

/-- The merge runs at the bit instance, leaves its arguments as they were and every counter at zero. -/
theorem frame_kernel : Cert.quiescent_Kernel3 := fun m ρ _ => Cert.Kernel3.Gen.frame m ρ

/-- So it does over the extended reals. -/
theorem frame_ideal : Cert.quiescent_Kernel3Ideal := fun m ρ _ => Cert.Kernel3Ideal.Gen.frame m ρ

/-- So does the reference. -/
theorem frame_ref : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The call's result array is the reference's. -/
theorem whole_eq (m : (ℓ : Loc Cert.Kernel3Ideal.nD Cert.Kernel3Ideal.τ Cert.Kernel3Ideal.sig) → Buf (Elt Ideal) ℓ) (c : Dev Cert.Kernel3Ideal.nD) :
    Cert.Kernel3Ideal.Merge.whole m c = Cert.Reference3Ideal.Read.val_main_v44 (F := Ideal) (Cert.Kernel3Ideal.Merge.arg0 m c) (Cert.Kernel3Ideal.Merge.arg1 m c) (Cert.Kernel3Ideal.Merge.arg2 m c) (Cert.Kernel3Ideal.Merge.arg3 m c) (Cert.Kernel3Ideal.Merge.arg4 m c) (Cert.Kernel3Ideal.Merge.arg5 m c) (Cert.Kernel3Ideal.Merge.arg6 m c) (Cert.Kernel3Ideal.Merge.arg7 m c) (Cert.Kernel3Ideal.Merge.arg8 m c) := by
  funext i
  obtain ⟨a, b, rfl⟩ : ∃ (a : Fin 16384) (b : Fin 1024), i = ix2 a b := ⟨i 0, i 1, eq_ix2 i⟩
  exact (Cert.Reference3Ideal.Merge.value _ _ _ _ _ _ _ _ _ a b).symm

/-- Over the extended reals the call's result is the reference's. -/
theorem algebraic : Cert.algebraic_Kernel3Ideal_Reference3Ideal := by
  intro m ρ m' ρ' _ hagree
  refine ⟨fun c => Cert.Kernel3Ideal.Merge.whole m c, ?_, ?_⟩
  · refine (θ_run Cert.Kernel3Ideal.defs _ _).mono (fun r h c => ?_) (Cert.Kernel3Ideal.Value.run_blocks m ρ)
    exact ⟨(h c).1.trans (Cert.Kernel3Ideal.Merge.final9 m c), (h c).2⟩
  · refine (θ_run Cert.Reference3Ideal.defs _ _).mono (fun r h c => ?_) (Cert.Reference3Ideal.Value.run (F := Ideal) m' ρ')
    obtain ⟨e0, e1, e2, e3, e4, e5, e6, e7, e8⟩ := hagree c
    refine ⟨(h c).1.trans ?_, (h c).2⟩
    refine Eq.trans ?_ (whole_eq m c).symm
    rw [Cert.Reference3Ideal.Read.val_main_v44_eq]
    rw [e0, e1, e2, e3, e4, e5, e6, e7, e8]

end Cert.Proof.Merge

end
-- ==== Proof.Retention.Frames.lean ====
/- The frames of the retention, of its idealization and of the idealized reference. -/
module

public import proofs.«01_k».proof.Defs
public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Run
public import Idealize.ShloMosaic.Lib.Quiescent

@[expose] public section

set_option maxRecDepth 65536

noncomputable section

namespace Cert.Proof.Retention

open Idealize.ShloMosaic Idealize.ShloMosaic.TcCoe Idealize.SL.Sem

/-- The retention runs at the bit instance, leaves its arguments as they were and every counter at zero. -/
theorem frame_kernel : Cert.quiescent_Kernel4 := fun m ρ _ => Cert.Kernel4.Gen.frame m ρ

/-- So it does over the extended reals. -/
theorem frame_ideal : Cert.quiescent_Kernel4Ideal := fun m ρ _ => Cert.Kernel4Ideal.Gen.frame m ρ

/-- So does the reference. -/
theorem frame_ref : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

end Cert.Proof.Retention

end
-- ==== Proof.Prep.Spec.lean ====
/- The norm and modulation, the latent projections, the rotary angles' rotation and the layout of queries, keys and values, written
   element by element over the extended reals. -/
module

public import Idealize.ShloMosaic.PureOps
public import Idealize.ShloMosaic.PureOps.Ideal
public import Idealize.ShloMosaic.Lib.Pointwise

@[expose] public section

noncomputable section

namespace Cert.Prep

open Idealize.ShloMosaic

abbrev SX : Shape := ⟨3, ![1, 16384, 1024]⟩
abbrev SM : Shape := ⟨2, ![1, 3072]⟩
abbrev SP : Shape := ⟨2, ![1, 16384]⟩
abbrev SG : Shape := ⟨2, ![1, 1024]⟩
abbrev SW : Shape := ⟨3, ![1, 1024, 9920]⟩
abbrev SGQ : Shape := ⟨2, ![1, 384]⟩
abbrev SWQ : Shape := ⟨3, ![1, 384, 1536]⟩
abbrev SGK : Shape := ⟨2, ![1, 256]⟩
abbrev SWK : Shape := ⟨3, ![1, 256, 2048]⟩

/-- A row's norm: the reciprocal root of its mean square, `n` the number the squares' sum is divided by. -/
def nm {N : Nat} (n : EReal) (r : Fin N → EReal) : EReal :=
  Ideal.rsqrt (Ideal.div (∑ k, r k * r k) n + Ideal.ofBits .f32 0x358637BD#32)

/-- The scale of the queries. -/
def sc : EReal := (((Real.sqrt 192)⁻¹ * (Real.log 2)⁻¹ : ℝ) : EReal)

variable (x : SX.Idx → EReal) (mo : SM.Idx → EReal) (g : SG.Idx → EReal) (w : SW.Idx → EReal)
  (gq : SGQ.Idx → EReal) (wq : SWQ.Idx → EReal) (gk : SGK.Idx → EReal) (wk : SWK.Idx → EReal)
  (cs sn : Fin 16384 → Fin 32 → EReal)

/-- The modulated norm of the input. -/
def hid (i : Fin 16384) (e : Fin 1024) : EReal :=
  x (ix3 0 i e) * nm (Ideal.ofBits .f32 0x44800000#32) (fun k : Fin 1024 => x (ix3 0 i k)) * g (ix2 0 e) * (1 + mo (ix2 0 ⟨1024 + e.val, by omega⟩))
    + mo (ix2 0 ⟨e.val, by omega⟩)

/-- A column of the input projection. -/
def pj (i : Fin 16384) (f : Fin 704) : EReal := ∑ k : Fin 1024, hid x mo g i k * w (ix3 0 k ⟨f.val, by omega⟩)

/-- The normed latent of the queries. -/
def cq (i : Fin 16384) (k : Fin 384) : EReal :=
  pj x mo g w i ⟨k.val, by omega⟩ * nm (Ideal.ofBits .f32 0x43C00000#32) (fun k : Fin 384 => pj x mo g w i ⟨k.val, by omega⟩) * gq (ix2 0 k)

/-- The normed latent of the keys and values. -/
def ckv (i : Fin 16384) (k : Fin 256) : EReal :=
  pj x mo g w i ⟨384 + k.val, by omega⟩ * nm (Ideal.ofBits .f32 0x43800000#32) (fun k : Fin 256 => pj x mo g w i ⟨384 + k.val, by omega⟩) * gk (ix2 0 k)

/-- The queries before the rotation. -/
def qu (i : Fin 16384) (f : Fin 1536) : EReal := ∑ k : Fin 384, cq x mo g w gq i k * wq (ix3 0 k f)

/-- The keys' unrotated part and the values. -/
def kvu (i : Fin 16384) (f : Fin 2048) : EReal := ∑ k : Fin 256, ckv x mo g w gk i k * wk (ix3 0 k f)

/-- The queries: head, coordinate (of 192, then zeros), position. -/
def oq (h : Fin 8) (d : Fin 256) (i : Fin 16384) : EReal :=
  if h1 : d.val < 128 then qu x mo g w gq wq i ⟨192 * h.val + d.val, by omega⟩ * sc
  else if h2 : d.val < 160 then
    (qu x mo g w gq wq i ⟨192 * h.val + d.val, by omega⟩ * cs i ⟨d.val - 128, by omega⟩
      - qu x mo g w gq wq i ⟨192 * h.val + d.val + 32, by omega⟩ * sn i ⟨d.val - 128, by omega⟩) * sc
  else if h3 : d.val < 192 then
    (qu x mo g w gq wq i ⟨192 * h.val + d.val, by omega⟩ * cs i ⟨d.val - 160, by omega⟩
      + qu x mo g w gq wq i ⟨192 * h.val + d.val - 32, by omega⟩ * sn i ⟨d.val - 160, by omega⟩) * sc
  else 0

/-- The keys: head, position, coordinate (of 192, then zeros). -/
def ok (h : Fin 8) (i : Fin 16384) (d : Fin 256) : EReal :=
  if h1 : d.val < 128 then kvu x mo g w gk wk i ⟨256 * h.val + d.val, by omega⟩
  else if h2 : d.val < 160 then
    pj x mo g w i ⟨512 + d.val, by omega⟩ * cs i ⟨d.val - 128, by omega⟩ - pj x mo g w i ⟨544 + d.val, by omega⟩ * sn i ⟨d.val - 128, by omega⟩
  else if h3 : d.val < 192 then
    pj x mo g w i ⟨512 + d.val, by omega⟩ * cs i ⟨d.val - 160, by omega⟩ + pj x mo g w i ⟨480 + d.val, by omega⟩ * sn i ⟨d.val - 160, by omega⟩
  else 0

/-- The values: head, coordinate (of 128, then ones), position. -/
def ov (h : Fin 8) (d : Fin 144) (i : Fin 16384) : EReal :=
  if h1 : d.val < 128 then kvu x mo g w gk wk i ⟨256 * h.val + (128 + d.val), by omega⟩ else 1

end Cert.Prep

end
-- ==== Proof.Prep.Pieces.lean ====
/- The stores of a point of the preparation, head by head: each writes its part of one array of the block. -/
module

public import proofs.«01_k».proof.Proof.Prep.Spec
public import proofs.«01_k».proof.Proof.Gen.Kernel5Ideal.Value
public import Idealize.ShloMosaic.Lib.Pointwise

@[expose] public section

set_option maxRecDepth 65536

noncomputable section

namespace Cert.Kernel5Ideal.Prep

open Cert.Kernel5Ideal Cert.Kernel5Ideal.Gen Cert.Prep
open Idealize.ShloMosaic Idealize.ShloMosaic.TcCoe

/-- An index of a unit-stride rectangle sits at the rectangle's offset plus its own coordinate. -/
theorem emb_unit_val {S : Shape} (off size : Fin S.rank → Nat) (inb : ∀ a, off a + size a ≤ S.size a)
    (y : (Rect.unit off size inb).shape.Idx) (a : Fin S.rank) : ((Rect.unit off size inb).emb y a).val = off a + (y a).val := by
  rw [Rect.emb_apply]
  show off a + 1 * (y a).val = _
  omega

/-- The block of queries, from the unrotated queries `Q`, a column per position, and the tables. -/
def bq (Q : FVec Ideal S1536x1024 .f32) (C S : FVec Ideal S32x1024 .f32) (h d j : Nat) (hh : h < 8) (hd : d < 256) (hj : j < 1024) : EReal :=
  if h1 : d < 128 then (Q (ix2 ⟨192 * h + d, by omega⟩ ⟨j, hj⟩) : EReal) * sc
  else if h2 : d < 160 then
    ((Q (ix2 ⟨192 * h + d, by omega⟩ ⟨j, hj⟩) : EReal) * (C (ix2 ⟨d - 128, by omega⟩ ⟨j, hj⟩) : EReal)
      - (Q (ix2 ⟨192 * h + d + 32, by omega⟩ ⟨j, hj⟩) : EReal) * (S (ix2 ⟨d - 128, by omega⟩ ⟨j, hj⟩) : EReal)) * sc
  else if h3 : d < 192 then
    ((Q (ix2 ⟨192 * h + d, by omega⟩ ⟨j, hj⟩) : EReal) * (C (ix2 ⟨d - 160, by omega⟩ ⟨j, hj⟩) : EReal)
      + (Q (ix2 ⟨192 * h + d - 32, by omega⟩ ⟨j, hj⟩) : EReal) * (S (ix2 ⟨d - 160, by omega⟩ ⟨j, hj⟩) : EReal)) * sc
  else 0

/-- … at an index of the block. -/
def gq (Q : FVec Ideal S1536x1024 .f32) (C S : FVec Ideal S32x1024 .f32) (y : S8x256x1024.Idx) : EReal :=
  bq Q C S (y 0).val (y 1).val (y 2).val (y 0).isLt (y 1).isLt (y 2).isLt

theorem bq_congr (Q : FVec Ideal S1536x1024 .f32) (C S : FVec Ideal S32x1024 .f32) {h d j h' d' j' : Nat} (hh : h < 8) (hd : d < 256) (hj : j < 1024)
    (eh : h = h') (ed : d = d') (ej : j = j') :
    bq Q C S h d j hh hd hj = bq Q C S h' d' j' (eh ▸ hh) (ed ▸ hd) (ej ▸ hj) := by subst eh ed ej; rfl

variable (Q : FVec Ideal S1536x1024 .f32) (C S : FVec Ideal S32x1024 .f32)

/-- At a stored index the block's element is the one its head, coordinate and position name. -/
theorem gq_emb {size : Fin 3 → Nat} (off : Fin 3 → Nat) (inb : ∀ a, off a + size a ≤ S8x256x1024.size a)
    (y : (Rect.unit (s := S8x256x1024) off size inb).shape.Idx) (h d j : Nat) (eh : off 0 + (y 0).val = h) (ed : off 1 + (y 1).val = d) (ej : off 2 + (y 2).val = j)
    (hh : h < 8) (hd : d < 256) (hj : j < 1024) :
    gq Q C S ((Rect.unit (s := S8x256x1024) off size inb).emb y) = bq Q C S h d j hh hd hj := by
  unfold gq
  exact bq_congr Q C S ((Rect.unit (s := S8x256x1024) off size inb).emb y 0).isLt ((Rect.unit (s := S8x256x1024) off size inb).emb y 1).isLt
    ((Rect.unit (s := S8x256x1024) off size inb).emb y 2).isLt ((emb_unit_val (S := S8x256x1024) off size inb y 0).trans eh)
    ((emb_unit_val (S := S8x256x1024) off size inb y 1).trans ed) ((emb_unit_val (S := S8x256x1024) off size inb y 2).trans ej)

/-- The unrotated coordinates of a head. -/
theorem pieceA (h o : Nat) (ho : o = 192 * h) (hh : h < 8) (hs : S1536x1024.Slices ![o, 0] S128x1024)
    (inb : ∀ a, (![h, 0, 0] : Fin 3 → Nat) a + S1x128x1024.size a ≤ S8x256x1024.size a) (y : S1x128x1024.Idx) :
    shapeCast S1x128x1024 (truncf .bf16 (mulf (extractStridedSlice S128x1024 ![o, 0] Q hs : FVec Ideal S128x1024 .f32) (broadcast S128x1024 (Named.named κ "qscale" 0x3DD53B95#32 : Ideal .f32)) : FVec Ideal S128x1024 .f32) bitsLt_bf16_f32 : FVec Ideal S128x1024 .bf16) shapeCasts_S128x1024_S1x128x1024 y
    = gq Q C S ((Rect.unit (s := S8x256x1024) ![h, 0, 0] S1x128x1024.size inb).emb y) := by
  obtain ⟨a, x, j, rfl⟩ : ∃ (a : Fin 1) (x : Fin 128) (j : Fin 1024), y = ix3 a x j := ⟨y 0, y 1, y 2, eq_ix3 y⟩
  have hx := x.isLt
  have ha : a.val = 0 := by omega
  refine Eq.trans ?_ (gq_emb Q C S ![h, 0, 0] inb (ix3 a x j) h x.val j.val (by show h + a.val = h; omega) (by show 0 + x.val = x.val; omega) (by show 0 + j.val = j.val; omega) hh (by omega) j.isLt).symm
  unfold bq
  rw [dif_pos hx]
  subst ho
  pointwise
  rfl

/-- The first half of the rotated coordinates of a head. -/
theorem pieceB (h o1 o2 : Nat) (ho1 : o1 = 192 * h + 128) (ho2 : o2 = 192 * h + 160) (hh : h < 8) (hs1 : S1536x1024.Slices ![o1, 0] S32x1024)
    (hs2 : S1536x1024.Slices ![o2, 0] S32x1024)
    (inb : ∀ a, (![h, 128, 0] : Fin 3 → Nat) a + S1x32x1024.size a ≤ S8x256x1024.size a) (y : S1x32x1024.Idx) :
    shapeCast S1x32x1024 (truncf .bf16 (mulf (subf (mulf (extractStridedSlice S32x1024 ![o1, 0] Q hs1 : FVec Ideal S32x1024 .f32) C) (mulf (extractStridedSlice S32x1024 ![o2, 0] Q hs2 : FVec Ideal S32x1024 .f32) S) : FVec Ideal S32x1024 .f32) (broadcast S32x1024 (Named.named κ "qscale" 0x3DD53B95#32 : Ideal .f32)) : FVec Ideal S32x1024 .f32) bitsLt_bf16_f32 : FVec Ideal S32x1024 .bf16) shapeCasts_S32x1024_S1x32x1024 y
    = gq Q C S ((Rect.unit (s := S8x256x1024) ![h, 128, 0] S1x32x1024.size inb).emb y) := by
  obtain ⟨a, x, j, rfl⟩ : ∃ (a : Fin 1) (x : Fin 32) (j : Fin 1024), y = ix3 a x j := ⟨y 0, y 1, y 2, eq_ix3 y⟩
  have hx := x.isLt
  have ha : a.val = 0 := by omega
  refine Eq.trans ?_ (gq_emb Q C S ![h, 128, 0] inb (ix3 a x j) h (128 + x.val) j.val (by show h + a.val = h; omega) rfl (by show 0 + j.val = j.val; omega) hh (by omega) j.isLt).symm
  unfold bq
  rw [dif_neg (by omega), dif_pos (by omega)]
  subst ho1 ho2
  have e0 : (⟨192 * h + 128 + x.val, by omega⟩ : Fin 1536) = ⟨192 * h + (128 + x.val), by omega⟩ := Fin.ext (by show 192 * h + 128 + x.val = 192 * h + (128 + x.val); omega)
  have e1 : (⟨192 * h + 160 + x.val, by omega⟩ : Fin 1536) = ⟨192 * h + (128 + x.val) + 32, by omega⟩ := Fin.ext (by show 192 * h + 160 + x.val = 192 * h + (128 + x.val) + 32; omega)
  have e2 : (⟨128 + x.val - 128, by omega⟩ : Fin 32) = x := Fin.ext (by show 128 + x.val - 128 = x.val; omega)
  rw [← e0, ← e1, e2]
  pointwise
  rfl

/-- The second half of the rotated coordinates of a head. -/
theorem pieceC (h o1 o2 : Nat) (ho1 : o1 = 192 * h + 128) (ho2 : o2 = 192 * h + 160) (hh : h < 8) (hs1 : S1536x1024.Slices ![o1, 0] S32x1024)
    (hs2 : S1536x1024.Slices ![o2, 0] S32x1024)
    (inb : ∀ a, (![h, 160, 0] : Fin 3 → Nat) a + S1x32x1024.size a ≤ S8x256x1024.size a) (y : S1x32x1024.Idx) :
    shapeCast S1x32x1024 (truncf .bf16 (mulf (addf (mulf (extractStridedSlice S32x1024 ![o2, 0] Q hs2 : FVec Ideal S32x1024 .f32) C) (mulf (extractStridedSlice S32x1024 ![o1, 0] Q hs1 : FVec Ideal S32x1024 .f32) S) : FVec Ideal S32x1024 .f32) (broadcast S32x1024 (Named.named κ "qscale" 0x3DD53B95#32 : Ideal .f32)) : FVec Ideal S32x1024 .f32) bitsLt_bf16_f32 : FVec Ideal S32x1024 .bf16) shapeCasts_S32x1024_S1x32x1024 y
    = gq Q C S ((Rect.unit (s := S8x256x1024) ![h, 160, 0] S1x32x1024.size inb).emb y) := by
  obtain ⟨a, x, j, rfl⟩ : ∃ (a : Fin 1) (x : Fin 32) (j : Fin 1024), y = ix3 a x j := ⟨y 0, y 1, y 2, eq_ix3 y⟩
  have hx := x.isLt
  have ha : a.val = 0 := by omega
  refine Eq.trans ?_ (gq_emb Q C S ![h, 160, 0] inb (ix3 a x j) h (160 + x.val) j.val (by show h + a.val = h; omega) rfl (by show 0 + j.val = j.val; omega) hh (by omega) j.isLt).symm
  unfold bq
  rw [dif_neg (by omega), dif_neg (by omega), dif_pos (by omega)]
  subst ho1 ho2
  have e0 : (⟨192 * h + 160 + x.val, by omega⟩ : Fin 1536) = ⟨192 * h + (160 + x.val), by omega⟩ := Fin.ext (by show 192 * h + 160 + x.val = 192 * h + (160 + x.val); omega)
  have e1 : (⟨192 * h + 128 + x.val, by omega⟩ : Fin 1536) = ⟨192 * h + (160 + x.val) - 32, by omega⟩ := Fin.ext (by show 192 * h + 128 + x.val = 192 * h + (160 + x.val) - 32; omega)
  have e2 : (⟨160 + x.val - 160, by omega⟩ : Fin 32) = x := Fin.ext (by show 160 + x.val - 160 = x.val; omega)
  rw [← e0, ← e1, e2]
  pointwise
  rfl

/-- The coordinates that pad a head. -/
theorem pieceD (h : Nat) (hh : h < 8)
    (inb : ∀ a, (![h, 192, 0] : Fin 3 → Nat) a + S1x64x1024.size a ≤ S8x256x1024.size a) (y : S1x64x1024.Idx) :
    shapeCast S1x64x1024 (k0_pay17 : FVec Ideal S64x1024 .bf16) shapeCasts_S64x1024_S1x64x1024 y
    = gq Q C S ((Rect.unit (s := S8x256x1024) ![h, 192, 0] S1x64x1024.size inb).emb y) := by
  obtain ⟨a, x, j, rfl⟩ : ∃ (a : Fin 1) (x : Fin 64) (j : Fin 1024), y = ix3 a x j := ⟨y 0, y 1, y 2, eq_ix3 y⟩
  have hx := x.isLt
  have ha : a.val = 0 := by omega
  refine Eq.trans ?_ (gq_emb Q C S ![h, 192, 0] inb (ix3 a x j) h (192 + x.val) j.val (by show h + a.val = h; omega) rfl (by show 0 + j.val = j.val; omega) hh (by omega) j.isLt).symm
  unfold bq
  rw [dif_neg (by omega), dif_neg (by omega), dif_neg (by omega)]
  unfold k0_pay17
  pointwise

/-- The block of keys, from the unrotated parts `N` and the shared part `R`. -/
def gk (N : FVec Ideal S1024x1024 .f32) (R : FVec Ideal S1024x128 .bf16) (y : S8x1024x256.Idx) : EReal :=
  if h1 : (y 2).val < 128 then N (ix2 (y 1) ⟨128 * (y 0).val + (y 2).val, by have : (y 0).val < 8 := (y 0).isLt; omega⟩)
  else R (ix2 (y 1) ⟨(y 2).val - 128, by have : (y 2).val < 256 := (y 2).isLt; omega⟩)

/-- A head's unrotated keys. -/
theorem pieceE (N : FVec Ideal S1024x1024 .f32) (R : FVec Ideal S1024x128 .bf16) (h o : Nat) (ho : o = 128 * h) (hh : h < 8) (hs : S1024x1024.Slices ![0, o] S1024x128)
    (inb : ∀ a, (![h, 0, 0] : Fin 3 → Nat) a + S1x1024x128.size a ≤ S8x1024x256.size a) (y : S1x1024x128.Idx) :
    shapeCast S1x1024x128 (truncf .bf16 (extractStridedSlice S1024x128 ![0, o] N hs : FVec Ideal S1024x128 .f32) bitsLt_bf16_f32 : FVec Ideal S1024x128 .bf16) shapeCasts_S1024x128_S1x1024x128 y
    = gk N R ((Rect.unit (s := S8x1024x256) ![h, 0, 0] S1x1024x128.size inb).emb y) := by
  obtain ⟨a, x, j, rfl⟩ : ∃ (a : Fin 1) (x : Fin 1024) (j : Fin 128), y = ix3 a x j := ⟨y 0, y 1, y 2, eq_ix3 y⟩
  have hj := j.isLt
  have ha : a.val = 0 := by omega
  have e : (Rect.unit (s := S8x1024x256) ![h, 0, 0] S1x1024x128.size inb).emb (ix3 a x j) = ix3 (⟨h, hh⟩ : Fin 8) x (⟨j.val, by omega⟩ : Fin 256) := by
    funext a'
    apply Fin.ext
    rw [emb_unit_val]
    match a' with
    | ⟨0, _⟩ => show h + a.val = h; omega
    | ⟨1, _⟩ => show 0 + x.val = x.val; omega
    | ⟨2, _⟩ => show 0 + j.val = j.val; omega
  rw [e]
  subst ho
  refine Eq.trans ?_ (dif_pos (show j.val < 128 from hj)).symm
  pointwise

/-- A head's copy of the rotated keys. -/
theorem pieceF (N : FVec Ideal S1024x1024 .f32) (R : FVec Ideal S1024x128 .bf16) (h : Nat) (hh : h < 8)
    (inb : ∀ a, (![h, 0, 128] : Fin 3 → Nat) a + S1x1024x128.size a ≤ S8x1024x256.size a) (y : S1x1024x128.Idx) :
    shapeCast S1x1024x128 R shapeCasts_S1024x128_S1x1024x128 y
    = gk N R ((Rect.unit (s := S8x1024x256) ![h, 0, 128] S1x1024x128.size inb).emb y) := by
  obtain ⟨a, x, j, rfl⟩ : ∃ (a : Fin 1) (x : Fin 1024) (j : Fin 128), y = ix3 a x j := ⟨y 0, y 1, y 2, eq_ix3 y⟩
  have hj := j.isLt
  have ha : a.val = 0 := by omega
  have e : (Rect.unit (s := S8x1024x256) ![h, 0, 128] S1x1024x128.size inb).emb (ix3 a x j) = ix3 (⟨h, hh⟩ : Fin 8) x (⟨128 + j.val, by omega⟩ : Fin 256) := by
    funext a'
    apply Fin.ext
    rw [emb_unit_val]
    match a' with
    | ⟨0, _⟩ => show h + a.val = h; omega
    | ⟨1, _⟩ => show 0 + x.val = x.val; omega
    | ⟨2, _⟩ => rfl
  rw [e]
  refine Eq.trans ?_ (dif_neg (show ¬ 128 + j.val < 128 by omega)).symm
  have e2 : (⟨128 + j.val - 128, by omega⟩ : Fin 128) = j := Fin.ext (by show 128 + j.val - 128 = j.val; omega)
  refine Eq.trans ?_ (congrArg (fun q : Fin 128 => (R (ix2 x q) : EReal)) e2).symm
  pointwise

/-- The block of values, from the values' columns. -/
def gv (V : FVec Ideal S1024x1024 .f32) (y : S8x1x144x1024.Idx) : EReal :=
  if h1 : (y 2).val < 128 then V (ix2 ⟨128 * (y 0).val + (y 2).val, by have : (y 0).val < 8 := (y 0).isLt; omega⟩ (y 3)) else 1

/-- A head's values. -/
theorem pieceG (V : FVec Ideal S1024x1024 .f32) (h o : Nat) (ho : o = 128 * h) (hh : h < 8) (hs : S1024x1024.Slices ![o, 0] S128x1024)
    (inb : ∀ a, (![h, 0, 0, 0] : Fin 4 → Nat) a + S1x1x128x1024.size a ≤ S8x1x144x1024.size a) (y : S1x1x128x1024.Idx) :
    shapeCast S1x1x128x1024 (truncf .bf16 (extractStridedSlice S128x1024 ![o, 0] V hs : FVec Ideal S128x1024 .f32) bitsLt_bf16_f32 : FVec Ideal S128x1024 .bf16) shapeCasts_S128x1024_S1x1x128x1024 y
    = gv V ((Rect.unit (s := S8x1x144x1024) ![h, 0, 0, 0] S1x1x128x1024.size inb).emb y) := by
  obtain ⟨a, b, x, j, rfl⟩ : ∃ (a b : Fin 1) (x : Fin 128) (j : Fin 1024), y = ix4 a b x j := ⟨y 0, y 1, y 2, y 3, eq_ix4 y⟩
  have hx := x.isLt
  have ha : a.val = 0 := by omega
  have hb : b.val = 0 := by omega
  have e : (Rect.unit (s := S8x1x144x1024) ![h, 0, 0, 0] S1x1x128x1024.size inb).emb (ix4 a b x j) = ix4 (⟨h, hh⟩ : Fin 8) (0 : Fin 1) (⟨x.val, by omega⟩ : Fin 144) j := by
    funext a'
    apply Fin.ext
    rw [emb_unit_val]
    match a' with
    | ⟨0, _⟩ => show h + a.val = h; omega
    | ⟨1, _⟩ => show 0 + b.val = 0; omega
    | ⟨2, _⟩ => show 0 + x.val = x.val; omega
    | ⟨3, _⟩ => show 0 + j.val = j.val; omega
  rw [e]
  subst ho
  refine Eq.trans ?_ (dif_pos (show x.val < 128 from hx)).symm
  pointwise

/-- The rows of ones under a head's values. -/
theorem pieceH (V : FVec Ideal S1024x1024 .f32) (h : Nat) (hh : h < 8)
    (inb : ∀ a, (![h, 0, 128, 0] : Fin 4 → Nat) a + S1x1x16x1024.size a ≤ S8x1x144x1024.size a) (y : S1x1x16x1024.Idx) :
    shapeCast S1x1x16x1024 (k0_pay18 : FVec Ideal S16x1024 .bf16) shapeCasts_S16x1024_S1x1x16x1024 y
    = gv V ((Rect.unit (s := S8x1x144x1024) ![h, 0, 128, 0] S1x1x16x1024.size inb).emb y) := by
  obtain ⟨a, b, x, j, rfl⟩ : ∃ (a b : Fin 1) (x : Fin 16) (j : Fin 1024), y = ix4 a b x j := ⟨y 0, y 1, y 2, y 3, eq_ix4 y⟩
  refine Eq.trans ?_ (dif_neg (show ¬ ((Rect.unit (s := S8x1x144x1024) ![h, 0, 128, 0] S1x1x16x1024.size inb).emb (ix4 a b x j) 2).val < 128 from ?_)).symm
  · unfold k0_pay18
    pointwise
  · rw [emb_unit_val]
    show ¬ 128 + x.val < 128
    omega

end Cert.Kernel5Ideal.Prep

end
-- ==== Proof.Prep.Stage.lean ====
/- What a point of the preparation reads and computes before it stores, from its blocks. -/
module

public import proofs.«01_k».proof.Proof.Gen.Kernel5Ideal.Value

@[expose] public section

set_option maxRecDepth 65536

noncomputable section

namespace Cert.Kernel5Ideal.Prep

open Cert.Kernel5Ideal Cert.Kernel5Ideal.Gen
open Idealize.ShloMosaic Idealize.ShloMosaic.TcCoe

theorem hz : (![0, 0] : Fin 2 → Nat) = fun _ => 0 := funext fun a => by fin_cases a <;> rfl

/-- A load of the whole of a block reads the block. -/
theorem rd_whole {S : Shape} {e : EltTy} (arg : Memref sig .tc .vmem S e) (h : arg.IsWhole) {off : Fin S.rank → Nat} (ho : off = fun _ => 0)
    (inb : ∀ a, off a + S.size a ≤ S.size a) (x : Vec Ideal S e) :
    arg.view.readAt (Elt Ideal) (Rect.unit off S.size inb).toLoadRect (h.unread x) = x := by
  rw [View.readAt_eq_ld, h.read_unread, View.ld_unit_zero ho]

/-- A load of part of a block reads that part. -/
theorem rd_part {S : Shape} {e : EltTy} (arg : Memref sig .tc .vmem S e) (h : arg.IsWhole) (r : Rect S) (x : Vec Ideal S e) :
    arg.view.readAt (Elt Ideal) r.toLoadRect (h.unread x) = View.ld x r := by
  rw [View.readAt_eq_ld, h.read_unread]

/-- The scale and the shift of the modulation. -/
def msc (x1 : Vec Ideal S1x3072 .f32) : Vec Ideal S1x1024 .f32 := View.ld x1 (Rect.unit ![0, 1024] S1x1024.size inb_S1x3072_S1x1024_0_1024)
def msh (x1 : Vec Ideal S1x3072 .f32) : Vec Ideal S1x1024 .f32 := View.ld x1 (Rect.unit ![0, 0] S1x1024.size inb_S1x3072_S1x1024_0_0)

variable (c : Dev nD)
  (arg1 : Memref sig .tc .vmem S1024x1024 .f32) (h1 : arg1.IsWhole) (arg2 : Memref sig .tc .vmem S1x3072 .f32) (h2 : arg2.IsWhole)
  (arg3 : Memref sig .tc .vmem S1x1024 .f32) (h3 : arg3.IsWhole) (arg4 : Memref sig .tc .vmem S640x1024 .bf16) (h4 : arg4.IsWhole)
  (arg5 : Memref sig .tc .vmem S128x1024 .bf16) (h5 : arg5.IsWhole) (arg6 : Memref sig .tc .vmem S1x384 .f32) (h6 : arg6.IsWhole)
  (arg7 : Memref sig .tc .vmem S1x256 .f32) (h7 : arg7.IsWhole) (arg8 : Memref sig .tc .vmem S1536x384 .bf16) (h8 : arg8.IsWhole)
  (arg9 : Memref sig .tc .vmem S256x1024 .bf16) (h9 : arg9.IsWhole) (arg10 : Memref sig .tc .vmem S1024x256 .bf16) (h10 : arg10.IsWhole)
  (arg11 : Memref sig .tc .vmem S32x1024 .f32) (h11 : arg11.IsWhole) (arg12 : Memref sig .tc .vmem S32x1024 .f32) (h12 : arg12.IsWhole)
  (x0 : Vec Ideal S1024x1024 .f32) (x1 : Vec Ideal S1x3072 .f32) (x2 : Vec Ideal S1x1024 .f32) (x3 : Vec Ideal S640x1024 .bf16)
  (x4 : Vec Ideal S128x1024 .bf16) (x5 : Vec Ideal S1x384 .f32) (x6 : Vec Ideal S1x256 .f32) (x7 : Vec Ideal S1536x384 .bf16)
  (x8 : Vec Ideal S256x1024 .bf16) (x9 : Vec Ideal S1024x256 .bf16) (x10 x11 : Vec Ideal S32x1024 .f32)

/-- The modulated norm. -/
abbrev hB : FVec Ideal S1024x1024 .bf16 := k0_pay4 x0 x2 (msc x1) (msh x1)
/-- The unrotated queries. -/
abbrev qB : FVec Ideal S1536x1024 .f32 := k0_pay10 (k0_pay6 x0 x2 (msc x1) (msh x1) x3) (k0_pay7 x5) (k0_pay8 x0 x2 (msc x1) (msh x1) x3) x7
/-- The keys' unrotated parts. -/
abbrev nB : FVec Ideal S1024x1024 .f32 := k0_pay11 (k0_pay5 x0 x2 (msc x1) (msh x1) x3) x6 x8
/-- The values. -/
abbrev vB : FVec Ideal S1024x1024 .f32 := k0_pay12 (k0_pay5 x0 x2 (msc x1) (msh x1) x3) x6 x9
/-- The keys' shared part. -/
abbrev rB : FVec Ideal S1024x128 .bf16 := k0_pay16 (k0_pay13 (hB x0 x1 x2) x4) (k0_pay14 x10) x11

theorem q_eq : kernelRun0_A.sl.r_5 c arg1 h1 arg2 h2 arg3 h3 arg4 h4 arg6 h6 arg8 h8 x0 x1 x2 x3 x5 x7 = qB x0 x1 x2 x3 x5 x7 := by
  unfold kernelRun0_A.sl.r_5 kernelRun0_A.sl.r_4 kernelRun0_A.sl.r_3 kernelRun0_A.sl.r_2 qB msc msh
  rw [rd_whole arg1 h1 hz, rd_whole arg3 h3 hz, rd_whole arg4 h4 hz, rd_whole arg6 h6 hz, rd_whole arg8 h8 hz, rd_part arg2 h2, rd_part arg2 h2]

theorem n_eq : kernelRun0_A.sl.r_6 c arg1 h1 arg2 h2 arg3 h3 arg4 h4 arg7 h7 arg9 h9 x0 x1 x2 x3 x6 x8 = nB x0 x1 x2 x3 x6 x8 := by
  unfold kernelRun0_A.sl.r_6 kernelRun0_A.sl.r_1 nB msc msh
  rw [rd_whole arg1 h1 hz, rd_whole arg3 h3 hz, rd_whole arg4 h4 hz, rd_whole arg7 h7 hz, rd_whole arg9 h9 hz, rd_part arg2 h2, rd_part arg2 h2]

theorem v_eq : kernelRun0_A.sl.r_7 c arg1 h1 arg2 h2 arg3 h3 arg4 h4 arg7 h7 arg10 h10 x0 x1 x2 x3 x6 x9 = vB x0 x1 x2 x3 x6 x9 := by
  unfold kernelRun0_A.sl.r_7 kernelRun0_A.sl.r_1 vB msc msh
  rw [rd_whole arg1 h1 hz, rd_whole arg3 h3 hz, rd_whole arg4 h4 hz, rd_whole arg7 h7 hz, rd_whole arg10 h10 hz, rd_part arg2 h2, rd_part arg2 h2]

theorem c_eq : kernelRun0_A.sl.r_9 c arg11 h11 x10 = k0_pay14 x10 := by
  unfold kernelRun0_A.sl.r_9
  rw [rd_whole arg11 h11 hz]

theorem s_eq : kernelRun0_A.sl.r_10 c arg12 h12 x11 = k0_pay15 x11 := by
  unfold kernelRun0_A.sl.r_10
  rw [rd_whole arg12 h12 hz]

theorem r_eq : kernelRun0_A.sl.r_11 c arg1 h1 arg2 h2 arg3 h3 arg5 h5 arg11 h11 arg12 h12 x0 x1 x2 x4 x10 x11 = rB x0 x1 x2 x4 x10 x11 := by
  unfold kernelRun0_A.sl.r_11 kernelRun0_A.sl.r_8 kernelRun0_A.sl.r_9 kernelRun0_A.sl.r rB hB msc msh
  rw [rd_whole arg1 h1 hz, rd_whole arg3 h3 hz, rd_whole arg5 h5 hz, rd_whole arg11 h11 hz, rd_whole arg12 h12 hz, rd_part arg2 h2, rd_part arg2 h2]

end Cert.Kernel5Ideal.Prep

end
-- ==== Proof.Prep.Out.lean ====
/- The four blocks a point of the preparation leaves, from the blocks it reads. -/
module

public import proofs.«01_k».proof.Proof.Prep.Pieces
public import proofs.«01_k».proof.Proof.Prep.Stage

@[expose] public section

set_option maxRecDepth 65536

noncomputable section

namespace Cert.Kernel5Ideal.Prep

open Cert.Kernel5Ideal Cert.Kernel5Ideal.Gen
open Idealize.ShloMosaic Idealize.ShloMosaic.TcCoe

variable (c : Dev nD) (i : grid0.Coords)
  (arg1 : Memref sig .tc .vmem S1024x1024 .f32) (h1 : arg1.IsWhole)
  (arg2 : Memref sig .tc .vmem S1x3072 .f32) (h2 : arg2.IsWhole)
  (arg3 : Memref sig .tc .vmem S1x1024 .f32) (h3 : arg3.IsWhole)
  (arg4 : Memref sig .tc .vmem S640x1024 .bf16) (h4 : arg4.IsWhole)
  (arg5 : Memref sig .tc .vmem S128x1024 .bf16) (h5 : arg5.IsWhole)
  (arg6 : Memref sig .tc .vmem S1x384 .f32) (h6 : arg6.IsWhole)
  (arg7 : Memref sig .tc .vmem S1x256 .f32) (h7 : arg7.IsWhole)
  (arg8 : Memref sig .tc .vmem S1536x384 .bf16) (h8 : arg8.IsWhole)
  (arg9 : Memref sig .tc .vmem S256x1024 .bf16) (h9 : arg9.IsWhole)
  (arg10 : Memref sig .tc .vmem S1024x256 .bf16) (h10 : arg10.IsWhole)
  (arg11 : Memref sig .tc .vmem S32x1024 .f32) (h11 : arg11.IsWhole)
  (arg12 : Memref sig .tc .vmem S32x1024 .f32) (h12 : arg12.IsWhole)
  (arg13 : Memref sig .tc .vmem S8x256x1024 .bf16) (h13 : arg13.IsWhole)
  (arg14 : Memref sig .tc .vmem S8x1024x256 .bf16) (h14 : arg14.IsWhole)
  (arg15 : Memref sig .tc .vmem S8x1x144x1024 .bf16) (h15 : arg15.IsWhole)
  (arg16 : Memref sig .tc .vmem S1024x1024 .bf16) (h16 : arg16.IsWhole)
  (x0 : Vec Ideal S1024x1024 .f32)
  (x1 : Vec Ideal S1x3072 .f32)
  (x2 : Vec Ideal S1x1024 .f32)
  (x3 : Vec Ideal S640x1024 .bf16)
  (x4 : Vec Ideal S128x1024 .bf16)
  (x5 : Vec Ideal S1x384 .f32)
  (x6 : Vec Ideal S1x256 .f32)
  (x7 : Vec Ideal S1536x384 .bf16)
  (x8 : Vec Ideal S256x1024 .bf16)
  (x9 : Vec Ideal S1024x256 .bf16)
  (x10 : Vec Ideal S32x1024 .f32)
  (x11 : Vec Ideal S32x1024 .f32)

/-- The four blocks. -/
theorem out12 : out0_A_12 c i arg1 h1 arg2 h2 arg3 h3 arg4 h4 arg5 h5 arg6 h6 arg7 h7 arg8 h8 arg9 h9 arg10 h10 arg11 h11 arg12 h12 arg13 h13 arg14 h14 arg15 h15 arg16 h16 x0 x1 x2 x3 x4 x5 x6 x7 x8 x9 x10 x11 = gq (qB x0 x1 x2 x3 x5 x7) (k0_pay14 x10) (k0_pay15 x11) := by
  rw [← q_eq c arg1 h1 arg2 h2 arg3 h3 arg4 h4 arg6 h6 arg8 h8, ← c_eq c arg11 h11, ← s_eq c arg12 h12]
  unfold out0_A_12
  rw [View.read_writes_junk_eq_canon]
  funext y
  refine View.canon_apply_of_pieces (Val := Elt Ideal) (gq (kernelRun0_A.sl.r_5 c arg1 h1 arg2 h2 arg3 h3 arg4 h4 arg6 h6 arg8 h8 x0 x1 x2 x3 x5 x7) (kernelRun0_A.sl.r_9 c arg11 h11 x10) (kernelRun0_A.sl.r_10 c arg12 h12 x11)) _ ?_ y (cover0_A_12 ..)
  have pA := pieceA (kernelRun0_A.sl.r_5 c arg1 h1 arg2 h2 arg3 h3 arg4 h4 arg6 h6 arg8 h8 x0 x1 x2 x3 x5 x7) (kernelRun0_A.sl.r_9 c arg11 h11 x10) (kernelRun0_A.sl.r_10 c arg12 h12 x11)
  have pB := pieceB (kernelRun0_A.sl.r_5 c arg1 h1 arg2 h2 arg3 h3 arg4 h4 arg6 h6 arg8 h8 x0 x1 x2 x3 x5 x7) (kernelRun0_A.sl.r_9 c arg11 h11 x10) (kernelRun0_A.sl.r_10 c arg12 h12 x11)
  have pC := pieceC (kernelRun0_A.sl.r_5 c arg1 h1 arg2 h2 arg3 h3 arg4 h4 arg6 h6 arg8 h8 x0 x1 x2 x3 x5 x7) (kernelRun0_A.sl.r_9 c arg11 h11 x10) (kernelRun0_A.sl.r_10 c arg12 h12 x11)
  have pD := pieceD (kernelRun0_A.sl.r_5 c arg1 h1 arg2 h2 arg3 h3 arg4 h4 arg6 h6 arg8 h8 x0 x1 x2 x3 x5 x7) (kernelRun0_A.sl.r_9 c arg11 h11 x10) (kernelRun0_A.sl.r_10 c arg12 h12 x11)
  refine List.forall_mem_cons.2 ⟨fun y => pD 7 (by decide) inb_S8x256x1024_S1x64x1024_7_192_0 y, ?_⟩
  refine List.forall_mem_cons.2 ⟨fun y => pC 7 1472 1504 rfl rfl (by decide) (by decide) (by decide) inb_S8x256x1024_S1x32x1024_7_160_0 y, ?_⟩
  refine List.forall_mem_cons.2 ⟨fun y => pB 7 1472 1504 rfl rfl (by decide) (by decide) (by decide) inb_S8x256x1024_S1x32x1024_7_128_0 y, ?_⟩
  refine List.forall_mem_cons.2 ⟨fun y => pA 7 1344 rfl (by decide) (by decide) inb_S8x256x1024_S1x128x1024_7_0_0 y, ?_⟩
  refine List.forall_mem_cons.2 ⟨fun y => pD 6 (by decide) inb_S8x256x1024_S1x64x1024_6_192_0 y, ?_⟩
  refine List.forall_mem_cons.2 ⟨fun y => pC 6 1280 1312 rfl rfl (by decide) (by decide) (by decide) inb_S8x256x1024_S1x32x1024_6_160_0 y, ?_⟩
  refine List.forall_mem_cons.2 ⟨fun y => pB 6 1280 1312 rfl rfl (by decide) (by decide) (by decide) inb_S8x256x1024_S1x32x1024_6_128_0 y, ?_⟩
  refine List.forall_mem_cons.2 ⟨fun y => pA 6 1152 rfl (by decide) (by decide) inb_S8x256x1024_S1x128x1024_6_0_0 y, ?_⟩
  refine List.forall_mem_cons.2 ⟨fun y => pD 5 (by decide) inb_S8x256x1024_S1x64x1024_5_192_0 y, ?_⟩
  refine List.forall_mem_cons.2 ⟨fun y => pC 5 1088 1120 rfl rfl (by decide) (by decide) (by decide) inb_S8x256x1024_S1x32x1024_5_160_0 y, ?_⟩
  refine List.forall_mem_cons.2 ⟨fun y => pB 5 1088 1120 rfl rfl (by decide) (by decide) (by decide) inb_S8x256x1024_S1x32x1024_5_128_0 y, ?_⟩
  refine List.forall_mem_cons.2 ⟨fun y => pA 5 960 rfl (by decide) (by decide) inb_S8x256x1024_S1x128x1024_5_0_0 y, ?_⟩
  refine List.forall_mem_cons.2 ⟨fun y => pD 4 (by decide) inb_S8x256x1024_S1x64x1024_4_192_0 y, ?_⟩
  refine List.forall_mem_cons.2 ⟨fun y => pC 4 896 928 rfl rfl (by decide) (by decide) (by decide) inb_S8x256x1024_S1x32x1024_4_160_0 y, ?_⟩
  refine List.forall_mem_cons.2 ⟨fun y => pB 4 896 928 rfl rfl (by decide) (by decide) (by decide) inb_S8x256x1024_S1x32x1024_4_128_0 y, ?_⟩
  refine List.forall_mem_cons.2 ⟨fun y => pA 4 768 rfl (by decide) (by decide) inb_S8x256x1024_S1x128x1024_4_0_0 y, ?_⟩
  refine List.forall_mem_cons.2 ⟨fun y => pD 3 (by decide) inb_S8x256x1024_S1x64x1024_3_192_0 y, ?_⟩
  refine List.forall_mem_cons.2 ⟨fun y => pC 3 704 736 rfl rfl (by decide) (by decide) (by decide) inb_S8x256x1024_S1x32x1024_3_160_0 y, ?_⟩
  refine List.forall_mem_cons.2 ⟨fun y => pB 3 704 736 rfl rfl (by decide) (by decide) (by decide) inb_S8x256x1024_S1x32x1024_3_128_0 y, ?_⟩
  refine List.forall_mem_cons.2 ⟨fun y => pA 3 576 rfl (by decide) (by decide) inb_S8x256x1024_S1x128x1024_3_0_0 y, ?_⟩
  refine List.forall_mem_cons.2 ⟨fun y => pD 2 (by decide) inb_S8x256x1024_S1x64x1024_2_192_0 y, ?_⟩
  refine List.forall_mem_cons.2 ⟨fun y => pC 2 512 544 rfl rfl (by decide) (by decide) (by decide) inb_S8x256x1024_S1x32x1024_2_160_0 y, ?_⟩
  refine List.forall_mem_cons.2 ⟨fun y => pB 2 512 544 rfl rfl (by decide) (by decide) (by decide) inb_S8x256x1024_S1x32x1024_2_128_0 y, ?_⟩
  refine List.forall_mem_cons.2 ⟨fun y => pA 2 384 rfl (by decide) (by decide) inb_S8x256x1024_S1x128x1024_2_0_0 y, ?_⟩
  refine List.forall_mem_cons.2 ⟨fun y => pD 1 (by decide) inb_S8x256x1024_S1x64x1024_1_192_0 y, ?_⟩
  refine List.forall_mem_cons.2 ⟨fun y => pC 1 320 352 rfl rfl (by decide) (by decide) (by decide) inb_S8x256x1024_S1x32x1024_1_160_0 y, ?_⟩
  refine List.forall_mem_cons.2 ⟨fun y => pB 1 320 352 rfl rfl (by decide) (by decide) (by decide) inb_S8x256x1024_S1x32x1024_1_128_0 y, ?_⟩
  refine List.forall_mem_cons.2 ⟨fun y => pA 1 192 rfl (by decide) (by decide) inb_S8x256x1024_S1x128x1024_1_0_0 y, ?_⟩
  refine List.forall_mem_cons.2 ⟨fun y => pD 0 (by decide) inb_S8x256x1024_S1x64x1024_0_192_0 y, ?_⟩
  refine List.forall_mem_cons.2 ⟨fun y => pC 0 128 160 rfl rfl (by decide) (by decide) (by decide) inb_S8x256x1024_S1x32x1024_0_160_0 y, ?_⟩
  refine List.forall_mem_cons.2 ⟨fun y => pB 0 128 160 rfl rfl (by decide) (by decide) (by decide) inb_S8x256x1024_S1x32x1024_0_128_0 y, ?_⟩
  refine List.forall_mem_cons.2 ⟨fun y => pA 0 0 rfl (by decide) (by decide) inb_S8x256x1024_S1x128x1024_0_0_0 y, ?_⟩
  exact fun _ h => nomatch h

theorem out13 : out0_A_13 c i arg1 h1 arg2 h2 arg3 h3 arg4 h4 arg5 h5 arg6 h6 arg7 h7 arg8 h8 arg9 h9 arg10 h10 arg11 h11 arg12 h12 arg13 h13 arg14 h14 arg15 h15 arg16 h16 x0 x1 x2 x3 x4 x5 x6 x7 x8 x9 x10 x11 = gk (nB x0 x1 x2 x3 x6 x8) (rB x0 x1 x2 x4 x10 x11) := by
  rw [← n_eq c arg1 h1 arg2 h2 arg3 h3 arg4 h4 arg7 h7 arg9 h9, ← r_eq c arg1 h1 arg2 h2 arg3 h3 arg5 h5 arg11 h11 arg12 h12]
  unfold out0_A_13
  rw [View.read_writes_junk_eq_canon]
  funext y
  refine View.canon_apply_of_pieces (Val := Elt Ideal) (gk (kernelRun0_A.sl.r_6 c arg1 h1 arg2 h2 arg3 h3 arg4 h4 arg7 h7 arg9 h9 x0 x1 x2 x3 x6 x8) (kernelRun0_A.sl.r_11 c arg1 h1 arg2 h2 arg3 h3 arg5 h5 arg11 h11 arg12 h12 x0 x1 x2 x4 x10 x11)) _ ?_ y (cover0_A_13 ..)
  have pE := pieceE (kernelRun0_A.sl.r_6 c arg1 h1 arg2 h2 arg3 h3 arg4 h4 arg7 h7 arg9 h9 x0 x1 x2 x3 x6 x8) (kernelRun0_A.sl.r_11 c arg1 h1 arg2 h2 arg3 h3 arg5 h5 arg11 h11 arg12 h12 x0 x1 x2 x4 x10 x11)
  have pF := pieceF (kernelRun0_A.sl.r_6 c arg1 h1 arg2 h2 arg3 h3 arg4 h4 arg7 h7 arg9 h9 x0 x1 x2 x3 x6 x8) (kernelRun0_A.sl.r_11 c arg1 h1 arg2 h2 arg3 h3 arg5 h5 arg11 h11 arg12 h12 x0 x1 x2 x4 x10 x11)
  refine List.forall_mem_cons.2 ⟨fun y => pF 7 (by decide) inb_S8x1024x256_S1x1024x128_7_0_128 y, ?_⟩
  refine List.forall_mem_cons.2 ⟨fun y => pE 7 896 rfl (by decide) (by decide) inb_S8x1024x256_S1x1024x128_7_0_0 y, ?_⟩
  refine List.forall_mem_cons.2 ⟨fun y => pF 6 (by decide) inb_S8x1024x256_S1x1024x128_6_0_128 y, ?_⟩
  refine List.forall_mem_cons.2 ⟨fun y => pE 6 768 rfl (by decide) (by decide) inb_S8x1024x256_S1x1024x128_6_0_0 y, ?_⟩
  refine List.forall_mem_cons.2 ⟨fun y => pF 5 (by decide) inb_S8x1024x256_S1x1024x128_5_0_128 y, ?_⟩
  refine List.forall_mem_cons.2 ⟨fun y => pE 5 640 rfl (by decide) (by decide) inb_S8x1024x256_S1x1024x128_5_0_0 y, ?_⟩
  refine List.forall_mem_cons.2 ⟨fun y => pF 4 (by decide) inb_S8x1024x256_S1x1024x128_4_0_128 y, ?_⟩
  refine List.forall_mem_cons.2 ⟨fun y => pE 4 512 rfl (by decide) (by decide) inb_S8x1024x256_S1x1024x128_4_0_0 y, ?_⟩
  refine List.forall_mem_cons.2 ⟨fun y => pF 3 (by decide) inb_S8x1024x256_S1x1024x128_3_0_128 y, ?_⟩
  refine List.forall_mem_cons.2 ⟨fun y => pE 3 384 rfl (by decide) (by decide) inb_S8x1024x256_S1x1024x128_3_0_0 y, ?_⟩
  refine List.forall_mem_cons.2 ⟨fun y => pF 2 (by decide) inb_S8x1024x256_S1x1024x128_2_0_128 y, ?_⟩
  refine List.forall_mem_cons.2 ⟨fun y => pE 2 256 rfl (by decide) (by decide) inb_S8x1024x256_S1x1024x128_2_0_0 y, ?_⟩
  refine List.forall_mem_cons.2 ⟨fun y => pF 1 (by decide) inb_S8x1024x256_S1x1024x128_1_0_128 y, ?_⟩
  refine List.forall_mem_cons.2 ⟨fun y => pE 1 128 rfl (by decide) (by decide) inb_S8x1024x256_S1x1024x128_1_0_0 y, ?_⟩
  refine List.forall_mem_cons.2 ⟨fun y => pF 0 (by decide) inb_S8x1024x256_S1x1024x128_0_0_128 y, ?_⟩
  refine List.forall_mem_cons.2 ⟨fun y => pE 0 0 rfl (by decide) (by decide) inb_S8x1024x256_S1x1024x128_0_0_0 y, ?_⟩
  exact fun _ h => nomatch h

theorem out14 : out0_A_14 c i arg1 h1 arg2 h2 arg3 h3 arg4 h4 arg5 h5 arg6 h6 arg7 h7 arg8 h8 arg9 h9 arg10 h10 arg11 h11 arg12 h12 arg13 h13 arg14 h14 arg15 h15 arg16 h16 x0 x1 x2 x3 x4 x5 x6 x7 x8 x9 x10 x11 = gv (vB x0 x1 x2 x3 x6 x9) := by
  rw [← v_eq c arg1 h1 arg2 h2 arg3 h3 arg4 h4 arg7 h7 arg10 h10]
  unfold out0_A_14
  rw [View.read_writes_junk_eq_canon]
  funext y
  refine View.canon_apply_of_pieces (Val := Elt Ideal) (gv (kernelRun0_A.sl.r_7 c arg1 h1 arg2 h2 arg3 h3 arg4 h4 arg7 h7 arg10 h10 x0 x1 x2 x3 x6 x9)) _ ?_ y (cover0_A_14 ..)
  have pG := pieceG (kernelRun0_A.sl.r_7 c arg1 h1 arg2 h2 arg3 h3 arg4 h4 arg7 h7 arg10 h10 x0 x1 x2 x3 x6 x9)
  have pH := pieceH (kernelRun0_A.sl.r_7 c arg1 h1 arg2 h2 arg3 h3 arg4 h4 arg7 h7 arg10 h10 x0 x1 x2 x3 x6 x9)
  refine List.forall_mem_cons.2 ⟨fun y => pH 7 (by decide) inb_S8x1x144x1024_S1x1x16x1024_7_0_128_0 y, ?_⟩
  refine List.forall_mem_cons.2 ⟨fun y => pG 7 896 rfl (by decide) (by decide) inb_S8x1x144x1024_S1x1x128x1024_7_0_0_0 y, ?_⟩
  refine List.forall_mem_cons.2 ⟨fun y => pH 6 (by decide) inb_S8x1x144x1024_S1x1x16x1024_6_0_128_0 y, ?_⟩
  refine List.forall_mem_cons.2 ⟨fun y => pG 6 768 rfl (by decide) (by decide) inb_S8x1x144x1024_S1x1x128x1024_6_0_0_0 y, ?_⟩
  refine List.forall_mem_cons.2 ⟨fun y => pH 5 (by decide) inb_S8x1x144x1024_S1x1x16x1024_5_0_128_0 y, ?_⟩
  refine List.forall_mem_cons.2 ⟨fun y => pG 5 640 rfl (by decide) (by decide) inb_S8x1x144x1024_S1x1x128x1024_5_0_0_0 y, ?_⟩
  refine List.forall_mem_cons.2 ⟨fun y => pH 4 (by decide) inb_S8x1x144x1024_S1x1x16x1024_4_0_128_0 y, ?_⟩
  refine List.forall_mem_cons.2 ⟨fun y => pG 4 512 rfl (by decide) (by decide) inb_S8x1x144x1024_S1x1x128x1024_4_0_0_0 y, ?_⟩
  refine List.forall_mem_cons.2 ⟨fun y => pH 3 (by decide) inb_S8x1x144x1024_S1x1x16x1024_3_0_128_0 y, ?_⟩
  refine List.forall_mem_cons.2 ⟨fun y => pG 3 384 rfl (by decide) (by decide) inb_S8x1x144x1024_S1x1x128x1024_3_0_0_0 y, ?_⟩
  refine List.forall_mem_cons.2 ⟨fun y => pH 2 (by decide) inb_S8x1x144x1024_S1x1x16x1024_2_0_128_0 y, ?_⟩
  refine List.forall_mem_cons.2 ⟨fun y => pG 2 256 rfl (by decide) (by decide) inb_S8x1x144x1024_S1x1x128x1024_2_0_0_0 y, ?_⟩
  refine List.forall_mem_cons.2 ⟨fun y => pH 1 (by decide) inb_S8x1x144x1024_S1x1x16x1024_1_0_128_0 y, ?_⟩
  refine List.forall_mem_cons.2 ⟨fun y => pG 1 128 rfl (by decide) (by decide) inb_S8x1x144x1024_S1x1x128x1024_1_0_0_0 y, ?_⟩
  refine List.forall_mem_cons.2 ⟨fun y => pH 0 (by decide) inb_S8x1x144x1024_S1x1x16x1024_0_0_128_0 y, ?_⟩
  refine List.forall_mem_cons.2 ⟨fun y => pG 0 0 rfl (by decide) (by decide) inb_S8x1x144x1024_S1x1x128x1024_0_0_0_0 y, ?_⟩
  exact fun _ h => nomatch h

theorem out15 : out0_A_15 c i arg1 h1 arg2 h2 arg3 h3 arg4 h4 arg5 h5 arg6 h6 arg7 h7 arg8 h8 arg9 h9 arg10 h10 arg11 h11 arg12 h12 arg13 h13 arg14 h14 arg15 h15 arg16 h16 x0 x1 x2 x3 x4 x5 x6 x7 x8 x9 x10 x11 = hB x0 x1 x2 := by
  unfold out0_A_15
  rw [View.read_writes_junk_eq_canon]
  refine (View.canon_unit_zero (Val := Elt Ideal) hz _ _).trans ?_
  rw [rd_whole arg1 h1 hz, rd_whole arg3 h3 hz, rd_part arg2 h2, rd_part arg2 h2]
  rfl

end Cert.Kernel5Ideal.Prep

end
-- ==== Proof.Prep.Block.lean ====
/- The values a point of the preparation computes, over the extended reals. -/
module

public import proofs.«01_k».proof.Proof.Prep.Spec
public import proofs.«01_k».proof.Proof.Gen.Kernel5Ideal.Value
public import Idealize.ShloMosaic.Lib.Pointwise

@[expose] public section

set_option maxRecDepth 65536

noncomputable section

namespace Cert.Kernel5Ideal.Prep

open Cert.Kernel5Ideal Cert.Kernel5Ideal.Gen Cert.Prep
open Idealize.ShloMosaic Idealize.ShloMosaic.TcCoe

/-- The modulated norm. -/
theorem pay4_at (v0 : Vec Ideal S1024x1024 .f32) (v2 v16 v21 : Vec Ideal S1x1024 .f32) (x : Fin 1024) (e : Fin 1024) :
    k0_pay4 v0 v2 v16 v21 (ix2 x e) = (v0 (ix2 x e) : EReal) * nm (Ideal.ofBits .f32 0x44800000#32) (fun k : Fin 1024 => (v0 (ix2 x k) : EReal))
      * (v2 (ix2 0 e) : EReal) * (1 + (v16 (ix2 0 e) : EReal)) + (v21 (ix2 0 e) : EReal) := by
  unfold k0_pay4 nm
  pointwise

/-- The latents. -/
theorem pay5_at (v0 : Vec Ideal S1024x1024 .f32) (v2 v16 v21 : Vec Ideal S1x1024 .f32) (v26 : Vec Ideal S640x1024 .bf16) (x : Fin 1024) (f : Fin 640) :
    k0_pay5 v0 v2 v16 v21 v26 (ix2 x f) = ∑ k : Fin 1024, (k0_pay4 v0 v2 v16 v21 (ix2 x k) : EReal) * v26 (ix2 f k) := by
  unfold k0_pay5
  generalize k0_pay4 v0 v2 v16 v21 = p
  pointwise

/-- The queries' latent. -/
theorem pay6_at (v0 : Vec Ideal S1024x1024 .f32) (v2 v16 v21 : Vec Ideal S1x1024 .f32) (v26 : Vec Ideal S640x1024 .bf16) (x : Fin 1024) (f : Fin 384) :
    k0_pay6 v0 v2 v16 v21 v26 (ix2 x f) = k0_pay5 v0 v2 v16 v21 v26 (ix2 x ⟨f.val, by omega⟩) := by
  unfold k0_pay6
  generalize k0_pay5 v0 v2 v16 v21 v26 = p
  pointwise

/-- Its mean square. -/
theorem pay8_at (v0 : Vec Ideal S1024x1024 .f32) (v2 v16 v21 : Vec Ideal S1x1024 .f32) (v26 : Vec Ideal S640x1024 .bf16) (x : Fin 1024) :
    k0_pay8 v0 v2 v16 v21 v26 (ix2 x 0) = Ideal.div (∑ k : Fin 384, (k0_pay5 v0 v2 v16 v21 v26 (ix2 x ⟨k.val, by omega⟩) : EReal) * k0_pay5 v0 v2 v16 v21 v26 (ix2 x ⟨k.val, by omega⟩))
      (Ideal.ofBits .f32 0x43C00000#32) := by
  unfold k0_pay8
  simp only [← pay6_at]
  generalize k0_pay6 v0 v2 v16 v21 v26 = p
  pointwise

/-- The keys' and values' latent, normed. -/
theorem pay9_at (v28 : FVec Ideal S1024x640 .f32) (v46 : Vec Ideal S1x256 .f32) (x : Fin 1024) (k : Fin 256) :
    k0_pay9 v28 v46 (ix2 x k) = (v28 (ix2 x ⟨384 + k.val, by omega⟩) : EReal) * nm (Ideal.ofBits .f32 0x43800000#32) (fun k : Fin 256 => (v28 (ix2 x ⟨384 + k.val, by omega⟩) : EReal))
      * (v46 (ix2 0 k) : EReal) := by
  unfold k0_pay9 nm
  pointwise

/-- The queries, a column per position. -/
theorem pay10_at (v29 : FVec Ideal S1024x384 .f32) (v31 : FVec Ideal S1x384 .f32) (v36 : FVec Ideal S1024x1 .f32) (v61 : Vec Ideal S1536x384 .bf16) (f : Fin 1536) (x : Fin 1024) :
    k0_pay10 v29 v31 v36 v61 (ix2 f x) = ∑ k : Fin 384, (v61 (ix2 f k) : EReal)
      * ((v29 (ix2 x k) : EReal) * Ideal.rsqrt ((v36 (ix2 x 0) : EReal) + Ideal.ofBits .f32 0x358637BD#32) * (v31 (ix2 0 k) : EReal)) := by
  unfold k0_pay10
  pointwise

theorem pay7_at (v : Vec Ideal S1x384 .f32) : k0_pay7 v = v := by
  unfold k0_pay7
  exact shapeCast_self _ _

theorem pay14_at (v : Vec Ideal S32x1024 .f32) : k0_pay14 v = v := by
  unfold k0_pay14
  exact shapeCast_self _ _

theorem pay15_at (v : Vec Ideal S32x1024 .f32) : k0_pay15 v = v := by
  unfold k0_pay15
  exact shapeCast_self _ _

/-- The keys' unrotated part. -/
theorem pay11_at (v28 : FVec Ideal S1024x640 .f32) (v46 : Vec Ideal S1x256 .f32) (v64 : Vec Ideal S256x1024 .bf16) (x f : Fin 1024) :
    k0_pay11 v28 v46 v64 (ix2 x f) = ∑ k : Fin 256, (k0_pay9 v28 v46 (ix2 x k) : EReal) * v64 (ix2 k f) := by
  unfold k0_pay11
  generalize k0_pay9 v28 v46 = p
  pointwise

/-- The values, a column per position. -/
theorem pay12_at (v28 : FVec Ideal S1024x640 .f32) (v46 : Vec Ideal S1x256 .f32) (v67 : Vec Ideal S1024x256 .bf16) (f x : Fin 1024) :
    k0_pay12 v28 v46 v67 (ix2 f x) = ∑ k : Fin 256, (v67 (ix2 f k) : EReal) * k0_pay9 v28 v46 (ix2 x k) := by
  unfold k0_pay12
  generalize k0_pay9 v28 v46 = p
  pointwise

/-- The keys' shared part before the rotation, a column per position. -/
theorem pay13_at (v24 : FVec Ideal S1024x1024 .bf16) (v70 : Vec Ideal S128x1024 .bf16) (f : Fin 128) (x : Fin 1024) :
    k0_pay13 v24 v70 (ix2 f x) = ∑ k : Fin 1024, (v70 (ix2 f k) : EReal) * v24 (ix2 x k) := by
  unfold k0_pay13
  pointwise

/-- The keys' shared part, rotated. -/
theorem pay16_at (v72 : FVec Ideal S128x1024 .f32) (v74 : FVec Ideal S32x1024 .f32) (v75 : Vec Ideal S32x1024 .f32) (x : Fin 1024) (d : Fin 128) :
    (k0_pay16 v72 v74 v75 (ix2 x d) : EReal)
    = if h1 : d.val < 32 then (v72 (ix2 ⟨d.val, by omega⟩ x) : EReal) * (v74 (ix2 ⟨d.val, by omega⟩ x) : EReal) - (v72 (ix2 ⟨32 + d.val, by omega⟩ x) : EReal) * (v75 (ix2 ⟨d.val, by omega⟩ x) : EReal)
      else if h2 : d.val - 32 < 32 then (v72 (ix2 ⟨32 + (d.val - 32), by omega⟩ x) : EReal) * (v74 (ix2 ⟨d.val - 32, by omega⟩ x) : EReal) + (v72 (ix2 ⟨d.val - 32, by omega⟩ x) : EReal) * (v75 (ix2 ⟨d.val - 32, by omega⟩ x) : EReal)
      else v72 (ix2 ⟨64 + (d.val - 32 - 32), by omega⟩ x) := by
  unfold k0_pay16
  rw [pay15_at]
  pointwise

end Cert.Kernel5Ideal.Prep

end
-- ==== Proof.Prep.Values.lean ====
/- The blocks a point of the preparation leaves, from what its input blocks hold. -/
module

public import proofs.«01_k».proof.Proof.Prep.Block
public import proofs.«01_k».proof.Proof.Prep.Pieces
public import proofs.«01_k».proof.Proof.Prep.Stage

@[expose] public section

set_option maxRecDepth 65536

noncomputable section

namespace Cert.Kernel5Ideal.Prep

open Cert.Kernel5Ideal Cert.Kernel5Ideal.Gen Cert.Prep
open Idealize.ShloMosaic Idealize.ShloMosaic.TcCoe

variable {x0 : Vec Ideal S1024x1024 .f32} {x1 : Vec Ideal S1x3072 .f32} {x2 : Vec Ideal S1x1024 .f32} {x3 : Vec Ideal S640x1024 .bf16}
  {x4 : Vec Ideal S128x1024 .bf16} {x5 : Vec Ideal S1x384 .f32} {x6 : Vec Ideal S1x256 .f32} {x7 : Vec Ideal S1536x384 .bf16}
  {x8 : Vec Ideal S256x1024 .bf16} {x9 : Vec Ideal S1024x256 .bf16} {x10 x11 : Vec Ideal S32x1024 .f32}
  {X : SX.Idx → EReal} {MO : SM.Idx → EReal} {G : SG.Idx → EReal} {W : SW.Idx → EReal}
  {GQ : SGQ.Idx → EReal} {WQ : SWQ.Idx → EReal} {GK : SGK.Idx → EReal} {WK : SWK.Idx → EReal}
  {C S : Fin 16384 → Fin 32 → EReal} {r : Fin 1024 → Fin 16384}

/-- The blocks hold the arguments' rows `r`, their weights and their gains. -/
structure Reads (x0 : Vec Ideal S1024x1024 .f32) (x1 : Vec Ideal S1x3072 .f32) (x2 : Vec Ideal S1x1024 .f32) (x3 : Vec Ideal S640x1024 .bf16)
    (x4 : Vec Ideal S128x1024 .bf16) (x5 : Vec Ideal S1x384 .f32) (x6 : Vec Ideal S1x256 .f32) (x7 : Vec Ideal S1536x384 .bf16)
    (x8 : Vec Ideal S256x1024 .bf16) (x9 : Vec Ideal S1024x256 .bf16) (x10 x11 : Vec Ideal S32x1024 .f32)
    (X : SX.Idx → EReal) (MO : SM.Idx → EReal) (G : SG.Idx → EReal) (W : SW.Idx → EReal)
    (GQ : SGQ.Idx → EReal) (WQ : SWQ.Idx → EReal) (GK : SGK.Idx → EReal) (WK : SWK.Idx → EReal)
    (C S : Fin 16384 → Fin 32 → EReal) (r : Fin 1024 → Fin 16384) : Prop where
  a0 : ∀ (x : Fin 1024) (e : Fin 1024), (x0 (ix2 x e) : EReal) = X (ix3 0 (r x) e)
  a1 : ∀ e : Fin 3072, (x1 (ix2 0 e) : EReal) = MO (ix2 0 e)
  a2 : ∀ e : Fin 1024, (x2 (ix2 0 e) : EReal) = G (ix2 0 e)
  a3 : ∀ (f : Fin 640) (k : Fin 1024), (x3 (ix2 f k) : EReal) = W (ix3 0 k ⟨f.val, by omega⟩)
  a4 : ∀ (f : Fin 128) (k : Fin 1024), (x4 (ix2 f k) : EReal) = if h : f.val < 64 then W (ix3 0 k ⟨640 + f.val, by omega⟩) else 0
  a5 : ∀ e : Fin 384, (x5 (ix2 0 e) : EReal) = GQ (ix2 0 e)
  a6 : ∀ e : Fin 256, (x6 (ix2 0 e) : EReal) = GK (ix2 0 e)
  a7 : ∀ (f : Fin 1536) (k : Fin 384), (x7 (ix2 f k) : EReal) = WQ (ix3 0 k f)
  a8 : ∀ (k : Fin 256) (h : Fin 8) (d : Fin 128), (x8 (ix2 k ⟨128 * h.val + d.val, by omega⟩) : EReal) = WK (ix3 0 k ⟨256 * h.val + d.val, by omega⟩)
  a9 : ∀ (k : Fin 256) (h : Fin 8) (d : Fin 128), (x9 (ix2 ⟨128 * h.val + d.val, by omega⟩ k) : EReal) = WK (ix3 0 k ⟨256 * h.val + (128 + d.val), by omega⟩)
  a10 : ∀ (d : Fin 32) (x : Fin 1024), (x10 (ix2 d x) : EReal) = C (r x) d
  a11 : ∀ (d : Fin 32) (x : Fin 1024), (x11 (ix2 d x) : EReal) = S (r x) d

/-- The modulation's scale is its second third, its shift the first. -/
theorem msc_at (e : Fin 1024) : msc x1 (ix2 0 e) = x1 (ix2 0 ⟨1024 + e.val, by omega⟩) :=
  congrArg x1 (funext fun a => Fin.ext (by
    match a with
    | ⟨0, _⟩ => rfl
    | ⟨1, _⟩ => show 1024 + 1 * e.val = 1024 + e.val; omega))

theorem msh_at (e : Fin 1024) : msh x1 (ix2 0 e) = x1 (ix2 0 ⟨e.val, by omega⟩) :=
  congrArg x1 (funext fun a => Fin.ext (by
    match a with
    | ⟨0, _⟩ => rfl
    | ⟨1, _⟩ => show 0 + 1 * e.val = e.val; omega))

variable (R : Reads x0 x1 x2 x3 x4 x5 x6 x7 x8 x9 x10 x11 X MO G W GQ WQ GK WK C S r)
include R

/-- The modulated norm. -/
theorem h_at (x e : Fin 1024) : (hB x0 x1 x2 (ix2 x e) : EReal) = hid X MO G (r x) e := by
  unfold hB hid
  rw [pay4_at, msc_at, msh_at]
  simp only [R.a0, R.a1, R.a2]

/-- The latents. -/
theorem p_at (x : Fin 1024) (f : Fin 640) : (k0_pay5 x0 x2 (msc x1) (msh x1) x3 (ix2 x f) : EReal) = pj X MO G W (r x) ⟨f.val, by omega⟩ := by
  rw [pay5_at]
  unfold pj
  exact Finset.sum_congr rfl fun k _ => congrArg₂ (· * ·) (h_at R x k) (R.a3 f k)

/-- The keys' and values' latent. -/
theorem c_at (x : Fin 1024) (k : Fin 256) : (k0_pay9 (k0_pay5 x0 x2 (msc x1) (msh x1) x3) x6 (ix2 x k) : EReal) = ckv X MO G W GK (r x) k := by
  rw [pay9_at]
  unfold ckv
  simp only [p_at R, R.a6]

/-- The unrotated queries. -/
theorem q_at (f : Fin 1536) (x : Fin 1024) : (qB x0 x1 x2 x3 x5 x7 (ix2 f x) : EReal) = qu X MO G W GQ WQ (r x) f := by
  unfold qB
  rw [pay10_at]
  unfold qu cq nm
  refine Finset.sum_congr rfl fun k _ => ?_
  rw [mul_comm]
  simp only [pay6_at, pay7_at, pay8_at, p_at R, R.a5, R.a7]

/-- The keys' unrotated parts. -/
theorem n_at (x : Fin 1024) (h : Fin 8) (d : Fin 128) : (nB x0 x1 x2 x3 x6 x8 (ix2 x ⟨128 * h.val + d.val, by omega⟩) : EReal)
    = kvu X MO G W GK WK (r x) ⟨256 * h.val + d.val, by omega⟩ := by
  unfold nB
  rw [pay11_at]
  unfold kvu
  exact Finset.sum_congr rfl fun k _ => congrArg₂ (· * ·) (c_at R x k) (R.a8 k h d)

/-- The values. -/
theorem v_at (x : Fin 1024) (h : Fin 8) (d : Fin 128) : (vB x0 x1 x2 x3 x6 x9 (ix2 ⟨128 * h.val + d.val, by omega⟩ x) : EReal)
    = kvu X MO G W GK WK (r x) ⟨256 * h.val + (128 + d.val), by omega⟩ := by
  unfold vB
  rw [pay12_at]
  unfold kvu
  exact Finset.sum_congr rfl fun k _ => (mul_comm _ _).trans (congrArg₂ (· * ·) (c_at R x k) (R.a9 k h d))

/-- The shared keys before the rotation. -/
theorem s_lo (x : Fin 1024) (f : Fin 128) (hf : f.val < 64) : (k0_pay13 (hB x0 x1 x2) x4 (ix2 f x) : EReal) = pj X MO G W (r x) ⟨640 + f.val, by omega⟩ := by
  rw [pay13_at]
  unfold pj
  exact Finset.sum_congr rfl fun k _ => (mul_comm _ _).trans (congrArg₂ (· * ·) (h_at R x k) ((R.a4 f k).trans (dif_pos hf)))

/-- The rows below them are zeros. -/
theorem s_hi (x : Fin 1024) (f : Fin 128) (hf : ¬ f.val < 64) : (k0_pay13 (hB x0 x1 x2) x4 (ix2 f x) : EReal) = 0 := by
  rw [pay13_at]
  exact Finset.sum_eq_zero fun k _ => by rw [R.a4 f k, dif_neg hf, zero_mul]

/-- The block of queries. -/
theorem q_out (h : Fin 8) (d : Fin 256) (x : Fin 1024) : gq (qB x0 x1 x2 x3 x5 x7) (k0_pay14 x10) (k0_pay15 x11) (ix3 h d x) = oq X MO G W GQ WQ C S h d (r x) := by
  rw [pay14_at, pay15_at]
  show bq _ _ _ h.val d.val x.val h.isLt d.isLt x.isLt = _
  unfold bq oq
  have e := q_at R
  generalize qB x0 x1 x2 x3 x5 x7 = y at e ⊢
  simp only [e, R.a10, R.a11]

/-- The block of keys. -/
theorem k_out (h : Fin 8) (x : Fin 1024) (d : Fin 256) : gk (nB x0 x1 x2 x3 x6 x8) (rB x0 x1 x2 x4 x10 x11) (ix3 h x d) = ok X MO G W GK WK C S h (r x) d := by
  show (if h1 : d.val < 128 then (nB x0 x1 x2 x3 x6 x8 (ix2 x ⟨128 * h.val + d.val, by omega⟩) : EReal) else (rB x0 x1 x2 x4 x10 x11 (ix2 x ⟨d.val - 128, by omega⟩) : EReal)) = _
  unfold ok
  by_cases h1 : d.val < 128
  · rw [dif_pos h1, dif_pos h1]
    exact n_at R x h ⟨d.val, h1⟩
  · rw [dif_neg h1, dif_neg h1]
    unfold rB
    rw [pay14_at, pay16_at]
    have lo := s_lo R x
    have hi := s_hi R x
    generalize k0_pay13 (hB x0 x1 x2) x4 = y at lo hi ⊢
    by_cases h2 : d.val < 160
    · rw [dif_pos (show d.val - 128 < 32 by omega), dif_pos h2]
      have e1 : 640 + (d.val - 128) = 512 + d.val := by omega
      have e2 : 640 + (32 + (d.val - 128)) = 544 + d.val := by omega
      rw [lo _ (show d.val - 128 < 64 by omega), lo _ (show 32 + (d.val - 128) < 64 by omega)]
      simp only [R.a10, R.a11, e1, e2]
    · rw [dif_neg (show ¬ d.val - 128 < 32 by omega), dif_neg h2]
      by_cases h3 : d.val < 192
      · rw [dif_pos (show d.val - 128 - 32 < 32 by omega), dif_pos h3]
        have e1 : 640 + (32 + (d.val - 128 - 32)) = 512 + d.val := by omega
        have e2 : 640 + (d.val - 128 - 32) = 480 + d.val := by omega
        have e3 : d.val - 128 - 32 = d.val - 160 := by omega
        rw [lo _ (show 32 + (d.val - 128 - 32) < 64 by omega), lo _ (show d.val - 128 - 32 < 64 by omega)]
        simp only [R.a10, R.a11, e1, e2]
        simp only [e3]
      · rw [dif_neg (show ¬ d.val - 128 - 32 < 32 by omega), dif_neg h3]
        exact hi _ (show ¬ 64 + (d.val - 128 - 32 - 32) < 64 by omega)

/-- The block of values. -/
theorem v_out (h : Fin 8) (b : Fin 1) (d : Fin 144) (x : Fin 1024) : gv (vB x0 x1 x2 x3 x6 x9) (ix4 h b d x) = ov X MO G W GK WK h d (r x) := by
  show (if h1 : d.val < 128 then (vB x0 x1 x2 x3 x6 x9 (ix2 ⟨128 * h.val + d.val, by omega⟩ x) : EReal) else 1) = _
  unfold ov
  by_cases h1 : d.val < 128
  · rw [dif_pos h1, dif_pos h1]
    exact v_at R x h ⟨d.val, h1⟩
  · rw [dif_neg h1, dif_neg h1]

end Cert.Kernel5Ideal.Prep

end
-- ==== Proof.Prep.Host.lean ====
/- What the preparation's arrays hold when its call starts, in terms of the arguments. -/
module

public import proofs.«01_k».proof.Proof.Gen.Kernel5Ideal.Value
public import Idealize.ShloMosaic.Lib.Pointwise

@[expose] public section

set_option maxRecDepth 65536

noncomputable section

namespace Cert.Kernel5Ideal.Prep

open Cert.Kernel5Ideal Cert.Kernel5Ideal.Gen
open Idealize.ShloMosaic Idealize.ShloMosaic.TcCoe

variable {F : FTy → Type} [FloatOps F]

/-- The input without its leading axis. -/
def rowsH (x : FVec F S1x16384x1024 .f32) : FVec F S16384x1024 .f32 := shapeCast S16384x1024 x shapeCasts_S1x16384x1024_S16384x1024

/-- The latents' weights: columns 0 to 640 of the input projection, transposed and cast. -/
def wcH (x : FVec F S1x1024x9920 .f32) : FVec F S640x1024 .bf16 :=
  truncf .bf16 (transpose S640x1024 [1, 0] (extractStridedSlice S1024x640 ![0, 0] (shapeCast S1024x9920 x shapeCasts_S1x1024x9920_S1024x9920 : FVec F S1024x9920 .f32) slices_S1024x9920_S1024x640_0_0 : FVec F S1024x640 .f32) transposes_S1024x640_S640x1024_1_0 : FVec F S640x1024 .f32) bitsLt_bf16_f32

/-- The shared keys' weights: columns 640 to 704 of the input projection, transposed, over rows of zeros, cast. -/
def wpH (x : FVec F S1x1024x9920 .f32) : FVec F S128x1024 .bf16 :=
  truncf .bf16 (concatenate S128x1024 0
    [⟨S64x1024, (transpose S64x1024 [1, 0] (extractStridedSlice S1024x64 ![0, 640] (shapeCast S1024x9920 x shapeCasts_S1x1024x9920_S1024x9920 : FVec F S1024x9920 .f32) slices_S1024x9920_S1024x64_0_640 : FVec F S1024x64 .f32) transposes_S1024x64_S64x1024_1_0 : FVec F S64x1024 .f32)⟩,
     ⟨S64x1024, (broadcastInDim S64x1024 ![] bcast_S_S64x1024 (constant S_ .f32 0x00000000#32 : FVec F S_ .f32) : FVec F S64x1024 .f32)⟩]
    concatenates_S64x1024_S64x1024_S128x1024_d0 : FVec F S128x1024 .f32) bitsLt_bf16_f32

/-- The queries' weights, transposed and cast. -/
def wqH (x : FVec F S1x384x1536 .f32) : FVec F S1536x384 .bf16 :=
  truncf .bf16 (transpose S1536x384 [1, 0] (shapeCast S384x1536 x shapeCasts_S1x384x1536_S384x1536 : FVec F S384x1536 .f32) transposes_S384x1536_S1536x384_1_0 : FVec F S1536x384 .f32) bitsLt_bf16_f32

/-- The weights of the keys and values, head by head. -/
def headsH (x : FVec F S1x256x2048 .f32) : FVec F S256x8x256 .f32 :=
  shapeCast S256x8x256 (shapeCast S256x2048 x shapeCasts_S1x256x2048_S256x2048 : FVec F S256x2048 .f32) shapeCasts_S256x2048_S256x8x256

/-- The keys' weights, cast. -/
def wkH (x : FVec F S1x256x2048 .f32) : FVec F S256x1024 .bf16 :=
  truncf .bf16 (shapeCast S256x1024 (extractStridedSlice S256x8x128 ![0, 0, 0] (headsH x) slices_S256x8x256_S256x8x128_0_0_0 : FVec F S256x8x128 .f32) shapeCasts_S256x8x128_S256x1024 : FVec F S256x1024 .f32) bitsLt_bf16_f32

/-- The values' weights, transposed and cast. -/
def wvH (x : FVec F S1x256x2048 .f32) : FVec F S1024x256 .bf16 :=
  truncf .bf16 (transpose S1024x256 [1, 0] (shapeCast S256x1024 (extractStridedSlice S256x8x128 ![0, 0, 128] (headsH x) slices_S256x8x256_S256x8x128_0_0_128 : FVec F S256x8x128 .f32) shapeCasts_S256x8x128_S256x1024 : FVec F S256x1024 .f32) transposes_S256x1024_S1024x256_1_0 : FVec F S1024x256 .f32) bitsLt_bf16_f32

/-- The gains as rows. -/
def g1H (x : FVec F S1x1024 .f32) : FVec F S1x1024 .f32 := shapeCast S1x1024 (shapeCast S1024 x shapeCasts_S1x1024_S1024 : FVec F S1024 .f32) shapeCasts_S1024_S1x1024
def g2H (x : FVec F S1x384 .f32) : FVec F S1x384 .f32 := shapeCast S1x384 (shapeCast S384 x shapeCasts_S1x384_S384 : FVec F S384 .f32) shapeCasts_S384_S1x384
def g3H (x : FVec F S1x256 .f32) : FVec F S1x256 .f32 := shapeCast S1x256 (shapeCast S256 x shapeCasts_S1x256_S256 : FVec F S256 .f32) shapeCasts_S256_S1x256

/-- The inverse frequencies. -/
def frH : FVec F S32 .f32 :=
  Host.powf (broadcastInDim S32 ![] bcast_S_S32 (constant S_ .f32 0x461C4000#32))
    (Host.divf (Host.negf (addf (broadcastInDim S32 ![] bcast_S_S32 (constant S_ .f32 0x00000000#32))
        (mulf (broadcastInDim S32 ![] bcast_S_S32 (constant S_ .f32 0x40000000#32)) (sitofp .f32 (iotaInDim S32 32 0)))))
      (broadcastInDim S32 ![] bcast_S_S32 (constant S_ .f32 0x42800000#32)))

/-- The angles, a column per position. -/
def anH (x : Vec F S1x16384 .i32) : FVec F S32x16384 .f32 :=
  mulf (broadcastInDim S32x16384 ![0, 1] bcast_S1x16384_S32x16384_0_1 (sitofp .f32 x : FVec F S1x16384 .f32))
    (broadcastInDim S32x16384 ![0, 1] bcast_S32x1_S32x16384_0_1 (broadcastInDim S32x1 ![0] bcast_S32_S32x1_0 (frH : FVec F S32 .f32) : FVec F S32x1 .f32))

/-- The tables. -/
def cosH (x : Vec F S1x16384 .i32) : FVec F S32x16384 .f32 := Host.cos (anH x)
def sinH (x : Vec F S1x16384 .i32) : FVec F S32x16384 .f32 := Host.sin (anH x)

variable (m : (ℓ : Loc nD τ sig) → Buf (Elt F) ℓ) (c : Dev nD)

abbrev arg0 : FVec F S1x16384x1024 .f32 := m ((c : Thread nD τ).loc main_arg0)
abbrev arg1 : FVec F S1x3072 .f32 := m ((c : Thread nD τ).loc main_arg1)
abbrev arg2 : Vec F S1x16384 .i32 := m ((c : Thread nD τ).loc main_arg2)
abbrev arg3 : FVec F S1x1024 .f32 := m ((c : Thread nD τ).loc main_arg3)
abbrev arg4 : FVec F S1x1024x9920 .f32 := m ((c : Thread nD τ).loc main_arg4)
abbrev arg5 : FVec F S1x384 .f32 := m ((c : Thread nD τ).loc main_arg5)
abbrev arg6 : FVec F S1x384x1536 .f32 := m ((c : Thread nD τ).loc main_arg6)
abbrev arg7 : FVec F S1x256 .f32 := m ((c : Thread nD τ).loc main_arg7)
abbrev arg8 : FVec F S1x256x2048 .f32 := m ((c : Thread nD τ).loc main_arg8)

/-- The call's arrays are these layouts of the arguments. -/
theorem V33_eq : V m c main_v33 = rowsH (arg0 m c) := by
  show StableHlo.after hostOps0 (fun b => m (c, b)) main_v33 = _
  unfold hostOps0
  after_results
  simp -implicitDefEqProofs only [StableHlo.TRef.ofBuf_toBuf, StableHlo.TRef.toBuf, StableHlo.TRef.ofBuf, cast_eq]
  rfl

theorem V42_eq : V m c main_v42 = g1H (arg3 m c) := by
  show StableHlo.after hostOps0 (fun b => m (c, b)) main_v42 = _
  unfold hostOps0
  after_results
  simp -implicitDefEqProofs only [StableHlo.TRef.ofBuf_toBuf, StableHlo.TRef.toBuf, StableHlo.TRef.ofBuf, cast_eq]
  rfl

theorem V18_eq : V m c main_v18 = wcH (arg4 m c) := by
  show StableHlo.after hostOps0 (fun b => m (c, b)) main_v18 = _
  unfold hostOps0
  after_results
  simp -implicitDefEqProofs only [StableHlo.TRef.ofBuf_toBuf, StableHlo.TRef.toBuf, StableHlo.TRef.ofBuf, cast_eq]
  rfl

theorem V23_eq : V m c main_v23 = wpH (arg4 m c) := by
  show StableHlo.after hostOps0 (fun b => m (c, b)) main_v23 = _
  unfold hostOps0
  after_results
  simp -implicitDefEqProofs only [StableHlo.TRef.ofBuf_toBuf, StableHlo.TRef.toBuf, StableHlo.TRef.ofBuf, cast_eq]
  rfl

theorem V43_eq : V m c main_v43 = g2H (arg5 m c) := by
  show StableHlo.after hostOps0 (fun b => m (c, b)) main_v43 = _
  unfold hostOps0
  after_results
  simp -implicitDefEqProofs only [StableHlo.TRef.ofBuf_toBuf, StableHlo.TRef.toBuf, StableHlo.TRef.ofBuf, cast_eq]
  rfl

theorem V44_eq : V m c main_v44 = g3H (arg7 m c) := by
  show StableHlo.after hostOps0 (fun b => m (c, b)) main_v44 = _
  unfold hostOps0
  after_results
  simp -implicitDefEqProofs only [StableHlo.TRef.ofBuf_toBuf, StableHlo.TRef.toBuf, StableHlo.TRef.ofBuf, cast_eq]
  rfl

theorem V39_eq : V m c main_v39 = wqH (arg6 m c) := by
  show StableHlo.after hostOps0 (fun b => m (c, b)) main_v39 = _
  unfold hostOps0
  after_results
  simp -implicitDefEqProofs only [StableHlo.TRef.ofBuf_toBuf, StableHlo.TRef.toBuf, StableHlo.TRef.ofBuf, cast_eq]
  rfl

theorem V28_eq : V m c main_v28 = wkH (arg8 m c) := by
  show StableHlo.after hostOps0 (fun b => m (c, b)) main_v28 = _
  unfold hostOps0
  after_results
  simp -implicitDefEqProofs only [StableHlo.TRef.ofBuf_toBuf, StableHlo.TRef.toBuf, StableHlo.TRef.ofBuf, cast_eq]
  rfl

theorem V32_eq : V m c main_v32 = wvH (arg8 m c) := by
  show StableHlo.after hostOps0 (fun b => m (c, b)) main_v32 = _
  unfold hostOps0
  after_results
  simp -implicitDefEqProofs only [StableHlo.TRef.ofBuf_toBuf, StableHlo.TRef.toBuf, StableHlo.TRef.ofBuf, cast_eq]
  rfl

theorem V40_eq : V m c main_v40 = cosH (arg2 m c) := by
  show StableHlo.after hostOps0 (fun b => m (c, b)) main_v40 = _
  unfold hostOps0
  after_results
  rfl

theorem V41_eq : V m c main_v41 = sinH (arg2 m c) := by
  show StableHlo.after hostOps0 (fun b => m (c, b)) main_v41 = _
  unfold hostOps0
  after_results
  rfl

/-- Each layout, element by element. -/
theorem rowsH_at (x : FVec Ideal S1x16384x1024 .f32) (i : Fin 16384) (e : Fin 1024) : (rowsH x (ix2 i e) : EReal) = x (ix3 0 i e) := by
  unfold rowsH
  pointwise

theorem wcH_at (x : FVec Ideal S1x1024x9920 .f32) (f : Fin 640) (k : Fin 1024) : (wcH x (ix2 f k) : EReal) = x (ix3 0 k ⟨f.val, by omega⟩) := by
  unfold wcH
  pointwise

theorem wpH_at (x : FVec Ideal S1x1024x9920 .f32) (f : Fin 128) (k : Fin 1024) :
    (wpH x (ix2 f k) : EReal) = if h : f.val < 64 then x (ix3 0 k ⟨640 + f.val, by omega⟩) else 0 := by
  unfold wpH
  pointwise

theorem wqH_at (x : FVec Ideal S1x384x1536 .f32) (f : Fin 1536) (k : Fin 384) : (wqH x (ix2 f k) : EReal) = x (ix3 0 k f) := by
  unfold wqH
  pointwise

theorem headsH_at (x : FVec Ideal S1x256x2048 .f32) (k : Fin 256) (h : Fin 8) (d : Fin 256) : (headsH x (ix3 k h d) : EReal) = x (ix3 0 k ⟨256 * h.val + d.val, by omega⟩) := by
  unfold headsH
  refine (shapeCast_apply _ _ _ (ix2 k ⟨256 * h.val + d.val, by omega⟩) ?_).trans ?_
  · rw [Shape.rowMajor_val_three, Shape.rowMajor_val_two]
    show k.val * 2048 + (256 * h.val + d.val) = (k.val * 8 + h.val) * 256 + d.val
    omega
  · pointwise

theorem wkH_at (x : FVec Ideal S1x256x2048 .f32) (k : Fin 256) (h : Fin 8) (d : Fin 128) :
    (wkH x (ix2 k ⟨128 * h.val + d.val, by omega⟩) : EReal) = x (ix3 0 k ⟨256 * h.val + d.val, by omega⟩) := by
  show shapeCast S256x1024 (extractStridedSlice S256x8x128 ![0, 0, 0] (headsH x) slices_S256x8x256_S256x8x128_0_0_0 : FVec Ideal S256x8x128 .f32)
    shapeCasts_S256x8x128_S256x1024 (ix2 k ⟨128 * h.val + d.val, by omega⟩) = _
  refine (shapeCast_apply _ _ _ (ix3 k h d) ?_).trans ?_
  · rw [Shape.rowMajor_val_three, Shape.rowMajor_val_two]
    show (k.val * 8 + h.val) * 128 + d.val = k.val * 1024 + (128 * h.val + d.val)
    omega
  · refine (extractStridedSlice_apply _ _ _ _ (ix3 k h ⟨d.val, by omega⟩) (fun a => by match a with | ⟨0, _⟩ => exact (Nat.zero_add _).symm | ⟨1, _⟩ => exact (Nat.zero_add _).symm | ⟨2, _⟩ => exact (Nat.zero_add _).symm)).trans ?_
    exact headsH_at x k h _

theorem wvH_at (x : FVec Ideal S1x256x2048 .f32) (k : Fin 256) (h : Fin 8) (d : Fin 128) :
    (wvH x (ix2 ⟨128 * h.val + d.val, by omega⟩ k) : EReal) = x (ix3 0 k ⟨256 * h.val + (128 + d.val), by omega⟩) := by
  show transpose S1024x256 [1, 0] (shapeCast S256x1024 (extractStridedSlice S256x8x128 ![0, 0, 128] (headsH x) slices_S256x8x256_S256x8x128_0_0_128 : FVec Ideal S256x8x128 .f32)
    shapeCasts_S256x8x128_S256x1024 : FVec Ideal S256x1024 .f32) transposes_S256x1024_S1024x256_1_0 (ix2 ⟨128 * h.val + d.val, by omega⟩ k) = _
  refine (transpose_apply _ _ _ _ (ix2 k (⟨128 * h.val + d.val, by omega⟩ : Fin 1024)) (fun b => by match b with | ⟨0, _⟩ => rfl | ⟨1, _⟩ => rfl)).trans ?_
  refine (shapeCast_apply _ _ _ (ix3 k h d) ?_).trans ?_
  · rw [Shape.rowMajor_val_three, Shape.rowMajor_val_two]
    show (k.val * 8 + h.val) * 128 + d.val = k.val * 1024 + (128 * h.val + d.val)
    omega
  · refine (extractStridedSlice_apply _ _ _ _ (ix3 k h ⟨128 + d.val, by omega⟩) (fun a => by match a with | ⟨0, _⟩ => exact (Nat.zero_add _).symm | ⟨1, _⟩ => exact (Nat.zero_add _).symm | ⟨2, _⟩ => rfl)).trans ?_
    exact headsH_at x k h _

theorem g1H_at (x : FVec Ideal S1x1024 .f32) (e : Fin 1024) : (g1H x (ix2 0 e) : EReal) = x (ix2 0 e) := by
  unfold g1H
  pointwise

theorem g2H_at (x : FVec Ideal S1x384 .f32) (e : Fin 384) : (g2H x (ix2 0 e) : EReal) = x (ix2 0 e) := by
  unfold g2H
  pointwise

theorem g3H_at (x : FVec Ideal S1x256 .f32) (e : Fin 256) : (g3H x (ix2 0 e) : EReal) = x (ix2 0 e) := by
  unfold g3H
  pointwise

end Cert.Kernel5Ideal.Prep

end
-- ==== Proof.Prep.Blocks.lean ====
/- Where the preparation's blocks lie in their arrays. -/
module

public import proofs.«01_k».proof.Proof.Prep.Host

@[expose] public section

set_option maxRecDepth 65536

noncomputable section

namespace Cert.Kernel5Ideal.Prep

open Cert.Kernel5Ideal Cert.Kernel5Ideal.Gen
open Idealize.ShloMosaic Idealize.ShloMosaic.TcCoe

variable (m : (ℓ : Loc nD τ sig) → Buf (Elt Ideal) ℓ) (c : Dev nD) (t : Fin cfg0.N)

/-- The grid has 16 points. -/
theorem pt_lt : t.val < 16 := lt_of_lt_of_eq t.isLt N_0

/-- A position of a point's 1024 rows. -/
def row (x : Fin 1024) : Fin 16384 := ⟨t.val * 1024 + x.val, by have := pt_lt t; omega⟩

/-- Where the windows' blocks begin. -/
theorem offs : ∀ t : Fin grid0.N, win0_0.index t = ![t.val, 0] ∧ (win0_10.index t = ![0, t.val] ∧ win0_11.index t = ![0, t.val])
    ∧ (win0_12.index t = ![0, 0, t.val] ∧ win0_13.index t = ![0, t.val, 0] ∧ win0_14.index t = ![0, t.val, 0, 0] ∧ win0_15.index t = ![t.val, 0]) := by decide +kernel

/-- The windows of a whole array begin at its beginning. -/
theorem offs_whole : ∀ t : Fin grid0.N, (win0_1.index t = ![0, 0] ∧ win0_2.index t = ![0, 0] ∧ win0_3.index t = ![0, 0] ∧ win0_4.index t = ![0, 0] ∧ win0_5.index t = ![0, 0])
    ∧ (win0_6.index t = ![0, 0] ∧ win0_7.index t = ![0, 0] ∧ win0_8.index t = ![0, 0] ∧ win0_9.index t = ![0, 0]) := by decide +kernel

/-- Input window 0: the point's rows. -/
theorem blk0 (x : Fin 1024) (e : Fin 1024) : iblk m c 0 t (ix2 x e) = V m c main_v33 (ix2 (row t x) e) := by
  show V m c main_v33 ((win0_0.rect t).emb (ix2 x e : S1024x1024.Idx)) = _
  refine congrArg _ (funext fun a => Fin.ext ?_)
  rw [Pipeline.Window.rect_emb_val_off, show win0_0.index t = ![t.val, 0] from (offs t).1]
  match a with
  | ⟨0, _⟩ => rfl
  | ⟨1, _⟩ => show 0 * 1024 + e.val = e.val; omega

/-- Input windows 10 and 11: the point's columns of the tables. -/
theorem blk10 (d : Fin 32) (x : Fin 1024) : iblk m c 10 t (ix2 d x) = V m c main_v40 (ix2 d (row t x)) := by
  show V m c main_v40 ((win0_10.rect t).emb (ix2 d x : S32x1024.Idx)) = _
  refine congrArg _ (funext fun a => Fin.ext ?_)
  rw [Pipeline.Window.rect_emb_val_off, show win0_10.index t = ![0, t.val] from (offs t).2.1.1]
  match a with
  | ⟨0, _⟩ => show 0 * 32 + d.val = d.val; omega
  | ⟨1, _⟩ => rfl

theorem blk11 (d : Fin 32) (x : Fin 1024) : iblk m c 11 t (ix2 d x) = V m c main_v41 (ix2 d (row t x)) := by
  show V m c main_v41 ((win0_11.rect t).emb (ix2 d x : S32x1024.Idx)) = _
  refine congrArg _ (funext fun a => Fin.ext ?_)
  rw [Pipeline.Window.rect_emb_val_off, show win0_11.index t = ![0, t.val] from (offs t).2.1.2]
  match a with
  | ⟨0, _⟩ => show 0 * 32 + d.val = d.val; omega
  | ⟨1, _⟩ => rfl

/-- Input window 1: a whole array, as are those below. -/
theorem blk1 (x : Fin 1) (e : Fin 3072) : iblk m c 1 t (ix2 x e) = V m c main_arg1 (ix2 x e) := by
  show V m c main_arg1 ((win0_1.rect t).emb (ix2 x e : S1x3072.Idx)) = _
  refine congrArg _ (funext fun a => Fin.ext ?_)
  rw [Pipeline.Window.rect_emb_val_off, show win0_1.index t = ![0, 0] from (offs_whole t).1.1]
  match a with
  | ⟨0, _⟩ => show 0 * 1 + x.val = x.val; omega
  | ⟨1, _⟩ => show 0 * 3072 + e.val = e.val; omega

theorem blk2 (x : Fin 1) (e : Fin 1024) : iblk m c 2 t (ix2 x e) = V m c main_v42 (ix2 x e) := by
  show V m c main_v42 ((win0_2.rect t).emb (ix2 x e : S1x1024.Idx)) = _
  refine congrArg _ (funext fun a => Fin.ext ?_)
  rw [Pipeline.Window.rect_emb_val_off, show win0_2.index t = ![0, 0] from (offs_whole t).1.2.1]
  match a with
  | ⟨0, _⟩ => show 0 * 1 + x.val = x.val; omega
  | ⟨1, _⟩ => show 0 * 1024 + e.val = e.val; omega

theorem blk3 (x : Fin 640) (e : Fin 1024) : iblk m c 3 t (ix2 x e) = V m c main_v18 (ix2 x e) := by
  show V m c main_v18 ((win0_3.rect t).emb (ix2 x e : S640x1024.Idx)) = _
  refine congrArg _ (funext fun a => Fin.ext ?_)
  rw [Pipeline.Window.rect_emb_val_off, show win0_3.index t = ![0, 0] from (offs_whole t).1.2.2.1]
  match a with
  | ⟨0, _⟩ => show 0 * 640 + x.val = x.val; omega
  | ⟨1, _⟩ => show 0 * 1024 + e.val = e.val; omega

theorem blk4 (x : Fin 128) (e : Fin 1024) : iblk m c 4 t (ix2 x e) = V m c main_v23 (ix2 x e) := by
  show V m c main_v23 ((win0_4.rect t).emb (ix2 x e : S128x1024.Idx)) = _
  refine congrArg _ (funext fun a => Fin.ext ?_)
  rw [Pipeline.Window.rect_emb_val_off, show win0_4.index t = ![0, 0] from (offs_whole t).1.2.2.2.1]
  match a with
  | ⟨0, _⟩ => show 0 * 128 + x.val = x.val; omega
  | ⟨1, _⟩ => show 0 * 1024 + e.val = e.val; omega

theorem blk5 (x : Fin 1) (e : Fin 384) : iblk m c 5 t (ix2 x e) = V m c main_v43 (ix2 x e) := by
  show V m c main_v43 ((win0_5.rect t).emb (ix2 x e : S1x384.Idx)) = _
  refine congrArg _ (funext fun a => Fin.ext ?_)
  rw [Pipeline.Window.rect_emb_val_off, show win0_5.index t = ![0, 0] from (offs_whole t).1.2.2.2.2]
  match a with
  | ⟨0, _⟩ => show 0 * 1 + x.val = x.val; omega
  | ⟨1, _⟩ => show 0 * 384 + e.val = e.val; omega

theorem blk6 (x : Fin 1) (e : Fin 256) : iblk m c 6 t (ix2 x e) = V m c main_v44 (ix2 x e) := by
  show V m c main_v44 ((win0_6.rect t).emb (ix2 x e : S1x256.Idx)) = _
  refine congrArg _ (funext fun a => Fin.ext ?_)
  rw [Pipeline.Window.rect_emb_val_off, show win0_6.index t = ![0, 0] from (offs_whole t).2.1]
  match a with
  | ⟨0, _⟩ => show 0 * 1 + x.val = x.val; omega
  | ⟨1, _⟩ => show 0 * 256 + e.val = e.val; omega

theorem blk7 (x : Fin 1536) (e : Fin 384) : iblk m c 7 t (ix2 x e) = V m c main_v39 (ix2 x e) := by
  show V m c main_v39 ((win0_7.rect t).emb (ix2 x e : S1536x384.Idx)) = _
  refine congrArg _ (funext fun a => Fin.ext ?_)
  rw [Pipeline.Window.rect_emb_val_off, show win0_7.index t = ![0, 0] from (offs_whole t).2.2.1]
  match a with
  | ⟨0, _⟩ => show 0 * 1536 + x.val = x.val; omega
  | ⟨1, _⟩ => show 0 * 384 + e.val = e.val; omega

theorem blk8 (x : Fin 256) (e : Fin 1024) : iblk m c 8 t (ix2 x e) = V m c main_v28 (ix2 x e) := by
  show V m c main_v28 ((win0_8.rect t).emb (ix2 x e : S256x1024.Idx)) = _
  refine congrArg _ (funext fun a => Fin.ext ?_)
  rw [Pipeline.Window.rect_emb_val_off, show win0_8.index t = ![0, 0] from (offs_whole t).2.2.2.1]
  match a with
  | ⟨0, _⟩ => show 0 * 256 + x.val = x.val; omega
  | ⟨1, _⟩ => show 0 * 1024 + e.val = e.val; omega

theorem blk9 (x : Fin 1024) (e : Fin 256) : iblk m c 9 t (ix2 x e) = V m c main_v32 (ix2 x e) := by
  show V m c main_v32 ((win0_9.rect t).emb (ix2 x e : S1024x256.Idx)) = _
  refine congrArg _ (funext fun a => Fin.ext ?_)
  rw [Pipeline.Window.rect_emb_val_off, show win0_9.index t = ![0, 0] from (offs_whole t).2.2.2.2]
  match a with
  | ⟨0, _⟩ => show 0 * 1024 + x.val = x.val; omega
  | ⟨1, _⟩ => show 0 * 256 + e.val = e.val; omega

/-- Where the results' blocks sit in their arrays. -/
theorem emb12 (h : Fin 8) (d : Fin 256) (x : Fin 1024) : (win0_12.rect t).emb (ix3 h d x : S8x256x1024.Idx) = (ix3 h d (row t x) : S8x256x16384.Idx) := by
  refine funext fun a => Fin.ext ?_
  rw [Pipeline.Window.rect_emb_val_off, show win0_12.index t = ![0, 0, t.val] from (offs t).2.2.1]
  match a with
  | ⟨0, _⟩ => show 0 * 8 + h.val = h.val; omega
  | ⟨1, _⟩ => show 0 * 256 + d.val = d.val; omega
  | ⟨2, _⟩ => rfl

theorem emb13 (h : Fin 8) (x : Fin 1024) (d : Fin 256) : (win0_13.rect t).emb (ix3 h x d : S8x1024x256.Idx) = (ix3 h (row t x) d : S8x16384x256.Idx) := by
  refine funext fun a => Fin.ext ?_
  rw [Pipeline.Window.rect_emb_val_off, show win0_13.index t = ![0, t.val, 0] from (offs t).2.2.2.1]
  match a with
  | ⟨0, _⟩ => show 0 * 8 + h.val = h.val; omega
  | ⟨1, _⟩ => rfl
  | ⟨2, _⟩ => show 0 * 256 + d.val = d.val; omega

theorem emb14 (h : Fin 8) (b : Fin 1) (d : Fin 144) (x : Fin 1024) : (win0_14.rect t).emb (ix4 h b d x : S8x1x144x1024.Idx)
    = (ix4 h (⟨t.val, pt_lt t⟩ : Fin 16) d x : S8x16x144x1024.Idx) := by
  refine funext fun a => Fin.ext ?_
  rw [Pipeline.Window.rect_emb_val_off, show win0_14.index t = ![0, t.val, 0, 0] from (offs t).2.2.2.2.1]
  match a with
  | ⟨0, _⟩ => show 0 * 8 + h.val = h.val; omega
  | ⟨1, _⟩ => show t.val * 1 + b.val = t.val; omega
  | ⟨2, _⟩ => show 0 * 144 + d.val = d.val; omega
  | ⟨3, _⟩ => show 0 * 1024 + x.val = x.val; omega

theorem emb15 (x e : Fin 1024) : (win0_15.rect t).emb (ix2 x e : S1024x1024.Idx) = (ix2 (row t x) e : S16384x1024.Idx) := by
  refine funext fun a => Fin.ext ?_
  rw [Pipeline.Window.rect_emb_val_off, show win0_15.index t = ![t.val, 0] from (offs t).2.2.2.2.2]
  match a with
  | ⟨0, _⟩ => rfl
  | ⟨1, _⟩ => show 0 * 1024 + e.val = e.val; omega

end Cert.Kernel5Ideal.Prep

end
-- ==== Proof.Prep.Ref.lean ====
/- The preparation's reference, element by element over the extended reals. -/
module

public import proofs.«01_k».proof.Proof.Prep.Spec
public import proofs.«01_k».proof.Proof.Attention.Means
public import proofs.«01_k».proof.Proof.Gen.Reference5Ideal.Read
public import Idealize.ShloMosaic.Lib.Pointwise

@[expose] public section

set_option maxRecDepth 65536

noncomputable section

namespace Cert.Reference5Ideal.Prep

open Cert.Reference5Ideal Cert.Reference5Ideal.Gen Cert.Reference5Ideal.Read Cert.Prep
open Idealize.ShloMosaic Idealize.ShloMosaic.TcCoe

variable (x0 : FVec Ideal S1x16384x1024 .f32) (x1 : FVec Ideal S1x3072 .f32) (x2 : Vec Ideal S1x16384 .i32) (x3 : FVec Ideal S1x1024 .f32)
  (x4 : FVec Ideal S1x1024x9920 .f32) (x5 : FVec Ideal S1x384 .f32) (x6 : FVec Ideal S1x384x1536 .f32) (x7 : FVec Ideal S1x256 .f32)
  (x8 : FVec Ideal S1x256x2048 .f32)

/-- The reference's tables. -/
def cs (i : Fin 16384) (d : Fin 32) : EReal := val_main_v46 (F := Ideal) x2 (ix2 i d)
def sn (i : Fin 16384) (d : Fin 32) : EReal := val_main_v48 (F := Ideal) x2 (ix2 i d)

theorem v22_at (i : Fin 16384) (e : Fin 1024) : val_main_v22 (F := Ideal) x0 x1 x3 (ix2 i e) = hid x0 x1 x3 i e := by
  unfold hid nm
  unfold val_main_v22 val_main_v21 val_main_v20 val_main_v19 val_main_v18 val_main_v17 val_main_v16 val_main_cst_2 val_main_v15 val_main_v14 val_main_v13 val_main_v12 val_main_v11
    val_main_v10 val_main_v9 val_main_v8 val_main_v7 val_main_cst_1 val_main_v6 val_main_v5 val_main_cst_0 val_main_v4 val_main_v3 val_main_cst val_main_v2 val_main_v1 val_main_v0
  pointwise

theorem v25_at (i : Fin 16384) (f : Fin 704) : val_main_v25 (F := Ideal) x0 x1 x3 x4 (ix2 i f) = pj x0 x1 x3 x4 i f := by
  unfold pj
  simp only [← v22_at]
  unfold val_main_v25 val_main_v24 val_main_v23
  generalize val_main_v22 (F := Ideal) x0 x1 x3 = y
  pointwise

theorem v63_at (i : Fin 16384) (k : Fin 384) : val_main_v63 (F := Ideal) x0 x1 x3 x4 x5 (ix2 i k) = cq x0 x1 x3 x4 x5 i k := by
  unfold cq nm
  simp only [← v25_at]
  unfold val_main_v63 val_main_v62 val_main_v61 val_main_v60 val_main_v59 val_main_v58 val_main_v57 val_main_v56 val_main_cst_9 val_main_v55 val_main_v54 val_main_cst_8 val_main_v53
    val_main_v52 val_main_cst_7 val_main_v51 val_main_v50 val_main_v26
  generalize val_main_v25 (F := Ideal) x0 x1 x3 x4 = y
  pointwise

theorem v96_at (i : Fin 16384) (k : Fin 256) : val_main_v96 (F := Ideal) x0 x1 x3 x4 x7 (ix2 i k) = ckv x0 x1 x3 x4 x7 i k := by
  unfold ckv nm
  simp only [← v25_at]
  unfold val_main_v96 val_main_v95 val_main_v94 val_main_v93 val_main_v92 val_main_v91 val_main_v90 val_main_v89 val_main_cst_12 val_main_v88 val_main_v87 val_main_cst_11 val_main_v86
    val_main_v85 val_main_cst_10 val_main_v84 val_main_v83 val_main_v27
  generalize val_main_v25 (F := Ideal) x0 x1 x3 x4 = y
  pointwise

theorem v65_at (i : Fin 16384) (f : Fin 1536) : val_main_v65 (F := Ideal) x0 x1 x3 x4 x5 x6 (ix2 i f) = qu x0 x1 x3 x4 x5 x6 i f := by
  unfold qu
  simp only [← v63_at]
  unfold val_main_v65 val_main_v64
  generalize val_main_v63 (F := Ideal) x0 x1 x3 x4 x5 = y
  pointwise

theorem v98_at (i : Fin 16384) (f : Fin 2048) : val_main_v98 (F := Ideal) x0 x1 x3 x4 x7 x8 (ix2 i f) = kvu x0 x1 x3 x4 x7 x8 i f := by
  unfold kvu
  simp only [← v96_at]
  unfold val_main_v98 val_main_v97
  generalize val_main_v96 (F := Ideal) x0 x1 x3 x4 x7 = y
  pointwise

theorem v66_at (i : Fin 16384) (h : Fin 8) (d : Fin 192) : val_main_v66 (F := Ideal) x0 x1 x3 x4 x5 x6 (ix3 i h d) = qu x0 x1 x3 x4 x5 x6 i ⟨192 * h.val + d.val, by omega⟩ := by
  rw [← v65_at]
  unfold val_main_v66
  refine shapeCast_apply _ _ _ _ ?_
  rw [Shape.rowMajor_val_three, Shape.rowMajor_val_two]
  show i.val * 1536 + (192 * h.val + d.val) = (i.val * 8 + h.val) * 192 + d.val
  omega

theorem v99_at (i : Fin 16384) (h : Fin 8) (d : Fin 256) : val_main_v99 (F := Ideal) x0 x1 x3 x4 x7 x8 (ix3 i h d) = kvu x0 x1 x3 x4 x7 x8 i ⟨256 * h.val + d.val, by omega⟩ := by
  rw [← v98_at]
  unfold val_main_v99
  refine shapeCast_apply _ _ _ _ ?_
  rw [Shape.rowMajor_val_three, Shape.rowMajor_val_two]
  show i.val * 2048 + (256 * h.val + d.val) = (i.val * 8 + h.val) * 256 + d.val
  omega

/-- The scale is the named constant. -/
theorem scale_at : (val_main_v116 (F := Ideal) ix0 : EReal) = sc := by
  unfold val_main_v116 val_main_v115 val_main_v114 val_main_v113 val_main_cst_13 val_main_cst_14 val_main_cst_15 sc
  pointwise
  have h1 : (0 : ℝ) < √192 := Real.sqrt_pos.mpr (by norm_num)
  have h2 : (0 : ℝ) < Real.log 2 := Real.log_pos (by norm_num)
  rw [Cert.Attn.real_192, Cert.Attn.real_2, Ideal.sqrt_coe, Ideal.log_coe, if_neg (by norm_num), if_neg (by norm_num), ← EReal.coe_mul,
    Ideal.div_coe (by positivity), one_mul, one_div, mul_inv]

/-- The rotated queries. -/
theorem v82_at (i : Fin 16384) (h : Fin 8) (d : Fin 192) : (val_main_v82 (F := Ideal) x0 x1 x2 x3 x4 x5 x6 (ix3 i h d) : EReal)
    = if h1 : d.val < 128 then qu x0 x1 x3 x4 x5 x6 i ⟨192 * h.val + d.val, by omega⟩
      else if h2 : d.val - 128 < 32 then qu x0 x1 x3 x4 x5 x6 i ⟨192 * h.val + (128 + (d.val - 128)), by omega⟩ * cs x2 i ⟨d.val - 128, h2⟩ - qu x0 x1 x3 x4 x5 x6 i ⟨192 * h.val + (128 + (32 + (d.val - 128))), by omega⟩ * sn x2 i ⟨d.val - 128, h2⟩
      else qu x0 x1 x3 x4 x5 x6 i ⟨192 * h.val + (128 + (32 + (d.val - 128 - 32))), by omega⟩ * cs x2 i ⟨d.val - 128 - 32, by omega⟩ + qu x0 x1 x3 x4 x5 x6 i ⟨192 * h.val + (128 + (d.val - 128 - 32)), by omega⟩ * sn x2 i ⟨d.val - 128 - 32, by omega⟩ := by
  unfold val_main_v82 val_main_v81 val_main_v80 val_main_v79 val_main_v78 val_main_v77 val_main_v76 val_main_v75 val_main_v74 val_main_v73 val_main_v72 val_main_v71 val_main_v70 val_main_v69
    val_main_v68 val_main_v67 val_main_v49 val_main_v47 cs sn
  have e := v66_at x0 x1 x3 x4 x5 x6 i h
  generalize val_main_v66 (F := Ideal) x0 x1 x3 x4 x5 x6 = y at e ⊢
  generalize val_main_v46 (F := Ideal) x2 = c
  generalize val_main_v48 (F := Ideal) x2 = s
  pointwise
  simp only [e]

/-- The keys. -/
theorem v112_at (i : Fin 16384) (h : Fin 8) (d : Fin 192) : (val_main_v112 (F := Ideal) x0 x1 x2 x3 x4 x7 x8 (ix3 i h d) : EReal)
    = if h1 : d.val < 128 then kvu x0 x1 x3 x4 x7 x8 i ⟨256 * h.val + d.val, by omega⟩
      else if h2 : d.val - 128 < 32 then pj x0 x1 x3 x4 i ⟨640 + (d.val - 128), by omega⟩ * cs x2 i ⟨d.val - 128, h2⟩ - pj x0 x1 x3 x4 i ⟨640 + (32 + (d.val - 128)), by omega⟩ * sn x2 i ⟨d.val - 128, h2⟩
      else pj x0 x1 x3 x4 i ⟨640 + (32 + (d.val - 128 - 32)), by omega⟩ * cs x2 i ⟨d.val - 128 - 32, by omega⟩ + pj x0 x1 x3 x4 i ⟨640 + (d.val - 128 - 32), by omega⟩ * sn x2 i ⟨d.val - 128 - 32, by omega⟩ := by
  unfold val_main_v112 val_main_v111 val_main_v110 val_main_v109 val_main_v108 val_main_v107 val_main_v106 val_main_v105 val_main_v104 val_main_v103 val_main_v102 val_main_v101 val_main_v100 val_main_v28
    val_main_v49 val_main_v47 cs sn
  have e := v99_at x0 x1 x3 x4 x7 x8 i h
  have e' := v25_at x0 x1 x3 x4 i
  generalize val_main_v99 (F := Ideal) x0 x1 x3 x4 x7 x8 = y at e ⊢
  generalize val_main_v25 (F := Ideal) x0 x1 x3 x4 = z at e' ⊢
  generalize val_main_v46 (F := Ideal) x2 = c
  generalize val_main_v48 (F := Ideal) x2 = s
  pointwise
  simp only [e, e']

end Cert.Reference5Ideal.Prep

end
-- ==== Proof.Prep.Tables.lean ====
/- The tables the preparation's call is given are the reference's. -/
module

public import proofs.«01_k».proof.Proof.Prep.Host
public import proofs.«01_k».proof.Proof.Prep.Ref

@[expose] public section

set_option maxRecDepth 65536

noncomputable section

namespace Cert.Prep

open Cert.Reference5Ideal.Read
open Idealize.ShloMosaic Idealize.ShloMosaic.TcCoe

/-- The inverse frequencies are the same. -/
theorem freq_eq : (Cert.Kernel5Ideal.Prep.frH : FVec Ideal Cert.Kernel5Ideal.S32 .f32) = val_main_v38 (F := Ideal) := rfl

variable (x2 : Vec Ideal Cert.Kernel5Ideal.S1x16384 .i32)

/-- An angle is a position times an inverse frequency. -/
theorem angle_at (d : Fin 32) (i : Fin 16384) : Cert.Kernel5Ideal.Prep.anH (F := Ideal) x2 (ix2 d i) = val_main_v45 (F := Ideal) x2 (ix2 i d) := by
  unfold Cert.Kernel5Ideal.Prep.anH
  rw [freq_eq]
  unfold val_main_v45 val_main_v44 val_main_v43 val_main_v42 val_main_v41 val_main_v40 val_main_v39
  generalize val_main_v38 (F := Ideal) = y
  pointwise

theorem cosH_at (d : Fin 32) (i : Fin 16384) : (Cert.Kernel5Ideal.Prep.cosH (F := Ideal) x2 (ix2 d i) : EReal) = Cert.Reference5Ideal.Prep.cs x2 i d := by
  have e := angle_at x2 d i
  unfold Cert.Kernel5Ideal.Prep.cosH Cert.Reference5Ideal.Prep.cs val_main_v46
  generalize Cert.Kernel5Ideal.Prep.anH (F := Ideal) x2 = a at e ⊢
  generalize val_main_v45 (F := Ideal) x2 = b at e ⊢
  exact congrArg _ e

theorem sinH_at (d : Fin 32) (i : Fin 16384) : (Cert.Kernel5Ideal.Prep.sinH (F := Ideal) x2 (ix2 d i) : EReal) = Cert.Reference5Ideal.Prep.sn x2 i d := by
  have e := angle_at x2 d i
  unfold Cert.Kernel5Ideal.Prep.sinH Cert.Reference5Ideal.Prep.sn val_main_v48
  generalize Cert.Kernel5Ideal.Prep.anH (F := Ideal) x2 = a at e ⊢
  generalize val_main_v45 (F := Ideal) x2 = b at e ⊢
  exact congrArg _ e

end Cert.Prep

end
-- ==== Proof.Prep.Equation.lean ====
/- The preparation's four result arrays, over the extended reals. -/
module

public import proofs.«01_k».proof.Proof.Prep.Out
public import proofs.«01_k».proof.Proof.Prep.Values
public import proofs.«01_k».proof.Proof.Prep.Blocks
public import proofs.«01_k».proof.Proof.Prep.Tables

@[expose] public section

set_option maxRecDepth 65536

noncomputable section

namespace Cert.Kernel5Ideal.Prep

open Cert.Kernel5Ideal Cert.Kernel5Ideal.Gen Cert.Prep
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD) (t : Fin cfg0.N)

/-- The tables of cosines and sines, a row per position. -/
abbrev csA : Fin 16384 → Fin 32 → EReal := Cert.Reference5Ideal.Prep.cs (arg2 m c)
abbrev snA : Fin 16384 → Fin 32 → EReal := Cert.Reference5Ideal.Prep.sn (arg2 m c)

/-- What a point's input blocks hold. -/
theorem reads : Reads (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t)
    (arg0 m c) (arg1 m c) (arg3 m c) (arg4 m c) (arg5 m c) (arg6 m c) (arg7 m c) (arg8 m c) (csA m c) (snA m c) (row t) where
  a0 x e := ((blk0 m c t x e).trans (congrFun (V33_eq m c) _)).trans (rowsH_at _ _ _)
  a1 e := (blk1 m c t 0 e).trans (congrFun (V_main_arg1 m c) _)
  a2 e := ((blk2 m c t 0 e).trans (congrFun (V42_eq m c) _)).trans (g1H_at _ _)
  a3 f k := ((blk3 m c t f k).trans (congrFun (V18_eq m c) _)).trans (wcH_at _ _ _)
  a4 f k := ((blk4 m c t f k).trans (congrFun (V23_eq m c) _)).trans (wpH_at _ _ _)
  a5 e := ((blk5 m c t 0 e).trans (congrFun (V43_eq m c) _)).trans (g2H_at _ _)
  a6 e := ((blk6 m c t 0 e).trans (congrFun (V44_eq m c) _)).trans (g3H_at _ _)
  a7 f k := ((blk7 m c t f k).trans (congrFun (V39_eq m c) _)).trans (wqH_at _ _ _)
  a8 k h d := ((blk8 m c t k _).trans (congrFun (V28_eq m c) _)).trans (wkH_at _ k h d)
  a9 k h d := ((blk9 m c t _ k).trans (congrFun (V32_eq m c) _)).trans (wvH_at _ k h d)
  a10 d x := ((blk10 m c t d x).trans (congrFun (V40_eq m c) _)).trans (cosH_at _ _ _)
  a11 d x := ((blk11 m c t d x).trans (congrFun (V41_eq m c) _)).trans (sinH_at _ _ _)

/-- The whole results. -/
def whole12 (i : S8x256x16384.Idx) : EReal :=
  oq (arg0 m c) (arg1 m c) (arg3 m c) (arg4 m c) (arg5 m c) (arg6 m c) (csA m c) (snA m c) (i 0) (i 1) (i 2)
def whole13 (i : S8x16384x256.Idx) : EReal :=
  ok (arg0 m c) (arg1 m c) (arg3 m c) (arg4 m c) (arg7 m c) (arg8 m c) (csA m c) (snA m c) (i 0) (i 1) (i 2)
def whole14 (i : S8x16x144x1024.Idx) : EReal :=
  ov (arg0 m c) (arg1 m c) (arg3 m c) (arg4 m c) (arg7 m c) (arg8 m c) (i 0) (i 2)
    ⟨(i 1).val * 1024 + (i 3).val, by have : (i 1).val < 16 := (i 1).isLt; have : (i 3).val < 1024 := (i 3).isLt; omega⟩
def whole15 (i : S16384x1024.Idx) : EReal := hid (arg0 m c) (arg1 m c) (arg3 m c) (i 0) (i 1)

/-- What a point writes back is its block of the whole results. -/
theorem flushed12 : (dats m 0 c).flushed 12 t = ((cfg0.win 12).blk t).view.read (Elt Ideal) (whole12 m c) := by
  rw [Value.flushed12_A, out12]
  funext y
  obtain ⟨h, d, x, rfl⟩ : ∃ (h : Fin 8) (d : Fin 256) (x : Fin 1024), y = ix3 h d x := ⟨y 0, y 1, y 2, eq_ix3 y⟩
  show _ = whole12 m c ((win0_12.rect t).emb (ix3 h d x : S8x256x1024.Idx))
  rw [emb12]
  exact q_out (reads m c t) h d x

theorem flushed13 : (dats m 0 c).flushed 13 t = ((cfg0.win 13).blk t).view.read (Elt Ideal) (whole13 m c) := by
  rw [Value.flushed13_A, out13]
  funext y
  obtain ⟨h, x, d, rfl⟩ : ∃ (h : Fin 8) (x : Fin 1024) (d : Fin 256), y = ix3 h x d := ⟨y 0, y 1, y 2, eq_ix3 y⟩
  show _ = whole13 m c ((win0_13.rect t).emb (ix3 h x d : S8x1024x256.Idx))
  rw [emb13]
  exact k_out (reads m c t) h x d

theorem flushed14 : (dats m 0 c).flushed 14 t = ((cfg0.win 14).blk t).view.read (Elt Ideal) (whole14 m c) := by
  rw [Value.flushed14_A, out14]
  funext y
  obtain ⟨h, b, d, x, rfl⟩ : ∃ (h : Fin 8) (b : Fin 1) (d : Fin 144) (x : Fin 1024), y = ix4 h b d x := ⟨y 0, y 1, y 2, y 3, eq_ix4 y⟩
  show _ = whole14 m c ((win0_14.rect t).emb (ix4 h b d x : S8x1x144x1024.Idx))
  rw [emb14]
  exact v_out (reads m c t) h b d x

theorem flushed15 : (dats m 0 c).flushed 15 t = ((cfg0.win 15).blk t).view.read (Elt Ideal) (whole15 m c) := by
  rw [Value.flushed15_A, out15]
  funext y
  obtain ⟨x, e, rfl⟩ : ∃ (x : Fin 1024) (e : Fin 1024), y = ix2 x e := ⟨y 0, y 1, eq_ix2 y⟩
  show _ = whole15 m c ((win0_15.rect t).emb (ix2 x e : S1024x1024.Idx))
  rw [emb15]
  exact h_at (reads m c t) x e

/-- The point a position belongs to. -/
theorem pt_of {n : Nat} (hn : n < 16384) : n / 1024 < grid0.N := lt_of_lt_of_eq (by omega : n / 1024 < 16) N_0.symm

/-- Every index of a result is in the block of the point its position names. -/
theorem cover12 (i : S8x256x16384.Idx) : ∃ t : Fin cfg0.N, (cfg0.win 12).flush t = true ∧ i ∈ ((cfg0.win 12).blk t).view.set := by
  obtain ⟨h, d, p, rfl⟩ : ∃ (h : Fin 8) (d : Fin 256) (p : Fin 16384), i = ix3 h d p := ⟨i 0, i 1, i 2, eq_ix3 i⟩
  refine ⟨⟨p.val / 1024, pt_of p.isLt⟩, flush0_12 _, ?_⟩
  have hm := View.emb_mem_set ((cfg0.win 12).blk ⟨p.val / 1024, pt_of p.isLt⟩).view (ix3 h d ⟨p.val % 1024, by omega⟩ : S8x256x1024.Idx)
  change (win0_12.rect ⟨p.val / 1024, pt_of p.isLt⟩).emb (ix3 h d ⟨p.val % 1024, by omega⟩ : S8x256x1024.Idx) ∈ _ at hm
  rw [emb12, show row ⟨p.val / 1024, pt_of p.isLt⟩ ⟨p.val % 1024, by omega⟩ = p from Fin.ext (by show p.val / 1024 * 1024 + p.val % 1024 = p.val; omega)] at hm
  exact hm

theorem cover13 (i : S8x16384x256.Idx) : ∃ t : Fin cfg0.N, (cfg0.win 13).flush t = true ∧ i ∈ ((cfg0.win 13).blk t).view.set := by
  obtain ⟨h, p, d, rfl⟩ : ∃ (h : Fin 8) (p : Fin 16384) (d : Fin 256), i = ix3 h p d := ⟨i 0, i 1, i 2, eq_ix3 i⟩
  refine ⟨⟨p.val / 1024, pt_of p.isLt⟩, flush0_13 _, ?_⟩
  have hm := View.emb_mem_set ((cfg0.win 13).blk ⟨p.val / 1024, pt_of p.isLt⟩).view (ix3 h ⟨p.val % 1024, by omega⟩ d : S8x1024x256.Idx)
  change (win0_13.rect ⟨p.val / 1024, pt_of p.isLt⟩).emb (ix3 h ⟨p.val % 1024, by omega⟩ d : S8x1024x256.Idx) ∈ _ at hm
  rw [emb13, show row ⟨p.val / 1024, pt_of p.isLt⟩ ⟨p.val % 1024, by omega⟩ = p from Fin.ext (by show p.val / 1024 * 1024 + p.val % 1024 = p.val; omega)] at hm
  exact hm

theorem cover14 (i : S8x16x144x1024.Idx) : ∃ t : Fin cfg0.N, (cfg0.win 14).flush t = true ∧ i ∈ ((cfg0.win 14).blk t).view.set := by
  obtain ⟨h, b, d, x, rfl⟩ : ∃ (h : Fin 8) (b : Fin 16) (d : Fin 144) (x : Fin 1024), i = ix4 h b d x := ⟨i 0, i 1, i 2, i 3, eq_ix4 i⟩
  have hb : b.val < grid0.N := lt_of_lt_of_eq b.isLt N_0.symm
  refine ⟨⟨b.val, hb⟩, flush0_14 _, ?_⟩
  have hm := View.emb_mem_set ((cfg0.win 14).blk ⟨b.val, hb⟩).view (ix4 h (0 : Fin 1) d x : S8x1x144x1024.Idx)
  change (win0_14.rect ⟨b.val, hb⟩).emb (ix4 h (0 : Fin 1) d x : S8x1x144x1024.Idx) ∈ _ at hm
  rw [emb14] at hm
  exact hm

theorem cover15 (i : S16384x1024.Idx) : ∃ t : Fin cfg0.N, (cfg0.win 15).flush t = true ∧ i ∈ ((cfg0.win 15).blk t).view.set := by
  obtain ⟨p, e, rfl⟩ : ∃ (p : Fin 16384) (e : Fin 1024), i = ix2 p e := ⟨i 0, i 1, eq_ix2 i⟩
  refine ⟨⟨p.val / 1024, pt_of p.isLt⟩, flush0_15 _, ?_⟩
  have hm := View.emb_mem_set ((cfg0.win 15).blk ⟨p.val / 1024, pt_of p.isLt⟩).view (ix2 ⟨p.val % 1024, by omega⟩ e : S1024x1024.Idx)
  change (win0_15.rect ⟨p.val / 1024, pt_of p.isLt⟩).emb (ix2 ⟨p.val % 1024, by omega⟩ e : S1024x1024.Idx) ∈ _ at hm
  rw [emb15, show row ⟨p.val / 1024, pt_of p.isLt⟩ ⟨p.val % 1024, by omega⟩ = p from Fin.ext (by show p.val / 1024 * 1024 + p.val % 1024 = p.val; omega)] at hm
  exact hm

/-- The result arrays after the run. -/
theorem final12 : (dats m 0 c).arrAt 12 cfg0.N = whole12 m c := (dats m 0 c).arrAt_eq_of_cover 12 (whole12 m c) (fun t _ => flushed12 m c t) cover12
theorem final13 : (dats m 0 c).arrAt 13 cfg0.N = whole13 m c := (dats m 0 c).arrAt_eq_of_cover 13 (whole13 m c) (fun t _ => flushed13 m c t) cover13
theorem final14 : (dats m 0 c).arrAt 14 cfg0.N = whole14 m c := (dats m 0 c).arrAt_eq_of_cover 14 (whole14 m c) (fun t _ => flushed14 m c t) cover14
theorem final15 : (dats m 0 c).arrAt 15 cfg0.N = whole15 m c := (dats m 0 c).arrAt_eq_of_cover 15 (whole15 m c) (fun t _ => flushed15 m c t) cover15

end Cert.Kernel5Ideal.Prep

end
-- ==== Proof.Prep.Results.lean ====
/- The four results of the preparation's reference, element by element over the extended reals. -/
module

public import proofs.«01_k».proof.Proof.Prep.Ref

@[expose] public section

set_option maxRecDepth 65536

noncomputable section

namespace Cert.Reference5Ideal.Prep

open Cert.Reference5Ideal Cert.Reference5Ideal.Gen Cert.Reference5Ideal.Read Cert.Prep
open Idealize.ShloMosaic Idealize.ShloMosaic.TcCoe

variable (x0 : FVec Ideal S1x16384x1024 .f32) (x1 : FVec Ideal S1x3072 .f32) (x2 : Vec Ideal S1x16384 .i32) (x3 : FVec Ideal S1x1024 .f32)
  (x4 : FVec Ideal S1x1024x9920 .f32) (x5 : FVec Ideal S1x384 .f32) (x6 : FVec Ideal S1x384x1536 .f32) (x7 : FVec Ideal S1x256 .f32)
  (x8 : FVec Ideal S1x256x2048 .f32)

/-- The queries, padded. -/
theorem v130_if (h : Fin 8) (d : Fin 256) (i : Fin 16384) : (val_main_v130 (F := Ideal) x0 x1 x2 x3 x4 x5 x6 (ix3 h d i) : EReal)
    = if h1 : d.val < 192 then (val_main_v82 (F := Ideal) x0 x1 x2 x3 x4 x5 x6 (ix3 i h ⟨d.val, h1⟩) : EReal) * sc else 0 := by
  rw [← scale_at]
  unfold val_main_v130 val_main_v121 val_main_v120 val_main_cst_16 val_main_v119 val_main_v118 val_main_v117
  generalize val_main_v82 (F := Ideal) x0 x1 x2 x3 x4 x5 x6 = y
  generalize val_main_v116 (F := Ideal) = s
  pointwise

/-- The keys, padded. -/
theorem v131_if (h : Fin 8) (i : Fin 16384) (d : Fin 256) : (val_main_v131 (F := Ideal) x0 x1 x2 x3 x4 x7 x8 (ix3 h i d) : EReal)
    = if h1 : d.val < 192 then (val_main_v112 (F := Ideal) x0 x1 x2 x3 x4 x7 x8 (ix3 i h ⟨d.val, h1⟩) : EReal) else 0 := by
  unfold val_main_v131 val_main_v124 val_main_v123 val_main_cst_17 val_main_v122
  generalize val_main_v112 (F := Ideal) x0 x1 x2 x3 x4 x7 x8 = y
  pointwise

/-- Where a value sits. -/
theorem v126_at (t : Fin 16) (j : Fin 1024) (h : Fin 8) (d : Fin 128) : (val_main_v126 (F := Ideal) x0 x1 x3 x4 x7 x8 (ix4 t j h d) : EReal)
    = kvu x0 x1 x3 x4 x7 x8 ⟨t.val * 1024 + j.val, by omega⟩ ⟨256 * h.val + (128 + d.val), by omega⟩ := by
  unfold val_main_v126
  refine (shapeCast_apply _ _ _ (ix3 ⟨t.val * 1024 + j.val, by omega⟩ h d) ?_).trans ?_
  · rw [Shape.rowMajor_val_four, Shape.rowMajor_val_three]
    show ((t.val * 1024 + j.val) * 8 + h.val) * 128 + d.val = ((t.val * 1024 + j.val) * 8 + h.val) * 128 + d.val
    rfl
  · unfold val_main_v125
    refine (extractStridedSlice_apply _ _ _ _ (ix3 ⟨t.val * 1024 + j.val, by omega⟩ h ⟨128 + d.val, by omega⟩) (fun a => by match a with | ⟨0, _⟩ => exact (Nat.zero_add _).symm | ⟨1, _⟩ => exact (Nat.zero_add _).symm | ⟨2, _⟩ => rfl)).trans ?_
    exact v99_at x0 x1 x3 x4 x7 x8 _ h _

/-- The values, over rows of ones. -/
theorem v132_at (h : Fin 8) (t : Fin 16) (d : Fin 144) (j : Fin 1024) : (val_main_v132 (F := Ideal) x0 x1 x3 x4 x7 x8 (ix4 h t d j) : EReal)
    = ov x0 x1 x3 x4 x7 x8 h d ⟨t.val * 1024 + j.val, by omega⟩ := by
  have e := v126_at x0 x1 x3 x4 x7 x8 t j h
  unfold ov
  unfold val_main_v132 val_main_v129 val_main_v128 val_main_cst_18 val_main_v127
  generalize val_main_v126 (F := Ideal) x0 x1 x3 x4 x7 x8 = y at e ⊢
  pointwise
  simp only [e]

/-- The modulated norm. -/
theorem v133_at (i : Fin 16384) (e : Fin 1024) : (val_main_v133 (F := Ideal) x0 x1 x3 (ix2 i e) : EReal) = hid x0 x1 x3 i e := by
  rw [← v22_at]
  rfl

theorem v130_at (h : Fin 8) (d : Fin 256) (i : Fin 16384) : (val_main_v130 (F := Ideal) x0 x1 x2 x3 x4 x5 x6 (ix3 h d i) : EReal)
    = oq x0 x1 x3 x4 x5 x6 (cs x2) (sn x2) h d i := by
  rw [v130_if]
  unfold oq
  by_cases h3 : d.val < 192
  · rw [dif_pos h3, v82_at]
    by_cases h1 : d.val < 128
    · rw [dif_pos (show (⟨d.val, h3⟩ : Fin 192).val < 128 from h1), dif_pos h1]
    · rw [dif_neg (show ¬ (⟨d.val, h3⟩ : Fin 192).val < 128 from h1), dif_neg h1]
      by_cases h2 : d.val < 160
      · rw [dif_pos (show (⟨d.val, h3⟩ : Fin 192).val - 128 < 32 by show d.val - 128 < 32; omega), dif_pos h2]
        have e1 : 192 * h.val + (128 + (d.val - 128)) = 192 * h.val + d.val := by omega
        have e2 : 192 * h.val + (128 + (32 + (d.val - 128))) = 192 * h.val + d.val + 32 := by omega
        simp only [e1, e2]
      · rw [dif_neg (show ¬ (⟨d.val, h3⟩ : Fin 192).val - 128 < 32 by show ¬ d.val - 128 < 32; omega), dif_neg h2, dif_pos h3]
        have e1 : 192 * h.val + (128 + (32 + (d.val - 160))) = 192 * h.val + d.val := by omega
        have e2 : 192 * h.val + (128 + (d.val - 160)) = 192 * h.val + d.val - 32 := by omega
        have e3 : d.val - 128 - 32 = d.val - 160 := by omega
        simp only [e1, e2, e3]
  · rw [dif_neg h3, dif_neg (by omega), dif_neg (by omega), dif_neg h3]

theorem v131_at (h : Fin 8) (i : Fin 16384) (d : Fin 256) : (val_main_v131 (F := Ideal) x0 x1 x2 x3 x4 x7 x8 (ix3 h i d) : EReal)
    = ok x0 x1 x3 x4 x7 x8 (cs x2) (sn x2) h i d := by
  rw [v131_if]
  unfold ok
  by_cases h3 : d.val < 192
  · rw [dif_pos h3, v112_at]
    by_cases h1 : d.val < 128
    · rw [dif_pos (show (⟨d.val, h3⟩ : Fin 192).val < 128 from h1), dif_pos h1]
    · rw [dif_neg (show ¬ (⟨d.val, h3⟩ : Fin 192).val < 128 from h1), dif_neg h1]
      by_cases h2 : d.val < 160
      · rw [dif_pos (show (⟨d.val, h3⟩ : Fin 192).val - 128 < 32 by show d.val - 128 < 32; omega), dif_pos h2]
        have e1 : 640 + (d.val - 128) = 512 + d.val := by omega
        have e2 : 640 + (32 + (d.val - 128)) = 544 + d.val := by omega
        simp only [e1, e2]
      · rw [dif_neg (show ¬ (⟨d.val, h3⟩ : Fin 192).val - 128 < 32 by show ¬ d.val - 128 < 32; omega), dif_neg h2, dif_pos h3]
        have e1 : 640 + (32 + (d.val - 160)) = 512 + d.val := by omega
        have e2 : 640 + (d.val - 160) = 480 + d.val := by omega
        have e3 : d.val - 128 - 32 = d.val - 160 := by omega
        simp only [e1, e2, e3]
  · rw [dif_neg h3, dif_neg (by omega), dif_neg (by omega), dif_neg h3]

end Cert.Reference5Ideal.Prep

end
-- ==== Proof.Prep.Claims.lean ====
/- The claims about the first norm, the latent projections, the rotation and the layout of queries, keys and values. -/
module

public import proofs.«01_k».proof.Defs
public import proofs.«01_k».proof.Proof.Prep.Equation
public import proofs.«01_k».proof.Proof.Prep.Results
public import proofs.«01_k».proof.Proof.Gen.Kernel5
public import proofs.«01_k».proof.Proof.Gen.Kernel5.Frame
public import proofs.«01_k».proof.Proof.Gen.Reference5Ideal
public import proofs.«01_k».proof.Proof.Gen.Reference5Ideal.Run
public import Idealize.ShloMosaic.Lib.Quiescent

@[expose] public section

set_option maxRecDepth 65536

noncomputable section

namespace Cert.Proof.Prep

open Idealize.ShloMosaic Idealize.ShloMosaic.TcCoe Idealize.SL.Sem
open Cert.Kernel5Ideal.Prep

/-- The preparation runs at the bit instance, leaves its arguments as they were and every counter at zero. -/
theorem frame_kernel : Cert.quiescent_Kernel5 := fun m ρ _ => Cert.Kernel5.Gen.frame m ρ

/-- So it does over the extended reals. -/
theorem frame_ideal : Cert.quiescent_Kernel5Ideal := fun m ρ _ => Cert.Kernel5Ideal.Gen.frame m ρ

/-- So does the reference. -/
theorem frame_ref : Cert.quiescent_Reference5Ideal := fun m ρ _ =>
  (θ_run Cert.Reference5Ideal.defs _ _).mono (fun r h => ⟨fun c => (h c).2.2.2.2,
      Idealize.ShloMosaic.sem_eq_zero_of_no_sems (by decide) r.2⟩)
    (Cert.Reference5Ideal.Value.run (F := Ideal) m ρ)

/-- The scale of the queries is the constant the idealized program names. -/
theorem preserves : Cert.preserves_Kernel5_Kernel5Ideal :=
  IdealRules.named_const.statement Cert.Kernel5Ideal.κ "qscale" .f32 0x3DD53B95#32 _ rfl

variable (m : (ℓ : Loc Cert.Kernel5Ideal.nD Cert.Kernel5Ideal.τ Cert.Kernel5Ideal.sig) → Buf (Elt Ideal) ℓ) (c : Dev Cert.Kernel5Ideal.nD)

/-- The call's four result arrays are the reference's. -/
theorem whole12_eq : whole12 m c = Cert.Reference5Ideal.Read.val_main_v130 (F := Ideal) (arg0 m c) (arg1 m c) (arg2 m c) (arg3 m c) (arg4 m c) (arg5 m c) (arg6 m c) := by
  funext i
  obtain ⟨h, d, p, rfl⟩ : ∃ (h : Fin 8) (d : Fin 256) (p : Fin 16384), i = ix3 h d p := ⟨i 0, i 1, i 2, eq_ix3 i⟩
  exact (Cert.Reference5Ideal.Prep.v130_at _ _ _ _ _ _ _ h d p).symm

theorem whole13_eq : whole13 m c = Cert.Reference5Ideal.Read.val_main_v131 (F := Ideal) (arg0 m c) (arg1 m c) (arg2 m c) (arg3 m c) (arg4 m c) (arg7 m c) (arg8 m c) := by
  funext i
  obtain ⟨h, p, d, rfl⟩ : ∃ (h : Fin 8) (p : Fin 16384) (d : Fin 256), i = ix3 h p d := ⟨i 0, i 1, i 2, eq_ix3 i⟩
  exact (Cert.Reference5Ideal.Prep.v131_at _ _ _ _ _ _ _ h p d).symm

theorem whole14_eq : whole14 m c = Cert.Reference5Ideal.Read.val_main_v132 (F := Ideal) (arg0 m c) (arg1 m c) (arg3 m c) (arg4 m c) (arg7 m c) (arg8 m c) := by
  funext i
  obtain ⟨h, t, d, j, rfl⟩ : ∃ (h : Fin 8) (t : Fin 16) (d : Fin 144) (j : Fin 1024), i = ix4 h t d j := ⟨i 0, i 1, i 2, i 3, eq_ix4 i⟩
  exact (Cert.Reference5Ideal.Prep.v132_at _ _ _ _ _ _ h t d j).symm

theorem whole15_eq : whole15 m c = Cert.Reference5Ideal.Read.val_main_v133 (F := Ideal) (arg0 m c) (arg1 m c) (arg3 m c) := by
  funext i
  obtain ⟨p, e, rfl⟩ : ∃ (p : Fin 16384) (e : Fin 1024), i = ix2 p e := ⟨i 0, i 1, eq_ix2 i⟩
  exact (Cert.Reference5Ideal.Prep.v133_at _ _ _ p e).symm

/-- Over the extended reals the call's four results are the reference's. -/
theorem algebraic : Cert.algebraic_Kernel5Ideal_Reference5Ideal := by
  intro m ρ m' ρ' _ hagree
  refine ⟨fun c => whole12 m c, fun c => whole13 m c, fun c => whole14 m c, fun c => whole15 m c, ?_, ?_⟩
  · refine (θ_run Cert.Kernel5Ideal.defs _ _).mono (fun r h c => ?_) (Cert.Kernel5Ideal.Value.run_blocks m ρ)
    exact ⟨(h c).1.trans (final12 m c), (h c).2.1.trans (final13 m c), (h c).2.2.1.trans (final14 m c),
      (h c).2.2.2.1.trans (final15 m c), (h c).2.2.2.2⟩
  · refine (θ_run Cert.Reference5Ideal.defs _ _).mono (fun r h c => ?_) (Cert.Reference5Ideal.Value.run (F := Ideal) m' ρ')
    obtain ⟨e0, e1, e2, e3, e4, e5, e6, e7, e8⟩ := hagree c
    refine ⟨(h c).1.trans ?_, (h c).2.1.trans ?_, (h c).2.2.1.trans ?_, (h c).2.2.2.1.trans ?_, (h c).2.2.2.2⟩
    · refine Eq.trans ?_ (whole12_eq m c).symm
      rw [Cert.Reference5Ideal.Read.val_main_v130_eq, e0, e1, e2, e3, e4, e5, e6]
    · refine Eq.trans ?_ (whole13_eq m c).symm
      rw [Cert.Reference5Ideal.Read.val_main_v131_eq, e0, e1, e2, e3, e4, e7, e8]
    · refine Eq.trans ?_ (whole14_eq m c).symm
      rw [Cert.Reference5Ideal.Read.val_main_v132_eq, e0, e1, e3, e4, e7, e8]
    · refine Eq.trans ?_ (whole15_eq m c).symm
      rw [Cert.Reference5Ideal.Read.val_main_v133_eq, e0, e1, e3]

end Cert.Proof.Prep

end
-- ==== Proof.Modulation.Equation.lean ====
/- The modulation's result array over the extended reals, and its reference's. -/
module

public import proofs.«01_k».proof.Proof.Merge.Spec
public import proofs.«01_k».proof.Proof.Gen.Kernel6Ideal.Value
public import proofs.«01_k».proof.Proof.Gen.Reference6Ideal.Read
public import Idealize.ShloMosaic.Lib.Pointwise

@[expose] public section

set_option maxRecDepth 65536

noncomputable section

namespace Cert.Modulation

open Idealize.ShloMosaic Cert.Merge

/-- The modulation: the conditioning vector through its own logistic gate, times the weights, plus the bias. -/
def md (v : (⟨2, ![1, 1024]⟩ : Shape).Idx → EReal) (w : (⟨3, ![1, 1024, 3072]⟩ : Shape).Idx → EReal) (b : (⟨2, ![1, 3072]⟩ : Shape).Idx → EReal) (e : Fin 3072) : EReal :=
  (∑ k : Fin 1024, v (ix2 0 k) * sg (v (ix2 0 k)) * w (ix3 0 k e)) + b (ix2 0 e)

end Cert.Modulation

namespace Cert.Reference6Ideal.Modulation

open Cert.Reference6Ideal Cert.Reference6Ideal.Gen Cert.Reference6Ideal.Read Cert.Modulation Cert.Merge
open Idealize.ShloMosaic Idealize.ShloMosaic.TcCoe

/-- The reference computes the modulation. -/
theorem value (v : FVec Ideal S1x1024 .f32) (w : FVec Ideal S1x1024x3072 .f32) (b : FVec Ideal S1x3072 .f32) (e : Fin 3072) :
    (val_main_v5 (F := Ideal) v w b (ix2 0 e) : EReal) = md v w b e := by
  unfold md sg
  unfold val_main_v5 val_main_v4 val_main_v3 val_main_v2 val_main_v1 val_main_v0 val_main_call0_v5 val_main_call0_v4 val_main_call0_cst_0 val_main_call0_v3
    val_main_call0_v2 val_main_call0_cst val_main_call0_v1 val_main_call0_v0
  pointwise

end Cert.Reference6Ideal.Modulation

namespace Cert.Kernel6Ideal.Modulation

open Cert.Kernel6Ideal Cert.Kernel6Ideal.Gen Cert.Modulation Cert.Merge
open Idealize.ShloMosaic Idealize.ShloMosaic.TcCoe Idealize.SL.Sem
open Idealize.ShloMosaic.Pipeline (Dat)

/-- The values a point computes. -/
theorem pay1_at (v0 : Vec Ideal S1x1024 .f32) (v12 : Vec Ideal S1024x512 .f32) (v17 : Vec Ideal S1x512 .f32) (e : Fin 512) :
    (k0_pay1 v0 v12 v17 (ix2 0 e) : EReal) = (∑ k : Fin 1024, (v0 (ix2 0 k) : EReal) * sg (v0 (ix2 0 k)) * (v12 (ix2 k e) : EReal)) + (v17 (ix2 0 e) : EReal) := by
  unfold k0_pay1 sg
  simp only [← zero_sub]
  pointwise

/-- The block a point leaves. -/
theorem out_at (v0 : Vec Ideal S1x1024 .f32) (v12 : Vec Ideal S1024x512 .f32) (v17 : Vec Ideal S1x512 .f32) : out0_3 v0 v12 v17 = k0_pay1 v0 v12 v17 := by
  have hz : (![0, 0] : Fin 2 → Nat) = fun _ => 0 := by funext a; match a with | ⟨0, _⟩ => rfl | ⟨1, _⟩ => rfl
  unfold out0_3
  rw [View.canon_unit_zero hz]
  unfold r0_0 r0_1 r0_2
  rw [View.ld_unit_zero hz, View.ld_unit_zero hz, View.ld_unit_zero hz]

variable (m : (ℓ : Loc nD τ sig) → Buf (Elt Ideal) ℓ) (c : Dev nD) (t : Fin cfg0.N)

abbrev arg0 : FVec Ideal S1x1024 .f32 := m ((c : Thread nD τ).loc main_arg0)
abbrev arg1 : FVec Ideal S1x1024x3072 .f32 := m ((c : Thread nD τ).loc main_arg1)
abbrev arg2 : FVec Ideal S1x3072 .f32 := m ((c : Thread nD τ).loc main_arg2)

/-- The weights and the bias as the call takes them. -/
theorem V0_at (k : Fin 1024) (e : Fin 3072) : V m c main_v0 (ix2 k e) = arg1 m c (ix3 0 k e) := by
  have e0 : V m c main_v0 = shapeCast S1024x3072 (arg1 m c) shapeCasts_S1x1024x3072_S1024x3072 := by
    show StableHlo.after hostOps0 (fun b => m (c, b)) main_v0 = _
    unfold hostOps0
    after_results <;> rfl
  rw [e0]
  pointwise

theorem V2_at (e : Fin 3072) : V m c main_v2 (ix2 0 e) = arg2 m c (ix2 0 e) := by
  have e0 : V m c main_v2 = shapeCast S1x3072 (shapeCast S3072 (arg2 m c) shapeCasts_S1x3072_S3072 : FVec Ideal S3072 .f32) shapeCasts_S3072_S1x3072 := by
    show StableHlo.after hostOps0 (fun b => m (c, b)) main_v2 = _
    unfold hostOps0
    after_results <;> rfl
  rw [e0]
  pointwise

/-- The grid has 6 points. -/
theorem pt_lt : t.val < 6 := lt_of_lt_of_eq t.isLt N_0

/-- A column of a point's 512 columns. -/
def col (e : Fin 512) : Fin 3072 := ⟨t.val * 512 + e.val, by have := pt_lt t; omega⟩

/-- Where the windows' blocks begin. -/
theorem offs : ∀ t : Fin grid0.N, win0_0.index t = ![0, 0] ∧ win0_1.index t = ![0, t.val] ∧ win0_2.index t = ![0, t.val] ∧ win0_3.index t = ![0, t.val] := by
  decide +kernel

/-- The blocks of a point. -/
theorem blk0 (k : Fin 1024) : iblk m c 0 t (ix2 0 k) = V m c main_arg0 (ix2 0 k) := by
  show V m c main_arg0 ((win0_0.rect t).emb (ix2 0 k : S1x1024.Idx)) = _
  refine congrArg _ (funext fun a => Fin.ext ?_)
  rw [Pipeline.Window.rect_emb_val_off, show win0_0.index t = ![0, 0] from (offs t).1]
  match a with
  | ⟨0, _⟩ => rfl
  | ⟨1, _⟩ => show 0 * 1024 + k.val = k.val; omega

theorem blk1 (k : Fin 1024) (e : Fin 512) : iblk m c 1 t (ix2 k e) = V m c main_v0 (ix2 k (col t e)) := by
  show V m c main_v0 ((win0_1.rect t).emb (ix2 k e : S1024x512.Idx)) = _
  refine congrArg _ (funext fun a => Fin.ext ?_)
  rw [Pipeline.Window.rect_emb_val_off, show win0_1.index t = ![0, t.val] from (offs t).2.1]
  match a with
  | ⟨0, _⟩ => show 0 * 1024 + k.val = k.val; omega
  | ⟨1, _⟩ => rfl

theorem blk2 (e : Fin 512) : iblk m c 2 t (ix2 0 e) = V m c main_v2 (ix2 0 (col t e)) := by
  show V m c main_v2 ((win0_2.rect t).emb (ix2 0 e : S1x512.Idx)) = _
  refine congrArg _ (funext fun a => Fin.ext ?_)
  rw [Pipeline.Window.rect_emb_val_off, show win0_2.index t = ![0, t.val] from (offs t).2.2.1]
  match a with
  | ⟨0, _⟩ => rfl
  | ⟨1, _⟩ => rfl

/-- Where the result's block sits in its array. -/
theorem emb3 (e : Fin 512) : (win0_3.rect t).emb (ix2 0 e : S1x512.Idx) = (ix2 0 (col t e) : S1x3072.Idx) := by
  refine funext fun a => Fin.ext ?_
  rw [Pipeline.Window.rect_emb_val_off, show win0_3.index t = ![0, t.val] from (offs t).2.2.2]
  match a with
  | ⟨0, _⟩ => rfl
  | ⟨1, _⟩ => rfl

/-- The whole result. -/
def whole (i : S1x3072.Idx) : EReal := md (arg0 m c) (arg1 m c) (arg2 m c) (i 1)

/-- An index of a row. -/
theorem eq_row {n : Nat} (i : (⟨2, ![1, n]⟩ : Shape).Idx) : i = ix2 (0 : Fin 1) (i 1) := by
  refine funext fun a => ?_
  match a with
  | ⟨0, _⟩ => exact Fin.ext (by have : (i 0).val < 1 := (i 0).isLt; show (i 0).val = 0; omega)
  | ⟨1, _⟩ => rfl

/-- What a point writes back is its block of the whole result. -/
theorem flushed3 : (dats m 0 c).flushed 3 t = ((cfg0.win 3).blk t).view.read (Elt Ideal) (whole m c) := by
  rw [Value.flushed3, out_at]
  funext y
  obtain ⟨e, rfl⟩ : ∃ e : Fin 512, y = ix2 (0 : Fin 1) e := ⟨y 1, eq_row y⟩
  show _ = whole m c ((win0_3.rect t).emb (ix2 0 e : S1x512.Idx))
  rw [emb3]
  refine (pay1_at _ _ _ e).trans ?_
  show _ = md _ _ _ (col t e)
  unfold md
  refine congrArg₂ (· + ·) (Finset.sum_congr rfl fun k _ => ?_) ((blk2 m c t e).trans (V2_at m c _))
  rw [blk0, V_main_arg0, blk1, V0_at]

/-- Every index of the result is in the block of the point its column names. -/
theorem cover3 (i : S1x3072.Idx) : ∃ t : Fin cfg0.N, (cfg0.win 3).flush t = true ∧ i ∈ ((cfg0.win 3).blk t).view.set := by
  obtain ⟨e, rfl⟩ : ∃ e : Fin 3072, i = ix2 (0 : Fin 1) e := ⟨i 1, eq_row i⟩
  have ht : e.val / 512 < grid0.N := lt_of_lt_of_eq (by omega : e.val / 512 < 6) N_0.symm
  refine ⟨⟨e.val / 512, ht⟩, flush0_3 _, ?_⟩
  have hm := View.emb_mem_set ((cfg0.win 3).blk ⟨e.val / 512, ht⟩).view (ix2 0 ⟨e.val % 512, by omega⟩ : S1x512.Idx)
  change (win0_3.rect ⟨e.val / 512, ht⟩).emb (ix2 0 ⟨e.val % 512, by omega⟩ : S1x512.Idx) ∈ _ at hm
  rw [emb3, show col ⟨e.val / 512, ht⟩ ⟨e.val % 512, by omega⟩ = e from Fin.ext (by show e.val / 512 * 512 + e.val % 512 = e.val; omega)] at hm
  exact hm

/-- The result array after the run. -/
theorem final3 : (dats m 0 c).arrAt 3 cfg0.N = whole m c :=
  (dats m 0 c).arrAt_eq_of_cover 3 (whole m c) (fun t _ => flushed3 m c t) cover3

end Cert.Kernel6Ideal.Modulation

end
-- ==== Proof.Modulation.Claims.lean ====
/- The claims about the modulation. -/
module

public import proofs.«01_k».proof.Defs
public import proofs.«01_k».proof.Proof.Modulation.Equation
public import proofs.«01_k».proof.Proof.Gen.Kernel6
public import proofs.«01_k».proof.Proof.Gen.Kernel6.Frame
public import proofs.«01_k».proof.Proof.Gen.Reference6Ideal
public import proofs.«01_k».proof.Proof.Gen.Reference6Ideal.Run
public import Idealize.ShloMosaic.Lib.Quiescent

@[expose] public section

set_option maxRecDepth 65536

noncomputable section

namespace Cert.Proof.Modulation

open Idealize.ShloMosaic Idealize.ShloMosaic.TcCoe Idealize.SL.Sem
open Cert.Kernel6Ideal.Modulation

/-- The modulation runs at the bit instance, leaves its arguments as they were and every counter at zero. -/
theorem frame_kernel : Cert.quiescent_Kernel6 := fun m ρ _ => Cert.Kernel6.Gen.frame m ρ

/-- So it does over the extended reals. -/
theorem frame_ideal : Cert.quiescent_Kernel6Ideal := fun m ρ _ => Cert.Kernel6Ideal.Gen.frame m ρ

/-- So does the reference. -/
theorem frame_ref : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- The call's result array is the reference's. -/
theorem whole_eq (m : (ℓ : Loc Cert.Kernel6Ideal.nD Cert.Kernel6Ideal.τ Cert.Kernel6Ideal.sig) → Buf (Elt Ideal) ℓ) (c : Dev Cert.Kernel6Ideal.nD) :
    whole m c = Cert.Reference6Ideal.Read.val_main_v5 (F := Ideal) (arg0 m c) (arg1 m c) (arg2 m c) := by
  funext i
  obtain ⟨e, rfl⟩ : ∃ e : Fin 3072, i = ix2 (0 : Fin 1) e := ⟨i 1, eq_row i⟩
  exact (Cert.Reference6Ideal.Modulation.value _ _ _ e).symm

/-- Over the extended reals the call's result is the reference's. -/
theorem algebraic : Cert.algebraic_Kernel6Ideal_Reference6Ideal := by
  intro m ρ m' ρ' _ hagree
  refine ⟨fun c => whole m c, ?_, ?_⟩
  · refine (θ_run Cert.Kernel6Ideal.defs _ _).mono (fun r h c => ?_) (Cert.Kernel6Ideal.Value.run_blocks m ρ)
    exact ⟨(h c).1.trans (final3 m c), (h c).2⟩
  · refine (θ_run Cert.Reference6Ideal.defs _ _).mono (fun r h c => ?_) (Cert.Reference6Ideal.Value.run (F := Ideal) m' ρ')
    obtain ⟨e0, e1, e2⟩ := hagree c
    refine ⟨(h c).1.trans ?_, (h c).2⟩
    refine Eq.trans ?_ (whole_eq m c).symm
    rw [Cert.Reference6Ideal.Read.val_main_v5_eq, e0, e1, e2]

end Cert.Proof.Modulation

end
-- ==== Proof.lean ====
/-
  The certificate: the causal attention (frames, the mask's literal, and its value over the extended reals), the merge with the
  final norm (frames and value over the extended reals), the retention (frames), the preparation of queries, keys and values
  (frames, the scale's literal, and its value over the extended reals), the modulation (frames and value over the extended reals),
  and the weight-repacking call (frames, value over the extended reals, and value bit by bit).
-/
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Loops
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Reference.Run
public import proofs.«01_k».proof.Proof.Gen.Pre_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Repack.Claims
public import proofs.«01_k».proof.Proof.Attention.Claims
public import proofs.«01_k».proof.Proof.Merge.Claims
public import proofs.«01_k».proof.Proof.Retention.Frames
public import proofs.«01_k».proof.Proof.Prep.Claims
public import proofs.«01_k».proof.Proof.Modulation.Claims
public import Idealize.ShloMosaic.Adequacy
public import Idealize.ShloMosaic.Init

@[expose] public section

noncomputable section

namespace Cert.Proof

open Idealize.ShloMosaic Idealize.SL.Sem Cert.Kernel

/-- Every claim of the problem file, in its order. -/
theorem claim : Cert.Claim :=
  ⟨Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel.Gen.facts,
    Cert.KernelIdeal.Gen.facts, Cert.ReferenceIdeal.Gen.facts, Cert.Reference.Gen.facts, Cert.Pre_finite.Gen.facts,
    Attention.frame_kernel, Attention.frame_ideal, fun m ρ _ => Attention.frame_ideal m ρ trivial,
    Attention.frame_ref, fun m ρ _ => Attention.frame_ref m ρ trivial,
    Merge.frame_kernel, Merge.frame_ideal, Merge.frame_ref, Retention.frame_kernel, Retention.frame_ideal, Retention.frame_ref,
    Prep.frame_kernel, Prep.frame_ideal, Prep.frame_ref,
    Modulation.frame_kernel, Modulation.frame_ideal, Modulation.frame_ref,
    Repack.frame_kernel, Repack.frame_ideal, Repack.frame_refIdeal, Repack.frame_ref,
    Attention.preserves, Attention.algebraic, trivial, Merge.algebraic, trivial, Prep.preserves, Prep.algebraic,
    trivial, Modulation.algebraic, trivial, Repack.algebraic, Repack.bitexact⟩

end Cert.Proof

end
